-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_finite [hPre_conv_finite : Cert.Pre_conv_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_conv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_conv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_conv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_finite [hPre_conv_finite : Cert.Pre_conv_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_conv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_conv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_conv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_silu_finite [hPre_silu_finite : Cert.Pre_silu_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_silu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_silu_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_silu_finite [hPre_silu_finite : Cert.Pre_silu_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_silu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_silu_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ctx_finite [hPre_ctx_finite : Cert.Pre_ctx_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ctx_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_ctx_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_ctx_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ctx_finite [hPre_ctx_finite : Cert.Pre_ctx_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ctx_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_ctx_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_ctx_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_norm_finite [hPre_norm_finite : Cert.Pre_norm_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_norm_finite [hPre_norm_finite : Cert.Pre_norm_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_qk_finite [hPre_qk_finite : Cert.Pre_qk_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_qk_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_qk_finite [hPre_qk_finite : Cert.Pre_qk_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_qk_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_loss_finite [hPre_loss_finite : Cert.Pre_loss_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2.1 = (fun _ => 1#1)
    ∧ (Cert.Pre_loss_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_loss_finite [hPre_loss_finite : Cert.Pre_loss_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2.1 = (fun _ => 1#1)
    ∧ (Cert.Pre_loss_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_fwd_finite [hPre_fwd_finite : Cert.Pre_fwd_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.1 = (fun _ => 1#1)
    ∧ (Cert.Pre_fwd_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_fwd_finite [hPre_fwd_finite : Cert.Pre_fwd_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.1 = (fun _ => 1#1)
    ∧ (Cert.Pre_fwd_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_prep_finite [hPre_prep_finite : Cert.Pre_prep_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_prep_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_prep_finite [hPre_prep_finite : Cert.Pre_prep_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_prep_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_heads_finite [hPre_heads_finite : Cert.Pre_heads_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_heads_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_heads_finite [hPre_heads_finite : Cert.Pre_heads_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_heads_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_conv_finite [hKernelIdeal : Cert.KernelIdeal.Facts] [hPre_conv_finite : Cert.Pre_conv_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_conv_finite [hReferenceIdeal : Cert.ReferenceIdeal.Facts] [hPre_conv_finite : Cert.Pre_conv_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_silu_finite [hKernel3Ideal : Cert.Kernel3Ideal.Facts] [hPre_silu_finite : Cert.Pre_silu_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_silu_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_silu_finite [hReference3Ideal : Cert.Reference3Ideal.Facts] [hPre_silu_finite : Cert.Pre_silu_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_silu_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_ctx_finite [hKernel4Ideal : Cert.Kernel4Ideal.Facts] [hPre_ctx_finite : Cert.Pre_ctx_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ctx_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_ctx_finite [hReference4Ideal : Cert.Reference4Ideal.Facts] [hPre_ctx_finite : Cert.Pre_ctx_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ctx_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_norm_finite [hKernel6Ideal : Cert.Kernel6Ideal.Facts] [hPre_norm_finite : Cert.Pre_norm_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_norm_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_norm_finite [hReference6Ideal : Cert.Reference6Ideal.Facts] [hPre_norm_finite : Cert.Pre_norm_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_norm_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_qk_finite [hKernel7Ideal : Cert.Kernel7Ideal.Facts] [hPre_qk_finite : Cert.Pre_qk_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_qk_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_qk_finite [hReference7Ideal : Cert.Reference7Ideal.Facts] [hPre_qk_finite : Cert.Pre_qk_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_qk_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_loss_finite [hKernel8Ideal : Cert.Kernel8Ideal.Facts] [hPre_loss_finite : Cert.Pre_loss_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_loss_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_loss_finite [hReference8Ideal : Cert.Reference8Ideal.Facts] [hPre_loss_finite : Cert.Pre_loss_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_loss_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_fwd_finite [hKernel9Ideal : Cert.Kernel9Ideal.Facts] [hPre_fwd_finite : Cert.Pre_fwd_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_fwd_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_fwd_finite [hReference9Ideal : Cert.Reference9Ideal.Facts] [hPre_fwd_finite : Cert.Pre_fwd_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_fwd_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_prep_finite [hKernel11Ideal : Cert.Kernel11Ideal.Facts] [hPre_prep_finite : Cert.Pre_prep_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_prep_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_prep_finite [hReference11Ideal : Cert.Reference11Ideal.Facts] [hPre_prep_finite : Cert.Pre_prep_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_prep_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_heads_finite [hKernel12Ideal : Cert.Kernel12Ideal.Facts] [hPre_heads_finite : Cert.Pre_heads_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_heads_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_heads_finite [hReference12Ideal : Cert.Reference12Ideal.Facts] [hPre_heads_finite : Cert.Pre_heads_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_heads_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_conv_finite [hKernelIdeal : Cert.KernelIdeal.Facts] [hReferenceIdeal : Cert.ReferenceIdeal.Facts] [hPre_conv_finite : Cert.Pre_conv_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)) (v6 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_v22) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v178) = v0 c
          ∧ r.2.mem ((c.tc : Thread Cert.Reference2Ideal.nD Cert.Reference2Ideal.τ).loc Cert.Reference2Ideal.main_v181) = v1 c
          ∧ r.2.mem ((c.tc : Thread Cert.Reference2Ideal.nD Cert.Reference2Ideal.τ).loc Cert.Reference2Ideal.main_v182) = v2 c
          ∧ r.2.mem ((c.tc : Thread Cert.Reference2Ideal.nD Cert.Reference2Ideal.τ).loc Cert.Reference2Ideal.main_v183) = v3 c
          ∧ r.2.mem ((c.tc : Thread Cert.Reference2Ideal.nD Cert.Reference2Ideal.τ).loc Cert.Reference2Ideal.main_v184) = v4 c
          ∧ r.2.mem ((c.tc : Thread Cert.Reference2Ideal.nD Cert.Reference2Ideal.τ).loc Cert.Reference2Ideal.main_v185) = v5 c
          ∧ r.2.mem ((c.tc : Thread Cert.Reference2Ideal.nD Cert.Reference2Ideal.τ).loc Cert.Reference2Ideal.main_v186) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_silu_finite [hKernel3Ideal : Cert.Kernel3Ideal.Facts] [hReference3Ideal : Cert.Reference3Ideal.Facts] [hPre_silu_finite : Cert.Pre_silu_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_silu_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_ctx_finite [hKernel4Ideal : Cert.Kernel4Ideal.Facts] [hReference4Ideal : Cert.Reference4Ideal.Facts] [hPre_ctx_finite : Cert.Pre_ctx_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ctx_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_norm_finite [hKernel6Ideal : Cert.Kernel6Ideal.Facts] [hReference6Ideal : Cert.Reference6Ideal.Facts] [hPre_norm_finite : Cert.Pre_norm_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_norm_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_qk_finite [hKernel7Ideal : Cert.Kernel7Ideal.Facts] [hReference7Ideal : Cert.Reference7Ideal.Facts] [hPre_qk_finite : Cert.Pre_qk_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_qk_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v50_0)) (v1 : (c : Dev Cert.Kernel7Ideal.nD) → Buf (Elt Ideal) ((c.tc : Thread Cert.Kernel7Ideal.nD Cert.Kernel7Ideal.τ).loc Cert.Kernel7Ideal.main_v50_1)) (v2 : (c : Dev Cert.Kernel7Ideal.nD) → Buf (Elt Ideal) ((c.tc : Thread Cert.Kernel7Ideal.nD Cert.Kernel7Ideal.τ).loc Cert.Kernel7Ideal.main_v50_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v50_0) = v0 c
          ∧ r.2.mem ((c.tc : Thread Cert.Kernel7Ideal.nD Cert.Kernel7Ideal.τ).loc Cert.Kernel7Ideal.main_v50_1) = v1 c
          ∧ r.2.mem ((c.tc : Thread Cert.Kernel7Ideal.nD Cert.Kernel7Ideal.τ).loc Cert.Kernel7Ideal.main_v50_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v226) = v0 c
          ∧ r.2.mem ((c.tc : Thread Cert.Reference7Ideal.nD Cert.Reference7Ideal.τ).loc Cert.Reference7Ideal.main_v227) = v1 c
          ∧ r.2.mem ((c.tc : Thread Cert.Reference7Ideal.nD Cert.Reference7Ideal.τ).loc Cert.Reference7Ideal.main_v228) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_loss_finite [hKernel8Ideal : Cert.Kernel8Ideal.Facts] [hReference8Ideal : Cert.Reference8Ideal.Facts] [hPre_loss_finite : Cert.Pre_loss_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_loss_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v3)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)) (v5 : (c : Dev Cert.Kernel8Ideal.nD) → Buf (Elt Ideal) ((c.tc : Thread Cert.Kernel8Ideal.nD Cert.Kernel8Ideal.τ).loc Cert.Kernel8Ideal.main_v1_5)) (v6 : (c : Dev Cert.Kernel8Ideal.nD) → Buf (Elt Ideal) ((c.tc : Thread Cert.Kernel8Ideal.nD Cert.Kernel8Ideal.τ).loc Cert.Kernel8Ideal.main_v1_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v3) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_v1_5) = v5 c
          ∧ r.2.mem ((c.tc : Thread Cert.Kernel8Ideal.nD Cert.Kernel8Ideal.τ).loc Cert.Kernel8Ideal.main_v1_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_v44) = v2 c
          ∧ r.2.mem ((c.tc : Thread Cert.Reference8Ideal.nD Cert.Reference8Ideal.τ).loc Cert.Reference8Ideal.main_v46) = v3 c
          ∧ r.2.mem ((c.tc : Thread Cert.Reference8Ideal.nD Cert.Reference8Ideal.τ).loc Cert.Reference8Ideal.main_v36) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_v48) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  IdealRules.named_const.Statement Cert.Kernel9Ideal.κ "mask" .f32 0xF149F2CA#32 ⊥

def algebraic_Kernel9Ideal_Reference9Ideal_pre_fwd_finite [hKernel9Ideal : Cert.Kernel9Ideal.Facts] [hReference9Ideal : Cert.Reference9Ideal.Facts] [hPre_fwd_finite : Cert.Pre_fwd_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_fwd_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v19)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v107) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_prep_finite [hKernel11Ideal : Cert.Kernel11Ideal.Facts] [hReference11Ideal : Cert.Reference11Ideal.Facts] [hPre_prep_finite : Cert.Pre_prep_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_prep_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_heads_finite [hKernel12Ideal : Cert.Kernel12Ideal.Facts] [hReference12Ideal : Cert.Reference12Ideal.Facts] [hPre_heads_finite : Cert.Pre_heads_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_heads_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v50_0)) (v1 : (c : Dev Cert.Kernel12Ideal.nD) → Buf (Elt Ideal) ((c.tc : Thread Cert.Kernel12Ideal.nD Cert.Kernel12Ideal.τ).loc Cert.Kernel12Ideal.main_v50_1)) (v2 : (c : Dev Cert.Kernel12Ideal.nD) → Buf (Elt Ideal) ((c.tc : Thread Cert.Kernel12Ideal.nD Cert.Kernel12Ideal.τ).loc Cert.Kernel12Ideal.main_v50_2)) (v3 : (c : Dev Cert.Kernel12Ideal.nD) → Buf (Elt Ideal) ((c.tc : Thread Cert.Kernel12Ideal.nD Cert.Kernel12Ideal.τ).loc Cert.Kernel12Ideal.main_v50_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v50_0) = v0 c
          ∧ r.2.mem ((c.tc : Thread Cert.Kernel12Ideal.nD Cert.Kernel12Ideal.τ).loc Cert.Kernel12Ideal.main_v50_1) = v1 c
          ∧ r.2.mem ((c.tc : Thread Cert.Kernel12Ideal.nD Cert.Kernel12Ideal.τ).loc Cert.Kernel12Ideal.main_v50_2) = v2 c
          ∧ r.2.mem ((c.tc : Thread Cert.Kernel12Ideal.nD Cert.Kernel12Ideal.τ).loc Cert.Kernel12Ideal.main_v50_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v123) = v0 c
          ∧ r.2.mem ((c.tc : Thread Cert.Reference12Ideal.nD Cert.Reference12Ideal.τ).loc Cert.Reference12Ideal.main_v125) = v1 c
          ∧ r.2.mem ((c.tc : Thread Cert.Reference12Ideal.nD Cert.Reference12Ideal.τ).loc Cert.Reference12Ideal.main_v127) = v2 c
          ∧ r.2.mem ((c.tc : Thread Cert.Reference12Ideal.nD Cert.Reference12Ideal.τ).loc Cert.Reference12Ideal.main_v129) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v0) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_conv_finite : Cert.Pre_conv_finite.Facts) (hPre_attn_finite : Cert.Pre_attn_finite.Facts) (hPre_silu_finite : Cert.Pre_silu_finite.Facts) (hPre_ctx_finite : Cert.Pre_ctx_finite.Facts) (hPre_norm_finite : Cert.Pre_norm_finite.Facts) (hPre_qk_finite : Cert.Pre_qk_finite.Facts) (hPre_loss_finite : Cert.Pre_loss_finite.Facts) (hPre_fwd_finite : Cert.Pre_fwd_finite.Facts) (hPre_prep_finite : Cert.Pre_prep_finite.Facts) (hPre_heads_finite : Cert.Pre_heads_finite.Facts),
    quiescent_Kernel (hKernel := hKernel)
    ∧ quiescent_KernelIdeal (hKernelIdeal := hKernelIdeal)
    ∧ quiescent_KernelIdeal_pre_conv_finite (hKernelIdeal := hKernelIdeal) (hPre_conv_finite := hPre_conv_finite)
    ∧ quiescent_ReferenceIdeal (hReferenceIdeal := hReferenceIdeal)
    ∧ quiescent_ReferenceIdeal_pre_conv_finite (hReferenceIdeal := hReferenceIdeal) (hPre_conv_finite := hPre_conv_finite)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Kernel3Ideal_pre_silu_finite (hKernel3Ideal := hKernel3Ideal) (hPre_silu_finite := hPre_silu_finite)
    ∧ quiescent_Reference3Ideal (hReference3Ideal := hReference3Ideal)
    ∧ quiescent_Reference3Ideal_pre_silu_finite (hReference3Ideal := hReference3Ideal) (hPre_silu_finite := hPre_silu_finite)
    ∧ quiescent_Kernel4 (hKernel4 := hKernel4)
    ∧ quiescent_Kernel4Ideal (hKernel4Ideal := hKernel4Ideal)
    ∧ quiescent_Kernel4Ideal_pre_ctx_finite (hKernel4Ideal := hKernel4Ideal) (hPre_ctx_finite := hPre_ctx_finite)
    ∧ quiescent_Reference4Ideal (hReference4Ideal := hReference4Ideal)
    ∧ quiescent_Reference4Ideal_pre_ctx_finite (hReference4Ideal := hReference4Ideal) (hPre_ctx_finite := hPre_ctx_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_norm_finite (hKernel6Ideal := hKernel6Ideal) (hPre_norm_finite := hPre_norm_finite)
    ∧ quiescent_Reference6Ideal (hReference6Ideal := hReference6Ideal)
    ∧ quiescent_Reference6Ideal_pre_norm_finite (hReference6Ideal := hReference6Ideal) (hPre_norm_finite := hPre_norm_finite)
    ∧ quiescent_Kernel7 (hKernel7 := hKernel7)
    ∧ quiescent_Kernel7Ideal (hKernel7Ideal := hKernel7Ideal)
    ∧ quiescent_Kernel7Ideal_pre_qk_finite (hKernel7Ideal := hKernel7Ideal) (hPre_qk_finite := hPre_qk_finite)
    ∧ quiescent_Reference7Ideal (hReference7Ideal := hReference7Ideal)
    ∧ quiescent_Reference7Ideal_pre_qk_finite (hReference7Ideal := hReference7Ideal) (hPre_qk_finite := hPre_qk_finite)
    ∧ quiescent_Kernel8 (hKernel8 := hKernel8)
    ∧ quiescent_Kernel8Ideal (hKernel8Ideal := hKernel8Ideal)
    ∧ quiescent_Kernel8Ideal_pre_loss_finite (hKernel8Ideal := hKernel8Ideal) (hPre_loss_finite := hPre_loss_finite)
    ∧ quiescent_Reference8Ideal (hReference8Ideal := hReference8Ideal)
    ∧ quiescent_Reference8Ideal_pre_loss_finite (hReference8Ideal := hReference8Ideal) (hPre_loss_finite := hPre_loss_finite)
    ∧ quiescent_Kernel9 (hKernel9 := hKernel9)
    ∧ quiescent_Kernel9Ideal (hKernel9Ideal := hKernel9Ideal)
    ∧ quiescent_Kernel9Ideal_pre_fwd_finite (hKernel9Ideal := hKernel9Ideal) (hPre_fwd_finite := hPre_fwd_finite)
    ∧ quiescent_Reference9Ideal (hReference9Ideal := hReference9Ideal)
    ∧ quiescent_Reference9Ideal_pre_fwd_finite (hReference9Ideal := hReference9Ideal) (hPre_fwd_finite := hPre_fwd_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_prep_finite (hKernel11Ideal := hKernel11Ideal) (hPre_prep_finite := hPre_prep_finite)
    ∧ quiescent_Reference11Ideal (hReference11Ideal := hReference11Ideal)
    ∧ quiescent_Reference11Ideal_pre_prep_finite (hReference11Ideal := hReference11Ideal) (hPre_prep_finite := hPre_prep_finite)
    ∧ quiescent_Kernel12 (hKernel12 := hKernel12)
    ∧ quiescent_Kernel12Ideal (hKernel12Ideal := hKernel12Ideal)
    ∧ quiescent_Kernel12Ideal_pre_heads_finite (hKernel12Ideal := hKernel12Ideal) (hPre_heads_finite := hPre_heads_finite)
    ∧ quiescent_Reference12Ideal (hReference12Ideal := hReference12Ideal)
    ∧ quiescent_Reference12Ideal_pre_heads_finite (hReference12Ideal := hReference12Ideal) (hPre_heads_finite := hPre_heads_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_conv_finite (hKernelIdeal := hKernelIdeal) (hReferenceIdeal := hReferenceIdeal) (hPre_conv_finite := hPre_conv_finite)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal_pre_silu_finite (hKernel3Ideal := hKernel3Ideal) (hReference3Ideal := hReference3Ideal) (hPre_silu_finite := hPre_silu_finite)
    ∧ preserves_Kernel4_Kernel4Ideal
    ∧ algebraic_Kernel4Ideal_Reference4Ideal_pre_ctx_finite (hKernel4Ideal := hKernel4Ideal) (hReference4Ideal := hReference4Ideal) (hPre_ctx_finite := hPre_ctx_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_norm_finite (hKernel6Ideal := hKernel6Ideal) (hReference6Ideal := hReference6Ideal) (hPre_norm_finite := hPre_norm_finite)
    ∧ preserves_Kernel7_Kernel7Ideal
    ∧ algebraic_Kernel7Ideal_Reference7Ideal_pre_qk_finite (hKernel7Ideal := hKernel7Ideal) (hReference7Ideal := hReference7Ideal) (hPre_qk_finite := hPre_qk_finite)
    ∧ preserves_Kernel8_Kernel8Ideal
    ∧ algebraic_Kernel8Ideal_Reference8Ideal_pre_loss_finite (hKernel8Ideal := hKernel8Ideal) (hReference8Ideal := hReference8Ideal) (hPre_loss_finite := hPre_loss_finite)
    ∧ preserves_Kernel9_Kernel9Ideal
    ∧ algebraic_Kernel9Ideal_Reference9Ideal_pre_fwd_finite (hKernel9Ideal := hKernel9Ideal) (hReference9Ideal := hReference9Ideal) (hPre_fwd_finite := hPre_fwd_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_prep_finite (hKernel11Ideal := hKernel11Ideal) (hReference11Ideal := hReference11Ideal) (hPre_prep_finite := hPre_prep_finite)
    ∧ preserves_Kernel12_Kernel12Ideal
    ∧ algebraic_Kernel12Ideal_Reference12Ideal_pre_heads_finite (hKernel12Ideal := hKernel12Ideal) (hReference12Ideal := hReference12Ideal) (hPre_heads_finite := hPre_heads_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_attn_finite.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S_ : Shape := ⟨0, ![]⟩

class Facts : Prop where
  bcast_S_S2048x8x64 : S_.BroadcastsInDim S2048x8x64 (![] : Fin 0 → Fin S2048x8x64.rank)
  bcast_S_S256x8x64 : S_.BroadcastsInDim S256x8x64 (![] : Fin 0 → Fin S256x8x64.rank)
  bcast_S_S8x15x31 : S_.BroadcastsInDim S8x15x31 (![] : Fin 0 → Fin S8x15x31.rank)

variable [Facts]

def fn_part1 {F : FTy → Type} [FloatOps F] (main_arg6 : FVec F S8x15x31 .f32) (main_arg7 : FVec F S2048x8x64 .f32) (main_v2 : IVec S2048x8x64 1) (main_v5 : IVec S2048x8x64 1) (main_v8 : IVec S2048x8x64 1) (main_v11 : IVec S2048x8x64 1) (main_v14 : IVec S256x8x64 1) (main_v17 : IVec S256x8x64 1) : IVec S2048x8x64 1 × IVec S2048x8x64 1 × IVec S2048x8x64 1 × IVec S2048x8x64 1 × IVec S256x8x64 1 × IVec S256x8x64 1 × IVec S8x15x31 1 × IVec S2048x8x64 1 :=
  let main_v18 : FVec F S8x15x31 .f32 := Host.absf main_arg6
  let main_cst_5 : FVec F S_ .f32 := constant S_ .f32 0x7F800000#32
  let main_v19 : FVec F S8x15x31 .f32 := broadcastInDim S8x15x31 ![] bcast_S_S8x15x31 main_cst_5
  let main_v20 : IVec S8x15x31 1 := cmpf .olt main_v18 main_v19
  let main_v21 : FVec F S2048x8x64 .f32 := Host.absf main_arg7
  let main_cst_6 : FVec F S_ .f32 := constant S_ .f32 0x7F800000#32
  let main_v22 : FVec F S2048x8x64 .f32 := broadcastInDim S2048x8x64 ![] bcast_S_S2048x8x64 main_cst_6
  let main_v23 : IVec S2048x8x64 1 := cmpf .olt main_v21 main_v22
  (main_v2, main_v5, main_v8, main_v11, main_v14, main_v17, main_v20, main_v23)

def fn {F : FTy → Type} [FloatOps F] (main_arg0 : FVec F S2048x8x64 .f32) (main_arg1 : FVec F S2048x8x64 .f32) (main_arg2 : FVec F S2048x8x64 .f32) (main_arg3 : FVec F S2048x8x64 .f32) (main_arg4 : FVec F S256x8x64 .f32) (main_arg5 : FVec F S256x8x64 .f32) (main_arg6 : FVec F S8x15x31 .f32) (main_arg7 : FVec F S2048x8x64 .f32) (main_arg8 : FVec F S8x128 .f32) : IVec S2048x8x64 1 × IVec S2048x8x64 1 × IVec S2048x8x64 1 × IVec S2048x8x64 1 × IVec S256x8x64 1 × IVec S256x8x64 1 × IVec S8x15x31 1 × IVec S2048x8x64 1 :=
  let main_v0 : FVec F S2048x8x64 .f32 := Host.absf main_arg0
  let main_cst : FVec F S_ .f32 := constant S_ .f32 0x7F800000#32
  let main_v1 : FVec F S2048x8x64 .f32 := broadcastInDim S2048x8x64 ![] bcast_S_S2048x8x64 main_cst
  let main_v2 : IVec S2048x8x64 1 := cmpf .olt main_v0 main_v1
  let main_v3 : FVec F S2048x8x64 .f32 := Host.absf main_arg1
  let main_cst_0 : FVec F S_ .f32 := constant S_ .f32 0x7F800000#32
  let main_v4 : FVec F S2048x8x64 .f32 := broadcastInDim S2048x8x64 ![] bcast_S_S2048x8x64 main_cst_0
  let main_v5 : IVec S2048x8x64 1 := cmpf .olt main_v3 main_v4
  let main_v6 : FVec F S2048x8x64 .f32 := Host.absf main_arg2
  let main_cst_1 : FVec F S_ .f32 := constant S_ .f32 0x7F800000#32
  let main_v7 : FVec F S2048x8x64 .f32 := broadcastInDim S2048x8x64 ![] bcast_S_S2048x8x64 main_cst_1
  let main_v8 : IVec S2048x8x64 1 := cmpf .olt main_v6 main_v7
  let main_v9 : FVec F S2048x8x64 .f32 := Host.absf main_arg3
  let main_cst_2 : FVec F S_ .f32 := constant S_ .f32 0x7F800000#32
  let main_v10 : FVec F S2048x8x64 .f32 := broadcastInDim S2048x8x64 ![] bcast_S_S2048x8x64 main_cst_2
  let main_v11 : IVec S2048x8x64 1 := cmpf .olt main_v9 main_v10
  let main_v12 : FVec F S256x8x64 .f32 := Host.absf main_arg4
  let main_cst_3 : FVec F S_ .f32 := constant S_ .f32 0x7F800000#32
  let main_v13 : FVec F S256x8x64 .f32 := broadcastInDim S256x8x64 ![] bcast_S_S256x8x64 main_cst_3
  let main_v14 : IVec S256x8x64 1 := cmpf .olt main_v12 main_v13
  let main_v15 : FVec F S256x8x64 .f32 := Host.absf main_arg5
  let main_cst_4 : FVec F S_ .f32 := constant S_ .f32 0x7F800000#32
  let main_v16 : FVec F S256x8x64 .f32 := broadcastInDim S256x8x64 ![] bcast_S_S256x8x64 main_cst_4
  let main_v17 : IVec S256x8x64 1 := cmpf .olt main_v15 main_v16
  fn_part1 (F := F) main_arg6 main_arg7 main_v2 main_v5 main_v8 main_v11 main_v14 main_v17
-- ==== Pre_conv_finite.lean ====
abbrev S2048x4096 : Shape := ⟨2, ![2048, 4096]⟩
abbrev S3x512 : Shape := ⟨2, ![3, 512]⟩
abbrev S1x512 : Shape := ⟨2, ![1, 512]⟩
abbrev S2048x512 : Shape := ⟨2, ![2048, 512]⟩
abbrev S8x2048x512 : Shape := ⟨3, ![8, 2048, 512]⟩
abbrev S8x128 : Shape := ⟨2, ![8, 128]⟩
abbrev S_ : Shape := ⟨0, ![]⟩

class Facts : Prop where
  bcast_S_S2048x4096 : S_.BroadcastsInDim S2048x4096 (![] : Fin 0 → Fin S2048x4096.rank)
  bcast_S_S3x512 : S_.BroadcastsInDim S3x512 (![] : Fin 0 → Fin S3x512.rank)
  bcast_S_S1x512 : S_.BroadcastsInDim S1x512 (![] : Fin 0 → Fin S1x512.rank)
  bcast_S_S2048x512 : S_.BroadcastsInDim S2048x512 (![] : Fin 0 → Fin S2048x512.rank)

variable [Facts]

def fn {F : FTy → Type} [FloatOps F] (main_arg0 : FVec F S2048x4096 .f32) (main_arg1 : FVec F S3x512 .f32) (main_arg2 : FVec F S1x512 .f32) (main_arg3 : FVec F S2048x512 .f32) (main_arg4 : FVec F S8x2048x512 .bf16) (main_arg5 : FVec F S8x128 .f32) : IVec S2048x4096 1 × IVec S3x512 1 × IVec S1x512 1 × IVec S2048x512 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S3x512 .f32 := Host.absf main_arg1
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  (main_v2, main_v5, main_v8, main_v11)
-- ==== Pre_ctx_finite.lean ====
abbrev S8x256x64 : Shape := ⟨3, ![8, 256, 64]⟩
abbrev S256x1024 : Shape := ⟨2, ![256, 1024]⟩
abbrev S1x64 : Shape := ⟨2, ![1, 64]⟩
abbrev S_ : Shape := ⟨0, ![]⟩

class Facts : Prop where
  bcast_S_S8x256x64 : S_.BroadcastsInDim S8x256x64 (![] : Fin 0 → Fin S8x256x64.rank)
  bcast_S_S256x1024 : S_.BroadcastsInDim S256x1024 (![] : Fin 0 → Fin S256x1024.rank)
  bcast_S_S1x64 : S_.BroadcastsInDim S1x64 (![] : Fin 0 → Fin S1x64.rank)

variable [Facts]

def fn {F : FTy → Type} [FloatOps F] (main_arg0 : FVec F S8x256x64 .f32) (main_arg1 : FVec F S8x256x64 .f32) (main_arg2 : FVec F S256x1024 .f32) (main_arg3 : FVec F S1x64 .f32) : IVec S8x256x64 1 × IVec S256x1024 1 × IVec S1x64 1 :=
  let main_v0 : FVec F S8x256x64 .f32 := Host.absf main_arg0
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1x64 .f32 := Host.absf main_arg3
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  (main_v2, main_v5, main_v8)
-- ==== Pre_fwd_finite.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S_ : Shape := ⟨0, ![]⟩

class Facts : Prop where
  bcast_S_S2048x8x64 : S_.BroadcastsInDim S2048x8x64 (![] : Fin 0 → Fin S2048x8x64.rank)
  bcast_S_S256x8x64 : S_.BroadcastsInDim S256x8x64 (![] : Fin 0 → Fin S256x8x64.rank)
  bcast_S_S8x15x31 : S_.BroadcastsInDim S8x15x31 (![] : Fin 0 → Fin S8x15x31.rank)

variable [Facts]

def fn_part1 {F : FTy → Type} [FloatOps F] (main_arg6 : FVec F S8x15x31 .f32) (main_v2 : IVec S2048x8x64 1) (main_v5 : IVec S2048x8x64 1) (main_v8 : IVec S2048x8x64 1) (main_v11 : IVec S2048x8x64 1) (main_v14 : IVec S256x8x64 1) (main_v17 : IVec S256x8x64 1) : IVec S2048x8x64 1 × IVec S2048x8x64 1 × IVec S2048x8x64 1 × IVec S2048x8x64 1 × IVec S256x8x64 1 × IVec S256x8x64 1 × IVec S8x15x31 1 :=
  let main_v18 : FVec F S8x15x31 .f32 := Host.absf main_arg6
  let main_cst_5 : FVec F S_ .f32 := constant S_ .f32 0x7F800000#32
  let main_v19 : FVec F S8x15x31 .f32 := broadcastInDim S8x15x31 ![] bcast_S_S8x15x31 main_cst_5
  let main_v20 : IVec S8x15x31 1 := cmpf .olt main_v18 main_v19
  (main_v2, main_v5, main_v8, main_v11, main_v14, main_v17, main_v20)

def fn {F : FTy → Type} [FloatOps F] (main_arg0 : FVec F S2048x8x64 .f32) (main_arg1 : FVec F S2048x8x64 .f32) (main_arg2 : FVec F S2048x8x64 .f32) (main_arg3 : FVec F S2048x8x64 .f32) (main_arg4 : FVec F S256x8x64 .f32) (main_arg5 : FVec F S256x8x64 .f32) (main_arg6 : FVec F S8x15x31 .f32) (main_arg7 : FVec F S8x128 .f32) : IVec S2048x8x64 1 × IVec S2048x8x64 1 × IVec S2048x8x64 1 × IVec S2048x8x64 1 × IVec S256x8x64 1 × IVec S256x8x64 1 × IVec S8x15x31 1 :=
  let main_v0 : FVec F S2048x8x64 .f32 := Host.absf main_arg0
  let main_cst : FVec F S_ .f32 := constant S_ .f32 0x7F800000#32
  let main_v1 : FVec F S2048x8x64 .f32 := broadcastInDim S2048x8x64 ![] bcast_S_S2048x8x64 main_cst
  let main_v2 : IVec S2048x8x64 1 := cmpf .olt main_v0 main_v1
  let main_v3 : FVec F S2048x8x64 .f32 := Host.absf main_arg1
  let main_cst_0 : FVec F S_ .f32 := constant S_ .f32 0x7F800000#32
  let main_v4 : FVec F S2048x8x64 .f32 := broadcastInDim S2048x8x64 ![] bcast_S_S2048x8x64 main_cst_0
  let main_v5 : IVec S2048x8x64 1 := cmpf .olt main_v3 main_v4
  let main_v6 : FVec F S2048x8x64 .f32 := Host.absf main_arg2
  let main_cst_1 : FVec F S_ .f32 := constant S_ .f32 0x7F800000#32
  let main_v7 : FVec F S2048x8x64 .f32 := broadcastInDim S2048x8x64 ![] bcast_S_S2048x8x64 main_cst_1
  let main_v8 : IVec S2048x8x64 1 := cmpf .olt main_v6 main_v7
  let main_v9 : FVec F S2048x8x64 .f32 := Host.absf main_arg3
  let main_cst_2 : FVec F S_ .f32 := constant S_ .f32 0x7F800000#32
  let main_v10 : FVec F S2048x8x64 .f32 := broadcastInDim S2048x8x64 ![] bcast_S_S2048x8x64 main_cst_2
  let main_v11 : IVec S2048x8x64 1 := cmpf .olt main_v9 main_v10
  let main_v12 : FVec F S256x8x64 .f32 := Host.absf main_arg4
  let main_cst_3 : FVec F S_ .f32 := constant S_ .f32 0x7F800000#32
  let main_v13 : FVec F S256x8x64 .f32 := broadcastInDim S256x8x64 ![] bcast_S_S256x8x64 main_cst_3
  let main_v14 : IVec S256x8x64 1 := cmpf .olt main_v12 main_v13
  let main_v15 : FVec F S256x8x64 .f32 := Host.absf main_arg5
  let main_cst_4 : FVec F S_ .f32 := constant S_ .f32 0x7F800000#32
  let main_v16 : FVec F S256x8x64 .f32 := broadcastInDim S256x8x64 ![] bcast_S_S256x8x64 main_cst_4
  let main_v17 : IVec S256x8x64 1 := cmpf .olt main_v15 main_v16
  fn_part1 (F := F) main_arg6 main_v2 main_v5 main_v8 main_v11 main_v14 main_v17
-- ==== Pre_heads_finite.lean ====
abbrev S2048x4096 : Shape := ⟨2, ![2048, 4096]⟩
abbrev S1x64 : Shape := ⟨2, ![1, 64]⟩
abbrev S_ : Shape := ⟨0, ![]⟩

class Facts : Prop where
  bcast_S_S2048x4096 : S_.BroadcastsInDim S2048x4096 (![] : Fin 0 → Fin S2048x4096.rank)

variable [Facts]

def fn {F : FTy → Type} [FloatOps F] (main_arg0 : FVec F S2048x4096 .f32) (main_arg1 : FVec F S1x64 .f32) (main_arg2 : FVec F S1x64 .f32) : IVec S2048x4096 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  main_v2
-- ==== Pre_loss_finite.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S_ : Shape := ⟨0, ![]⟩

class Facts : Prop where
  bcast_S_S8x2048x64 : S_.BroadcastsInDim S8x2048x64 (![] : Fin 0 → Fin S8x2048x64.rank)
  bcast_S_S2048x4096 : S_.BroadcastsInDim S2048x4096 (![] : Fin 0 → Fin S2048x4096.rank)
  bitsLt_bf16_f32 : FTy.bits .bf16 < FTy.bits .f32
  bcast_S_S2048x512 : S_.BroadcastsInDim S2048x512 (![] : Fin 0 → Fin S2048x512.rank)
  bcast_S_S1024x1024 : S_.BroadcastsInDim S1024x1024 (![] : Fin 0 → Fin S1024x1024.rank)
  bcast_S_S2048x1024 : S_.BroadcastsInDim S2048x1024 (![] : Fin 0 → Fin S2048x1024.rank)
  bcast_S_S1x3072 : S_.BroadcastsInDim S1x3072 (![] : Fin 0 → Fin S1x3072.rank)

variable [Facts]

def fn_part1 {F : FTy → Type} [FloatOps F] (main_arg6 : FVec F S1x3072 .f32) (main_arg7 : FVec F S1x3072 .f32) (main_v2 : IVec S8x2048x64 1) (main_v5 : IVec S2048x4096 1) (main_v9 : IVec S2048x512 1) (main_v12 : IVec S1024x1024 1) (main_v15 : IVec S2048x1024 1) (main_v16 : FVec F S2048x1024 .f32) (main_v17 : FVec F S2048x1024 .f32) : IVec S8x2048x64 1 × IVec S2048x4096 1 × IVec S2048x512 1 × IVec S1024x1024 1 × IVec S2048x1024 1 × IVec S2048x1024 1 × IVec S1x3072 1 × IVec S1x3072 1 :=
  let main_v18 : IVec S2048x1024 1 := cmpf .olt main_v16 main_v17
  let main_v19 : FVec F S1x3072 .f32 := Host.absf main_arg6
  let main_cst_5 : FVec F S_ .f32 := constant S_ .f32 0x7F800000#32
  let main_v20 : FVec F S1x3072 .f32 := broadcastInDim S1x3072 ![] bcast_S_S1x3072 main_cst_5
  let main_v21 : IVec S1x3072 1 := cmpf .olt main_v19 main_v20
  let main_v22 : FVec F S1x3072 .f32 := Host.absf main_arg7
  let main_cst_6 : FVec F S_ .f32 := constant S_ .f32 0x7F800000#32
  let main_v23 : FVec F S1x3072 .f32 := broadcastInDim S1x3072 ![] bcast_S_S1x3072 main_cst_6
  let main_v24 : IVec S1x3072 1 := cmpf .olt main_v22 main_v23
  (main_v2, main_v5, main_v9, main_v12, main_v15, main_v18, main_v21, main_v24)

def fn {F : FTy → Type} [FloatOps F] (main_arg0 : FVec F S8x2048x64 .f32) (main_arg1 : FVec F S2048x4096 .f32) (main_arg2 : FVec F S2048x512 .bf16) (main_arg3 : FVec F S1024x1024 .f32) (main_arg4 : FVec F S2048x1024 .f32) (main_arg5 : FVec F S2048x1024 .f32) (main_arg6 : FVec F S1x3072 .f32) (main_arg7 : FVec F S1x3072 .f32) : IVec S8x2048x64 1 × IVec S2048x4096 1 × IVec S2048x512 1 × IVec S1024x1024 1 × IVec S2048x1024 1 × IVec S2048x1024 1 × IVec S1x3072 1 × IVec S1x3072 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_v3 : FVec F S2048x4096 .f32 := Host.absf main_arg1
  let main_cst_0 : FVec F S_ .f32 := constant S_ .f32 0x7F800000#32
  let main_v4 : FVec F S2048x4096 .f32 := broadcastInDim S2048x4096 ![] bcast_S_S2048x4096 main_cst_0
  let main_v5 : IVec S2048x4096 1 := cmpf .olt main_v3 main_v4
  let main_v6 : FVec F S2048x512 .f32 := (extf .f32 · bitsLt_bf16_f32) main_arg2
  let main_v7 : FVec F S2048x512 .f32 := Host.absf main_v6
  let main_cst_1 : FVec F S_ .f32 := constant S_ .f32 0x7F800000#32
  let main_v8 : FVec F S2048x512 .f32 := broadcastInDim S2048x512 ![] bcast_S_S2048x512 main_cst_1
  let main_v9 : IVec S2048x512 1 := cmpf .olt main_v7 main_v8
  let main_v10 : FVec F S1024x1024 .f32 := Host.absf main_arg3
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S2048x1024 .f32 := Host.absf main_arg4
  let main_cst_3 : FVec F S_ .f32 := constant S_ .f32 0x7F800000#32
  let main_v14 : FVec F S2048x1024 .f32 := broadcastInDim S2048x1024 ![] bcast_S_S2048x1024 main_cst_3
  let main_v15 : IVec S2048x1024 1 := cmpf .olt main_v13 main_v14
  let main_v16 : FVec F S2048x1024 .f32 := Host.absf main_arg5
  let main_cst_4 : FVec F S_ .f32 := constant S_ .f32 0x7F800000#32
  let main_v17 : FVec F S2048x1024 .f32 := broadcastInDim S2048x1024 ![] bcast_S_S2048x1024 main_cst_4
  fn_part1 (F := F) main_arg6 main_arg7 main_v2 main_v5 main_v9 main_v12 main_v15 main_v16 main_v17
-- ==== Pre_norm_finite.lean ====
abbrev S8x2048x512 : Shape := ⟨3, ![8, 2048, 512]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  bcast_S_S1024x4096 : S_.BroadcastsInDim S1024x4096 (![] : Fin 0 → Fin S1024x4096.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x3072 : S_.BroadcastsInDim S1x3072 (![] : Fin 0 → Fin S1x3072.rank)

variable [Facts]

def fn_part1 {F : FTy → Type} [FloatOps F] (main_v3 : IVec S8x2048x512 1) (main_v6 : IVec S1024x4096 1) (main_v9 : IVec S2048x1024 1) (main_v12 : IVec S1x1024 1) (main_v15 : IVec S1x3072 1) (main_v16 : FVec F S1x3072 .f32) (main_v17 : FVec F S1x3072 .f32) : IVec S8x2048x512 1 × IVec S1024x4096 1 × IVec S2048x1024 1 × IVec S1x1024 1 × IVec S1x3072 1 × IVec S1x3072 1 :=
  let main_v18 : IVec S1x3072 1 := cmpf .olt main_v16 main_v17
  (main_v3, main_v6, main_v9, main_v12, main_v15, main_v18)

def fn {F : FTy → Type} [FloatOps F] (main_arg0 : FVec F S8x2048x512 .bf16) (main_arg1 : FVec F S1024x4096 .f32) (main_arg2 : FVec F S2048x1024 .f32) (main_arg3 : FVec F S2048x1024 .f32) (main_arg4 : FVec F S1x1024 .f32) (main_arg5 : FVec F S1x3072 .f32) (main_arg6 : FVec F S1x3072 .f32) (main_arg7 : FVec F S8x128 .f32) : IVec S8x2048x512 1 × IVec S1024x4096 1 × IVec S2048x1024 1 × IVec S1x1024 1 × IVec S1x3072 1 × IVec S1x3072 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : FVec F S1x1024 .f32 := Host.absf main_arg4
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x3072 .f32 := Host.absf main_arg5
  let main_cst_3 : FVec F S_ .f32 := constant S_ .f32 0x7F800000#32
  let main_v14 : FVec F S1x3072 .f32 := broadcastInDim S1x3072 ![] bcast_S_S1x3072 main_cst_3
  let main_v15 : IVec S1x3072 1 := cmpf .olt main_v13 main_v14
  let main_v16 : FVec F S1x3072 .f32 := Host.absf main_arg6
  let main_cst_4 : FVec F S_ .f32 := constant S_ .f32 0x7F800000#32
  let main_v17 : FVec F S1x3072 .f32 := broadcastInDim S1x3072 ![] bcast_S_S1x3072 main_cst_4
  fn_part1 (F := F) main_v3 main_v6 main_v9 main_v12 main_v15 main_v16 main_v17
-- ==== Pre_prep_finite.lean ====
abbrev S256x1024 : Shape := ⟨2, ![256, 1024]⟩
abbrev S1x64 : Shape := ⟨2, ![1, 64]⟩
abbrev S_ : Shape := ⟨0, ![]⟩

class Facts : Prop where
  bcast_S_S256x1024 : S_.BroadcastsInDim S256x1024 (![] : Fin 0 → Fin S256x1024.rank)

variable [Facts]

def fn {F : FTy → Type} [FloatOps F] (main_arg0 : FVec F S256x1024 .f32) (main_arg1 : FVec F S1x64 .f32) : IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  main_v2
-- ==== Pre_qk_finite.lean ====
abbrev S8x2048x64 : Shape := ⟨3, ![8, 2048, 64]⟩
abbrev S2048x4096 : Shape := ⟨2, ![2048, 4096]⟩
abbrev S1x64 : Shape := ⟨2, ![1, 64]⟩
abbrev S8x2048x512 : Shape := ⟨3, ![8, 2048, 512]⟩
abbrev S_ : Shape := ⟨0, ![]⟩

class Facts : Prop where
  bcast_S_S8x2048x64 : S_.BroadcastsInDim S8x2048x64 (![] : Fin 0 → Fin S8x2048x64.rank)
  bcast_S_S2048x4096 : S_.BroadcastsInDim S2048x4096 (![] : Fin 0 → Fin S2048x4096.rank)
  bcast_S_S1x64 : S_.BroadcastsInDim S1x64 (![] : Fin 0 → Fin S1x64.rank)

variable [Facts]

def fn {F : FTy → Type} [FloatOps F] (main_arg0 : FVec F S8x2048x64 .f32) (main_arg1 : FVec F S8x2048x64 .f32) (main_arg2 : FVec F S8x2048x64 .f32) (main_arg3 : FVec F S8x2048x64 .f32) (main_arg4 : FVec F S2048x4096 .f32) (main_arg5 : FVec F S1x64 .f32) (main_arg6 : FVec F S1x64 .f32) (main_arg7 : FVec F S8x2048x512 .bf16) : IVec S8x2048x64 1 × IVec S8x2048x64 1 × IVec S8x2048x64 1 × IVec S2048x4096 1 × IVec S1x64 1 × IVec S1x64 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_v3 : FVec F S8x2048x64 .f32 := Host.absf main_arg1
  let main_cst_0 : FVec F S_ .f32 := constant S_ .f32 0x7F800000#32
  let main_v4 : FVec F S8x2048x64 .f32 := broadcastInDim S8x2048x64 ![] bcast_S_S8x2048x64 main_cst_0
  let main_v5 : IVec S8x2048x64 1 := cmpf .olt main_v3 main_v4
  let main_v6 : FVec F S8x2048x64 .f32 := Host.absf main_arg2
  let main_cst_1 : FVec F S_ .f32 := constant S_ .f32 0x7F800000#32
  let main_v7 : FVec F S8x2048x64 .f32 := broadcastInDim S8x2048x64 ![] bcast_S_S8x2048x64 main_cst_1
  let main_v8 : IVec S8x2048x64 1 := cmpf .olt main_v6 main_v7
  let main_v9 : FVec F S2048x4096 .f32 := Host.absf main_arg4
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_v12 : FVec F S1x64 .f32 := Host.absf main_arg5
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg6
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  (main_v2, main_v5, main_v8, main_v11, main_v14, main_v17)
-- ==== Pre_silu_finite.lean ====
abbrev S4x8x1024 : Shape := ⟨3, ![4, 8, 1024]⟩
abbrev S1024 : Shape := ⟨1, ![1024]⟩
abbrev S_ : Shape := ⟨0, ![]⟩

class Facts : Prop where
  bcast_S_S4x8x1024 : S_.BroadcastsInDim S4x8x1024 (![] : Fin 0 → Fin S4x8x1024.rank)
  bcast_S_S1024 : S_.BroadcastsInDim S1024 (![] : Fin 0 → Fin S1024.rank)

variable [Facts]

def fn {F : FTy → Type} [FloatOps F] (main_arg0 : FVec F S4x8x1024 .f32) (main_arg1 : FVec F S1024 .f32) : IVec S4x8x1024 1 × IVec S1024 1 :=
  let main_v0 : FVec F S4x8x1024 .f32 := Host.absf main_arg0
  let main_cst : FVec F S_ .f32 := constant S_ .f32 0x7F800000#32
  let main_v1 : FVec F S4x8x1024 .f32 := broadcastInDim S4x8x1024 ![] bcast_S_S4x8x1024 main_cst
  let main_v2 : IVec S4x8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S2048x4096 : Shape := ⟨2, ![2048, 4096]⟩
abbrev S3x512 : Shape := ⟨2, ![3, 512]⟩
abbrev S1x512 : Shape := ⟨2, ![1, 512]⟩
abbrev S2048x512 : Shape := ⟨2, ![2048, 512]⟩
abbrev S8x2048x512 : Shape := ⟨3, ![8, 2048, 512]⟩
abbrev S8x128 : Shape := ⟨2, ![8, 128]⟩
abbrev S8x512 : Shape := ⟨2, ![8, 512]⟩
abbrev S2048x128 : Shape := ⟨2, ![2048, 128]⟩
abbrev S3x128 : Shape := ⟨2, ![3, 128]⟩
abbrev S1x128 : Shape := ⟨2, ![1, 128]⟩
abbrev S4x2048x128 : Shape := ⟨3, ![4, 2048, 128]⟩
abbrev S1x2048x128 : Shape := ⟨3, ![1, 2048, 128]⟩
abbrev S128 : Shape := ⟨1, ![128]⟩
abbrev S5x128 : Shape := ⟨2, ![5, 128]⟩

abbrev nBuf : Space → Nat
  | .hbm => 9
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S2048x512, .f32⟩
  | .hbm, ⟨4, _⟩ => ⟨S8x2048x512, .bf16⟩
  | .hbm, ⟨5, _⟩ => ⟨S8x128, .f32⟩
  | .hbm, ⟨6, _⟩ => ⟨S8x2048x512, .bf16⟩
  | .hbm, ⟨7, _⟩ => ⟨S8x512, .f32⟩
  | .hbm, ⟨8, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S4x2048x128, .bf16⟩
  | .local _ .vmem, ⟨15, _⟩ => ⟨S4x2048x128, .bf16⟩
  | .local _ .vmem, ⟨16, _⟩ => ⟨S8x128, .f32⟩
  | .local _ .vmem, ⟨17, _⟩ => ⟨S8x128, .f32⟩
  | .local _ .vmem, ⟨18, _⟩ => ⟨S1x128, .f32⟩
  | .local _ .vmem, ⟨19, _⟩ => ⟨S1x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x4096 : Shape := ⟨2, ![2048, 4096]⟩
abbrev S3x512 : Shape := ⟨2, ![3, 512]⟩
abbrev S1x512 : Shape := ⟨2, ![1, 512]⟩
abbrev S2048x512 : Shape := ⟨2, ![2048, 512]⟩
abbrev S8x2048x512 : Shape := ⟨3, ![8, 2048, 512]⟩
abbrev S8x128 : Shape := ⟨2, ![8, 128]⟩
abbrev S_ : Shape := ⟨0, ![]⟩
abbrev S2050x512 : Shape := ⟨2, ![2050, 512]⟩
abbrev S512 : Shape := ⟨1, ![512]⟩
abbrev S1x2048x512 : Shape := ⟨3, ![1, 2048, 512]⟩
abbrev S4x2048x512 : Shape := ⟨3, ![4, 2048, 512]⟩
abbrev S8x512 : Shape := ⟨2, ![8, 512]⟩

abbrev nBuf : Space → Nat
  | .hbm => 125
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S2048x512, .f32⟩
  | .hbm, ⟨4, _⟩ => ⟨S8x2048x512, .bf16⟩
  | .hbm, ⟨5, _⟩ => ⟨S8x128, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S1x512, .f32⟩
  | .hbm, ⟨13, _⟩ => ⟨S2050x512, .f32⟩
  | .hbm, ⟨14, _⟩ => ⟨S_, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S2048x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S3x512, .f32⟩
  | .hbm, ⟨74, _⟩ => ⟨S_, .f32⟩
  | .hbm, ⟨75, _⟩ => ⟨S2050x512, .f32⟩
  | .hbm, ⟨76, _⟩ => ⟨S2048x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S2048x512, .f32⟩
  | .hbm, ⟨81, _⟩ => ⟨S2048x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S_, .f32⟩
  | .hbm, ⟨86, _⟩ => ⟨S3x512, .f32⟩
  | .hbm, ⟨87, _⟩ => ⟨S3x512, .f32⟩
  | .hbm, ⟨88, _⟩ => ⟨S_, .f32⟩
  | .hbm, ⟨89, _⟩ => ⟨S2050x512, .f32⟩
  | .hbm, ⟨90, _⟩ => ⟨S2050x512, .f32⟩
  | .hbm, ⟨91, _⟩ => ⟨S_, .f32⟩
  | .hbm, ⟨92, _⟩ => ⟨S512, .f32⟩
  | .hbm, ⟨93, _⟩ => ⟨S1x512, .f32⟩
  | .hbm, ⟨94, _⟩ => ⟨S2048x512, .f32⟩
  | .hbm, ⟨95, _⟩ => ⟨S_, .f32⟩
  | .hbm, ⟨96, _⟩ => ⟨S512, .f32⟩
  | .hbm, ⟨97, _⟩ => ⟨S1x512, .f32⟩
  | .hbm, ⟨98, _⟩ => ⟨S2048x512, .f32⟩
  | .hbm, ⟨99, _⟩ => ⟨S2048x512, .f32⟩
  | .hbm, ⟨100, _⟩ => ⟨S_, .f32⟩
  | .hbm, ⟨101, _⟩ => ⟨S512, .f32⟩
  | .hbm, ⟨102, _⟩ => ⟨S1x512, .f32⟩
  | .hbm, ⟨103, _⟩ => ⟨S_, .f32⟩
  | .hbm, ⟨104, _⟩ => ⟨S3x512, .f32⟩
  | .hbm, ⟨105, _⟩ => ⟨S3x512, .f32⟩
  | .hbm, ⟨106, _⟩ => ⟨S_, .f32⟩
  | .hbm, ⟨107, _⟩ => ⟨S2050x512, .f32⟩
  | .hbm, ⟨108, _⟩ => ⟨S2050x512, .f32⟩
  | .hbm, ⟨109, _⟩ => ⟨S1x512, .f32⟩
  | .hbm, ⟨110, _⟩ => ⟨S2048x512, .f32⟩
  | .hbm, ⟨111, _⟩ => ⟨S1x512, .f32⟩
  | .hbm, ⟨112, _⟩ => ⟨S2048x512, .f32⟩
  | .hbm, ⟨113, _⟩ => ⟨S2048x512, .f32⟩
  | .hbm, ⟨114, _⟩ => ⟨S1x2048x512, .f32⟩
  | .hbm, ⟨115, _⟩ => ⟨S1x2048x512, .f32⟩
  | .hbm, ⟨116, _⟩ => ⟨S1x2048x512, .f32⟩
  | .hbm, ⟨117, _⟩ => ⟨S1x2048x512, .f32⟩
  | .hbm, ⟨118, _⟩ => ⟨S4x2048x512, .f32⟩
  | .hbm, ⟨119, _⟩ => ⟨S4x2048x512, .bf16⟩
  | .hbm, ⟨120, _⟩ => ⟨S4x2048x512, .bf16⟩
  | .hbm, ⟨121, _⟩ => ⟨S8x2048x512, .bf16⟩
  | .hbm, ⟨122, _⟩ => ⟨S_, .i32⟩
  | .hbm, ⟨123, _⟩ => ⟨S_, .f32⟩
  | .hbm, ⟨124, _⟩ => ⟨S8x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v32_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v32_1 : Ref sig .tc := ⟨.hbm, 52, rfl⟩
abbrev main_v32_0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c : Ref sig .tc := ⟨.hbm, 122, rfl⟩
abbrev main_call2_v0 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Kernel2.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S_ : Shape := ⟨0, ![]⟩
abbrev S8x15x128 : Shape := ⟨3, ![8, 15, 128]⟩
abbrev S8x5x576x128 : Shape := ⟨4, ![8, 5, 576, 128]⟩
abbrev S1x15x128 : Shape := ⟨3, ![1, 15, 128]⟩
abbrev S1x5x576x128 : Shape := ⟨4, ![1, 5, 576, 128]⟩
abbrev S15x128 : Shape := ⟨2, ![15, 128]⟩
abbrev S1x128 : Shape := ⟨2, ![1, 128]⟩
abbrev S64x128 : Shape := ⟨2, ![64, 128]⟩
abbrev S960x128 : Shape := ⟨2, ![960, 128]⟩
abbrev S64x64 : Shape := ⟨2, ![64, 64]⟩
abbrev S1x1x64x64 : Shape := ⟨4, ![1, 1, 64, 64]⟩
abbrev S8x2048x64 : Shape := ⟨3, ![8, 2048, 64]⟩
abbrev S8x256x64 : Shape := ⟨3, ![8, 256, 64]⟩
abbrev S1x2048x64 : Shape := ⟨3, ![1, 2048, 64]⟩
abbrev S1x256x64 : Shape := ⟨3, ![1, 256, 64]⟩
abbrev S256x64 : Shape := ⟨2, ![256, 64]⟩
abbrev S2048x64 : Shape := ⟨2, ![2048, 64]⟩
abbrev S5x576x128 : Shape := ⟨3, ![5, 576, 128]⟩
abbrev S1x128x64 : Shape := ⟨3, ![1, 128, 64]⟩
abbrev S128x64 : Shape := ⟨2, ![128, 64]⟩
abbrev S1x576x64 : Shape := ⟨3, ![1, 576, 64]⟩
abbrev S576x64 : Shape := ⟨2, ![576, 64]⟩
abbrev S576x128 : Shape := ⟨2, ![576, 128]⟩
abbrev S1x1x576x128 : Shape := ⟨4, ![1, 1, 576, 128]⟩
abbrev S256x128 : Shape := ⟨2, ![256, 128]⟩
abbrev S128 : Shape := ⟨1, ![128]⟩
abbrev S15x64x128 : Shape := ⟨3, ![15, 64, 128]⟩

abbrev nBuf : Space → Nat
  | .hbm => 42
  | .vmem => 39
  | .smem => 0
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S2048x8x64, .f32⟩
  | .hbm, ⟨3, _⟩ => ⟨S2048x8x64, .f32⟩
  | .hbm, ⟨4, _⟩ => ⟨S256x8x64, .f32⟩
  | .hbm, ⟨5, _⟩ => ⟨S256x8x64, .f32⟩
  | .hbm, ⟨6, _⟩ => ⟨S8x15x31, .f32⟩
  | .hbm, ⟨7, _⟩ => ⟨S2048x8x64, .f32⟩
  | .hbm, ⟨8, _⟩ => ⟨S8x128, .f32⟩
  | .hbm, ⟨9, _⟩ => ⟨S8x15x31, .f32⟩
  | .hbm, ⟨10, _⟩ => ⟨S_, .i32⟩
  | .hbm, ⟨11, _⟩ => ⟨S_, .f32⟩
  | .hbm, ⟨12, _⟩ => ⟨S8x15x128, .f32⟩
  | .hbm, ⟨13, _⟩ => ⟨S8x5x576x128, .f32⟩
  | .hbm, ⟨14, _⟩ => ⟨S_, .f32⟩
  | .hbm, ⟨15, _⟩ => ⟨S2048x8x64, .f32⟩
  | .hbm, ⟨16, _⟩ => ⟨S2048x8x64, .f32⟩
  | .hbm, ⟨17, _⟩ => ⟨S8x2048x64, .f32⟩
  | .hbm, ⟨18, _⟩ => ⟨S8x2048x64, .bf16⟩
  | .hbm, ⟨19, _⟩ => ⟨S_, .f32⟩
  | .hbm, ⟨20, _⟩ => ⟨S2048x8x64, .f32⟩
  | .hbm, ⟨21, _⟩ => ⟨S2048x8x64, .f32⟩
  | .hbm, ⟨22, _⟩ => ⟨S8x2048x64, .f32⟩
  | .hbm, ⟨23, _⟩ => ⟨S8x2048x64, .bf16⟩
  | .hbm, ⟨24, _⟩ => ⟨S8x2048x64, .f32⟩
  | .hbm, ⟨25, _⟩ => ⟨S8x2048x64, .bf16⟩
  | .hbm, ⟨26, _⟩ => ⟨S8x2048x64, .f32⟩
  | .hbm, ⟨27, _⟩ => ⟨S8x2048x64, .bf16⟩
  | .hbm, ⟨28, _⟩ => ⟨S8x256x64, .f32⟩
  | .hbm, ⟨29, _⟩ => ⟨S8x256x64, .bf16⟩
  | .hbm, ⟨30, _⟩ => ⟨S8x256x64, .f32⟩
  | .hbm, ⟨31, _⟩ => ⟨S8x256x64, .bf16⟩
  | .hbm, ⟨32, _⟩ => ⟨S8x2048x64, .f32⟩
  | .hbm, ⟨33, _⟩ => ⟨S8x2048x64, .bf16⟩
  | .hbm, ⟨34, _⟩ => ⟨S8x2048x64, .f32⟩
  | .hbm, ⟨35, _⟩ => ⟨S8x2048x64, .f32⟩
  | .hbm, ⟨36, _⟩ => ⟨S8x2048x64, .f32⟩
  | .hbm, ⟨37, _⟩ => ⟨S8x2048x64, .f32⟩
  | .hbm, ⟨38, _⟩ => ⟨S8x256x64, .f32⟩
  | .hbm, ⟨39, _⟩ => ⟨S8x256x64, .f32⟩
  | .hbm, ⟨40, _⟩ => ⟨S8x5x576x128, .f32⟩
  | .hbm, ⟨41, _⟩ => ⟨S8x15x128, .f32⟩
  | .local _ .vmem, ⟨0, _⟩ => ⟨S1x15x128, .f32⟩
  | .local _ .vmem, ⟨1, _⟩ => ⟨S1x15x128, .f32⟩
  | .local _ .vmem, ⟨2, _⟩ => ⟨S1x5x576x128, .f32⟩
  | .local _ .vmem, ⟨3, _⟩ => ⟨S1x5x576x128, .f32⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x256x64, .bf16⟩
  | .local _ .vmem, ⟨13, _⟩ => ⟨S1x256x64, .bf16⟩
  | .local _ .vmem, ⟨14, _⟩ => ⟨S1x256x64, .bf16⟩
  | .local _ .vmem, ⟨15, _⟩ => ⟨S1x256x64, .bf16⟩
  | .local _ .vmem, ⟨16, _⟩ => ⟨S1x5x576x128, .f32⟩
  | .local _ .vmem, ⟨17, _⟩ => ⟨S1x5x576x128, .f32⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .f32⟩
  | .local _ .vmem, ⟨21, _⟩ => ⟨S1x2048x64, .f32⟩
  | .local _ .vmem, ⟨22, _⟩ => ⟨S1x2048x64, .f32⟩
  | .local _ .vmem, ⟨23, _⟩ => ⟨S1x2048x64, .f32⟩
  | .local _ .vmem, ⟨24, _⟩ => ⟨S1x2048x64, .f32⟩
  | .local _ .vmem, ⟨25, _⟩ => ⟨S1x2048x64, .f32⟩
  | .local _ .vmem, ⟨26, _⟩ => ⟨S1x2048x64, .f32⟩
  | .local _ .vmem, ⟨27, _⟩ => ⟨S1x2048x64, .f32⟩
  | .local _ .vmem, ⟨28, _⟩ => ⟨S1x256x64, .f32⟩
  | .local _ .vmem, ⟨29, _⟩ => ⟨S1x256x64, .f32⟩
  | .local _ .vmem, ⟨30, _⟩ => ⟨S1x256x64, .f32⟩
  | .local _ .vmem, ⟨31, _⟩ => ⟨S1x256x64, .f32⟩
  | .local _ .vmem, ⟨32, _⟩ => ⟨S1x5x576x128, .f32⟩
  | .local _ .vmem, ⟨33, _⟩ => ⟨S1x5x576x128, .f32⟩
  | .local _ .vmem, ⟨34, _⟩ => ⟨S1x5x576x128, .f32⟩
  | .local _ .vmem, ⟨35, _⟩ => ⟨S1x5x576x128, .f32⟩
  | .local _ .vmem, ⟨36, _⟩ => ⟨S1x15x128, .f32⟩
  | .local _ .vmem, ⟨37, _⟩ => ⟨S1x15x128, .f32⟩
  | .local _ .vmem, ⟨38, _⟩ => ⟨S960x128, .f32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev main_v21_6 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc2_sem0_0 : DmaSem sig := 34
abbrev cc2_sem0_1 : DmaSem sig := 35
abbrev cc2_sem1_0 : DmaSem sig := 36
abbrev cc2_sem1_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x576x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x5x576x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2048x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2048x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x2048x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x2048x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x5x576x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x5x576x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x15x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== Kernel2Ideal.lean ====
variable {F : FTy → Type} [FloatOps F] [Named F]
def κ : String → Option EReal := fun
  | "mask" => some ⊥
  | _ => none
-- ==== Reference2Ideal.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S32x64x8x64 : Shape := ⟨4, ![32, 64, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x8x64x8x64 : Shape := ⟨5, ![32, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S64x1x64 : Shape := ⟨3, ![64, 1, 64]⟩
abbrev S8x32x64x256 : Shape := ⟨4, ![8, 32, 64, 256]⟩
abbrev S8x32x64x512 : Shape := ⟨4, ![8, 32, 64, 512]⟩
abbrev S8x32x64x768 : Shape := ⟨4, ![8, 32, 64, 768]⟩
abbrev S8x32x64 : Shape := ⟨3, ![8, 32, 64]⟩
abbrev S8x32x64x1 : Shape := ⟨4, ![8, 32, 64, 1]⟩
abbrev S32x8x64x64 : Shape := ⟨4, ![32, 8, 64, 64]⟩
abbrev S8x64x32x64 : Shape := ⟨4, ![8, 64, 32, 64]⟩
abbrev S8x64x256 : Shape := ⟨3, ![8, 64, 256]⟩
abbrev S8x256x64 : Shape := ⟨3, ![8, 256, 64]⟩
abbrev S8x32x64x64 : Shape := ⟨4, ![8, 32, 64, 64]⟩
abbrev S8x32x8x64x64 : Shape := ⟨5, ![8, 32, 8, 64, 64]⟩
abbrev S8x2048x64 : Shape := ⟨3, ![8, 2048, 64]⟩
abbrev S8x15x128 : Shape := ⟨3, ![8, 15, 128]⟩

abbrev nBuf : Space → Nat
  | .hbm => 263
  | .vmem => 0
  | .smem => 0
  | _ => 0

abbrev hbmTy0_0 (i : Nat) : BufTy := match i % 128 with
  | 0 => ⟨S2048x8x64, .f32⟩
  | 1 => ⟨S2048x8x64, .f32⟩
  | 2 => ⟨S2048x8x64, .f32⟩
  | 3 => ⟨S2048x8x64, .f32⟩
  | 4 => ⟨S256x8x64, .f32⟩
  | 5 => ⟨S256x8x64, .f32⟩
  | 6 => ⟨S8x15x31, .f32⟩
  | 7 => ⟨S2048x8x64, .f32⟩
  | 8 => ⟨S8x128, .f32⟩
  | 9 => ⟨S32x64x8x64, .f32⟩
  | 10 => ⟨S32x64x8x64, .f32⟩
  | 11 => ⟨S32x64x8x64, .f32⟩
  | 12 => ⟨S32x64x8x64, .f32⟩
  | 13 => ⟨S32, .i32⟩
  | 14 => ⟨S_, .i32⟩
  | 15 => ⟨S32, .i32⟩
  | 16 => ⟨S32, .i32⟩
  | 17 => ⟨S_, .i32⟩
  | 18 => ⟨S_, .i32⟩
  | 19 => ⟨S_, .i32⟩
  | 20 => ⟨S32, .i32⟩
  | 21 => ⟨S32, .i32⟩
  | 22 => ⟨S_, .i32⟩
  | 23 => ⟨S32, .i32⟩
  | 24 => ⟨S32, .i32⟩
  | 25 => ⟨S32x1, .i32⟩
  | 26 => ⟨S8, .i32⟩
  | 27 => ⟨S1x8, .i32⟩
  | 28 => ⟨S32x8, .i32⟩
  | 29 => ⟨S32x8, .i32⟩
  | 30 => ⟨S32x8, .i32⟩
  | 31 => ⟨S_, .i32⟩
  | 32 => ⟨S32x8, .i32⟩
  | 33 => ⟨S32x8, .i1⟩
  | 34 => ⟨S_, .i32⟩
  | 35 => ⟨S32x8, .i32⟩
  | 36 => ⟨S32x8, .i32⟩
  | 37 => ⟨S32x8, .i32⟩
  | 38 => ⟨S32x8x1, .i32⟩
  | 39 => ⟨S32x8x64x8x64, .f32⟩
  | 40 => ⟨S_, .i32⟩
  | 41 => ⟨S32x8, .i32⟩
  | 42 => ⟨S32x8, .i1⟩
  | 43 => ⟨S_, .i32⟩
  | 44 => ⟨S32x8, .i32⟩
  | 45 => ⟨S32x8, .i32⟩
  | 46 => ⟨S32x8, .i32⟩
  | 47 => ⟨S32x8x1, .i32⟩
  | 48 => ⟨S32x8x64x8x64, .f32⟩
  | 49 => ⟨S64, .i32⟩
  | 50 => ⟨S_, .i32⟩
  | 51 => ⟨S64, .i32⟩
  | 52 => ⟨S64, .i32⟩
  | 53 => ⟨S_, .i32⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1x64, .i32⟩
  | 62 => ⟨S64x1, .i32⟩
  | 63 => ⟨S64x64, .i32⟩
  | 64 => ⟨S64x64, .i32⟩
  | 65 => ⟨S64x64, .i1⟩
  | 66 => ⟨S1x64, .i32⟩
  | 67 => ⟨S64x1, .i32⟩
  | 68 => ⟨S_, .i32⟩
  | 69 => ⟨S64x1, .i32⟩
  | 70 => ⟨S64x1, .i32⟩
  | 71 => ⟨S64x64, .i32⟩
  | 72 => ⟨S64x64, .i32⟩
  | 73 => ⟨S64x64, .i1⟩
  | 74 => ⟨S64x64, .i1⟩
  | 75 => ⟨S32x1, .i32⟩
  | 76 => ⟨S32x8, .i32⟩
  | 77 => ⟨S32x8, .i32⟩
  | 78 => ⟨S_, .i32⟩
  | 79 => ⟨S32x8, .i32⟩
  | 80 => ⟨S32x8, .i32⟩
  | 81 => ⟨S1x64, .i32⟩
  | 82 => ⟨S64x1, .i32⟩
  | 83 => ⟨S64x64, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S32x1x8x1, .i32⟩
  | 98 => ⟨S1x64x1x64, .i32⟩
  | 99 => ⟨S_, .i32⟩
  | 100 => ⟨S32x1x8x1, .i32⟩
  | 101 => ⟨S32x1x8x1, .i1⟩
  | 102 => ⟨S_, .i32⟩
  | 103 => ⟨S32x1x8x1, .i32⟩
  | 104 => ⟨S32x1x8x1, .i32⟩
  | 105 => ⟨S32x1x8x1, .i32⟩
  | 106 => ⟨S_, .i32⟩
  | 107 => ⟨S1x64x1x64, .i32⟩
  | 108 => ⟨S1x64x1x64, .i1⟩
  | 109 => ⟨S_, .i32⟩
  | 110 => ⟨S1x64x1x64, .i32⟩
  | 111 => ⟨S1x64x1x64, .i32⟩
  | 112 => ⟨S1x64x1x64, .i32⟩
  | 113 => ⟨S32x64x8x64, .i32⟩
  | 114 => ⟨S32x64x8x64, .i32⟩
  | 115 => ⟨S32x64x8x64x1, .i32⟩
  | 116 => ⟨S32x64x8x64x1, .i32⟩
  | 117 => ⟨S32x64x8x64x2, .i32⟩
  | 118 => ⟨S8x32x64x8x64, .f32⟩
  | 119 => ⟨S8x32x64x8x64, .f32⟩
  | 120 => ⟨S_, .f32⟩
  | 121 => ⟨S8x32x64x8x64, .f32⟩
  | 122 => ⟨S8x32x64x8x64, .f32⟩
  | 123 => ⟨S8x32x64x8x64, .f32⟩
  | 124 => ⟨S64x1x64, .i1⟩
  | 125 => ⟨S_, .f32⟩
  | 126 => ⟨S_, .f32⟩
  | 127 => ⟨S8x32x64x8x64, .i1⟩
  | _ => ⟨S2048x8x64, .f32⟩

abbrev hbmTy0_1 (i : Nat) : BufTy := match i % 128 with
  | 0 => ⟨S8x32x64x8x64, .f32⟩
  | 1 => ⟨S8x32x64x8x64, .f32⟩
  | 2 => ⟨S_, .f32⟩
  | 3 => ⟨S8x32x64x8x64, .f32⟩
  | 4 => ⟨S8x32x64x256, .f32⟩
  | 5 => ⟨S_, .f32⟩
  | 6 => ⟨S8x32x64x256, .f32⟩
  | 7 => ⟨S8x32x64x256, .f32⟩
  | 8 => ⟨S8x32x64x512, .f32⟩
  | 9 => ⟨S8x32x64x768, .f32⟩
  | 10 => ⟨S_, .f32⟩
  | 11 => ⟨S8x32x64, .f32⟩
  | 12 => ⟨S8x32x64x1, .f32⟩
  | 13 => ⟨S8x32x64x768, .f32⟩
  | 14 => ⟨S8x32x64x768, .i1⟩
  | 15 => ⟨S8x32x64x768, .f32⟩
  | 16 => ⟨S_, .f32⟩
  | 17 => ⟨S8x32x64, .f32⟩
  | 18 => ⟨S_, .f32⟩
  | 19 => ⟨S8x32x64, .f32⟩
  | 20 => ⟨S8x32x64, .f32⟩
  | 21 => ⟨S_, .f32⟩
  | 22 => ⟨S8x32x64, .f32⟩
  | 23 => ⟨S8x32x64, .i1⟩
  | 24 => ⟨S_, .f32⟩
  | 25 => ⟨S8x32x64, .f32⟩
  | 26 => ⟨S8x32x64, .i1⟩
  | 27 => ⟨S_, .f32⟩
  | 28 => ⟨S8x32x64, .f32⟩
  | 29 => ⟨S_, .f32⟩
  | 30 => ⟨S8x32x64, .f32⟩
  | 31 => ⟨S_, .f32⟩
  | 32 => ⟨S8x32x64, .f32⟩
  | 33 => ⟨S8x32x64, .f32⟩
  | 34 => ⟨S8x32x64, .f32⟩
  | 35 => ⟨S8x32x64x1, .f32⟩
  | 36 => ⟨S8x32x64x768, .f32⟩
  | 37 => ⟨S8x32x64x768, .f32⟩
  | 38 => ⟨S8x32x64x768, .f32⟩
  | 39 => ⟨S_, .f32⟩
  | 40 => ⟨S8x32x64, .f32⟩
  | 41 => ⟨S8x32x64x1, .f32⟩
  | 42 => ⟨S8x32x64x768, .f32⟩
  | 43 => ⟨S8x32x64x768, .f32⟩
  | 44 => ⟨S8x32x64x1, .f32⟩
  | 45 => ⟨S_, .f32⟩
  | 46 => ⟨S8x32x64x1, .f32⟩
  | 47 => ⟨S8x32x64x1, .f32⟩
  | 48 => ⟨S8x32x64x512, .f32⟩
  | 49 => ⟨S8x32x64x8x64, .f32⟩
  | 50 => ⟨S8x32x64x256, .f32⟩
  | 51 => ⟨S32x8x64x64, .f32⟩
  | 52 => ⟨S32x64x8x64, .f32⟩
  | 53 => ⟨S8x64x32x64, .f32⟩
  | 54 => ⟨S32x64x8x64, .f32⟩
  | 55 => ⟨S32x64x8x64, .f32⟩
  | 56 => ⟨S2048x8x64, .f32⟩
  | 57 => ⟨S32x64x8x64, .f32⟩
  | 58 => ⟨S8x64x32x64, .f32⟩
  | 59 => ⟨S8x32x64x256, .f32⟩
  | 60 => ⟨S8x64x256, .f32⟩
  | 61 => ⟨S256x8x64, .f32⟩
  | 62 => ⟨S32x8x64x64, .f32⟩
  | 63 => ⟨S32x8x64x8x64, .f32⟩
  | 64 => ⟨S8x32x64x8x64, .f32⟩
  | 65 => ⟨S32x8x64x8x64, .f32⟩
  | 66 => ⟨S32x8x64x8x64, .f32⟩
  | 67 => ⟨S_, .f32⟩
  | 68 => ⟨S8x32x64x768, .f32⟩
  | 69 => ⟨S8x32x64x512, .f32⟩
  | 70 => ⟨S_, .f32⟩
  | 71 => ⟨S8x32x64x768, .f32⟩
  | 72 => ⟨S8x32x64x768, .f32⟩
  | 73 => ⟨S8x32x64x768, .f32⟩
  | 74 => ⟨S8x32x64x768, .f32⟩
  | 75 => ⟨S8x32x64x768, .f32⟩
  | 76 => ⟨S_, .f32⟩
  | 77 => ⟨S8x32x64, .f32⟩
  | 78 => ⟨S8x32x64x1, .f32⟩
  | 79 => ⟨S8x32x64x1, .f32⟩
  | 80 => ⟨S8x32x64x768, .f32⟩
  | 81 => ⟨S8x32x64x768, .f32⟩
  | 82 => ⟨S_, .f32⟩
  | 83 => ⟨S8x32x64, .f32⟩
  | 84 => ⟨S8x32x64x768, .f32⟩
  | 85 => ⟨S8x32x64x768, .f32⟩
  | 86 => ⟨S8x32x64x768, .f32⟩
  | 87 => ⟨S8x32x64x512, .f32⟩
  | 88 => ⟨S8x32x64x256, .f32⟩
  | 89 => ⟨S8x32x64x8x64, .f32⟩
  | 90 => ⟨S_, .f32⟩
  | 91 => ⟨S8x32x64x256, .f32⟩
  | 92 => ⟨S8x32x64x256, .f32⟩
  | 93 => ⟨S8x256x64, .f32⟩
  | 94 => ⟨S256x8x64, .f32⟩
  | 95 => ⟨S8x32x64x64, .f32⟩
  | 96 => ⟨S32x64x8x64, .f32⟩
  | 97 => ⟨S_, .f32⟩
  | 98 => ⟨S8x32x64x8x64, .f32⟩
  | 99 => ⟨S8x32x64x8x64, .f32⟩
  | 100 => ⟨S_, .f32⟩
  | 101 => ⟨S8x32x64x8x64, .f32⟩
  | 102 => ⟨S8x32x64x8x64, .f32⟩
  | 103 => ⟨S8x32x8x64x64, .f32⟩
  | 104 => ⟨S32x8x64x8x64, .f32⟩
  | 105 => ⟨S8x32x64x64, .f32⟩
  | 106 => ⟨S32x64x8x64, .f32⟩
  | 107 => ⟨S_, .f32⟩
  | 108 => ⟨S8x15x31, .f32⟩
  | 109 => ⟨S8x15x31, .f32⟩
  | 110 => ⟨S_, .f32⟩
  | 111 => ⟨S32x64x8x64, .f32⟩
  | 112 => ⟨S32x64x8x64, .f32⟩
  | 113 => ⟨S_, .f32⟩
  | 114 => ⟨S32x64x8x64, .f32⟩
  | 115 => ⟨S32x64x8x64, .f32⟩
  | 116 => ⟨S2048x8x64, .f32⟩
  | 117 => ⟨S2048x8x64, .f32⟩
  | 118 => ⟨S2048x8x64, .f32⟩
  | 119 => ⟨S2048x8x64, .f32⟩
  | 120 => ⟨S8x2048x64, .f32⟩
  | 121 => ⟨S_, .f32⟩
  | 122 => ⟨S8x2048x64, .f32⟩
  | 123 => ⟨S8x2048x64, .f32⟩
  | 124 => ⟨S8x2048x64, .f32⟩
  | 125 => ⟨S_, .f32⟩
  | 126 => ⟨S8x2048x64, .f32⟩
  | 127 => ⟨S8x2048x64, .f32⟩
  | _ => ⟨S2048x8x64, .f32⟩

abbrev hbmTy0_2 (i : Nat) : BufTy := match i % 128 with
  | 0 => ⟨S8x2048x64, .f32⟩
  | 1 => ⟨S8x2048x64, .f32⟩
  | 2 => ⟨S8x256x64, .f32⟩
  | 3 => ⟨S8x256x64, .f32⟩
  | 4 => ⟨S_, .i32⟩
  | 5 => ⟨S_, .f32⟩
  | 6 => ⟨S8x15x128, .f32⟩
  | _ => ⟨S2048x8x64, .f32⟩

abbrev hbmTy (i : Nat) : BufTy := match i / 128 with
  | 0 => hbmTy0_0 i
  | 1 => hbmTy0_1 i
  | 2 => hbmTy0_2 i
  | _ => ⟨S2048x8x64, .f32⟩

abbrev bufTy : (tb : Table) → Fin (tcTables nBuf tb) → BufTy
  | .hbm, ⟨i, _⟩ => hbmTy i
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_c_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_c_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_16 : Ref sig .tc := ⟨.hbm, 106, rfl⟩
abbrev main_v65 : Ref sig .tc := ⟨.hbm, 107, rfl⟩
abbrev main_v66 : Ref sig .tc := ⟨.hbm, 108, rfl⟩
abbrev main_c_17 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_18 : Ref sig .tc := ⟨.hbm, 125, rfl⟩
abbrev main_call3_v0 : Ref sig .tc := ⟨.hbm, 126, rfl⟩
abbrev main_v81_1 : Ref sig .tc := ⟨.hbm, 127, rfl⟩
abbrev main_call3_v2 : Ref sig .tc := ⟨.hbm, 128, rfl⟩
abbrev main_v81_0 : Ref sig .tc := ⟨.hbm, 129, rfl⟩
abbrev main_call3_cst : Ref sig .tc := ⟨.hbm, 130, rfl⟩
abbrev main_v81_2 : Ref sig .tc := ⟨.hbm, 131, rfl⟩
abbrev main_v82 : Ref sig .tc := ⟨.hbm, 132, rfl⟩
abbrev main_cst_19 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_20 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_21 : Ref sig .tc := ⟨.hbm, 144, rfl⟩
abbrev main_v92 : Ref sig .tc := ⟨.hbm, 145, rfl⟩
abbrev main_cst_22 : Ref sig .tc := ⟨.hbm, 146, rfl⟩
abbrev main_v93 : Ref sig .tc := ⟨.hbm, 147, rfl⟩
abbrev main_v94 : Ref sig .tc := ⟨.hbm, 148, rfl⟩
abbrev main_cst_23 : Ref sig .tc := ⟨.hbm, 149, rfl⟩
abbrev main_v95 : Ref sig .tc := ⟨.hbm, 150, rfl⟩
abbrev main_v96 : Ref sig .tc := ⟨.hbm, 151, rfl⟩
abbrev main_cst_24 : Ref sig .tc := ⟨.hbm, 152, rfl⟩
abbrev main_v97 : Ref sig .tc := ⟨.hbm, 153, rfl⟩
abbrev main_v98 : Ref sig .tc := ⟨.hbm, 154, rfl⟩
abbrev main_cst_25 : Ref sig .tc := ⟨.hbm, 155, rfl⟩
abbrev main_v99 : Ref sig .tc := ⟨.hbm, 156, rfl⟩
abbrev main_cst_26 : Ref sig .tc := ⟨.hbm, 157, rfl⟩
abbrev main_v100 : Ref sig .tc := ⟨.hbm, 158, rfl⟩
abbrev main_cst_27 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_28 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_29 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_30 : Ref sig .tc := ⟨.hbm, 195, rfl⟩
abbrev main_v134 : Ref sig .tc := ⟨.hbm, 196, rfl⟩
abbrev main_v135 : Ref sig .tc := ⟨.hbm, 197, rfl⟩
abbrev main_cst_31 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_32 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_33 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_34 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_call4_cst : Ref sig .tc := ⟨.hbm, 225, rfl⟩
abbrev main_call4_v0 : Ref sig .tc := ⟨.hbm, 226, rfl⟩
abbrev main_v159 : Ref sig .tc := ⟨.hbm, 227, rfl⟩
abbrev main_cst_35 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_36 : Ref sig .tc := ⟨.hbm, 235, rfl⟩
abbrev main_v166 : Ref sig .tc := ⟨.hbm, 236, rfl⟩
abbrev main_v167 : Ref sig .tc := ⟨.hbm, 237, rfl⟩
abbrev main_cst_37 : Ref sig .tc := ⟨.hbm, 238, rfl⟩
abbrev main_v168 : Ref sig .tc := ⟨.hbm, 239, rfl⟩
abbrev main_v169 : Ref sig .tc := ⟨.hbm, 240, rfl⟩
abbrev main_cst_38 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_39 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_cst_40 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_c_41 : Ref sig .tc := ⟨.hbm, 260, rfl⟩
abbrev main_call5_v0 : Ref sig .tc := ⟨.hbm, 261, rfl⟩
abbrev main_v186 : Ref sig .tc := ⟨.hbm, 262, rfl⟩

abbrev nD : Nat := 1
abbrev τ : Topo := Topo.v7x

variable {F : FTy → Type} [FloatOps F]
-- ==== Kernel3.lean ====
abbrev S4x8x1024 : Shape := ⟨3, ![4, 8, 1024]⟩
abbrev S1024 : Shape := ⟨1, ![1024]⟩
abbrev S1x1024 : Shape := ⟨2, ![1, 1024]⟩
abbrev S1x8x1024 : Shape := ⟨3, ![1, 8, 1024]⟩
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x8x1024, .f32⟩
  | .hbm, ⟨1, _⟩ => ⟨S1024, .f32⟩
  | .hbm, ⟨2, _⟩ => ⟨S1x1024, .f32⟩
  | .local _ .vmem, ⟨0, _⟩ => ⟨S4x8x1024, .f32⟩
  | .local _ .vmem, ⟨1, _⟩ => ⟨S1024, .f32⟩
  | .local _ .vmem, ⟨2, _⟩ => ⟨S1x1024, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S4x8x1024 : Shape := ⟨3, ![4, 8, 1024]⟩
abbrev S1024 : Shape := ⟨1, ![1024]⟩
abbrev S_ : Shape := ⟨0, ![]⟩
abbrev S4x1x1024 : Shape := ⟨3, ![4, 1, 1024]⟩
abbrev S4x1024 : Shape := ⟨2, ![4, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S4x1x1024, .f32⟩
  | .hbm, ⟨16, _⟩ => ⟨S4x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel4.lean ====
abbrev S8x256x64 : Shape := ⟨3, ![8, 256, 64]⟩
abbrev S256x1024 : Shape := ⟨2, ![256, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S256x512 : Shape := ⟨2, ![256, 512]⟩
abbrev S512x512 : Shape := ⟨2, ![512, 512]⟩
abbrev S1x256x64 : Shape := ⟨3, ![1, 256, 64]⟩
abbrev S256x64 : Shape := ⟨2, ![256, 64]⟩
abbrev S512 : Shape := ⟨1, ![512]⟩

abbrev nBuf : Space → Nat
  | .hbm => 10
  | .vmem => 7
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S256x1024, .f32⟩
  | .hbm, ⟨3, _⟩ => ⟨S1x64, .f32⟩
  | .hbm, ⟨4, _⟩ => ⟨S1x1x1x64, .f32⟩
  | .hbm, ⟨5, _⟩ => ⟨S1x1x8x64, .f32⟩
  | .hbm, ⟨6, _⟩ => ⟨S1x512, .f32⟩
  | .hbm, ⟨7, _⟩ => ⟨S256x512, .bf16⟩
  | .hbm, ⟨8, _⟩ => ⟨S256x512, .bf16⟩
  | .hbm, ⟨9, _⟩ => ⟨S1x512, .f32⟩
  | .local _ .vmem, ⟨0, _⟩ => ⟨S8x256x64, .f32⟩
  | .local _ .vmem, ⟨1, _⟩ => ⟨S8x256x64, .f32⟩
  | .local _ .vmem, ⟨2, _⟩ => ⟨S256x1024, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference4Ideal.lean ====
abbrev S8x256x64 : Shape := ⟨3, ![8, 256, 64]⟩
abbrev S256x1024 : Shape := ⟨2, ![256, 1024]⟩
abbrev S1x64 : Shape := ⟨2, ![1, 64]⟩
abbrev S1x1x1x64 : Shape := ⟨4, ![1, 1, 1, 64]⟩
abbrev S8x1x1x64 : Shape := ⟨4, ![8, 1, 1, 64]⟩
abbrev S8x64 : Shape := ⟨2, ![8, 64]⟩
abbrev S256x512 : Shape := ⟨2, ![256, 512]⟩
abbrev S256x8x64 : Shape := ⟨3, ![256, 8, 64]⟩
abbrev S_ : Shape := ⟨0, ![]⟩
abbrev S256x8 : Shape := ⟨2, ![256, 8]⟩
abbrev S256x8x1 : Shape := ⟨3, ![256, 8, 1]⟩
abbrev S1x8x64 : Shape := ⟨3, ![1, 8, 64]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S256x1024, .f32⟩
  | .hbm, ⟨3, _⟩ => ⟨S1x64, .f32⟩
  | .hbm, ⟨4, _⟩ => ⟨S1x1x1x64, .f32⟩
  | .hbm, ⟨5, _⟩ => ⟨S8x1x1x64, .f32⟩
  | .hbm, ⟨6, _⟩ => ⟨S8x64, .f32⟩
  | .hbm, ⟨7, _⟩ => ⟨S256x512, .f32⟩
  | .hbm, ⟨8, _⟩ => ⟨S256x512, .f32⟩
  | .hbm, ⟨9, _⟩ => ⟨S256x8x64, .f32⟩
  | .hbm, ⟨10, _⟩ => ⟨S256x8x64, .f32⟩
  | .hbm, ⟨11, _⟩ => ⟨S_, .f32⟩
  | .hbm, ⟨12, _⟩ => ⟨S256x8, .f32⟩
  | .hbm, ⟨13, _⟩ => ⟨S256x8x1, .f32⟩
  | .hbm, ⟨14, _⟩ => ⟨S_, .f32⟩
  | .hbm, ⟨15, _⟩ => ⟨S256x8x1, .f32⟩
  | .hbm, ⟨16, _⟩ => ⟨S256x8x1, .f32⟩
  | .hbm, ⟨17, _⟩ => ⟨S_, .f32⟩
  | .hbm, ⟨18, _⟩ => ⟨S256x8x1, .f32⟩
  | .hbm, ⟨19, _⟩ => ⟨S256x8x1, .f32⟩
  | .hbm, ⟨20, _⟩ => ⟨S256x8x1, .f32⟩
  | .hbm, ⟨21, _⟩ => ⟨S256x8x1, .f32⟩
  | .hbm, ⟨22, _⟩ => ⟨S_, .f32⟩
  | .hbm, ⟨23, _⟩ => ⟨S256x8x1, .f32⟩
  | .hbm, ⟨24, _⟩ => ⟨S256x8x1, .f32⟩
  | .hbm, ⟨25, _⟩ => ⟨S256x8x64, .f32⟩
  | .hbm, ⟨26, _⟩ => ⟨S256x8x64, .f32⟩
  | .hbm, ⟨27, _⟩ => ⟨S1x8x64, .f32⟩
  | .hbm, ⟨28, _⟩ => ⟨S256x8x64, .f32⟩
  | .hbm, ⟨29, _⟩ => ⟨S256x8x64, .f32⟩
  | .hbm, ⟨30, _⟩ => ⟨S256x8x64, .f32⟩
  | .hbm, ⟨31, _⟩ => ⟨S256x8x64, .f32⟩
  | .hbm, ⟨32, _⟩ => ⟨S256x8x64, .f32⟩
  | .hbm, ⟨33, _⟩ => ⟨S256x512, .f32⟩
  | .hbm, ⟨34, _⟩ => ⟨S256x8x64, .f32⟩
  | .hbm, ⟨35, _⟩ => ⟨S_, .f32⟩
  | .hbm, ⟨36, _⟩ => ⟨S8x64, .f32⟩
  | .hbm, ⟨37, _⟩ => ⟨S1x8x64, .f32⟩
  | .hbm, ⟨38, _⟩ => ⟨S256x8x64, .f32⟩
  | .hbm, ⟨39, _⟩ => ⟨S256x8x64, .f32⟩
  | .hbm, ⟨40, _⟩ => ⟨S_, .f32⟩
  | .hbm, ⟨41, _⟩ => ⟨S8x64, .f32⟩
  | .hbm, ⟨42, _⟩ => ⟨S256x8x64, .f32⟩
  | .hbm, ⟨43, _⟩ => ⟨S_, .f32⟩
  | .hbm, ⟨44, _⟩ => ⟨S256x8, .f32⟩
  | .hbm, ⟨45, _⟩ => ⟨S256x8x1, .f32⟩
  | .hbm, ⟨46, _⟩ => ⟨S256x8x64, .f32⟩
  | .hbm, ⟨47, _⟩ => ⟨S256x8x64, .f32⟩
  | .hbm, ⟨48, _⟩ => ⟨S256x8x1, .f32⟩
  | .hbm, ⟨49, _⟩ => ⟨S_, .f32⟩
  | .hbm, ⟨50, _⟩ => ⟨S256x8x1, .f32⟩
  | .hbm, ⟨51, _⟩ => ⟨S256x8x1, .f32⟩
  | .hbm, ⟨52, _⟩ => ⟨S_, .f32⟩
  | .hbm, ⟨53, _⟩ => ⟨S256x8, .f32⟩
  | .hbm, ⟨54, _⟩ => ⟨S256x8x64, .f32⟩
  | .hbm, ⟨55, _⟩ => ⟨S256x8x64, .f32⟩
  | .hbm, ⟨56, _⟩ => ⟨S256x8x64, .f32⟩
  | .hbm, ⟨57, _⟩ => ⟨S256x8x64, .f32⟩
  | .hbm, ⟨58, _⟩ => ⟨S256x8x64, .f32⟩
  | .hbm, ⟨59, _⟩ => ⟨S256x512, .f32⟩
  | .hbm, ⟨60, _⟩ => ⟨S256x512, .bf16⟩
  | .hbm, ⟨61, _⟩ => ⟨S256x512, .bf16⟩
  | .hbm, ⟨62, _⟩ => ⟨S1x512, .f32⟩
  | _, _ => ⟨S8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel5.lean ====
abbrev S256x512 : Shape := ⟨2, ![256, 512]⟩
abbrev S1024x4096 : Shape := ⟨2, ![1024, 4096]⟩
abbrev S256x1024 : Shape := ⟨2, ![256, 1024]⟩
abbrev S1x1024 : Shape := ⟨2, ![1, 1024]⟩
abbrev S1x3072 : Shape := ⟨2, ![1, 3072]⟩
abbrev S8x128 : Shape := ⟨2, ![8, 128]⟩
abbrev S1024x4x1024 : Shape := ⟨3, ![1024, 4, 1024]⟩
abbrev S4x1024x1024 : Shape := ⟨3, ![4, 1024, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S1024x4096, .f32⟩
  | .hbm, ⟨3, _⟩ => ⟨S256x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .f32⟩
  | .local _ .vmem, ⟨5, _⟩ => ⟨S1x1024, .f32⟩
  | .local _ .vmem, ⟨6, _⟩ => ⟨S1x3072, .f32⟩
  | .local _ .vmem, ⟨7, _⟩ => ⟨S1x3072, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S256x512 : Shape := ⟨2, ![256, 512]⟩
abbrev S1024x4096 : Shape := ⟨2, ![1024, 4096]⟩
abbrev S256x1024 : Shape := ⟨2, ![256, 1024]⟩
abbrev S1x1024 : Shape := ⟨2, ![1, 1024]⟩
abbrev S1x3072 : Shape := ⟨2, ![1, 3072]⟩
abbrev S8x128 : Shape := ⟨2, ![8, 128]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S1024x4096, .f32⟩
  | .hbm, ⟨3, _⟩ => ⟨S256x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S1x3072, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S1024x1024, .f32⟩
  | .hbm, ⟨35, _⟩ => ⟨S256x1024, .f32⟩
  | .hbm, ⟨36, _⟩ => ⟨S256x1024, .bf16⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S256x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S1024, .f32⟩
  | .hbm, ⟨51, _⟩ => ⟨S1x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel6.lean ====
abbrev S8x2048x512 : Shape := ⟨3, ![8, 2048, 512]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S1024x4x1024 : Shape := ⟨3, ![1024, 4, 1024]⟩
abbrev S4x1024x1024 : Shape := ⟨3, ![4, 1024, 1024]⟩
abbrev S8x512x512 : Shape := ⟨3, ![8, 512, 512]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S1024x4096, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S8x512x512, .bf16⟩
  | .local _ .vmem, ⟨1, _⟩ => ⟨S8x512x512, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x3072, .f32⟩
  | .local _ .vmem, ⟨9, _⟩ => ⟨S1x3072, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8x2048x512 : Shape := ⟨3, ![8, 2048, 512]⟩
abbrev S1024x4096 : Shape := ⟨2, ![1024, 4096]⟩
abbrev S2048x1024 : Shape := ⟨2, ![2048, 1024]⟩
abbrev S1x1024 : Shape := ⟨2, ![1, 1024]⟩
abbrev S1x3072 : Shape := ⟨2, ![1, 3072]⟩
abbrev S8x128 : Shape := ⟨2, ![8, 128]⟩
abbrev S2048x8x512 : Shape := ⟨3, ![2048, 8, 512]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S1024x4096, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x3072, .f32⟩
  | .hbm, ⟨6, _⟩ => ⟨S1x3072, .f32⟩
  | .hbm, ⟨7, _⟩ => ⟨S8x128, .f32⟩
  | .hbm, ⟨8, _⟩ => ⟨S1x3072, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x8x512, .bf16⟩
  | .hbm, ⟨13, _⟩ => ⟨S2048x4096, .bf16⟩
  | .hbm, ⟨14, _⟩ => ⟨S2048x4096, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x4096, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel7.lean ====
abbrev S8x2048x64 : Shape := ⟨3, ![8, 2048, 64]⟩
abbrev S2048x4096 : Shape := ⟨2, ![2048, 4096]⟩
abbrev S1x64 : Shape := ⟨2, ![1, 64]⟩
abbrev S8x2048x512 : Shape := ⟨3, ![8, 2048, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S16 : Shape := ⟨1, ![16]⟩
abbrev S_ : Shape := ⟨0, ![]⟩
abbrev S64x16 : Shape := ⟨2, ![64, 16]⟩
abbrev S1x16 : Shape := ⟨2, ![1, 16]⟩
abbrev S32x16 : Shape := ⟨2, ![32, 16]⟩
abbrev S64x32 : Shape := ⟨2, ![64, 32]⟩
abbrev S32x32 : Shape := ⟨2, ![32, 32]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S32x64 : Shape := ⟨2, ![32, 64]⟩
abbrev S1x32x1x64 : Shape := ⟨4, ![1, 32, 1, 64]⟩
abbrev S1x32x8x64 : Shape := ⟨4, ![1, 32, 8, 64]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S8x512x64 : Shape := ⟨3, ![8, 512, 64]⟩
abbrev S512x1024 : Shape := ⟨2, ![512, 1024]⟩
abbrev S3x512x512 : Shape := ⟨3, ![3, 512, 512]⟩
abbrev S512x512 : Shape := ⟨2, ![512, 512]⟩
abbrev S8x512 : Shape := ⟨2, ![8, 512]⟩
abbrev S1x512x64 : Shape := ⟨3, ![1, 512, 64]⟩
abbrev S512x64 : Shape := ⟨2, ![512, 64]⟩
abbrev S512 : Shape := ⟨1, ![512]⟩
abbrev S1x512x512 : Shape := ⟨3, ![1, 512, 512]⟩

abbrev nBuf : Space → Nat
  | .hbm => 65
  | .vmem => 22
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x64, .f32⟩
  | .hbm, ⟨4, _⟩ => ⟨S2048x4096, .f32⟩
  | .hbm, ⟨5, _⟩ => ⟨S1x64, .f32⟩
  | .hbm, ⟨6, _⟩ => ⟨S1x64, .f32⟩
  | .hbm, ⟨7, _⟩ => ⟨S8x2048x512, .bf16⟩
  | .hbm, ⟨8, _⟩ => ⟨S1x1x1x64, .f32⟩
  | .hbm, ⟨9, _⟩ => ⟨S1x1x8x64, .f32⟩
  | .hbm, ⟨10, _⟩ => ⟨S1x512, .f32⟩
  | .hbm, ⟨11, _⟩ => ⟨S1x1x1x64, .f32⟩
  | .hbm, ⟨12, _⟩ => ⟨S1x1x8x64, .f32⟩
  | .hbm, ⟨13, _⟩ => ⟨S1x512, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S64x16, .f32⟩
  | .hbm, ⟨23, _⟩ => ⟨S1x16, .f32⟩
  | .hbm, ⟨24, _⟩ => ⟨S64x16, .f32⟩
  | .hbm, ⟨25, _⟩ => ⟨S64x16, .f32⟩
  | .hbm, ⟨26, _⟩ => ⟨S32x16, .f32⟩
  | .hbm, ⟨27, _⟩ => ⟨S1x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S64x32, .f32⟩
  | .hbm, ⟨32, _⟩ => ⟨S_, .f32⟩
  | .hbm, ⟨33, _⟩ => ⟨S32x32, .f32⟩
  | .hbm, ⟨34, _⟩ => ⟨S64x16, .f32⟩
  | .hbm, ⟨35, _⟩ => ⟨S64x16, .f32⟩
  | .hbm, ⟨36, _⟩ => ⟨S32x16, .f32⟩
  | .hbm, ⟨37, _⟩ => ⟨S32x16, .f32⟩
  | .hbm, ⟨38, _⟩ => ⟨S64x64, .f32⟩
  | .hbm, ⟨39, _⟩ => ⟨S1x64x1x64, .f32⟩
  | .hbm, ⟨40, _⟩ => ⟨S1x64x8x64, .f32⟩
  | .hbm, ⟨41, _⟩ => ⟨S64x512, .f32⟩
  | .hbm, ⟨42, _⟩ => ⟨S64x16, .f32⟩
  | .hbm, ⟨43, _⟩ => ⟨S64x64, .f32⟩
  | .hbm, ⟨44, _⟩ => ⟨S1x64x1x64, .f32⟩
  | .hbm, ⟨45, _⟩ => ⟨S1x64x8x64, .f32⟩
  | .hbm, ⟨46, _⟩ => ⟨S64x512, .f32⟩
  | .hbm, ⟨47, _⟩ => ⟨S32x64, .f32⟩
  | .hbm, ⟨48, _⟩ => ⟨S1x32x1x64, .f32⟩
  | .hbm, ⟨49, _⟩ => ⟨S1x32x8x64, .f32⟩
  | .hbm, ⟨50, _⟩ => ⟨S32x512, .f32⟩
  | .hbm, ⟨51, _⟩ => ⟨S32x16, .f32⟩
  | .hbm, ⟨52, _⟩ => ⟨S32x64, .f32⟩
  | .hbm, ⟨53, _⟩ => ⟨S1x32x1x64, .f32⟩
  | .hbm, ⟨54, _⟩ => ⟨S1x32x8x64, .f32⟩
  | .hbm, ⟨55, _⟩ => ⟨S32x512, .f32⟩
  | .hbm, ⟨56, _⟩ => ⟨S32x1x512, .f32⟩
  | .hbm, ⟨57, _⟩ => ⟨S32x8x512, .f32⟩
  | .hbm, ⟨58, _⟩ => ⟨S256x512, .f32⟩
  | .hbm, ⟨59, _⟩ => ⟨S32x1x512, .f32⟩
  | .hbm, ⟨60, _⟩ => ⟨S32x8x512, .f32⟩
  | .hbm, ⟨61, _⟩ => ⟨S256x512, .f32⟩
  | .hbm, ⟨62, _⟩ => ⟨S8x2048x512, .bf16⟩
  | .hbm, ⟨63, _⟩ => ⟨S1x512, .f32⟩
  | .hbm, ⟨64, _⟩ => ⟨S1x512, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x512x64, .f32⟩
  | .local _ .vmem, ⟨7, _⟩ => ⟨S8x512x64, .f32⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S1x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S3x512x512, .bf16⟩
  | .local _ .vmem, ⟨19, _⟩ => ⟨S3x512x512, .bf16⟩
  | .local _ .vmem, ⟨20, _⟩ => ⟨S1x512, .f32⟩
  | .local _ .vmem, ⟨21, _⟩ => ⟨S1x512, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_v50_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S8x2048x64 : Shape := ⟨3, ![8, 2048, 64]⟩
abbrev S2048x4096 : Shape := ⟨2, ![2048, 4096]⟩
abbrev S1x64 : Shape := ⟨2, ![1, 64]⟩
abbrev S8x2048x512 : Shape := ⟨3, ![8, 2048, 512]⟩
abbrev S1x1x1x64 : Shape := ⟨4, ![1, 1, 1, 64]⟩
abbrev S8x1x1x64 : Shape := ⟨4, ![8, 1, 1, 64]⟩
abbrev S8x64 : Shape := ⟨2, ![8, 64]⟩
abbrev S2048x8x64 : Shape := ⟨3, ![2048, 8, 64]⟩
abbrev S2048x512 : Shape := ⟨2, ![2048, 512]⟩
abbrev S_ : Shape := ⟨0, ![]⟩
abbrev S2048x8 : Shape := ⟨2, ![2048, 8]⟩
abbrev S2048x8x1 : Shape := ⟨3, ![2048, 8, 1]⟩
abbrev S1x8x64 : Shape := ⟨3, ![1, 8, 64]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x1x2x1x16 : Shape := ⟨5, ![2048, 1, 2, 1, 16]⟩
abbrev S2048x8x2x2x16 : Shape := ⟨5, ![2048, 8, 2, 2, 16]⟩
abbrev S2048x8x2x1x16 : Shape := ⟨5, ![2048, 8, 2, 1, 16]⟩
abbrev S2048x8x2x16 : Shape := ⟨4, ![2048, 8, 2, 16]⟩
abbrev S1x2048x512 : Shape := ⟨3, ![1, 2048, 512]⟩
abbrev S3x2048x512 : Shape := ⟨3, ![3, 2048, 512]⟩
abbrev S5x2048x512 : Shape := ⟨3, ![5, 2048, 512]⟩
abbrev S1x512 : Shape := ⟨2, ![1, 512]⟩

abbrev nBuf : Space → Nat
  | .hbm => 343
  | .vmem => 0
  | .smem => 0
  | _ => 0

abbrev hbmTy0_0 (i : Nat) : BufTy := match i % 128 with
  | 0 => ⟨S8x2048x64, .f32⟩
  | 1 => ⟨S8x2048x64, .f32⟩
  | 2 => ⟨S8x2048x64, .f32⟩
  | 3 => ⟨S8x2048x64, .f32⟩
  | 4 => ⟨S2048x4096, .f32⟩
  | 5 => ⟨S1x64, .f32⟩
  | 6 => ⟨S1x64, .f32⟩
  | 7 => ⟨S8x2048x512, .bf16⟩
  | 8 => ⟨S1x1x1x64, .f32⟩
  | 9 => ⟨S8x1x1x64, .f32⟩
  | 10 => ⟨S8x64, .f32⟩
  | 11 => ⟨S1x1x1x64, .f32⟩
  | 12 => ⟨S8x1x1x64, .f32⟩
  | 13 => ⟨S8x64, .f32⟩
  | 14 => ⟨S2048x8x64, .f32⟩
  | 15 => ⟨S2048x8x64, .f32⟩
  | 16 => ⟨S2048x8x64, .f32⟩
  | 17 => ⟨S2048x8x64, .f32⟩
  | 18 => ⟨S2048x512, .f32⟩
  | 19 => ⟨S2048x512, .f32⟩
  | 20 => ⟨S2048x512, .f32⟩
  | 21 => ⟨S2048x8x64, .f32⟩
  | 22 => ⟨S2048x8x64, .f32⟩
  | 23 => ⟨S_, .f32⟩
  | 24 => ⟨S2048x8, .f32⟩
  | 25 => ⟨S2048x8x1, .f32⟩
  | 26 => ⟨S_, .f32⟩
  | 27 => ⟨S2048x8x1, .f32⟩
  | 28 => ⟨S2048x8x1, .f32⟩
  | 29 => ⟨S_, .f32⟩
  | 30 => ⟨S2048x8x1, .f32⟩
  | 31 => ⟨S2048x8x1, .f32⟩
  | 32 => ⟨S2048x8x1, .f32⟩
  | 33 => ⟨S2048x8x1, .f32⟩
  | 34 => ⟨S_, .f32⟩
  | 35 => ⟨S2048x8x1, .f32⟩
  | 36 => ⟨S2048x8x1, .f32⟩
  | 37 => ⟨S2048x8x64, .f32⟩
  | 38 => ⟨S2048x8x64, .f32⟩
  | 39 => ⟨S1x8x64, .f32⟩
  | 40 => ⟨S2048x8x64, .f32⟩
  | 41 => ⟨S2048x8x64, .f32⟩
  | 42 => ⟨S2048x8x64, .f32⟩
  | 43 => ⟨S2048x8x64, .f32⟩
  | 44 => ⟨S_, .f32⟩
  | 45 => ⟨S2048x8, .f32⟩
  | 46 => ⟨S2048x8x1, .f32⟩
  | 47 => ⟨S_, .f32⟩
  | 48 => ⟨S2048x8x1, .f32⟩
  | 49 => ⟨S2048x8x1, .f32⟩
  | 50 => ⟨S_, .f32⟩
  | 51 => ⟨S2048x8x1, .f32⟩
  | 52 => ⟨S2048x8x1, .f32⟩
  | 53 => ⟨S2048x8x1, .f32⟩
  | 54 => ⟨S2048x8x1, .f32⟩
  | 55 => ⟨S_, .f32⟩
  | 56 => ⟨S2048x8x1, .f32⟩
  | 57 => ⟨S2048x8x1, .f32⟩
  | 58 => ⟨S2048x8x64, .f32⟩
  | 59 => ⟨S2048x8x64, .f32⟩
  | 60 => ⟨S1x8x64, .f32⟩
  | 61 => ⟨S2048x8x64, .f32⟩
  | 62 => ⟨S2048x8x64, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S2048, .i32⟩
  | 72 => ⟨S_, .i32⟩
  | 73 => ⟨S_, .i32⟩
  | 74 => ⟨S2048, .i32⟩
  | 75 => ⟨S2048, .i32⟩
  | 76 => ⟨S2048, .i32⟩
  | 77 => ⟨S_, .i32⟩
  | 78 => ⟨S2048, .i32⟩
  | 79 => ⟨S2048, .i1⟩
  | 80 => ⟨S2048, .i32⟩
  | 81 => ⟨S2048, .i32⟩
  | 82 => ⟨S_, .i32⟩
  | 83 => ⟨S2048, .i32⟩
  | 84 => ⟨S2048, .i1⟩
  | 85 => ⟨S2048, .i1⟩
  | 86 => ⟨S_, .i32⟩
  | 87 => ⟨S2048, .i32⟩
  | 88 => ⟨S2048, .i32⟩
  | 89 => ⟨S2048, .i32⟩
  | 90 => ⟨S2048, .f32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i1⟩
  | 102 => ⟨S_, .i32⟩
  | 103 => ⟨S2048, .i32⟩
  | 104 => ⟨S2048, .i1⟩
  | 105 => ⟨S_, .i32⟩
  | 106 => ⟨S_, .i1⟩
  | 107 => ⟨S2048, .i1⟩
  | 108 => ⟨S2048, .i1⟩
  | 109 => ⟨S2048, .i1⟩
  | 110 => ⟨S2048, .i32⟩
  | 111 => ⟨S2048, .i32⟩
  | 112 => ⟨S2048, .i32⟩
  | 113 => ⟨S2048, .f32⟩
  | 114 => ⟨S2048x1, .f32⟩
  | 115 => ⟨S1x16, .f32⟩
  | 116 => ⟨S2048x16, .f32⟩
  | 117 => ⟨S2048x16, .f32⟩
  | 118 => ⟨S2048x16, .f32⟩
  | 119 => ⟨S2048x1, .f32⟩
  | 120 => ⟨S1x16, .f32⟩
  | 121 => ⟨S2048x16, .f32⟩
  | 122 => ⟨S2048x16, .f32⟩
  | 123 => ⟨S2048x16, .f32⟩
  | 124 => ⟨S2048x1x16, .f32⟩
  | 125 => ⟨S2048x1x16, .f32⟩
  | 126 => ⟨S2048x2x16, .f32⟩
  | 127 => ⟨S2048x2x16, .f32⟩
  | _ => ⟨S8x2048x64, .f32⟩

abbrev hbmTy0_1 (i : Nat) : BufTy := match i % 128 with
  | 0 => ⟨S2048x1x2x1x16, .f32⟩
  | 1 => ⟨S2048x2x16, .f32⟩
  | 2 => ⟨S2048x1x2x1x16, .f32⟩
  | 3 => ⟨S2048x8x2x2x16, .f32⟩
  | 4 => ⟨S2048x8x2x1x16, .f32⟩
  | 5 => ⟨S2048x8x2x16, .f32⟩
  | 6 => ⟨S2048x8x2x16, .f32⟩
  | 7 => ⟨S2048x8x2x1x16, .f32⟩
  | 8 => ⟨S2048x8x2x16, .f32⟩
  | 9 => ⟨S2048x8x2x1x16, .f32⟩
  | 10 => ⟨S2048x8x2x1x16, .f32⟩
  | 11 => ⟨S2048x8x2x2x16, .f32⟩
  | 12 => ⟨S2048x8x2x2x16, .f32⟩
  | 13 => ⟨S2048x8x2x2x16, .f32⟩
  | 14 => ⟨S2048x8x2x2x16, .f32⟩
  | 15 => ⟨S2048x8x2x2x16, .f32⟩
  | 16 => ⟨S2048x8x2x2x16, .f32⟩
  | 17 => ⟨S2048x8x64, .f32⟩
  | 18 => ⟨S_, .f32⟩
  | 19 => ⟨S2048x8x64, .f32⟩
  | 20 => ⟨S2048x8x64, .f32⟩
  | 21 => ⟨S_, .f32⟩
  | 22 => ⟨S2048x8x64, .f32⟩
  | 23 => ⟨S2048x8x64, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S2048, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S2048, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x1, .f32⟩
  | 81 => ⟨S1x16, .f32⟩
  | 82 => ⟨S2048x16, .f32⟩
  | 83 => ⟨S2048x16, .f32⟩
  | 84 => ⟨S2048x16, .f32⟩
  | 85 => ⟨S2048x1x16, .f32⟩
  | 86 => ⟨S2048x1x16, .f32⟩
  | 87 => ⟨S2048x2x16, .f32⟩
  | 88 => ⟨S2048x2x16, .f32⟩
  | 89 => ⟨S2048x1x2x1x16, .f32⟩
  | 90 => ⟨S2048x2x16, .f32⟩
  | 91 => ⟨S2048x1x2x1x16, .f32⟩
  | 92 => ⟨S2048x8x2x2x16, .f32⟩
  | 93 => ⟨S2048x8x2x1x16, .f32⟩
  | 94 => ⟨S2048x8x2x16, .f32⟩
  | 95 => ⟨S2048x8x2x16, .f32⟩
  | 96 => ⟨S2048x8x2x1x16, .f32⟩
  | 97 => ⟨S2048x8x2x16, .f32⟩
  | 98 => ⟨S2048x8x2x1x16, .f32⟩
  | 99 => ⟨S2048x8x2x1x16, .f32⟩
  | 100 => ⟨S2048x8x2x2x16, .f32⟩
  | 101 => ⟨S2048x8x2x2x16, .f32⟩
  | 102 => ⟨S2048x8x2x2x16, .f32⟩
  | 103 => ⟨S2048x8x2x2x16, .f32⟩
  | 104 => ⟨S2048x8x2x2x16, .f32⟩
  | 105 => ⟨S2048x8x2x2x16, .f32⟩
  | 106 => ⟨S2048x8x64, .f32⟩
  | 107 => ⟨S2048x8x64, .f32⟩
  | 108 => ⟨S2048x512, .f32⟩
  | 109 => ⟨S2048x8x2x2x16, .f32⟩
  | 110 => ⟨S2048x8x2x2x16, .f32⟩
  | 111 => ⟨S2048x8x2x2x16, .f32⟩
  | 112 => ⟨S2048x8x2x2x16, .f32⟩
  | 113 => ⟨S2048x8x2x2x16, .f32⟩
  | 114 => ⟨S2048x8x2x1x16, .f32⟩
  | 115 => ⟨S2048x8x2x16, .f32⟩
  | 116 => ⟨S2048x8x2x1x16, .f32⟩
  | 117 => ⟨S2048x8x2x16, .f32⟩
  | 118 => ⟨S2048x8x2x1x16, .f32⟩
  | 119 => ⟨S_, .f32⟩
  | 120 => ⟨S2048x8x2x2x16, .f32⟩
  | 121 => ⟨S2048x8x2x2x16, .f32⟩
  | 122 => ⟨S2048x8x2x16, .f32⟩
  | 123 => ⟨S2048x8x2x1x16, .f32⟩
  | 124 => ⟨S_, .f32⟩
  | 125 => ⟨S2048x8x2x2x16, .f32⟩
  | 126 => ⟨S2048x8x2x2x16, .f32⟩
  | 127 => ⟨S2048x8x64, .f32⟩
  | _ => ⟨S8x2048x64, .f32⟩

abbrev hbmTy0_2 (i : Nat) : BufTy := match i % 128 with
  | 0 => ⟨S_, .f32⟩
  | 1 => ⟨S2048x8x64, .f32⟩
  | 2 => ⟨S2048x8x64, .f32⟩
  | 3 => ⟨S_, .f32⟩
  | 4 => ⟨S2048x8x64, .f32⟩
  | 5 => ⟨S2048x8x64, .f32⟩
  | 6 => ⟨S2048x8x2x2x16, .f32⟩
  | 7 => ⟨S2048x8x2x2x16, .f32⟩
  | 8 => ⟨S2048x8x2x2x16, .f32⟩
  | 9 => ⟨S2048x8x2x2x16, .f32⟩
  | 10 => ⟨S2048x8x2x2x16, .f32⟩
  | 11 => ⟨S2048x8x2x1x16, .f32⟩
  | 12 => ⟨S2048x8x2x16, .f32⟩
  | 13 => ⟨S2048x8x2x1x16, .f32⟩
  | 14 => ⟨S2048x8x2x16, .f32⟩
  | 15 => ⟨S2048x8x2x1x16, .f32⟩
  | 16 => ⟨S_, .f32⟩
  | 17 => ⟨S2048x8x2x2x16, .f32⟩
  | 18 => ⟨S2048x8x2x2x16, .f32⟩
  | 19 => ⟨S2048x8x2x16, .f32⟩
  | 20 => ⟨S2048x8x2x1x16, .f32⟩
  | 21 => ⟨S_, .f32⟩
  | 22 => ⟨S2048x8x2x2x16, .f32⟩
  | 23 => ⟨S2048x8x2x2x16, .f32⟩
  | 24 => ⟨S2048x8x64, .f32⟩
  | 25 => ⟨S2048x8x64, .f32⟩
  | 26 => ⟨S2048x8x64, .f32⟩
  | 27 => ⟨S_, .f32⟩
  | 28 => ⟨S8x64, .f32⟩
  | 29 => ⟨S1x8x64, .f32⟩
  | 30 => ⟨S2048x8x64, .f32⟩
  | 31 => ⟨S2048x8x64, .f32⟩
  | 32 => ⟨S_, .f32⟩
  | 33 => ⟨S8x64, .f32⟩
  | 34 => ⟨S2048x8x64, .f32⟩
  | 35 => ⟨S_, .f32⟩
  | 36 => ⟨S2048x8, .f32⟩
  | 37 => ⟨S2048x8x1, .f32⟩
  | 38 => ⟨S2048x8x64, .f32⟩
  | 39 => ⟨S2048x8x64, .f32⟩
  | 40 => ⟨S2048x8x1, .f32⟩
  | 41 => ⟨S_, .f32⟩
  | 42 => ⟨S2048x8x1, .f32⟩
  | 43 => ⟨S2048x8x1, .f32⟩
  | 44 => ⟨S_, .f32⟩
  | 45 => ⟨S2048x8, .f32⟩
  | 46 => ⟨S2048x8x64, .f32⟩
  | 47 => ⟨S2048x8x64, .f32⟩
  | 48 => ⟨S2048x8x64, .f32⟩
  | 49 => ⟨S2048x8x64, .f32⟩
  | 50 => ⟨S2048x8x64, .f32⟩
  | 51 => ⟨S2048x512, .f32⟩
  | 52 => ⟨S2048x8x64, .f32⟩
  | 53 => ⟨S_, .f32⟩
  | 54 => ⟨S8x64, .f32⟩
  | 55 => ⟨S1x8x64, .f32⟩
  | 56 => ⟨S2048x8x64, .f32⟩
  | 57 => ⟨S2048x8x64, .f32⟩
  | 58 => ⟨S_, .f32⟩
  | 59 => ⟨S8x64, .f32⟩
  | 60 => ⟨S2048x8x64, .f32⟩
  | 61 => ⟨S_, .f32⟩
  | 62 => ⟨S2048x8, .f32⟩
  | 63 => ⟨S2048x8x1, .f32⟩
  | 64 => ⟨S2048x8x64, .f32⟩
  | 65 => ⟨S2048x8x64, .f32⟩
  | 66 => ⟨S2048x8x1, .f32⟩
  | 67 => ⟨S_, .f32⟩
  | 68 => ⟨S2048x8x1, .f32⟩
  | 69 => ⟨S2048x8x1, .f32⟩
  | 70 => ⟨S_, .f32⟩
  | 71 => ⟨S2048x8, .f32⟩
  | 72 => ⟨S2048x8x64, .f32⟩
  | 73 => ⟨S2048x8x64, .f32⟩
  | 74 => ⟨S2048x8x64, .f32⟩
  | 75 => ⟨S2048x8x64, .f32⟩
  | 76 => ⟨S2048x8x64, .f32⟩
  | 77 => ⟨S2048x512, .f32⟩
  | 78 => ⟨S1x2048x512, .f32⟩
  | 79 => ⟨S1x2048x512, .f32⟩
  | 80 => ⟨S1x2048x512, .f32⟩
  | 81 => ⟨S3x2048x512, .f32⟩
  | 82 => ⟨S3x2048x512, .bf16⟩
  | 83 => ⟨S5x2048x512, .bf16⟩
  | 84 => ⟨S8x2048x512, .bf16⟩
  | 85 => ⟨S1x512, .f32⟩
  | 86 => ⟨S1x512, .f32⟩
  | _ => ⟨S8x2048x64, .f32⟩

abbrev hbmTy (i : Nat) : BufTy := match i / 128 with
  | 0 => hbmTy0_0 i
  | 1 => hbmTy0_1 i
  | 2 => hbmTy0_2 i
  | _ => ⟨S8x2048x64, .f32⟩

abbrev bufTy : (tb : Table) → Fin (tcTables nBuf tb) → BufTy
  | .hbm, ⟨i, _⟩ => hbmTy i
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v54 : Ref sig .tc := ⟨.hbm, 89, rfl⟩
abbrev main_v55 : Ref sig .tc := ⟨.hbm, 90, rfl⟩
abbrev main_c_9 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_v5 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_v8 : Ref sig .tc := ⟨.hbm, 104, rfl⟩
abbrev main_call1_c_3 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_10 : Ref sig .tc := ⟨.hbm, 146, rfl⟩
abbrev main_v90 : Ref sig .tc := ⟨.hbm, 147, rfl⟩
abbrev main_v91 : Ref sig .tc := ⟨.hbm, 148, rfl⟩
abbrev main_cst_11 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_12 : Ref sig .tc := ⟨.hbm, 154, rfl⟩
abbrev main_v96 : Ref sig .tc := ⟨.hbm, 155, rfl⟩
abbrev main_v97 : Ref sig .tc := ⟨.hbm, 156, rfl⟩
abbrev main_cst_13 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_c_14 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_v8 : Ref sig .tc := ⟨.hbm, 170, rfl⟩
abbrev main_call2_c : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_c_0 : Ref sig .tc := ⟨.hbm, 175, rfl⟩
abbrev main_call2_v12 : Ref sig .tc := ⟨.hbm, 176, rfl⟩
abbrev main_call2_v13 : Ref sig .tc := ⟨.hbm, 177, rfl⟩
abbrev main_v101 : Ref sig .tc := ⟨.hbm, 178, rfl⟩
abbrev main_v102 : Ref sig .tc := ⟨.hbm, 179, rfl⟩
abbrev main_c_15 : Ref sig .tc := ⟨.hbm, 180, rfl⟩
abbrev main_call3_v0 : Ref sig .tc := ⟨.hbm, 181, rfl⟩
abbrev main_call3_c : Ref sig .tc := ⟨.hbm, 182, rfl⟩
abbrev main_call3_v1 : Ref sig .tc := ⟨.hbm, 183, rfl⟩
abbrev main_call3_c_0 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_c_1 : Ref sig .tc := ⟨.hbm, 188, rfl⟩
abbrev main_call3_v5 : Ref sig .tc := ⟨.hbm, 189, rfl⟩
abbrev main_call3_v6 : Ref sig .tc := ⟨.hbm, 190, rfl⟩
abbrev main_call3_c_2 : Ref sig .tc := ⟨.hbm, 191, rfl⟩
abbrev main_call3_v7 : Ref sig .tc := ⟨.hbm, 192, rfl⟩
abbrev main_call3_v8 : Ref sig .tc := ⟨.hbm, 193, rfl⟩
abbrev main_call3_c_3 : Ref sig .tc := ⟨.hbm, 194, rfl⟩
abbrev main_call3_v9 : Ref sig .tc := ⟨.hbm, 195, rfl⟩
abbrev main_call3_v10 : Ref sig .tc := ⟨.hbm, 196, rfl⟩
abbrev main_call3_v11 : Ref sig .tc := ⟨.hbm, 197, rfl⟩
abbrev main_call3_v12 : Ref sig .tc := ⟨.hbm, 198, rfl⟩
abbrev main_call3_v13 : Ref sig .tc := ⟨.hbm, 199, rfl⟩
abbrev main_call3_v14 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_cst_16 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_cst_17 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_cst_18 : Ref sig .tc := ⟨.hbm, 256, rfl⟩
abbrev main_v156 : Ref sig .tc := ⟨.hbm, 257, rfl⟩
abbrev main_v157 : Ref sig .tc := ⟨.hbm, 258, rfl⟩
abbrev main_cst_19 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_cst_20 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_cst_21 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_cst_22 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_cst_23 : Ref sig .tc := ⟨.hbm, 288, rfl⟩
abbrev main_v183 : Ref sig .tc := ⟨.hbm, 289, rfl⟩
abbrev main_v184 : Ref sig .tc := ⟨.hbm, 290, rfl⟩
abbrev main_cst_24 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_25 : Ref sig .tc := ⟨.hbm, 297, rfl⟩
abbrev main_v190 : Ref sig .tc := ⟨.hbm, 298, rfl⟩
abbrev main_v191 : Ref sig .tc := ⟨.hbm, 299, rfl⟩
abbrev main_cst_26 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_cst_27 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_v203 : Ref sig .tc := ⟨.hbm, 313, rfl⟩
abbrev main_cst_28 : Ref sig .tc := ⟨.hbm, 314, rfl⟩
abbrev main_v204 : Ref sig .tc := ⟨.hbm, 315, rfl⟩
abbrev main_v205 : Ref sig .tc := ⟨.hbm, 316, rfl⟩
abbrev main_cst_29 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_cst_30 : Ref sig .tc := ⟨.hbm, 323, rfl⟩
abbrev main_v211 : Ref sig .tc := ⟨.hbm, 324, rfl⟩
abbrev main_v212 : Ref sig .tc := ⟨.hbm, 325, rfl⟩
abbrev main_cst_31 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩

abbrev nD : Nat := 1
abbrev τ : Topo := Topo.v7x

variable {F : FTy → Type} [FloatOps F]
-- ==== Kernel8.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S8x2048x512 : Shape := ⟨3, ![8, 2048, 512]⟩
abbrev S1x1024 : Shape := ⟨2, ![1, 1024]⟩
abbrev S1x1 : Shape := ⟨2, ![1, 1]⟩
abbrev S8x512x64 : Shape := ⟨3, ![8, 512, 64]⟩
abbrev S512x512 : Shape := ⟨2, ![512, 512]⟩
abbrev S512x1024 : Shape := ⟨2, ![512, 1024]⟩
abbrev S1x512x512 : Shape := ⟨3, ![1, 512, 512]⟩
abbrev S1x512x64 : Shape := ⟨3, ![1, 512, 64]⟩
abbrev S512x64 : Shape := ⟨2, ![512, 64]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩
abbrev S1x2048x512 : Shape := ⟨3, ![1, 2048, 512]⟩

abbrev nBuf : Space → Nat
  | .hbm => 18
  | .vmem => 23
  | .smem => 1
  | _ => 0

abbrev bufTy : (tb : Table) → Fin (tcTables nBuf tb) → BufTy
  | .hbm, ⟨0, _⟩ => ⟨S8x2048x64, .f32⟩
  | .hbm, ⟨1, _⟩ => ⟨S2048x4096, .f32⟩
  | .hbm, ⟨2, _⟩ => ⟨S2048x512, .bf16⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1x3072, .f32⟩
  | .hbm, ⟨7, _⟩ => ⟨S1x3072, .f32⟩
  | .hbm, ⟨8, _⟩ => ⟨S1024x1024, .bf16⟩
  | .hbm, ⟨9, _⟩ => ⟨S2048x1024, .f32⟩
  | .hbm, ⟨10, _⟩ => ⟨S2048x512, .f32⟩
  | .hbm, ⟨11, _⟩ => ⟨S8x2048x512, .bf16⟩
  | .hbm, ⟨12, _⟩ => ⟨S8x2048x64, .bf16⟩
  | .hbm, ⟨13, _⟩ => ⟨S1024x1024, .f32⟩
  | .hbm, ⟨14, _⟩ => ⟨S1x1024, .f32⟩
  | .hbm, ⟨15, _⟩ => ⟨S1x1, .f32⟩
  | .hbm, ⟨16, _⟩ => ⟨S1x2048x512, .bf16⟩
  | .hbm, ⟨17, _⟩ => ⟨S2048x512, .bf16⟩
  | .local _ .vmem, ⟨0, _⟩ => ⟨S8x512x64, .f32⟩
  | .local _ .vmem, ⟨1, _⟩ => ⟨S8x512x64, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x3072, .f32⟩
  | .local _ .vmem, ⟨12, _⟩ => ⟨S1x3072, .f32⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | .local _ .vmem, ⟨17, _⟩ => ⟨S1x512x512, .bf16⟩
  | .local _ .vmem, ⟨18, _⟩ => ⟨S1x512x512, .bf16⟩
  | .local _ .vmem, ⟨19, _⟩ => ⟨S8x512x64, .bf16⟩
  | .local _ .vmem, ⟨20, _⟩ => ⟨S8x512x64, .bf16⟩
  | .local _ .vmem, ⟨21, _⟩ => ⟨S1024x1024, .f32⟩
  | .local _ .vmem, ⟨22, _⟩ => ⟨S1x1024, .f32⟩
  | .local _ .smem, ⟨0, _⟩ => ⟨S1x1, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S8x2048x64 : Shape := ⟨3, ![8, 2048, 64]⟩
abbrev S2048x4096 : Shape := ⟨2, ![2048, 4096]⟩
abbrev S2048x512 : Shape := ⟨2, ![2048, 512]⟩
abbrev S1024x1024 : Shape := ⟨2, ![1024, 1024]⟩
abbrev S2048x1024 : Shape := ⟨2, ![2048, 1024]⟩
abbrev S1x3072 : Shape := ⟨2, ![1, 3072]⟩
abbrev S1x1024 : Shape := ⟨2, ![1, 1024]⟩
abbrev S2048x8x64 : Shape := ⟨3, ![2048, 8, 64]⟩
abbrev S_ : Shape := ⟨0, ![]⟩
abbrev S2048 : Shape := ⟨1, ![2048]⟩
abbrev S1024 : Shape := ⟨1, ![1024]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S2048x4096, .f32⟩
  | .hbm, ⟨2, _⟩ => ⟨S2048x512, .bf16⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x8x64, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1024x1024, .f32⟩
  | .hbm, ⟨65, _⟩ => ⟨S1024x1024, .f32⟩
  | .hbm, ⟨66, _⟩ => ⟨S2048x1024, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x8x64, .f32⟩
  | .hbm, ⟨76, _⟩ => ⟨S2048x512, .bf16⟩
  | .hbm, ⟨77, _⟩ => ⟨S8x2048x64, .f32⟩
  | .hbm, ⟨78, _⟩ => ⟨S8x2048x64, .bf16⟩
  | .hbm, ⟨79, _⟩ => ⟨S_, .f32⟩
  | .hbm, ⟨80, _⟩ => ⟨S_, .f32⟩
  | .hbm, ⟨81, _⟩ => ⟨S1x1, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v8_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v8_1 : Ref sig .tc := ⟨.hbm, 27, rfl⟩
abbrev main_v8_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_cst_4 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩

abbrev nD : Nat := 1
abbrev τ : Topo := Topo.v7x

variable {F : FTy → Type} [FloatOps F]
-- ==== Kernel9.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S_ : Shape := ⟨0, ![]⟩
abbrev S8x2048x64 : Shape := ⟨3, ![8, 2048, 64]⟩
abbrev S8x256x64 : Shape := ⟨3, ![8, 256, 64]⟩
abbrev S8x15x128 : Shape := ⟨3, ![8, 15, 128]⟩
abbrev S8x5x576x128 : Shape := ⟨4, ![8, 5, 576, 128]⟩
abbrev S1x15x128 : Shape := ⟨3, ![1, 15, 128]⟩
abbrev S1x5x576x128 : Shape := ⟨4, ![1, 5, 576, 128]⟩
abbrev S15x128 : Shape := ⟨2, ![15, 128]⟩
abbrev S1x128 : Shape := ⟨2, ![1, 128]⟩
abbrev S64x128 : Shape := ⟨2, ![64, 128]⟩
abbrev S960x128 : Shape := ⟨2, ![960, 128]⟩
abbrev S64x64 : Shape := ⟨2, ![64, 64]⟩
abbrev S1x1x64x64 : Shape := ⟨4, ![1, 1, 64, 64]⟩
abbrev S1x2048x64 : Shape := ⟨3, ![1, 2048, 64]⟩
abbrev S1x256x64 : Shape := ⟨3, ![1, 256, 64]⟩
abbrev S256x64 : Shape := ⟨2, ![256, 64]⟩
abbrev S1x576x64 : Shape := ⟨3, ![1, 576, 64]⟩
abbrev S576x64 : Shape := ⟨2, ![576, 64]⟩
abbrev S1x128x64 : Shape := ⟨3, ![1, 128, 64]⟩
abbrev S128x64 : Shape := ⟨2, ![128, 64]⟩
abbrev S576x128 : Shape := ⟨2, ![576, 128]⟩
abbrev S1x1x576x128 : Shape := ⟨4, ![1, 1, 576, 128]⟩
abbrev S256x128 : Shape := ⟨2, ![256, 128]⟩
abbrev S128 : Shape := ⟨1, ![128]⟩

abbrev nBuf : Space → Nat
  | .hbm => 32
  | .vmem => 20
  | .smem => 0
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S2048x8x64, .f32⟩
  | .hbm, ⟨3, _⟩ => ⟨S2048x8x64, .f32⟩
  | .hbm, ⟨4, _⟩ => ⟨S256x8x64, .f32⟩
  | .hbm, ⟨5, _⟩ => ⟨S256x8x64, .f32⟩
  | .hbm, ⟨6, _⟩ => ⟨S8x15x31, .f32⟩
  | .hbm, ⟨7, _⟩ => ⟨S8x128, .f32⟩
  | .hbm, ⟨8, _⟩ => ⟨S_, .f32⟩
  | .hbm, ⟨9, _⟩ => ⟨S2048x8x64, .f32⟩
  | .hbm, ⟨10, _⟩ => ⟨S2048x8x64, .f32⟩
  | .hbm, ⟨11, _⟩ => ⟨S8x2048x64, .f32⟩
  | .hbm, ⟨12, _⟩ => ⟨S8x2048x64, .bf16⟩
  | .hbm, ⟨13, _⟩ => ⟨S_, .f32⟩
  | .hbm, ⟨14, _⟩ => ⟨S2048x8x64, .f32⟩
  | .hbm, ⟨15, _⟩ => ⟨S2048x8x64, .f32⟩
  | .hbm, ⟨16, _⟩ => ⟨S8x2048x64, .f32⟩
  | .hbm, ⟨17, _⟩ => ⟨S8x2048x64, .bf16⟩
  | .hbm, ⟨18, _⟩ => ⟨S8x2048x64, .f32⟩
  | .hbm, ⟨19, _⟩ => ⟨S8x2048x64, .bf16⟩
  | .hbm, ⟨20, _⟩ => ⟨S8x2048x64, .f32⟩
  | .hbm, ⟨21, _⟩ => ⟨S8x2048x64, .bf16⟩
  | .hbm, ⟨22, _⟩ => ⟨S8x256x64, .f32⟩
  | .hbm, ⟨23, _⟩ => ⟨S8x256x64, .bf16⟩
  | .hbm, ⟨24, _⟩ => ⟨S8x256x64, .f32⟩
  | .hbm, ⟨25, _⟩ => ⟨S8x256x64, .bf16⟩
  | .hbm, ⟨26, _⟩ => ⟨S8x15x31, .f32⟩
  | .hbm, ⟨27, _⟩ => ⟨S_, .i32⟩
  | .hbm, ⟨28, _⟩ => ⟨S_, .f32⟩
  | .hbm, ⟨29, _⟩ => ⟨S8x15x128, .f32⟩
  | .hbm, ⟨30, _⟩ => ⟨S8x5x576x128, .f32⟩
  | .hbm, ⟨31, _⟩ => ⟨S8x2048x64, .f32⟩
  | .local _ .vmem, ⟨0, _⟩ => ⟨S1x15x128, .f32⟩
  | .local _ .vmem, ⟨1, _⟩ => ⟨S1x15x128, .f32⟩
  | .local _ .vmem, ⟨2, _⟩ => ⟨S1x5x576x128, .f32⟩
  | .local _ .vmem, ⟨3, _⟩ => ⟨S1x5x576x128, .f32⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x256x64, .bf16⟩
  | .local _ .vmem, ⟨13, _⟩ => ⟨S1x256x64, .bf16⟩
  | .local _ .vmem, ⟨14, _⟩ => ⟨S1x256x64, .bf16⟩
  | .local _ .vmem, ⟨15, _⟩ => ⟨S1x256x64, .bf16⟩
  | .local _ .vmem, ⟨16, _⟩ => ⟨S1x5x576x128, .f32⟩
  | .local _ .vmem, ⟨17, _⟩ => ⟨S1x5x576x128, .f32⟩
  | .local _ .vmem, ⟨18, _⟩ => ⟨S1x2048x64, .f32⟩
  | .local _ .vmem, ⟨19, _⟩ => ⟨S1x2048x64, .f32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x576x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x5x576x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Kernel9Ideal.lean ====
variable {F : FTy → Type} [FloatOps F] [Named F]
def κ : String → Option EReal := fun
  | "mask" => some ⊥
  | _ => none
-- ==== Reference9Ideal.lean ====
abbrev S2048x8x64 : Shape := ⟨3, ![2048, 8, 64]⟩
abbrev S256x8x64 : Shape := ⟨3, ![256, 8, 64]⟩
abbrev S8x15x31 : Shape := ⟨3, ![8, 15, 31]⟩
abbrev S8x128 : Shape := ⟨2, ![8, 128]⟩
abbrev S32x64x8x64 : Shape := ⟨4, ![32, 64, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x8x64x8x64 : Shape := ⟨5, ![32, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S64x1x64 : Shape := ⟨3, ![64, 1, 64]⟩
abbrev S8x32x64x256 : Shape := ⟨4, ![8, 32, 64, 256]⟩
abbrev S8x32x64x512 : Shape := ⟨4, ![8, 32, 64, 512]⟩
abbrev S8x32x64x768 : Shape := ⟨4, ![8, 32, 64, 768]⟩
abbrev S8x32x64 : Shape := ⟨3, ![8, 32, 64]⟩
abbrev S8x32x64x1 : Shape := ⟨4, ![8, 32, 64, 1]⟩
abbrev S32x8x64x64 : Shape := ⟨4, ![32, 8, 64, 64]⟩
abbrev S8x64x32x64 : Shape := ⟨4, ![8, 64, 32, 64]⟩
abbrev S8x2048x64 : Shape := ⟨3, ![8, 2048, 64]⟩

abbrev nBuf : Space → Nat
  | .hbm => 159
  | .vmem => 0
  | .smem => 0
  | _ => 0

abbrev hbmTy0_0 (i : Nat) : BufTy := match i % 128 with
  | 0 => ⟨S2048x8x64, .f32⟩
  | 1 => ⟨S2048x8x64, .f32⟩
  | 2 => ⟨S2048x8x64, .f32⟩
  | 3 => ⟨S2048x8x64, .f32⟩
  | 4 => ⟨S256x8x64, .f32⟩
  | 5 => ⟨S256x8x64, .f32⟩
  | 6 => ⟨S8x15x31, .f32⟩
  | 7 => ⟨S8x128, .f32⟩
  | 8 => ⟨S32x64x8x64, .f32⟩
  | 9 => ⟨S32x64x8x64, .f32⟩
  | 10 => ⟨S32x64x8x64, .f32⟩
  | 11 => ⟨S32x64x8x64, .f32⟩
  | 12 => ⟨S32, .i32⟩
  | 13 => ⟨S_, .i32⟩
  | 14 => ⟨S32, .i32⟩
  | 15 => ⟨S32, .i32⟩
  | 16 => ⟨S_, .i32⟩
  | 17 => ⟨S_, .i32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S32x1, .i32⟩
  | 25 => ⟨S8, .i32⟩
  | 26 => ⟨S1x8, .i32⟩
  | 27 => ⟨S32x8, .i32⟩
  | 28 => ⟨S32x8, .i32⟩
  | 29 => ⟨S32x8, .i32⟩
  | 30 => ⟨S_, .i32⟩
  | 31 => ⟨S32x8, .i32⟩
  | 32 => ⟨S32x8, .i1⟩
  | 33 => ⟨S_, .i32⟩
  | 34 => ⟨S32x8, .i32⟩
  | 35 => ⟨S32x8, .i32⟩
  | 36 => ⟨S32x8, .i32⟩
  | 37 => ⟨S32x8x1, .i32⟩
  | 38 => ⟨S32x8x64x8x64, .f32⟩
  | 39 => ⟨S_, .i32⟩
  | 40 => ⟨S32x8, .i32⟩
  | 41 => ⟨S32x8, .i1⟩
  | 42 => ⟨S_, .i32⟩
  | 43 => ⟨S32x8, .i32⟩
  | 44 => ⟨S32x8, .i32⟩
  | 45 => ⟨S32x8, .i32⟩
  | 46 => ⟨S32x8x1, .i32⟩
  | 47 => ⟨S32x8x64x8x64, .f32⟩
  | 48 => ⟨S64, .i32⟩
  | 49 => ⟨S_, .i32⟩
  | 50 => ⟨S64, .i32⟩
  | 51 => ⟨S64, .i32⟩
  | 52 => ⟨S_, .i32⟩
  | 53 => ⟨S_, .i32⟩
  | 54 => ⟨S_, .i32⟩
  | 55 => ⟨S64, .i32⟩
  | 56 => ⟨S64, .i32⟩
  | 57 => ⟨S_, .i32⟩
  | 58 => ⟨S64, .i32⟩
  | 59 => ⟨S64, .i32⟩
  | 60 => ⟨S1x64, .i32⟩
  | 61 => ⟨S64x1, .i32⟩
  | 62 => ⟨S64x64, .i32⟩
  | 63 => ⟨S64x64, .i32⟩
  | 64 => ⟨S64x64, .i1⟩
  | 65 => ⟨S1x64, .i32⟩
  | 66 => ⟨S64x1, .i32⟩
  | 67 => ⟨S_, .i32⟩
  | 68 => ⟨S64x1, .i32⟩
  | 69 => ⟨S64x1, .i32⟩
  | 70 => ⟨S64x64, .i32⟩
  | 71 => ⟨S64x64, .i32⟩
  | 72 => ⟨S64x64, .i1⟩
  | 73 => ⟨S64x64, .i1⟩
  | 74 => ⟨S32x1, .i32⟩
  | 75 => ⟨S32x8, .i32⟩
  | 76 => ⟨S32x8, .i32⟩
  | 77 => ⟨S_, .i32⟩
  | 78 => ⟨S32x8, .i32⟩
  | 79 => ⟨S32x8, .i32⟩
  | 80 => ⟨S1x64, .i32⟩
  | 81 => ⟨S64x1, .i32⟩
  | 82 => ⟨S64x64, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S_, .i32⟩
  | 90 => ⟨S_, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S32x1x8x1, .i32⟩
  | 97 => ⟨S1x64x1x64, .i32⟩
  | 98 => ⟨S_, .i32⟩
  | 99 => ⟨S32x1x8x1, .i32⟩
  | 100 => ⟨S32x1x8x1, .i1⟩
  | 101 => ⟨S_, .i32⟩
  | 102 => ⟨S32x1x8x1, .i32⟩
  | 103 => ⟨S32x1x8x1, .i32⟩
  | 104 => ⟨S32x1x8x1, .i32⟩
  | 105 => ⟨S_, .i32⟩
  | 106 => ⟨S1x64x1x64, .i32⟩
  | 107 => ⟨S1x64x1x64, .i1⟩
  | 108 => ⟨S_, .i32⟩
  | 109 => ⟨S1x64x1x64, .i32⟩
  | 110 => ⟨S1x64x1x64, .i32⟩
  | 111 => ⟨S1x64x1x64, .i32⟩
  | 112 => ⟨S32x64x8x64, .i32⟩
  | 113 => ⟨S32x64x8x64, .i32⟩
  | 114 => ⟨S32x64x8x64x1, .i32⟩
  | 115 => ⟨S32x64x8x64x1, .i32⟩
  | 116 => ⟨S32x64x8x64x2, .i32⟩
  | 117 => ⟨S8x32x64x8x64, .f32⟩
  | 118 => ⟨S8x32x64x8x64, .f32⟩
  | 119 => ⟨S_, .f32⟩
  | 120 => ⟨S8x32x64x8x64, .f32⟩
  | 121 => ⟨S8x32x64x8x64, .f32⟩
  | 122 => ⟨S8x32x64x8x64, .f32⟩
  | 123 => ⟨S64x1x64, .i1⟩
  | 124 => ⟨S_, .f32⟩
  | 125 => ⟨S_, .f32⟩
  | 126 => ⟨S8x32x64x8x64, .i1⟩
  | 127 => ⟨S8x32x64x8x64, .f32⟩
  | _ => ⟨S2048x8x64, .f32⟩

abbrev hbmTy0_1 (i : Nat) : BufTy := match i % 128 with
  | 0 => ⟨S8x32x64x8x64, .f32⟩
  | 1 => ⟨S8x32x64x256, .f32⟩
  | 2 => ⟨S_, .f32⟩
  | 3 => ⟨S8x32x64x256, .f32⟩
  | 4 => ⟨S8x32x64x256, .f32⟩
  | 5 => ⟨S8x32x64x512, .f32⟩
  | 6 => ⟨S8x32x64x768, .f32⟩
  | 7 => ⟨S_, .f32⟩
  | 8 => ⟨S8x32x64, .f32⟩
  | 9 => ⟨S_, .f32⟩
  | 10 => ⟨S8x32x64, .f32⟩
  | 11 => ⟨S8x32x64, .f32⟩
  | 12 => ⟨S8x32x64x1, .f32⟩
  | 13 => ⟨S8x32x64x768, .f32⟩
  | 14 => ⟨S8x32x64x768, .f32⟩
  | 15 => ⟨S8x32x64x768, .f32⟩
  | 16 => ⟨S_, .f32⟩
  | 17 => ⟨S8x32x64, .f32⟩
  | 18 => ⟨S8x32x64x1, .f32⟩
  | 19 => ⟨S8x32x64x768, .f32⟩
  | 20 => ⟨S8x32x64x768, .f32⟩
  | 21 => ⟨S8x32x64x512, .f32⟩
  | 22 => ⟨S8x32x64x8x64, .f32⟩
  | 23 => ⟨S8x32x64x256, .f32⟩
  | 24 => ⟨S32x8x64x64, .f32⟩
  | 25 => ⟨S32x64x8x64, .f32⟩
  | 26 => ⟨S8x64x32x64, .f32⟩
  | 27 => ⟨S32x64x8x64, .f32⟩
  | 28 => ⟨S32x64x8x64, .f32⟩
  | 29 => ⟨S2048x8x64, .f32⟩
  | 30 => ⟨S8x2048x64, .f32⟩
  | _ => ⟨S2048x8x64, .f32⟩

abbrev hbmTy (i : Nat) : BufTy := match i / 128 with
  | 0 => hbmTy0_0 i
  | 1 => hbmTy0_1 i
  | _ => ⟨S2048x8x64, .f32⟩

abbrev bufTy : (tb : Table) → Fin (tcTables nBuf tb) → BufTy
  | .hbm, ⟨i, _⟩ => hbmTy i
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_c_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_c_13 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_c_15 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_16 : Ref sig .tc := ⟨.hbm, 105, rfl⟩
abbrev main_v65 : Ref sig .tc := ⟨.hbm, 106, rfl⟩
abbrev main_v66 : Ref sig .tc := ⟨.hbm, 107, rfl⟩
abbrev main_c_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_18 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_20 : Ref sig .tc := ⟨.hbm, 135, rfl⟩
abbrev main_v87 : Ref sig .tc := ⟨.hbm, 136, rfl⟩
abbrev main_cst_21 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_22 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩

abbrev nD : Nat := 1
abbrev τ : Topo := Topo.v7x

variable {F : FTy → Type} [FloatOps F]
-- ==== Kernel10.lean ====
abbrev S2048x4096 : Shape := ⟨2, ![2048, 4096]⟩
abbrev S3x512 : Shape := ⟨2, ![3, 512]⟩
abbrev S1x512 : Shape := ⟨2, ![1, 512]⟩
abbrev S8x128 : Shape := ⟨2, ![8, 128]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 5
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S8x128, .f32⟩
  | .hbm, ⟨4, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2048x4096 : Shape := ⟨2, ![2048, 4096]⟩
abbrev S3x512 : Shape := ⟨2, ![3, 512]⟩
abbrev S1x512 : Shape := ⟨2, ![1, 512]⟩
abbrev S8x128 : Shape := ⟨2, ![8, 128]⟩
abbrev S2048x512 : Shape := ⟨2, ![2048, 512]⟩
abbrev S_ : Shape := ⟨0, ![]⟩
abbrev S2050x512 : Shape := ⟨2, ![2050, 512]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x512, .f32⟩
  | .hbm, ⟨2, _⟩ => ⟨S1x512, .f32⟩
  | .hbm, ⟨3, _⟩ => ⟨S8x128, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S1x512, .f32⟩
  | .hbm, ⟨11, _⟩ => ⟨S2050x512, .f32⟩
  | .hbm, ⟨12, _⟩ => ⟨S2048x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel11.lean ====
abbrev S256x1024 : Shape := ⟨2, ![256, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x256x64 : Shape := ⟨3, ![8, 256, 64]⟩
abbrev S512x512 : Shape := ⟨2, ![512, 512]⟩
abbrev S256x512 : Shape := ⟨2, ![256, 512]⟩
abbrev S256x64 : Shape := ⟨2, ![256, 64]⟩
abbrev S1x256x64 : Shape := ⟨3, ![1, 256, 64]⟩

abbrev nBuf : Space → Nat
  | .hbm => 7
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x64, .f32⟩
  | .hbm, ⟨2, _⟩ => ⟨S1x1x1x64, .f32⟩
  | .hbm, ⟨3, _⟩ => ⟨S1x1x8x64, .f32⟩
  | .hbm, ⟨4, _⟩ => ⟨S1x512, .f32⟩
  | .hbm, ⟨5, _⟩ => ⟨S8x256x64, .bf16⟩
  | .hbm, ⟨6, _⟩ => ⟨S8x256x64, .bf16⟩
  | .local _ .vmem, ⟨0, _⟩ => ⟨S256x1024, .f32⟩
  | .local _ .vmem, ⟨1, _⟩ => ⟨S1x512, .f32⟩
  | .local _ .vmem, ⟨2, _⟩ => ⟨S8x256x64, .bf16⟩
  | .local _ .vmem, ⟨3, _⟩ => ⟨S8x256x64, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference11Ideal.lean ====
abbrev S256x1024 : Shape := ⟨2, ![256, 1024]⟩
abbrev S1x64 : Shape := ⟨2, ![1, 64]⟩
abbrev S256x512 : Shape := ⟨2, ![256, 512]⟩
abbrev S256x8x64 : Shape := ⟨3, ![256, 8, 64]⟩
abbrev S_ : Shape := ⟨0, ![]⟩
abbrev S256x8 : Shape := ⟨2, ![256, 8]⟩
abbrev S256x8x1 : Shape := ⟨3, ![256, 8, 1]⟩
abbrev S1x1x64 : Shape := ⟨3, ![1, 1, 64]⟩
abbrev S8x256x64 : Shape := ⟨3, ![8, 256, 64]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x64, .f32⟩
  | .hbm, ⟨2, _⟩ => ⟨S256x512, .f32⟩
  | .hbm, ⟨3, _⟩ => ⟨S256x512, .f32⟩
  | .hbm, ⟨4, _⟩ => ⟨S256x8x64, .f32⟩
  | .hbm, ⟨5, _⟩ => ⟨S256x8x64, .f32⟩
  | .hbm, ⟨6, _⟩ => ⟨S_, .f32⟩
  | .hbm, ⟨7, _⟩ => ⟨S256x8, .f32⟩
  | .hbm, ⟨8, _⟩ => ⟨S256x8x1, .f32⟩
  | .hbm, ⟨9, _⟩ => ⟨S_, .f32⟩
  | .hbm, ⟨10, _⟩ => ⟨S256x8x1, .f32⟩
  | .hbm, ⟨11, _⟩ => ⟨S256x8x1, .f32⟩
  | .hbm, ⟨12, _⟩ => ⟨S_, .f32⟩
  | .hbm, ⟨13, _⟩ => ⟨S256x8x1, .f32⟩
  | .hbm, ⟨14, _⟩ => ⟨S256x8x1, .f32⟩
  | .hbm, ⟨15, _⟩ => ⟨S256x8x1, .f32⟩
  | .hbm, ⟨16, _⟩ => ⟨S256x8x64, .f32⟩
  | .hbm, ⟨17, _⟩ => ⟨S256x8x64, .f32⟩
  | .hbm, ⟨18, _⟩ => ⟨S1x1x64, .f32⟩
  | .hbm, ⟨19, _⟩ => ⟨S256x8x64, .f32⟩
  | .hbm, ⟨20, _⟩ => ⟨S256x8x64, .f32⟩
  | .hbm, ⟨21, _⟩ => ⟨S256x8x64, .f32⟩
  | .hbm, ⟨22, _⟩ => ⟨S8x256x64, .f32⟩
  | .hbm, ⟨23, _⟩ => ⟨S8x256x64, .bf16⟩
  | .hbm, ⟨24, _⟩ => ⟨S8x256x64, .f32⟩
  | .hbm, ⟨25, _⟩ => ⟨S8x256x64, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel12.lean ====
abbrev S2048x4096 : Shape := ⟨2, ![2048, 4096]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S16 : Shape := ⟨1, ![16]⟩
abbrev S_ : Shape := ⟨0, ![]⟩
abbrev S64x16 : Shape := ⟨2, ![64, 16]⟩
abbrev S1x16 : Shape := ⟨2, ![1, 16]⟩
abbrev S32x16 : Shape := ⟨2, ![32, 16]⟩
abbrev S64x32 : Shape := ⟨2, ![64, 32]⟩
abbrev S32x32 : Shape := ⟨2, ![32, 32]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S32x64 : Shape := ⟨2, ![32, 64]⟩
abbrev S1x32x1x64 : Shape := ⟨4, ![1, 32, 1, 64]⟩
abbrev S1x32x8x64 : Shape := ⟨4, ![1, 32, 8, 64]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S8x2048x64 : Shape := ⟨3, ![8, 2048, 64]⟩
abbrev S512x1024 : Shape := ⟨2, ![512, 1024]⟩
abbrev S512x512 : Shape := ⟨2, ![512, 512]⟩
abbrev S8x512x64 : Shape := ⟨3, ![8, 512, 64]⟩
abbrev S8x512 : Shape := ⟨2, ![8, 512]⟩
abbrev S512x64 : Shape := ⟨2, ![512, 64]⟩
abbrev S1x512x64 : Shape := ⟨3, ![1, 512, 64]⟩

abbrev nBuf : Space → Nat
  | .hbm => 61
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S1x64, .f32⟩
  | .hbm, ⟨2, _⟩ => ⟨S1x64, .f32⟩
  | .hbm, ⟨3, _⟩ => ⟨S1x1x1x64, .f32⟩
  | .hbm, ⟨4, _⟩ => ⟨S1x1x8x64, .f32⟩
  | .hbm, ⟨5, _⟩ => ⟨S1x512, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S64x16, .f32⟩
  | .hbm, ⟨18, _⟩ => ⟨S1x16, .f32⟩
  | .hbm, ⟨19, _⟩ => ⟨S64x16, .f32⟩
  | .hbm, ⟨20, _⟩ => ⟨S64x16, .f32⟩
  | .hbm, ⟨21, _⟩ => ⟨S32x16, .f32⟩
  | .hbm, ⟨22, _⟩ => ⟨S1x16, .f32⟩
  | .hbm, ⟨23, _⟩ => ⟨S32x16, .f32⟩
  | .hbm, ⟨24, _⟩ => ⟨S32x16, .f32⟩
  | .hbm, ⟨25, _⟩ => ⟨S_, .f32⟩
  | .hbm, ⟨26, _⟩ => ⟨S64x32, .f32⟩
  | .hbm, ⟨27, _⟩ => ⟨S_, .f32⟩
  | .hbm, ⟨28, _⟩ => ⟨S32x32, .f32⟩
  | .hbm, ⟨29, _⟩ => ⟨S64x16, .f32⟩
  | .hbm, ⟨30, _⟩ => ⟨S64x16, .f32⟩
  | .hbm, ⟨31, _⟩ => ⟨S32x16, .f32⟩
  | .hbm, ⟨32, _⟩ => ⟨S32x16, .f32⟩
  | .hbm, ⟨33, _⟩ => ⟨S64x64, .f32⟩
  | .hbm, ⟨34, _⟩ => ⟨S1x64x1x64, .f32⟩
  | .hbm, ⟨35, _⟩ => ⟨S1x64x8x64, .f32⟩
  | .hbm, ⟨36, _⟩ => ⟨S64x512, .f32⟩
  | .hbm, ⟨37, _⟩ => ⟨S64x16, .f32⟩
  | .hbm, ⟨38, _⟩ => ⟨S64x64, .f32⟩
  | .hbm, ⟨39, _⟩ => ⟨S1x64x1x64, .f32⟩
  | .hbm, ⟨40, _⟩ => ⟨S1x64x8x64, .f32⟩
  | .hbm, ⟨41, _⟩ => ⟨S64x512, .f32⟩
  | .hbm, ⟨42, _⟩ => ⟨S32x64, .f32⟩
  | .hbm, ⟨43, _⟩ => ⟨S1x32x1x64, .f32⟩
  | .hbm, ⟨44, _⟩ => ⟨S1x32x8x64, .f32⟩
  | .hbm, ⟨45, _⟩ => ⟨S32x512, .f32⟩
  | .hbm, ⟨46, _⟩ => ⟨S32x16, .f32⟩
  | .hbm, ⟨47, _⟩ => ⟨S32x64, .f32⟩
  | .hbm, ⟨48, _⟩ => ⟨S1x32x1x64, .f32⟩
  | .hbm, ⟨49, _⟩ => ⟨S1x32x8x64, .f32⟩
  | .hbm, ⟨50, _⟩ => ⟨S32x512, .f32⟩
  | .hbm, ⟨51, _⟩ => ⟨S32x1x512, .f32⟩
  | .hbm, ⟨52, _⟩ => ⟨S32x8x512, .f32⟩
  | .hbm, ⟨53, _⟩ => ⟨S256x512, .f32⟩
  | .hbm, ⟨54, _⟩ => ⟨S32x1x512, .f32⟩
  | .hbm, ⟨55, _⟩ => ⟨S32x8x512, .f32⟩
  | .hbm, ⟨56, _⟩ => ⟨S256x512, .f32⟩
  | .hbm, ⟨57, _⟩ => ⟨S8x2048x64, .bf16⟩
  | .hbm, ⟨58, _⟩ => ⟨S8x2048x64, .bf16⟩
  | .hbm, ⟨59, _⟩ => ⟨S8x2048x64, .bf16⟩
  | .hbm, ⟨60, _⟩ => ⟨S8x2048x64, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S8x512x64, .bf16⟩
  | .local _ .vmem, ⟨13, _⟩ => ⟨S8x512x64, .bf16⟩
  | .local _ .vmem, ⟨14, _⟩ => ⟨S8x512x64, .bf16⟩
  | .local _ .vmem, ⟨15, _⟩ => ⟨S8x512x64, .bf16⟩
  | .local _ .vmem, ⟨16, _⟩ => ⟨S8x512x64, .bf16⟩
  | .local _ .vmem, ⟨17, _⟩ => ⟨S8x512x64, .bf16⟩
  | .local _ .vmem, ⟨18, _⟩ => ⟨S8x512x64, .bf16⟩
  | .local _ .vmem, ⟨19, _⟩ => ⟨S8x512x64, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50_0 : Ref sig .tc := ⟨.hbm, 57, rfl⟩
abbrev main_v50_1 : Ref sig .tc := ⟨.hbm, 58, rfl⟩
abbrev main_v50_2 : Ref sig .tc := ⟨.hbm, 59, rfl⟩
abbrev main_v50_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S2048x4096 : Shape := ⟨2, ![2048, 4096]⟩
abbrev S1x64 : Shape := ⟨2, ![1, 64]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x1x2x1x16 : Shape := ⟨5, ![2048, 1, 2, 1, 16]⟩
abbrev S2048x8x2x2x16 : Shape := ⟨5, ![2048, 8, 2, 2, 16]⟩
abbrev S2048x8x2x1x16 : Shape := ⟨5, ![2048, 8, 2, 1, 16]⟩
abbrev S2048x8x2x16 : Shape := ⟨4, ![2048, 8, 2, 16]⟩
abbrev S8x2048x64 : Shape := ⟨3, ![8, 2048, 64]⟩

abbrev nBuf : Space → Nat
  | .hbm => 221
  | .vmem => 0
  | .smem => 0
  | _ => 0

abbrev hbmTy0_0 (i : Nat) : BufTy := match i % 128 with
  | 0 => ⟨S2048x4096, .f32⟩
  | 1 => ⟨S1x64, .f32⟩
  | 2 => ⟨S1x64, .f32⟩
  | 3 => ⟨S2048x512, .f32⟩
  | 4 => ⟨S2048x512, .f32⟩
  | 5 => ⟨S2048x512, .f32⟩
  | 6 => ⟨S2048x8x64, .f32⟩
  | 7 => ⟨S2048x8x64, .f32⟩
  | 8 => ⟨S_, .f32⟩
  | 9 => ⟨S2048x8, .f32⟩
  | 10 => ⟨S2048x8x1, .f32⟩
  | 11 => ⟨S_, .f32⟩
  | 12 => ⟨S2048x8x1, .f32⟩
  | 13 => ⟨S2048x8x1, .f32⟩
  | 14 => ⟨S_, .f32⟩
  | 15 => ⟨S2048x8x1, .f32⟩
  | 16 => ⟨S2048x8x1, .f32⟩
  | 17 => ⟨S2048x8x1, .f32⟩
  | 18 => ⟨S2048x8x64, .f32⟩
  | 19 => ⟨S2048x8x64, .f32⟩
  | 20 => ⟨S1x1x64, .f32⟩
  | 21 => ⟨S2048x8x64, .f32⟩
  | 22 => ⟨S2048x8x64, .f32⟩
  | 23 => ⟨S2048x8x64, .f32⟩
  | 24 => ⟨S2048x8x64, .f32⟩
  | 25 => ⟨S_, .f32⟩
  | 26 => ⟨S2048x8, .f32⟩
  | 27 => ⟨S2048x8x1, .f32⟩
  | 28 => ⟨S_, .f32⟩
  | 29 => ⟨S2048x8x1, .f32⟩
  | 30 => ⟨S2048x8x1, .f32⟩
  | 31 => ⟨S_, .f32⟩
  | 32 => ⟨S2048x8x1, .f32⟩
  | 33 => ⟨S2048x8x1, .f32⟩
  | 34 => ⟨S2048x8x1, .f32⟩
  | 35 => ⟨S2048x8x64, .f32⟩
  | 36 => ⟨S2048x8x64, .f32⟩
  | 37 => ⟨S1x1x64, .f32⟩
  | 38 => ⟨S2048x8x64, .f32⟩
  | 39 => ⟨S2048x8x64, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S2048, .i32⟩
  | 49 => ⟨S_, .i32⟩
  | 50 => ⟨S_, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S2048, .i32⟩
  | 58 => ⟨S2048, .i32⟩
  | 59 => ⟨S_, .i32⟩
  | 60 => ⟨S2048, .i32⟩
  | 61 => ⟨S2048, .i1⟩
  | 62 => ⟨S2048, .i1⟩
  | 63 => ⟨S_, .i32⟩
  | 64 => ⟨S2048, .i32⟩
  | 65 => ⟨S2048, .i32⟩
  | 66 => ⟨S2048, .i32⟩
  | 67 => ⟨S2048, .f32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i1⟩
  | 79 => ⟨S_, .i32⟩
  | 80 => ⟨S2048, .i32⟩
  | 81 => ⟨S2048, .i1⟩
  | 82 => ⟨S_, .i32⟩
  | 83 => ⟨S_, .i1⟩
  | 84 => ⟨S2048, .i1⟩
  | 85 => ⟨S2048, .i1⟩
  | 86 => ⟨S2048, .i1⟩
  | 87 => ⟨S2048, .i32⟩
  | 88 => ⟨S2048, .i32⟩
  | 89 => ⟨S2048, .i32⟩
  | 90 => ⟨S2048, .f32⟩
  | 91 => ⟨S2048x1, .f32⟩
  | 92 => ⟨S1x16, .f32⟩
  | 93 => ⟨S2048x16, .f32⟩
  | 94 => ⟨S2048x16, .f32⟩
  | 95 => ⟨S2048x16, .f32⟩
  | 96 => ⟨S2048x1, .f32⟩
  | 97 => ⟨S1x16, .f32⟩
  | 98 => ⟨S2048x16, .f32⟩
  | 99 => ⟨S2048x16, .f32⟩
  | 100 => ⟨S2048x16, .f32⟩
  | 101 => ⟨S2048x1x16, .f32⟩
  | 102 => ⟨S2048x1x16, .f32⟩
  | 103 => ⟨S2048x2x16, .f32⟩
  | 104 => ⟨S2048x2x16, .f32⟩
  | 105 => ⟨S2048x1x2x1x16, .f32⟩
  | 106 => ⟨S2048x2x16, .f32⟩
  | 107 => ⟨S2048x1x2x1x16, .f32⟩
  | 108 => ⟨S2048x8x2x2x16, .f32⟩
  | 109 => ⟨S2048x8x2x1x16, .f32⟩
  | 110 => ⟨S2048x8x2x16, .f32⟩
  | 111 => ⟨S2048x8x2x16, .f32⟩
  | 112 => ⟨S2048x8x2x1x16, .f32⟩
  | 113 => ⟨S2048x8x2x16, .f32⟩
  | 114 => ⟨S2048x8x2x1x16, .f32⟩
  | 115 => ⟨S2048x8x2x1x16, .f32⟩
  | 116 => ⟨S2048x8x2x2x16, .f32⟩
  | 117 => ⟨S2048x8x2x2x16, .f32⟩
  | 118 => ⟨S2048x8x2x2x16, .f32⟩
  | 119 => ⟨S2048x8x2x2x16, .f32⟩
  | 120 => ⟨S2048x8x2x2x16, .f32⟩
  | 121 => ⟨S2048x8x2x2x16, .f32⟩
  | 122 => ⟨S2048x8x64, .f32⟩
  | 123 => ⟨S_, .f32⟩
  | 124 => ⟨S2048x8x64, .f32⟩
  | 125 => ⟨S2048x8x64, .f32⟩
  | 126 => ⟨S_, .f32⟩
  | 127 => ⟨S2048x8x64, .f32⟩
  | _ => ⟨S2048x4096, .f32⟩

abbrev hbmTy0_1 (i : Nat) : BufTy := match i % 128 with
  | 0 => ⟨S2048x8x64, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S2048, .i32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S2048, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S_, .i32⟩
  | 44 => ⟨S_, .i1⟩
  | 45 => ⟨S2048, .i1⟩
  | 46 => ⟨S2048, .i1⟩
  | 47 => ⟨S2048, .i1⟩
  | 48 => ⟨S2048, .i32⟩
  | 49 => ⟨S2048, .i32⟩
  | 50 => ⟨S2048, .i32⟩
  | 51 => ⟨S2048, .f32⟩
  | 52 => ⟨S2048x1, .f32⟩
  | 53 => ⟨S1x16, .f32⟩
  | 54 => ⟨S2048x16, .f32⟩
  | 55 => ⟨S2048x16, .f32⟩
  | 56 => ⟨S2048x16, .f32⟩
  | 57 => ⟨S2048x1, .f32⟩
  | 58 => ⟨S1x16, .f32⟩
  | 59 => ⟨S2048x16, .f32⟩
  | 60 => ⟨S2048x16, .f32⟩
  | 61 => ⟨S2048x16, .f32⟩
  | 62 => ⟨S2048x1x16, .f32⟩
  | 63 => ⟨S2048x1x16, .f32⟩
  | 64 => ⟨S2048x2x16, .f32⟩
  | 65 => ⟨S2048x2x16, .f32⟩
  | 66 => ⟨S2048x1x2x1x16, .f32⟩
  | 67 => ⟨S2048x2x16, .f32⟩
  | 68 => ⟨S2048x1x2x1x16, .f32⟩
  | 69 => ⟨S2048x8x2x2x16, .f32⟩
  | 70 => ⟨S2048x8x2x1x16, .f32⟩
  | 71 => ⟨S2048x8x2x16, .f32⟩
  | 72 => ⟨S2048x8x2x16, .f32⟩
  | 73 => ⟨S2048x8x2x1x16, .f32⟩
  | 74 => ⟨S2048x8x2x16, .f32⟩
  | 75 => ⟨S2048x8x2x1x16, .f32⟩
  | 76 => ⟨S2048x8x2x1x16, .f32⟩
  | 77 => ⟨S2048x8x2x2x16, .f32⟩
  | 78 => ⟨S2048x8x2x2x16, .f32⟩
  | 79 => ⟨S2048x8x2x2x16, .f32⟩
  | 80 => ⟨S2048x8x2x2x16, .f32⟩
  | 81 => ⟨S2048x8x2x2x16, .f32⟩
  | 82 => ⟨S2048x8x2x2x16, .f32⟩
  | 83 => ⟨S2048x8x64, .f32⟩
  | 84 => ⟨S2048x8x64, .f32⟩
  | 85 => ⟨S8x2048x64, .f32⟩
  | 86 => ⟨S8x2048x64, .bf16⟩
  | 87 => ⟨S8x2048x64, .f32⟩
  | 88 => ⟨S8x2048x64, .bf16⟩
  | 89 => ⟨S8x2048x64, .f32⟩
  | 90 => ⟨S8x2048x64, .bf16⟩
  | 91 => ⟨S8x2048x64, .f32⟩
  | 92 => ⟨S8x2048x64, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_8 : Ref sig .tc := ⟨.hbm, 123, rfl⟩
abbrev main_v74 : Ref sig .tc := ⟨.hbm, 124, rfl⟩
abbrev main_v75 : Ref sig .tc := ⟨.hbm, 125, rfl⟩
abbrev main_cst_9 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_10 : Ref sig .tc := ⟨.hbm, 131, rfl⟩
abbrev main_v80 : Ref sig .tc := ⟨.hbm, 132, rfl⟩
abbrev main_v81 : Ref sig .tc := ⟨.hbm, 133, rfl⟩
abbrev main_cst_11 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_12 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_c : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_c_0 : Ref sig .tc := ⟨.hbm, 152, rfl⟩
abbrev main_call2_v12 : Ref sig .tc := ⟨.hbm, 153, rfl⟩
abbrev main_call2_v13 : Ref sig .tc := ⟨.hbm, 154, rfl⟩
abbrev main_v85 : Ref sig .tc := ⟨.hbm, 155, rfl⟩
abbrev main_v86 : Ref sig .tc := ⟨.hbm, 156, rfl⟩
abbrev main_c_13 : Ref sig .tc := ⟨.hbm, 157, rfl⟩
abbrev main_call3_v0 : Ref sig .tc := ⟨.hbm, 158, rfl⟩
abbrev main_call3_c : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_c_1 : Ref sig .tc := ⟨.hbm, 165, rfl⟩
abbrev main_call3_v5 : Ref sig .tc := ⟨.hbm, 166, rfl⟩
abbrev main_call3_v6 : Ref sig .tc := ⟨.hbm, 167, rfl⟩
abbrev main_call3_c_2 : Ref sig .tc := ⟨.hbm, 168, rfl⟩
abbrev main_call3_v7 : Ref sig .tc := ⟨.hbm, 169, rfl⟩
abbrev main_call3_v8 : Ref sig .tc := ⟨.hbm, 170, rfl⟩
abbrev main_call3_c_3 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩

abbrev nD : Nat := 1
abbrev τ : Topo := Topo.v7x

variable {F : FTy → Type} [FloatOps F]
-- ==== Kernel13.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .hbm, ⟨3, _⟩ => ⟨S16x1024, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | .local _ .vmem, ⟨3, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference13Ideal.lean ====
abbrev S16x1024 : Shape := ⟨2, ![16, 1024]⟩
abbrev S1024x768 : Shape := ⟨2, ![1024, 768]⟩
abbrev S_ : Shape := ⟨0, ![]⟩
abbrev S16x768 : Shape := ⟨2, ![16, 768]⟩

abbrev nBuf : Space → Nat
  | .hbm => 12
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Kernel14.lean ====
abbrev S256x1024 : Shape := ⟨2, ![256, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 6
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S256x1024, .f32⟩
  | .local _ .vmem, ⟨0, _⟩ => ⟨S256x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference14Ideal.lean ====
abbrev S256x1024 : Shape := ⟨2, ![256, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x4096, .f32⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S16x1024 : Shape := ⟨2, ![16, 1024]⟩
abbrev S16x3072 : Shape := ⟨2, ![16, 3072]⟩
abbrev S1024x768 : Shape := ⟨2, ![1024, 768]⟩
abbrev S_ : Shape := ⟨0, ![]⟩
abbrev S1 : Shape := ⟨1, ![1]⟩
abbrev S8x1024 : Shape := ⟨2, ![8, 1024]⟩
abbrev S16x768 : Shape := ⟨2, ![16, 768]⟩
abbrev S8x768 : Shape := ⟨2, ![8, 768]⟩

abbrev nBuf : Space → Nat
  | .hbm => 6
  | .vmem => 5
  | .smem => 1
  | _ => 0

abbrev bufTy : (tb : Table) → Fin (tcTables nBuf tb) → BufTy
  | .hbm, ⟨0, _⟩ => ⟨S16x1024, .f32⟩
  | .hbm, ⟨1, _⟩ => ⟨S16x3072, .f32⟩
  | .hbm, ⟨2, _⟩ => ⟨S1024x768, .f32⟩
  | .hbm, ⟨3, _⟩ => ⟨S_, .i32⟩
  | .hbm, ⟨4, _⟩ => ⟨S1024x768, .f32⟩
  | .hbm, ⟨5, _⟩ => ⟨S8x1024, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | .local _ .vmem, ⟨4, _⟩ => ⟨S8x1024, .f32⟩
  | .local _ .smem, ⟨0, _⟩ => ⟨S1, .i32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1_0 : Ref sig .tc := ⟨.hbm, 4, rfl⟩
abbrev main_v1_1 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S16x1024 : Shape := ⟨2, ![16, 1024]⟩
abbrev S16x3072 : Shape := ⟨2, ![16, 3072]⟩
abbrev S1024x768 : Shape := ⟨2, ![1024, 768]⟩
abbrev S16x768 : Shape := ⟨2, ![16, 768]⟩
abbrev S768x1024 : Shape := ⟨2, ![768, 1024]⟩
abbrev S8x1024 : Shape := ⟨2, ![8, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x3072, .f32⟩
  | .hbm, ⟨2, _⟩ => ⟨S1024x768, .f32⟩
  | .hbm, ⟨3, _⟩ => ⟨S16x768, .f32⟩
  | .hbm, ⟨4, _⟩ => ⟨S16x768, .f32⟩
  | .hbm, ⟨5, _⟩ => ⟨S768x1024, .f32⟩
  | .hbm, ⟨6, _⟩ => ⟨S1024x768, .f32⟩
  | .hbm, ⟨7, _⟩ => ⟨S16x1024, .f32⟩
  | .hbm, ⟨8, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Finite.lean ====
/-
  Extended reals that are real numbers, and the operations that keep them so.
-/
module

public import Idealize.ShloMosaic.Lib.Pointwise

@[expose] public section

namespace Cert

open Idealize.ShloMosaic

/-- The extended real `x` is a real number. -/
def IsReal (x : EReal) : Prop := ∃ y : ℝ, x = (y : EReal)

namespace IsReal

theorem coe (y : ℝ) : IsReal (y : EReal) := ⟨y, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx; obtain ⟨b, rfl⟩ := hy
  exact ⟨a + b, (EReal.coe_add a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem sub {x y : EReal} (hx : IsReal x) (hy : IsReal y) : IsReal (x - y) := by
  obtain ⟨a, rfl⟩ := hx; obtain ⟨b, rfl⟩ := hy
  exact ⟨a - b, (EReal.coe_sub a b).symm⟩

theorem sum {ι : Type*} (s : Finset ι) {f : ι → EReal} (h : ∀ i, IsReal (f i)) : IsReal (∑ i ∈ s, f i) := by
  classical
  induction s using Finset.induction_on with
  | empty => simpa using zero
  | insert a s ha ih => rw [Finset.sum_insert ha]; exact (h a).add ih

theorem logistic {x : EReal} (hx : IsReal x) : IsReal (Ideal.logistic x) := by
  obtain ⟨a, rfl⟩ := hx
  exact ⟨_, Ideal.logistic_coe a⟩

theorem exp {x : EReal} (hx : IsReal x) : IsReal (Ideal.exp x) := by
  obtain ⟨a, rfl⟩ := hx
  exact ⟨_, Ideal.exp_coe a⟩

theorem ite {p : Prop} [Decidable p] {x y : EReal} (hx : IsReal x) (hy : IsReal y) : IsReal (if p then x else y) := by
  split
  · exact hx
  · exact hy

/-- An extended real whose absolute value compares less than infinity is real. -/
theorem of_cmp {y : EReal} (h : Ideal.cmp .olt (max y (-y)) ⊤ = 1#1) : IsReal y := by
  induction y with
  | bot => simp [Ideal.cmp] at h
  | top => simp [Ideal.cmp] at h
  | coe a => exact ⟨a, rfl⟩

/-- An array's element whose absolute value compares less than infinity is real. -/
theorem of_cmpf {S : Shape} {φ : FTy} (x b : FVec Ideal S φ) (i : S.Idx) (hb : b i = (⊤ : EReal))
    (h : cmpf .olt (Host.absf x) b i = 1#1) : IsReal (x i) := by
  have h' : Ideal.cmp .olt (max (x i) (-(x i))) (b i) = 1#1 := h
  rw [hb] at h'
  exact of_cmp h'

theorem inf_f32 : FloatOps.ofBits (F := Ideal) .f32 0x7F800000#32 = (⊤ : EReal) := by
  simp [Ideal.ofBits, Ideal.ieee]

end IsReal

end Cert
-- ==== Proof.Attn.Row.lean ====
/-
  One row of the neighbourhood attention over the reals: a query's scores on the latent keys, of which a window counts,
  and on the context keys; the row's softmax weights; and the backward pass of the weights.  The two forms in which the
  programs compute them are shown to be these numbers.
-/
module

public import proofs.«01_k».proof.Proof.Finite

@[expose] public section

noncomputable section

namespace Cert.Attn

open Idealize.ShloMosaic

/-- A sum of reals, lifted. -/
theorem coe_sum {ι : Type} [Fintype ι] (f : ι → ℝ) : (∑ a, (f a : EReal)) = ((∑ a, f a : ℝ) : EReal) :=
  (map_sum (⟨⟨Real.toEReal, rfl⟩, EReal.coe_add⟩ : ℝ →+ EReal) f Finset.univ).symm

theorem div_coe_coe (x : ℝ) {y : ℝ} (h : y ≠ 0) : Ideal.div (x : EReal) (y : EReal) = ((x / y : ℝ) : EReal) := by
  rw [Ideal.div_coe h, ← EReal.coe_mul]; congr 1; ring

/-- A query's row: which latent keys count, the scores, and the gradients of the weights. -/
structure Row (A C : Type) where
  w : A → Prop
  x : A → ℝ
  y : C → ℝ
  g : A → ℝ
  gc : C → ℝ

namespace Row

open scoped Classical

variable {A B C : Type} [Fintype A] [Fintype B] [Fintype C] (R : Row A C)

/-- A latent score: no score outside the window. -/
def score (a : A) : EReal := if R.w a then (R.x a : EReal) else ⊥

def e (a : A) : ℝ := if R.w a then Real.exp (R.x a) else 0
def ec (c : C) : ℝ := Real.exp (R.y c)
def Z : ℝ := ∑ a, R.e a + ∑ c, R.ec c
def p (a : A) : ℝ := R.e a / R.Z
def pc (c : C) : ℝ := R.ec c / R.Z
def δ : ℝ := ∑ a, R.p a * R.g a + ∑ c, R.pc c * R.gc c
def ds (a : A) : ℝ := R.p a * (R.g a - R.δ)
def dsc (c : C) : ℝ := R.pc c * (R.gc c - R.δ)

theorem e_nonneg (a : A) : 0 ≤ R.e a := by unfold e; split_ifs <;> positivity

theorem Z_pos [Nonempty C] : 0 < R.Z := by
  have h1 : 0 ≤ ∑ a, R.e a := Finset.sum_nonneg fun a _ => R.e_nonneg a
  have h2 : 0 < ∑ c, R.ec c := Finset.sum_pos (fun c _ => Real.exp_pos _) Finset.univ_nonempty
  unfold Z; linarith

theorem p_off {a : A} (h : ¬ R.w a) : R.p a = 0 := by simp [p, e, h]
theorem ds_off {a : A} (h : ¬ R.w a) : R.ds a = 0 := by simp [ds, R.p_off h]

/-- The exponential of a score less the row's maximum. -/
theorem exp_score (m : ℝ) (a : A) : Ideal.exp (R.score a - (m : EReal)) = ((Real.exp (-m) * R.e a : ℝ) : EReal) := by
  unfold score e
  split_ifs with h
  · rw [← EReal.coe_sub, Ideal.exp_coe, ← Real.exp_add]; congr 2; ring
  · rw [EReal.bot_sub, Ideal.exp_bot]; simp

theorem exp_ctx (m : ℝ) (c : C) : Ideal.exp ((R.y c : EReal) - (m : EReal)) = ((Real.exp (-m) * R.ec c : ℝ) : EReal) := by
  unfold ec
  rw [← EReal.coe_sub, Ideal.exp_coe, ← Real.exp_add]; congr 2; ring

/-- The sum of the exponentials. -/
theorem sum_exp (m : ℝ) : (∑ a, ((Real.exp (-m) * R.e a : ℝ) : EReal)) + ∑ c, ((Real.exp (-m) * R.ec c : ℝ) : EReal)
    = ((Real.exp (-m) * R.Z : ℝ) : EReal) := by
  rw [coe_sum, coe_sum, ← EReal.coe_add, ← Finset.mul_sum, ← Finset.mul_sum, ← mul_add]; rfl

variable [Nonempty C]

theorem scaled_ne (m : ℝ) : Real.exp (-m) * R.Z ≠ 0 := mul_ne_zero (Real.exp_pos _).ne' R.Z_pos.ne'

/-- The weight by the reciprocal of the sum, -/
theorem weight (m : ℝ) (a : A) : ((Real.exp (-m) * R.e a : ℝ) : EReal)
    * Ideal.div 1 ((Real.exp (-m) * R.Z : ℝ) : EReal) = (R.p a : EReal) := by
  rw [← EReal.coe_one, div_coe_coe _ (R.scaled_ne m), ← EReal.coe_mul]
  congr 1; unfold p
  have := (Real.exp_pos (-m)).ne'; have := R.Z_pos.ne'; field_simp

theorem weight_ctx (m : ℝ) (c : C) : ((Real.exp (-m) * R.ec c : ℝ) : EReal)
    * Ideal.div 1 ((Real.exp (-m) * R.Z : ℝ) : EReal) = (R.pc c : EReal) := by
  rw [← EReal.coe_one, div_coe_coe _ (R.scaled_ne m), ← EReal.coe_mul]
  congr 1; unfold pc
  have := (Real.exp_pos (-m)).ne'; have := R.Z_pos.ne'; field_simp

/-- and by the quotient. -/
theorem weight_div (m : ℝ) (a : A) : Ideal.div ((Real.exp (-m) * R.e a : ℝ) : EReal)
    ((Real.exp (-m) * R.Z : ℝ) : EReal) = (R.p a : EReal) := by
  rw [div_coe_coe _ (R.scaled_ne m)]
  congr 1; unfold p
  have := (Real.exp_pos (-m)).ne'; have := R.Z_pos.ne'; field_simp

theorem weight_div_ctx (m : ℝ) (c : C) : Ideal.div ((Real.exp (-m) * R.ec c : ℝ) : EReal)
    ((Real.exp (-m) * R.Z : ℝ) : EReal) = (R.pc c : EReal) := by
  rw [div_coe_coe _ (R.scaled_ne m)]
  congr 1; unfold pc
  have := (Real.exp_pos (-m)).ne'; have := R.Z_pos.ne'; field_simp

/-- The weighted sum of the weights' gradients. -/
theorem delta : (∑ a, (R.p a : EReal) * (R.g a : EReal)) + (∑ c, (R.pc c : EReal) * (R.gc c : EReal)) = (R.δ : EReal) := by
  simp only [← EReal.coe_mul]
  rw [coe_sum, coe_sum, ← EReal.coe_add]; rfl

theorem dscore (a : A) : (R.p a : EReal) * ((R.g a : EReal) - (R.δ : EReal)) = (R.ds a : EReal) := by
  rw [← EReal.coe_sub, ← EReal.coe_mul]; rfl

theorem dscore_ctx (c : C) : (R.pc c : EReal) * ((R.gc c : EReal) - (R.δ : EReal)) = (R.dsc c : EReal) := by
  rw [← EReal.coe_sub, ← EReal.coe_mul]; rfl

/-- The gradient of the sum, from the quotient's derivative: each weight's gradient over the sum's square. -/
theorem quot_sum (m : ℝ) : (∑ a, (R.g a : EReal) * Ideal.div 1 (((Real.exp (-m) * R.Z : ℝ) : EReal) * ((Real.exp (-m) * R.Z : ℝ) : EReal))
      * ((Real.exp (-m) * R.e a : ℝ) : EReal))
    + (∑ c, (R.gc c : EReal) * Ideal.div 1 (((Real.exp (-m) * R.Z : ℝ) : EReal) * ((Real.exp (-m) * R.Z : ℝ) : EReal))
      * ((Real.exp (-m) * R.ec c : ℝ) : EReal))
    = ((R.δ / (Real.exp (-m) * R.Z) : ℝ) : EReal) := by
  have hz := R.scaled_ne m
  rw [← EReal.coe_mul, ← EReal.coe_one, div_coe_coe _ (mul_ne_zero hz hz)]
  simp only [← EReal.coe_mul]
  rw [coe_sum, coe_sum, ← EReal.coe_add]
  congr 1
  unfold δ p pc
  rw [add_div, Finset.sum_div, Finset.sum_div]
  have h1 := (Real.exp_pos (-m)).ne'; have h2 := R.Z_pos.ne'
  congr 1 <;> exact Finset.sum_congr rfl fun a _ => by field_simp

theorem quot_dscore (m : ℝ) (a : A) : (Ideal.div (R.g a : EReal) ((Real.exp (-m) * R.Z : ℝ) : EReal)
      + -((R.δ / (Real.exp (-m) * R.Z) : ℝ) : EReal)) * ((Real.exp (-m) * R.e a : ℝ) : EReal) = (R.ds a : EReal) := by
  rw [div_coe_coe _ (R.scaled_ne m), ← EReal.coe_neg, ← EReal.coe_add, ← EReal.coe_mul]
  congr 1; unfold ds p
  have := (Real.exp_pos (-m)).ne'; have := R.Z_pos.ne'; field_simp; ring

theorem quot_dscore_ctx (m : ℝ) (c : C) : (Ideal.div (R.gc c : EReal) ((Real.exp (-m) * R.Z : ℝ) : EReal)
      + -((R.δ / (Real.exp (-m) * R.Z) : ℝ) : EReal)) * ((Real.exp (-m) * R.ec c : ℝ) : EReal) = (R.dsc c : EReal) := by
  rw [div_coe_coe _ (R.scaled_ne m), ← EReal.coe_neg, ← EReal.coe_add, ← EReal.coe_mul]
  congr 1; unfold dsc pc
  have := (Real.exp_pos (-m)).ne'; have := R.Z_pos.ne'; field_simp; ring

/-- The row over other names of the latent keys. -/
def pull (κ : B → A) : Row B C := ⟨fun b => R.w (κ b), fun b => R.x (κ b), R.y, fun b => R.g (κ b), R.gc⟩

variable {κ : B → A} (hκ : ∀ f : A → ℝ, (∀ a, ¬ R.w a → f a = 0) → ∑ b, f (κ b) = ∑ a, f a)
include hκ

theorem pull_Z : (R.pull κ).Z = R.Z := by
  unfold Z; congr 1
  exact hκ R.e fun a h => by simp [e, h]

theorem pull_p (b : B) : (R.pull κ).p b = R.p (κ b) := by unfold p; rw [R.pull_Z hκ]; rfl
theorem pull_pc (c : C) : (R.pull κ).pc c = R.pc c := by unfold pc; rw [R.pull_Z hκ]; rfl

theorem pull_δ : (R.pull κ).δ = R.δ := by
  unfold δ
  simp only [R.pull_p hκ, R.pull_pc hκ]
  congr 1
  exact hκ (fun a => R.p a * R.g a) fun a h => by rw [R.p_off h, zero_mul]

theorem pull_ds (b : B) : (R.pull κ).ds b = R.ds (κ b) := by unfold ds; rw [R.pull_p hκ, R.pull_δ hκ]; rfl
theorem pull_dsc (c : C) : (R.pull κ).dsc c = R.dsc c := by unfold dsc; rw [R.pull_pc hκ, R.pull_δ hκ]; rfl

end Row

end Cert.Attn
-- ==== Proof.Attn.Block.lean ====
/-
  One query block of the attention: the scores of a window of 576 keys and of the context keys on 128 queries, laid out
  keys by queries, the softmax weights, the weights' gradients, and the products with the operands.
-/
module

public import proofs.«01_k».proof.Proof.Gen.Kernel2Ideal
public import proofs.«01_k».proof.Proof.Attn.Row
public import Idealize.ShloMosaic.Lib.Pointwise

@[expose] public section

set_option maxRecDepth 16384

noncomputable section

namespace Cert.Attn

open Idealize.ShloMosaic Idealize.ShloMosaic.TcCoe Idealize.SL.Sem
open Cert.Kernel2Ideal Cert.Kernel2Ideal.Gen

variable {F : FTy → Type} [FloatOps F] [Named F]

/-- Keys by queries: the latent scores with the bias tile added, -/
def sLat (k : Vec F S1x576x64 .bf16) (q : Vec F S1x128x64 .bf16) (bt : Vec F S1x1x576x128 .f32) : FVec F S576x128 .f32 :=
  addf (matmul dot_S576x64_S128x64_S576x128_1_1_0_0_n_n none (shapeCast S576x64 k shapeCasts_S1x576x64_S576x64)
    (shapeCast S128x64 q shapeCasts_S1x128x64_S128x64) (constant S576x128 .f32 0x00000000#32))
    (shapeCast S576x128 bt shapeCasts_S1x1x576x128_S576x128)

/-- the latent products without one, -/
def dLat (v : Vec F S1x576x64 .bf16) (g : Vec F S1x128x64 .bf16) : FVec F S576x128 .f32 :=
  matmul dot_S576x64_S128x64_S576x128_1_1_0_0_n_n none (shapeCast S576x64 v shapeCasts_S1x576x64_S576x64)
    (shapeCast S128x64 g shapeCasts_S1x128x64_S128x64) (constant S576x128 .f32 0x00000000#32)

/-- and the context products. -/
def dCtx (k : Vec F S1x256x64 .bf16) (q : Vec F S1x128x64 .bf16) : FVec F S256x128 .f32 :=
  matmul dot_S256x64_S128x64_S256x128_1_1_0_0_n_n none (shapeCast S256x64 k shapeCasts_S1x256x64_S256x64)
    (shapeCast S128x64 q shapeCasts_S1x128x64_S128x64) (constant S256x128 .f32 0x00000000#32)

/-- Every query's largest score. -/
def mx (s : FVec F S576x128 .f32) (t : FVec F S256x128 .f32) : FVec F S1x128 .f32 :=
  maximumf (shapeCast S1x128 (multiReduction .maximumf [0] S128 s 0xFF800000#32 reduces_S576x128_S128 (.inl rfl) rfl) shapeCasts_S128_S1x128)
    (shapeCast S1x128 (multiReduction .maximumf [0] S128 t 0xFF800000#32 reduces_S256x128_S128 (.inl rfl) rfl) shapeCasts_S128_S1x128)

def eLat (s : FVec F S576x128 .f32) (t : FVec F S256x128 .f32) : FVec F S576x128 .f32 :=
  exp (subf s (broadcastTo S576x128 (mx s t) broadcasts_S1x128_S576x128))

def eCtx (s : FVec F S576x128 .f32) (t : FVec F S256x128 .f32) : FVec F S256x128 .f32 :=
  exp (subf t (broadcastTo S256x128 (mx s t) broadcasts_S1x128_S256x128))

/-- Every query's sum over both kinds of keys. -/
def sumQ (s : FVec F S576x128 .f32) (t : FVec F S256x128 .f32) : FVec F S1x128 .f32 :=
  addf (shapeCast S1x128 (multiReduction .add [0] S128 s 0x00000000#32 reduces_S576x128_S128 (.inl rfl) rfl) shapeCasts_S128_S1x128)
    (shapeCast S1x128 (multiReduction .add [0] S128 t 0x00000000#32 reduces_S256x128_S128 (.inl rfl) rfl) shapeCasts_S128_S1x128)

/-- The reciprocal of the sum of the exponentials. -/
def inv (s : FVec F S576x128 .f32) (t : FVec F S256x128 .f32) : FVec F S1x128 .f32 :=
  divf (broadcast S1x128 (Scalar.ofBits .f32 0x3F800000#32 : F .f32)) (sumQ (eLat s t) (eCtx s t))

/-- The softmax weights. -/
def pLat (s : FVec F S576x128 .f32) (t : FVec F S256x128 .f32) : FVec F S576x128 .f32 :=
  mulf (eLat s t) (broadcastTo S576x128 (inv s t) broadcasts_S1x128_S576x128)

def pCtx (s : FVec F S576x128 .f32) (t : FVec F S256x128 .f32) : FVec F S256x128 .f32 :=
  mulf (eCtx s t) (broadcastTo S256x128 (inv s t) broadcasts_S1x128_S256x128)

/-- Every query's weighted sum of its weights' gradients. -/
def delta (s : FVec F S576x128 .f32) (t : FVec F S256x128 .f32) (g : FVec F S576x128 .f32) (h : FVec F S256x128 .f32) : FVec F S1x128 .f32 :=
  sumQ (mulf (pLat s t) g) (mulf (pCtx s t) h)

/-- The scores' gradients. -/
def dsLat (s : FVec F S576x128 .f32) (t : FVec F S256x128 .f32) (g : FVec F S576x128 .f32) (h : FVec F S256x128 .f32) : FVec F S576x128 .f32 :=
  mulf (pLat s t) (subf g (broadcastTo S576x128 (delta s t g h) broadcasts_S1x128_S576x128))

def dsCtx (s : FVec F S576x128 .f32) (t : FVec F S256x128 .f32) (g : FVec F S576x128 .f32) (h : FVec F S256x128 .f32) : FVec F S256x128 .f32 :=
  mulf (pCtx s t) (subf h (broadcastTo S256x128 (delta s t g h) broadcasts_S1x128_S256x128))

/-- Sums over the keys: queries by features, -/
def byKeys (x : FVec F S576x128 .f32) (k : Vec F S1x576x64 .bf16) : FVec F S128x64 .f32 :=
  matmul dot_S576x128_S576x64_S128x64_0_0_1_1_n_n none (truncf .bf16 x bitsLt_bf16_f32)
    (shapeCast S576x64 k shapeCasts_S1x576x64_S576x64) (constant S128x64 .f32 0x00000000#32)

def byCtx (x : FVec F S256x128 .f32) (k : Vec F S1x256x64 .bf16) : FVec F S128x64 .f32 :=
  matmul dot_S256x128_S256x64_S128x64_0_0_1_1_n_n none (truncf .bf16 x bitsLt_bf16_f32)
    (shapeCast S256x64 k shapeCasts_S1x256x64_S256x64) (constant S128x64 .f32 0x00000000#32)

/-- and sums over the queries: keys by features. -/
def byQueries (x : FVec F S576x128 .f32) (q : Vec F S1x128x64 .bf16) : FVec F S576x64 .f32 :=
  matmul dot_S576x128_S128x64_S576x64_1_0_0_1_n_n none (truncf .bf16 x bitsLt_bf16_f32)
    (shapeCast S128x64 q shapeCasts_S1x128x64_S128x64) (constant S576x64 .f32 0x00000000#32)

def byQueriesCtx (x : FVec F S256x128 .f32) (q : Vec F S1x128x64 .bf16) : FVec F S256x64 .f32 :=
  matmul dot_S256x128_S128x64_S256x64_1_0_0_1_n_n none (truncf .bf16 x bitsLt_bf16_f32)
    (shapeCast S128x64 q shapeCasts_S1x128x64_S128x64) (constant S256x64 .f32 0x00000000#32)

/-! ## At the ideal numbers -/

theorem sLat_at (k : Vec Ideal S1x576x64 .bf16) (q : Vec Ideal S1x128x64 .bf16) (bt : Vec Ideal S1x1x576x128 .f32)
    (u : Fin 576) (j : Fin 128) :
    sLat k q bt (ix2 u j) = (∑ d : Fin 64, k (ix3 0 u d) * q (ix3 0 j d) : EReal) + bt (ix4 0 0 u j) := by
  pointwise [sLat]

theorem dLat_at (v : Vec Ideal S1x576x64 .bf16) (g : Vec Ideal S1x128x64 .bf16) (u : Fin 576) (j : Fin 128) :
    dLat v g (ix2 u j) = (∑ d : Fin 64, v (ix3 0 u d) * g (ix3 0 j d) : EReal) := by
  pointwise [dLat]

theorem dCtx_at (k : Vec Ideal S1x256x64 .bf16) (q : Vec Ideal S1x128x64 .bf16) (c : Fin 256) (j : Fin 128) :
    dCtx k q (ix2 c j) = (∑ d : Fin 64, k (ix3 0 c d) * q (ix3 0 j d) : EReal) := by
  pointwise [dCtx]

theorem byKeys_at (x : FVec Ideal S576x128 .f32) (k : Vec Ideal S1x576x64 .bf16) (j : Fin 128) (d : Fin 64) :
    byKeys x k (ix2 j d) = (∑ u : Fin 576, x (ix2 u j) * k (ix3 0 u d) : EReal) := by
  pointwise [byKeys]

theorem byCtx_at (x : FVec Ideal S256x128 .f32) (k : Vec Ideal S1x256x64 .bf16) (j : Fin 128) (d : Fin 64) :
    byCtx x k (ix2 j d) = (∑ c : Fin 256, x (ix2 c j) * k (ix3 0 c d) : EReal) := by
  pointwise [byCtx]

theorem byQueries_at (x : FVec Ideal S576x128 .f32) (q : Vec Ideal S1x128x64 .bf16) (u : Fin 576) (d : Fin 64) :
    byQueries x q (ix2 u d) = (∑ j : Fin 128, x (ix2 u j) * q (ix3 0 j d) : EReal) := by
  pointwise [byQueries]

theorem byQueriesCtx_at (x : FVec Ideal S256x128 .f32) (q : Vec Ideal S1x128x64 .bf16) (c : Fin 256) (d : Fin 64) :
    byQueriesCtx x q (ix2 c d) = (∑ j : Fin 128, x (ix2 c j) * q (ix3 0 j d) : EReal) := by
  pointwise [byQueriesCtx]

/-- A largest score is real when no score is infinite and some score is real. -/
theorem real_max {A C : Type} [Fintype A] [Fintype C] [Nonempty C] (R : Row A C) {f : A → EReal} {g : C → EReal}
    (hf : ∀ a, f a = R.score a) (hg : ∀ c, g c = (R.y c : EReal)) :
    IsReal (max (Finset.fold max (Ideal.ofBits FTy.f32 0xFF800000#32) f Finset.univ)
      (Finset.fold max (Ideal.ofBits FTy.f32 0xFF800000#32) g Finset.univ)) := by
  have hb : Ideal.ofBits FTy.f32 0xFF800000#32 = ⊥ := by simp [Ideal.ofBits, Ideal.ieee]
  rw [hb]
  have h1 : Finset.fold max ⊥ f Finset.univ < ⊤ := by
    rw [Finset.fold_max_lt]
    refine ⟨bot_lt_top, fun a _ => ?_⟩
    rw [hf]; unfold Row.score; split_ifs
    · exact EReal.coe_lt_top _
    · exact bot_lt_top
  have h2 : Finset.fold max ⊥ g Finset.univ < ⊤ := by
    rw [Finset.fold_max_lt]
    exact ⟨bot_lt_top, fun c _ => by rw [hg]; exact EReal.coe_lt_top _⟩
  obtain ⟨c⟩ := ‹Nonempty C›
  have h3 : ⊥ < Finset.fold max ⊥ g Finset.univ := by
    rw [Finset.lt_fold_max]
    exact .inr ⟨c, Finset.mem_univ _, by rw [hg]; exact EReal.bot_lt_coe _⟩
  have h4 := max_lt h1 h2
  have h5 : ⊥ < max (Finset.fold max ⊥ f Finset.univ) (Finset.fold max ⊥ g Finset.univ) := lt_max_of_lt_right h3
  exact ⟨_, (EReal.coe_toReal h4.ne h5.ne').symm⟩

section Softmax

variable (R : Row (Fin 576) (Fin 256)) {s g : FVec Ideal S576x128 .f32} {t h : FVec Ideal S256x128 .f32} {j : Fin 128}
  (hs : ∀ u : Fin 576, s (ix2 u j) = R.score u) (ht : ∀ c : Fin 256, t (ix2 c j) = (R.y c : EReal))

theorem sumQ_at (s : FVec Ideal S576x128 .f32) (t : FVec Ideal S256x128 .f32) (j : Fin 128) :
    sumQ s t (ix2 0 j) = (∑ u : Fin 576, s (ix2 u j) : EReal) + (∑ c : Fin 256, t (ix2 c j) : EReal) := by
  pointwise [sumQ]

include hs ht

theorem mx_at : ∃ m : ℝ, mx s t (ix2 0 j) = (m : EReal) := by
  pointwise [mx]
  exact real_max R hs ht

theorem exps_at : ∃ m : ℝ, (∀ u : Fin 576, eLat s t (ix2 u j) = ((Real.exp (-m) * R.e u : ℝ) : EReal))
    ∧ (∀ c : Fin 256, eCtx s t (ix2 c j) = ((Real.exp (-m) * R.ec c : ℝ) : EReal))
    ∧ inv s t (ix2 0 j) = Ideal.div 1 ((Real.exp (-m) * R.Z : ℝ) : EReal) := by
  obtain ⟨m, hm⟩ := mx_at R hs ht
  have h1 : ∀ u : Fin 576, eLat s t (ix2 u j) = ((Real.exp (-m) * R.e u : ℝ) : EReal) := fun u => by
    pointwise [eLat]
    rw [hm, hs]; exact R.exp_score m u
  have h2 : ∀ c : Fin 256, eCtx s t (ix2 c j) = ((Real.exp (-m) * R.ec c : ℝ) : EReal) := fun c => by
    pointwise [eCtx]
    rw [hm, ht]; exact R.exp_ctx m c
  refine ⟨m, h1, h2, ?_⟩
  pointwise [inv]
  rw [sumQ_at, funext h1, funext h2, R.sum_exp]

theorem pLat_at (u : Fin 576) : pLat s t (ix2 u j) = (R.p u : EReal) := by
  obtain ⟨m, h1, h2, h3⟩ := exps_at R hs ht
  pointwise [pLat]
  rw [h1, h3]; exact R.weight m u

theorem pCtx_at (c : Fin 256) : pCtx s t (ix2 c j) = (R.pc c : EReal) := by
  obtain ⟨m, h1, h2, h3⟩ := exps_at R hs ht
  pointwise [pCtx]
  rw [h2, h3]; exact R.weight_ctx m c

variable (hg : ∀ u : Fin 576, g (ix2 u j) = (R.g u : EReal)) (hh : ∀ c : Fin 256, h (ix2 c j) = (R.gc c : EReal))
include hg hh

theorem delta_at : delta s t g h (ix2 0 j) = (R.δ : EReal) := by
  unfold delta
  rw [sumQ_at, ← R.delta]
  congr 1
  · exact Finset.sum_congr rfl fun u _ => by rw [← pLat_at R hs ht u, ← hg u]; rfl
  · exact Finset.sum_congr rfl fun c _ => by rw [← pCtx_at R hs ht c, ← hh c]; rfl

theorem dsLat_at (u : Fin 576) : dsLat s t g h (ix2 u j) = (R.ds u : EReal) := by
  pointwise [dsLat]
  rw [pLat_at R hs ht, hg, delta_at R hs ht hg hh]; exact R.dscore u

theorem dsCtx_at (c : Fin 256) : dsCtx s t g h (ix2 c j) = (R.dsc c : EReal) := by
  pointwise [dsCtx]
  rw [pCtx_at R hs ht, hh, delta_at R hs ht hg hh]; exact R.dscore_ctx c

end Softmax

end Cert.Attn
-- ==== Proof.Attn.Window.lean ====
/-
  The neighbourhood attention of one head over the reals, backward: 32 rows of 64 tokens, each attending to a window of
  8 rows by 16 columns and to 256 context keys.  The windows are clipped at the image's border.  The kernel reads them
  through 16 blocks of 128 queries, each with 576 keys around every one of its windows.
-/
module

public import proofs.«01_k».proof.Proof.Attn.Row

@[expose] public section

noncomputable section

namespace Cert.Attn

/-- The first row and the first column of a token's window, from its own. -/
def rs (r : ℕ) : ℕ := min (r - 4) 24
def cs (c : ℕ) : ℕ := min (c - 8) 48

/-- Token `k` is in token `i`'s window. -/
def win (i k : ℕ) : Prop :=
  rs (i / 64) ≤ k / 64 ∧ k / 64 < rs (i / 64) + 8 ∧ cs (i % 64) ≤ k % 64 ∧ k % 64 < cs (i % 64) + 16

instance (i k : ℕ) : Decidable (win i k) := by unfold win; infer_instance

/-- The offset of token `k` from token `i`, in rows and in columns, as the bias table counts them. -/
def dr (i k : ℕ) : Fin 15 := ⟨(k / 64 + 7 - i / 64) % 15, Nat.mod_lt _ (by norm_num)⟩
def dc (i k : ℕ) : Fin 31 := ⟨(k % 64 + 15 - i % 64) % 31, Nat.mod_lt _ (by norm_num)⟩

/-- One head's operands, the queries scaled, and the output's gradient. -/
structure Head where
  q : Fin 2048 → Fin 64 → ℝ
  qp : Fin 2048 → Fin 64 → ℝ
  k : Fin 2048 → Fin 64 → ℝ
  v : Fin 2048 → Fin 64 → ℝ
  kc : Fin 256 → Fin 64 → ℝ
  vc : Fin 256 → Fin 64 → ℝ
  bias : Fin 15 → Fin 31 → ℝ
  g : Fin 2048 → Fin 64 → ℝ

namespace Head

variable (X : Head)

/-- A query's row. -/
def row (i : Fin 2048) : Row (Fin 2048) (Fin 256) where
  w k := win i k
  x k := ∑ d, X.k k d * X.q i d + X.bias (dr i k) (dc i k)
  y c := ∑ d, X.kc c d * X.qp i d
  g k := ∑ d, X.v k d * X.g i d
  gc c := ∑ d, X.vc c d * X.g i d

/-- The gradients. -/
def dq (i : Fin 2048) (d : Fin 64) : ℝ := ∑ k, (X.row i).ds k * X.k k d
def dqp (i : Fin 2048) (d : Fin 64) : ℝ := ∑ c, (X.row i).dsc c * X.kc c d
def dk (k : Fin 2048) (d : Fin 64) : ℝ := ∑ i, (X.row i).ds k * X.q i d
def dv (k : Fin 2048) (d : Fin 64) : ℝ := ∑ i, (X.row i).p k * X.g i d
def dkc (c : Fin 256) (d : Fin 64) : ℝ := ∑ i, (X.row i).dsc c * X.qp i d
def dvc (c : Fin 256) (d : Fin 64) : ℝ := ∑ i, (X.row i).pc c * X.g i d
def dbias (a : Fin 15) (b : Fin 31) : ℝ := ∑ i : Fin 2048, ∑ k : Fin 2048, if dr i k = a ∧ dc i k = b then (X.row i).ds k else 0

end Head

/-! ## The kernel's blocks -/

/-- Query block `b`'s first query, first key and bias tile. -/
def qs (b : ℕ) : ℕ := 128 * (b - (b - 15))
def ks (b : ℕ) : ℕ := 64 * ((2 * b - 4) - ((2 * b - 4) - 23))
def tl (b : ℕ) : ℕ := (b - (b - 2)) + ((b - (b - 15)) - 13)

theorem qs_le (b : ℕ) : qs b + 128 ≤ 2048 := by unfold qs; omega
theorem ks_le (b : ℕ) : ks b + 576 ≤ 2048 := by unfold ks; omega
theorem tl_lt (b : ℕ) : tl b < 5 := by unfold tl; omega

def query (b : ℕ) (j : Fin 128) : Fin 2048 := ⟨qs b + j, by have := qs_le b; omega⟩
def key (b : ℕ) (u : Fin 576) : Fin 2048 := ⟨ks b + u, by have := ks_le b; omega⟩

theorem key_injective (b : ℕ) : Function.Injective (key b) := fun u u' h => by
  have := congrArg Fin.val h; simp only [key] at this; exact Fin.ext (by omega)

theorem mem_key {b : ℕ} {k : Fin 2048} (h : ks b ≤ k) (h' : (k : ℕ) < ks b + 576) : k ∈ Set.range (key b) :=
  ⟨⟨k - ks b, by omega⟩, Fin.ext (by simp only [key]; omega)⟩

/-- A window lies in its block's keys. -/
theorem win_key {b : ℕ} (hb : b < 16) (j : Fin 128) (k : Fin 2048) (h : win (query b j) k) : k ∈ Set.range (key b) := by
  obtain ⟨h1, h2, -, -⟩ := h
  have hi : (query b j : ℕ) = 128 * b + j := by simp only [query, qs]; omega
  rw [hi] at h1 h2
  have hj := j.isLt; have hk := k.isLt
  have hr : (128 * b + (j : ℕ)) / 64 = 2 * b ∨ (128 * b + (j : ℕ)) / 64 = 2 * b + 1 := by omega
  generalize (128 * b + (j : ℕ)) / 64 = r at h1 h2 hr
  unfold rs at h1 h2
  apply mem_key <;> unfold ks <;> omega

theorem key_sum {b : ℕ} (f : Fin 2048 → ℝ) (hf : ∀ k, k ∉ Set.range (key b) → f k = 0) :
    ∑ u, f (key b u) = ∑ k, f k :=
  Fintype.sum_of_injective (key b) (key_injective b) _ f hf fun _ => rfl

theorem win_sum {b : ℕ} (hb : b < 16) (X : Head) (j : Fin 128) (f : Fin 2048 → ℝ)
    (hf : ∀ k, ¬ (X.row (query b j)).w k → f k = 0) : ∑ u, f (key b u) = ∑ k, f k :=
  key_sum f fun k hk => hf k fun hw => hk (win_key hb j k hw)

/-- The blocks' queries are all the queries. -/
theorem query_sum (f : Fin 2048 → ℝ) : ∑ b ∈ Finset.range 16, ∑ j, f (query b j) = ∑ i, f i := by
  rw [Finset.sum_range fun b => ∑ j, f (query b j), ← Fintype.sum_prod_type' (fun (b : Fin 16) j => f (query b j))]
  refine Fintype.sum_bijective (fun x : Fin 16 × Fin 128 => query x.1 x.2) ⟨fun x y h => ?_, fun i => ?_⟩ _ _ fun _ => rfl
  · have := congrArg Fin.val h
    obtain ⟨⟨b, hb⟩, ⟨j, hj⟩⟩ := x; obtain ⟨⟨b', hb'⟩, ⟨j', hj'⟩⟩ := y
    simp only [query, qs] at this
    refine Prod.ext (Fin.ext ?_) (Fin.ext ?_) <;> simp only <;> omega
  · refine ⟨(⟨i / 128, by omega⟩, ⟨i % 128, by omega⟩), Fin.ext ?_⟩
    simp only [query, qs]; omega

/-- One block's row, on the block's keys. -/
def brow (X : Head) (b : ℕ) (j : Fin 128) : Row (Fin 576) (Fin 256) := (X.row (query b j)).pull (key b)

section
variable {b : ℕ} (hb : b < 16) (X : Head) (j : Fin 128)
include hb

theorem brow_p (u : Fin 576) : (brow X b j).p u = (X.row (query b j)).p (key b u) := Row.pull_p _ (win_sum hb X j) u
theorem brow_pc (c : Fin 256) : (brow X b j).pc c = (X.row (query b j)).pc c := Row.pull_pc _ (win_sum hb X j) c
theorem brow_ds (u : Fin 576) : (brow X b j).ds u = (X.row (query b j)).ds (key b u) := Row.pull_ds _ (win_sum hb X j) u
theorem brow_dsc (c : Fin 256) : (brow X b j).dsc c = (X.row (query b j)).dsc c := Row.pull_dsc _ (win_sum hb X j) c

theorem ds_out {k : Fin 2048} (h : k ∉ Set.range (key b)) : (X.row (query b j)).ds k = 0 :=
  Row.ds_off _ fun hw => h (win_key hb j k hw)
theorem p_out {k : Fin 2048} (h : k ∉ Set.range (key b)) : (X.row (query b j)).p k = 0 :=
  Row.p_off _ fun hw => h (win_key hb j k hw)

end

end Cert.Attn
-- ==== Proof.Attn.Pieces.lean ====
/-
  The attention backward's outputs at one grid point (one head): what the body's stores leave in every output block, as
  functions of the head's blocks.  Each of 16 query blocks reads 128 queries, a window of 576 keys and the block's bias
  tile; the gradients of the keys, the values and the tiles are accumulated in the output blocks themselves.
-/
module

public import proofs.«01_k».proof.Proof.Gen.Kernel2Ideal.Frame
public import proofs.«01_k».proof.Proof.Attn.Block
public import proofs.«01_k».proof.Proof.Attn.Window
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.Kernel2Ideal Cert.Kernel2Ideal.Gen

theorem inb_q (b : ℕ) : ∀ a, (![0, qs b, 0] : Fin 3 → ℕ) a + S1x128x64.size a ≤ S1x2048x64.size a := by
  intro a; fin_cases a
  · show 0 + 1 ≤ 1; omega
  · show qs b + 128 ≤ 2048; unfold qs; omega
  · show 0 + 64 ≤ 64; omega

theorem inb_k (b : ℕ) : ∀ a, (![0, ks b, 0] : Fin 3 → ℕ) a + S1x576x64.size a ≤ S1x2048x64.size a := by
  intro a; fin_cases a
  · show 0 + 1 ≤ 1; omega
  · show ks b + 576 ≤ 2048; unfold ks; omega
  · show 0 + 64 ≤ 64; omega

theorem inb_t (b : ℕ) : ∀ a, (![0, tl b, 0, 0] : Fin 4 → ℕ) a + S1x1x576x128.size a ≤ S1x5x576x128.size a := by
  intro a; fin_cases a
  · show 0 + 1 ≤ 1; omega
  · show tl b + 1 ≤ 5; unfold tl; omega
  · show 0 + 576 ≤ 576; omega
  · show 0 + 128 ≤ 128; omega

abbrev rq (b : ℕ) : Rect S1x2048x64 := Rect.unit ![0, qs b, 0] S1x128x64.size (inb_q b)
abbrev rk (b : ℕ) : Rect S1x2048x64 := Rect.unit ![0, ks b, 0] S1x576x64.size (inb_k b)
abbrev rt (b : ℕ) : Rect S1x5x576x128 := Rect.unit ![0, tl b, 0, 0] S1x1x576x128.size (inb_t b)

variable {F : FTy → Type} [FloatOps F] [Named F]

/-- The blocks of one head. -/
structure In (F : FTy → Type) where
  q : Vec F S1x2048x64 .bf16
  qp : Vec F S1x2048x64 .bf16
  k : Vec F S1x2048x64 .bf16
  v : Vec F S1x2048x64 .bf16
  kc : Vec F S1x256x64 .bf16
  vc : Vec F S1x256x64 .bf16
  bt : Vec F S1x5x576x128 .f32
  g : Vec F S1x2048x64 .bf16

namespace In

variable (X : In F) (b : ℕ)

def qB (x : Vec F S1x2048x64 .bf16) : Vec F S1x128x64 .bf16 := View.ld x (rq b)
def kB (x : Vec F S1x2048x64 .bf16) : Vec F S1x576x64 .bf16 := View.ld x (rk b)
def tB : Vec F S1x1x576x128 .f32 := View.ld X.bt (rt b)

/-- Block `b`'s scores, the gradients of its weights, its weights, and the gradients of its scores. -/
def s : FVec F S576x128 .f32 := sLat (kB b X.k) (qB b X.q) (X.tB b)
def t : FVec F S256x128 .f32 := dCtx X.kc (qB b X.qp)
def gl : FVec F S576x128 .f32 := dLat (kB b X.v) (qB b X.g)
def gc : FVec F S256x128 .f32 := dCtx X.vc (qB b X.g)
def p : FVec F S576x128 .f32 := pLat (X.s b) (X.t b)
def pc : FVec F S256x128 .f32 := pCtx (X.s b) (X.t b)
def ds : FVec F S576x128 .f32 := dsLat (X.s b) (X.t b) (X.gl b) (X.gc b)
def dsc : FVec F S256x128 .f32 := dsCtx (X.s b) (X.t b) (X.gl b) (X.gc b)

/-- The stores of the queries' gradients, the last first: -/
def qL (w : ℕ → FVec F S128x64 .f32) : ℕ → List (View.Piece (Elt F) S1x2048x64 .f32)
  | 0 => []
  | n + 1 => ⟨rq n, shapeCast S1x128x64 (w n) shapeCasts_S128x64_S1x128x64⟩ :: qL w n

/-- of the keys' and values' gradients, over a zero fill, -/
def kL {sig : RefSig} {κ : Kind} {sp : Space} (v : View sig κ sp S1x2048x64 .f32) (w : ℕ → FVec F S576x64 .f32) :
    ℕ → List (View.Piece (Elt F) S1x2048x64 .f32)
  | 0 => [⟨Rect.unit ![0, 0, 0] S1x2048x64.size inb_S1x2048x64_S1x2048x64_0_0_0, k1_pay5⟩]
  | n + 1 => ⟨rk n, shapeCast S1x576x64 (addf (shapeCast S576x64 (v.readCov (kL v w n) (rk n).toLoadRect)
      shapeCasts_S1x576x64_S576x64) (w n)) shapeCasts_S576x64_S1x576x64⟩ :: kL v w n

/-- of the tiles' gradients, over a zero fill, -/
def tL {sig : RefSig} {κ : Kind} {sp : Space} (v : View sig κ sp S1x5x576x128 .f32) (w : ℕ → FVec F S576x128 .f32) :
    ℕ → List (View.Piece (Elt F) S1x5x576x128 .f32)
  | 0 => [⟨Rect.unit ![0, 0, 0, 0] S1x5x576x128.size inb_S1x5x576x128_S1x5x576x128_0_0_0_0, k1_pay7⟩]
  | n + 1 => ⟨rt n, shapeCast S1x1x576x128 (addf (shapeCast S576x128 (v.readCov (tL v w n) (rt n).toLoadRect)
      shapeCasts_S1x1x576x128_S576x128) (w n)) shapeCasts_S576x128_S1x1x576x128⟩ :: tL v w n

/-- and the context keys' and values' gradients. -/
def cA (w : ℕ → FVec F S256x64 .f32) : ℕ → FVec F S256x64 .f32
  | 0 => w 0
  | n + 1 => addf (cA w n) (w (n + 1))

end In

variable (V : (c : Dev nD) → (b : Ref sig Kind.tc) → Buf (Elt F) (c.tc.loc b))

/-- The blocks that grid point `t` reads. -/
def blocks (c : Dev nD) (t : Fin cfg1.N) : In F where
  q := iblk1 V c 0 t
  qp := iblk1 V c 1 t
  k := iblk1 V c 2 t
  v := iblk1 V c 3 t
  kc := iblk1 V c 4 t
  vc := iblk1 V c 5 t
  bt := iblk1 V c 6 t
  g := iblk1 V c 7 t

theorem outs (c : Dev nD) (t : Fin cfg1.N) : outsAt1 V c t =
    (View.canon (In.qL (fun b => byKeys ((blocks V c t).ds b) (In.kB b (blocks V c t).k)) 16),
     View.canon (In.qL (fun b => byCtx ((blocks V c t).dsc b) (blocks V c t).kc) 16),
     View.canon (In.kL (ms1_10 t).view (fun b => byQueries ((blocks V c t).ds b) (In.qB b (blocks V c t).q)) 16),
     View.canon (In.kL (ms1_11 t).view (fun b => byQueries ((blocks V c t).p b) (In.qB b (blocks V c t).g)) 16),
     shapeCast S1x256x64 (In.cA (fun b => byQueriesCtx ((blocks V c t).dsc b) (In.qB b (blocks V c t).qp)) 15) shapeCasts_S256x64_S1x256x64,
     shapeCast S1x256x64 (In.cA (fun b => byQueriesCtx ((blocks V c t).pc b) (In.qB b (blocks V c t).g)) 15) shapeCasts_S256x64_S1x256x64,
     View.canon (In.tL (ms1_14 t).view (fun b => (blocks V c t).ds b) 16)) := by
  unfold outsAt1
  frame_out
  refine congrArg₂ Prod.mk ?_ (congrArg₂ Prod.mk ?_ (congrArg₂ Prod.mk ?_ (congrArg₂ Prod.mk ?_ (congrArg₂ Prod.mk ?_ (congrArg₂ Prod.mk ?_ ?_)))))
  · sl_kernel_rfl
  · sl_kernel_rfl
  · sl_kernel_rfl
  · sl_kernel_rfl
  · sl_kernel_rfl
  · sl_kernel_rfl
  · sl_kernel_rfl

end Cert.Attn
-- ==== Proof.Attn.Accum.lean ====
/-
  What the attention backward's stores leave at an index: the queries' blocks side by side, the accumulated gradients of
  the keys, the values, the tiles and the context as sums over the blocks.
-/
module

public import proofs.«01_k».proof.Proof.Attn.Pieces

@[expose] public section

set_option maxRecDepth 16384

noncomputable section

namespace Cert.Attn

open Idealize.ShloMosaic Idealize.ShloMosaic.TcCoe Idealize.SL.Sem
open Cert.Kernel2Ideal Cert.Kernel2Ideal.Gen

/-- The last store's payload where it wrote, -/
theorem canon_in {F : FTy → Type} [∀ e, Nonempty (Elt F e)] {s : Shape} {e : EltTy} (off size : Fin s.rank → ℕ) (inb)
    (w : (Rect.unit (s := s) off size inb).shape.Idx → Elt F e) (L : List (View.Piece (Elt F) s e)) (y : s.Idx)
    (x : (Rect.unit (s := s) off size inb).shape.Idx) (h : ∀ a, (y a : ℕ) = off a + x a) :
    View.canon ((⟨Rect.unit off size inb, w⟩ : View.Piece (Elt F) s e) :: L) y = w x := by
  have : y = (Rect.unit (s := s) off size inb).emb x :=
    funext fun a => Fin.ext ((h a).trans (Rect.idx_unit_val off size inb x a).symm)
  rw [this]; exact View.canon_cons_emb _ _ _ _

/-- the earlier ones' elsewhere. -/
theorem canon_off {F : FTy → Type} [∀ e, Nonempty (Elt F e)] {s : Shape} {e : EltTy} (off size : Fin s.rank → ℕ) (inb)
    (w : (Rect.unit (s := s) off size inb).shape.Idx → Elt F e) (L : List (View.Piece (Elt F) s e)) (y : s.Idx)
    (a : Fin s.rank) (h : (y a : ℕ) < off a ∨ off a + size a ≤ y a) :
    View.canon ((⟨Rect.unit off size inb, w⟩ : View.Piece (Elt F) s e) :: L) y = View.canon L y := by
  refine View.canon_cons_of_not_mem _ _ fun hm => ?_
  have hm' : y ∈ (Rect.unit (s := s) off size inb).set := hm
  have := (Rect.mem_set_unit.1 hm') a
  omega

theorem cast_q (x : FVec Ideal S128x64 .f32) (j : Fin 128) (d : Fin 64) :
    shapeCast S1x128x64 x shapeCasts_S128x64_S1x128x64 (ix3 0 j d) = x (ix2 j d) := by pointwise

theorem cast_k (x : FVec Ideal S576x64 .f32) (u : Fin 576) (d : Fin 64) :
    shapeCast S1x576x64 x shapeCasts_S576x64_S1x576x64 (ix3 0 u d) = x (ix2 u d) := by pointwise

theorem uncast_k (x : FVec Ideal S1x576x64 .f32) (u : Fin 576) (d : Fin 64) :
    shapeCast S576x64 x shapeCasts_S1x576x64_S576x64 (ix2 u d) = x (ix3 0 u d) := by pointwise

theorem cast_t (x : FVec Ideal S576x128 .f32) (u : Fin 576) (j : Fin 128) :
    shapeCast S1x1x576x128 x shapeCasts_S576x128_S1x1x576x128 (ix4 0 0 u j) = x (ix2 u j) := by pointwise

theorem uncast_t (x : FVec Ideal S1x1x576x128 .f32) (u : Fin 576) (j : Fin 128) :
    shapeCast S576x128 x shapeCasts_S1x1x576x128_S576x128 (ix2 u j) = x (ix4 0 0 u j) := by pointwise

theorem pay5_at (k : Fin 2048) (d : Fin 64) : (k1_pay5 (F := Ideal)) (ix3 0 k d) = ((0 : ℝ) : EReal) := by
  pointwise [k1_pay5]
  all_goals simp [Ideal.ofBits, Ideal.ieee]

theorem pay7_at (t : Fin 5) (u : Fin 576) (j : Fin 128) : (k1_pay7 (F := Ideal)) (ix4 0 t u j) = ((0 : ℝ) : EReal) := by
  pointwise [k1_pay7]
  all_goals simp [Ideal.ofBits, Ideal.ieee]

theorem qL_at (w : ℕ → FVec Ideal S128x64 .f32) : ∀ n ≤ 16, ∀ b < n, ∀ (j : Fin 128) (d : Fin 64),
    View.canon (In.qL w n) (ix3 0 (query b j) d) = w b (ix2 j d)
  | 0, _, b, hb, _, _ => by omega
  | n + 1, hn, b, hb, j, d => by
    unfold In.qL
    by_cases h : b = n
    · subst h
      rw [canon_in _ _ _ _ _ _ (ix3 0 j d) (by
          intro a; fin_cases a
          · rfl
          · rfl
          · show (d : ℕ) = 0 + d; omega)]
      exact cast_q _ _ _
    · rw [canon_off _ _ _ _ _ _ 1 (by left; show qs b + j < qs n; unfold qs; omega)]
      exact qL_at w n (by omega) b (by omega) j d

theorem kL_at {sp : Space} {κ : Kind} (v : View Cert.Kernel2Ideal.sig κ sp S1x2048x64 .f32) (w : ℕ → FVec Ideal S576x64 .f32)
    (y : ℕ → Fin 2048 → Fin 64 → ℝ) : ∀ n ≤ 16, (∀ b < n, ∀ u d, w b (ix2 u d) = (y b (key b u) d : EReal)) →
    (∀ b < n, ∀ k d, k ∉ Set.range (key b) → y b k d = 0) → ∀ (k : Fin 2048) (d : Fin 64),
    View.canon (In.kL v w n) (ix3 0 k d) = ((∑ b ∈ Finset.range n, y b k d : ℝ) : EReal)
  | 0, _, _, _, k, d => by
    unfold In.kL
    rw [canon_in _ _ _ _ _ _ (ix3 0 k d) (by intro a; fin_cases a <;> (show _ = 0 + _; omega))]
    rw [pay5_at]; simp
  | n + 1, hn, hw, hy, k, d => by
    have ih := kL_at v w y n (by omega) (fun b hb => hw b (by omega)) (fun b hb => hy b (by omega))
    unfold In.kL
    rw [Finset.sum_range_succ]
    by_cases h : k ∈ Set.range (key n)
    · obtain ⟨u, rfl⟩ := h
      rw [canon_in _ _ _ _ _ _ (ix3 0 u d) (by
          intro a; fin_cases a
          · rfl
          · rfl
          · show (d : ℕ) = 0 + d; omega), cast_k]
      have hi : (rk n).toLoadRect.idx (ix3 0 u d) = ix3 0 (key n u) d := by
        ext a
        fin_cases a
        · rfl
        · show ks n + 1 * (u : ℕ) = ks n + u; omega
        · show 0 + 1 * (d : ℕ) = d; omega
      show (shapeCast S576x64 (v.readCov (In.kL v w n) (rk n).toLoadRect) shapeCasts_S1x576x64_S576x64 (ix2 u d) : EReal)
        + w n (ix2 u d) = _
      rw [uncast_k, View.readCov_eq_canon']; beta_reduce
      rw [hi, ih, hw n (by omega), ← EReal.coe_add]
    · have h' : (k : ℕ) < ks n ∨ ks n + 576 ≤ k := by
        by_contra hc; exact h (mem_key (by omega) (by omega))
      rw [canon_off _ _ _ _ _ _ 1 h', ih, hy n (by omega) k d h, add_zero]

theorem tL_at {sp : Space} {κ : Kind} (v : View Cert.Kernel2Ideal.sig κ sp S1x5x576x128 .f32) (w : ℕ → FVec Ideal S576x128 .f32)
    (y : ℕ → Fin 576 → Fin 128 → ℝ) : ∀ n ≤ 16, (∀ b < n, ∀ u j, w b (ix2 u j) = (y b u j : EReal)) →
    ∀ (t : Fin 5) (u : Fin 576) (j : Fin 128),
    View.canon (In.tL v w n) (ix4 0 t u j) = ((∑ b ∈ Finset.range n, if tl b = t then y b u j else 0 : ℝ) : EReal)
  | 0, _, _, t, u, j => by
    unfold In.tL
    rw [canon_in _ _ _ _ _ _ (ix4 0 t u j) (by intro a; fin_cases a <;> (show _ = 0 + _; omega))]
    rw [pay7_at]; simp
  | n + 1, hn, hw, t, u, j => by
    have ih := tL_at v w y n (by omega) (fun b hb => hw b (by omega))
    unfold In.tL
    rw [Finset.sum_range_succ]
    by_cases h : tl n = t
    · rw [canon_in _ _ _ _ _ _ (ix4 0 0 u j) (by
          intro a; fin_cases a
          · rfl
          · show (t : ℕ) = tl n + 0; omega
          · show (u : ℕ) = 0 + u; omega
          · show (j : ℕ) = 0 + j; omega), cast_t, if_pos h]
      have hi : (rt n).toLoadRect.idx (ix4 0 0 u j) = ix4 0 t u j := by
        ext a
        fin_cases a
        · rfl
        · show tl n + 1 * 0 = (t : ℕ); omega
        · show 0 + 1 * (u : ℕ) = u; omega
        · show 0 + 1 * (j : ℕ) = j; omega
      show (shapeCast S576x128 (v.readCov (In.tL v w n) (rt n).toLoadRect) shapeCasts_S1x1x576x128_S576x128 (ix2 u j) : EReal)
        + w n (ix2 u j) = _
      rw [uncast_t, View.readCov_eq_canon']; beta_reduce
      rw [hi, ih, hw n (by omega), ← EReal.coe_add]
    · rw [canon_off _ _ _ _ _ _ 1 (show (t : ℕ) < tl n ∨ tl n + 1 ≤ t by omega), ih, if_neg h, add_zero]

theorem cA_at (w : ℕ → FVec Ideal S256x64 .f32) (y : ℕ → Fin 256 → Fin 64 → ℝ) : ∀ n,
    (∀ b ≤ n, ∀ c d, w b (ix2 c d) = (y b c d : EReal)) → ∀ (c : Fin 256) (d : Fin 64),
    In.cA w n (ix2 c d) = ((∑ b ∈ Finset.range (n + 1), y b c d : ℝ) : EReal)
  | 0, hw, c, d => by unfold In.cA; rw [hw 0 le_rfl]; simp
  | n + 1, hw, c, d => by
    have ih := cA_at w y n (fun b hb => hw b (by omega)) c d
    rw [Finset.sum_range_succ, EReal.coe_add, ← ih, ← hw (n + 1) le_rfl]
    rfl

end Cert.Attn
-- ==== Proof.Attn.Value.lean ====
/-
  The attention backward's outputs at one head, given the head's blocks as reals: the gradients of the queries, the keys,
  the values, the context's keys and values, and the sums of the scores' gradients on every bias tile.
-/
module

public import proofs.«01_k».proof.Proof.Attn.Accum

@[expose] public section

set_option maxRecDepth 16384

noncomputable section

namespace Cert.Attn

open Idealize.ShloMosaic Idealize.ShloMosaic.TcCoe Idealize.SL.Sem
open Cert.Kernel2Ideal Cert.Kernel2Ideal.Gen

/-- The blocks are a head's operands, and the tiles the bias in every block's windows. -/
structure Reads (X : In Ideal) (A : Head) : Prop where
  q : ∀ i d, X.q (ix3 0 i d) = (A.q i d : EReal)
  qp : ∀ i d, X.qp (ix3 0 i d) = (A.qp i d : EReal)
  k : ∀ i d, X.k (ix3 0 i d) = (A.k i d : EReal)
  v : ∀ i d, X.v (ix3 0 i d) = (A.v i d : EReal)
  kc : ∀ c d, X.kc (ix3 0 c d) = (A.kc c d : EReal)
  vc : ∀ c d, X.vc (ix3 0 c d) = (A.vc c d : EReal)
  g : ∀ i d, X.g (ix3 0 i d) = (A.g i d : EReal)
  bt : ∀ b < 16, ∀ u j, X.bt (ix4 0 ⟨tl b, tl_lt b⟩ u j)
    = if win (query b j) (key b u) then (A.bias (dr (query b j) (key b u)) (dc (query b j) (key b u)) : EReal) else ⊥

theorem qB_at (b : ℕ) (x : Vec Ideal S1x2048x64 .bf16) (j : Fin 128) (d : Fin 64) :
    In.qB b x (ix3 0 j d) = x (ix3 0 (query b j) d) :=
  View.ld_unit_apply_of _ _ _ _ _ _ (by
    intro a; fin_cases a
    · rfl
    · rfl
    · show (d : ℕ) = 0 + d; omega)

theorem kB_at (b : ℕ) (x : Vec Ideal S1x2048x64 .bf16) (u : Fin 576) (d : Fin 64) :
    In.kB b x (ix3 0 u d) = x (ix3 0 (key b u) d) :=
  View.ld_unit_apply_of _ _ _ _ _ _ (by
    intro a; fin_cases a
    · rfl
    · rfl
    · show (d : ℕ) = 0 + d; omega)

theorem tB_at (b : ℕ) (X : In Ideal) (u : Fin 576) (j : Fin 128) :
    X.tB b (ix4 0 0 u j) = X.bt (ix4 0 ⟨tl b, tl_lt b⟩ u j) :=
  View.ld_unit_apply_of _ _ _ _ _ _ (by
    intro a; fin_cases a
    · rfl
    · rfl
    · show (u : ℕ) = 0 + u; omega
    · show (j : ℕ) = 0 + j; omega)

/-- A sum of products of reals. -/
theorem dot_coe {ι : Type} [Fintype ι] {f g : ι → EReal} {a b : ι → ℝ} (hf : ∀ i, f i = (a i : EReal))
    (hg : ∀ i, g i = (b i : EReal)) : (∑ i, f i * g i) = ((∑ i, a i * b i : ℝ) : EReal) := by
  rw [← coe_sum]; exact Finset.sum_congr rfl fun i _ => by rw [hf, hg, EReal.coe_mul]

theorem exists_query (i : Fin 2048) : ∃ b < 16, ∃ j, query b j = i :=
  ⟨i / 128, by omega, ⟨i % 128, by omega⟩, Fin.ext (by simp only [query, qs]; omega)⟩

namespace Reads

variable {X : In Ideal} {A : Head} (h : Reads X A) {b : ℕ} (hb : b < 16)
include h

theorem qB (j : Fin 128) (d : Fin 64) : In.qB b X.q (ix3 0 j d) = (A.q (query b j) d : EReal) := (qB_at b _ j d).trans (h.q _ _)
theorem qpB (j : Fin 128) (d : Fin 64) : In.qB b X.qp (ix3 0 j d) = (A.qp (query b j) d : EReal) := (qB_at b _ j d).trans (h.qp _ _)
theorem gB (j : Fin 128) (d : Fin 64) : In.qB b X.g (ix3 0 j d) = (A.g (query b j) d : EReal) := (qB_at b _ j d).trans (h.g _ _)
theorem kB (u : Fin 576) (d : Fin 64) : In.kB b X.k (ix3 0 u d) = (A.k (key b u) d : EReal) := (kB_at b _ u d).trans (h.k _ _)
theorem vB (u : Fin 576) (d : Fin 64) : In.kB b X.v (ix3 0 u d) = (A.v (key b u) d : EReal) := (kB_at b _ u d).trans (h.v _ _)

theorem t (j : Fin 128) (c : Fin 256) : X.t b (ix2 c j) = ((brow A b j).y c : EReal) :=
  (dCtx_at _ _ c j).trans (dot_coe (fun d => h.kc c d) (fun d => h.qpB j d))
theorem gl (j : Fin 128) (u : Fin 576) : X.gl b (ix2 u j) = ((brow A b j).g u : EReal) :=
  (dLat_at _ _ u j).trans (dot_coe (fun d => h.vB u d) (fun d => h.gB j d))
theorem gc (j : Fin 128) (c : Fin 256) : X.gc b (ix2 c j) = ((brow A b j).gc c : EReal) :=
  (dCtx_at _ _ c j).trans (dot_coe (fun d => h.vc c d) (fun d => h.gB j d))

include hb

theorem s (j : Fin 128) (u : Fin 576) : X.s b (ix2 u j) = (brow A b j).score u := by
  refine (sLat_at _ _ _ u j).trans ?_
  rw [dot_coe (fun d => h.kB u d) (fun d => h.qB j d), tB_at, h.bt b hb]
  by_cases hw : win (query b j) (key b u)
  · rw [if_pos hw]; exact (EReal.coe_add _ _).symm.trans (if_pos hw).symm
  · rw [if_neg hw]; exact (EReal.add_bot _).trans (if_neg hw).symm

theorem p (j : Fin 128) (u : Fin 576) : X.p b (ix2 u j) = ((A.row (query b j)).p (key b u) : EReal) := by
  rw [← brow_p hb]; exact pLat_at _ (h.s hb j) (h.t j) u
theorem pc (j : Fin 128) (c : Fin 256) : X.pc b (ix2 c j) = ((A.row (query b j)).pc c : EReal) := by
  rw [← brow_pc hb]; exact pCtx_at _ (h.s hb j) (h.t j) c
theorem ds (j : Fin 128) (u : Fin 576) : X.ds b (ix2 u j) = ((A.row (query b j)).ds (key b u) : EReal) := by
  rw [← brow_ds hb]; exact dsLat_at _ (h.s hb j) (h.t j) (h.gl j) (h.gc j) u
theorem dsc (j : Fin 128) (c : Fin 256) : X.dsc b (ix2 c j) = ((A.row (query b j)).dsc c : EReal) := by
  rw [← brow_dsc hb]; exact dsCtx_at _ (h.s hb j) (h.t j) (h.gl j) (h.gc j) c

omit hb

/-! ## The outputs -/

theorem dq (i : Fin 2048) (d : Fin 64) :
    View.canon (In.qL (fun b => byKeys (X.ds b) (In.kB b X.k)) 16) (ix3 0 i d) = (A.dq i d : EReal) := by
  obtain ⟨b, hb, j, rfl⟩ := exists_query i
  rw [qL_at _ 16 le_rfl b hb]
  refine (byKeys_at _ _ j d).trans ?_
  rw [dot_coe (fun u => h.ds hb j u) (fun u => h.kB u d)]
  congr 1
  exact key_sum (fun k => (A.row (query b j)).ds k * A.k k d) fun k hk => by rw [ds_out hb A j hk, zero_mul]

theorem dqp (i : Fin 2048) (d : Fin 64) :
    View.canon (In.qL (fun b => byCtx (X.dsc b) X.kc) 16) (ix3 0 i d) = (A.dqp i d : EReal) := by
  obtain ⟨b, hb, j, rfl⟩ := exists_query i
  rw [qL_at _ 16 le_rfl b hb]
  refine (byCtx_at _ _ j d).trans ?_
  exact dot_coe (fun c => h.dsc hb j c) (fun c => h.kc c d)

theorem dk {sp : Space} {κ : Kind} (v : View Cert.Kernel2Ideal.sig κ sp S1x2048x64 .f32) (k : Fin 2048) (d : Fin 64) :
    View.canon (In.kL v (fun b => byQueries (X.ds b) (In.qB b X.q)) 16) (ix3 0 k d) = (A.dk k d : EReal) := by
  rw [kL_at v _ (fun b k d => ∑ j, (A.row (query b j)).ds k * A.q (query b j) d) 16 le_rfl
    (fun b hb u d => (byQueries_at _ _ u d).trans (dot_coe (fun j => h.ds hb j u) (fun j => h.qB j d)))
    (fun b hb k d hk => Finset.sum_eq_zero fun j _ => by rw [ds_out hb A j hk, zero_mul])]
  congr 1
  exact query_sum fun i => (A.row i).ds k * A.q i d

theorem dv {sp : Space} {κ : Kind} (v : View Cert.Kernel2Ideal.sig κ sp S1x2048x64 .f32) (k : Fin 2048) (d : Fin 64) :
    View.canon (In.kL v (fun b => byQueries (X.p b) (In.qB b X.g)) 16) (ix3 0 k d) = (A.dv k d : EReal) := by
  rw [kL_at v _ (fun b k d => ∑ j, (A.row (query b j)).p k * A.g (query b j) d) 16 le_rfl
    (fun b hb u d => (byQueries_at _ _ u d).trans (dot_coe (fun j => h.p hb j u) (fun j => h.gB j d)))
    (fun b hb k d hk => Finset.sum_eq_zero fun j _ => by rw [p_out hb A j hk, zero_mul])]
  congr 1
  exact query_sum fun i => (A.row i).p k * A.g i d

theorem dkc (c : Fin 256) (d : Fin 64) :
    In.cA (fun b => byQueriesCtx (X.dsc b) (In.qB b X.qp)) 15 (ix2 c d) = (A.dkc c d : EReal) := by
  rw [cA_at _ (fun b c d => ∑ j, (A.row (query b j)).dsc c * A.qp (query b j) d) 15
    (fun b hb c d => (byQueriesCtx_at _ _ c d).trans (dot_coe (fun j => h.dsc (by omega) j c) (fun j => h.qpB j d)))]
  congr 1
  exact query_sum fun i => (A.row i).dsc c * A.qp i d

theorem dvc (c : Fin 256) (d : Fin 64) :
    In.cA (fun b => byQueriesCtx (X.pc b) (In.qB b X.g)) 15 (ix2 c d) = (A.dvc c d : EReal) := by
  rw [cA_at _ (fun b c d => ∑ j, (A.row (query b j)).pc c * A.g (query b j) d) 15
    (fun b hb c d => (byQueriesCtx_at _ _ c d).trans (dot_coe (fun j => h.pc (by omega) j c) (fun j => h.gB j d)))]
  congr 1
  exact query_sum fun i => (A.row i).pc c * A.g i d

theorem dtile {sp : Space} {κ : Kind} (v : View Cert.Kernel2Ideal.sig κ sp S1x5x576x128 .f32) (t : Fin 5) (u : Fin 576) (j : Fin 128) :
    View.canon (In.tL v (fun b => X.ds b) 16) (ix4 0 t u j)
      = ((∑ b ∈ Finset.range 16, if tl b = t then (A.row (query b j)).ds (key b u) else 0 : ℝ) : EReal) :=
  tL_at v _ (fun b u j => (A.row (query b j)).ds (key b u)) 16 le_rfl (fun b hb u j => h.ds hb j u) t u j

end Reads

end Cert.Attn
-- ==== Proof.Attn.Tiles.lean ====
/-
  The bias tiles of one head: for each of 5 positions of a query block, the bias of its 128 queries on its 576 keys, the
  mask's value outside the windows.  A tile is stored in 18 pieces, a row of 64 keys by a row of 64 queries each: a piece
  is one row of the bias table, reversed and rotated by the key's column, or the mask.
-/
module

public import proofs.«01_k».proof.Proof.Attn.Accum

@[expose] public section

set_option maxRecDepth 16384

noncomputable section

namespace Cert.Attn

open Idealize.ShloMosaic Idealize.ShloMosaic.TcCoe Idealize.SL.Sem
open Cert.Kernel2Ideal Cert.Kernel2Ideal.Gen

/-- Tile `t`'s first row of queries and first row of keys. -/
def i0 (t : ℕ) : ℕ := 2 * t + 22 * ((t - 2) - (t - 3))
def u0 (t : ℕ) : ℕ := 23 * ((t - 2) - (t - 3))

/-- A row of keys is in a row of queries' windows. -/
abbrev near (t j u : ℕ) : Prop := rs (i0 t + j) ≤ u0 t + u ∧ u0 t + u < rs (i0 t + j) + 8

/-- The offset of the row of keys from the row of queries. -/
def off (t j u : ℕ) : ℕ := (u0 t + u + 7 - (i0 t + j)) % 15

variable {F : FTy → Type} [FloatOps F] [Named F]

theorem slices_row (d : Fin 15) : S15x128.Slices ![(d : ℕ), 0] S1x128 := by
  refine ⟨rfl, fun a => ?_⟩
  fin_cases a
  · show (d : ℕ) + 1 ≤ 15; omega
  · show 0 + 128 ≤ 128; omega

/-- A row of the table on every key column, rotated by the column. -/
def rot (r : Vec F S1x15x128 .f32) (d : Fin 15) : FVec F S64x128 .f32 :=
  dynamicRotate 1 113#32 (some (1, 0)) (broadcastTo S64x128 (shapeCast S1x128 (extractStridedSlice S1x128 ![(d : ℕ), 0]
    (shapeCast S15x128 r shapeCasts_S1x15x128_S15x128) (slices_row d)) shapeCasts_S1x128_S1x128) broadcasts_S1x128_S64x128)
    rotates_S64x128_d1s1a0

/-- Fifteen arrays, one below the other. -/
def stack (f : Fin 15 → FVec F S64x128 .f32) : FVec F S960x128 .f32 :=
  concatenate S960x128 0 (List.ofFn fun d : Fin 15 => ⟨S64x128, f d⟩)
    concatenates_S64x128_S64x128_S64x128_S64x128_S64x128_S64x128_S64x128_S64x128_S64x128_S64x128_S64x128_S64x128_S64x128_S64x128_S64x128_S960x128_d0

def rots (r : Vec F S1x15x128 .f32) : FVec F S960x128 .f32 := stack (rot r)

/-- The key column is in the query column's window. -/
def cols : IVec S960x128 1 :=
  have k : IVec S960x128 32 := andi (iota .tc S960x128 32 [0] iota_S960x128_d0_w32) (broadcast S960x128 63#32)
  have c : IVec S960x128 32 := minsi (broadcast S960x128 48#32) (maxsi (broadcast S960x128 0#32)
    (subi (iota .tc S960x128 32 [1] iota_S960x128_d1_w32) (broadcast S960x128 8#32)))
  andi (cmpi .sge k c) (cmpi .slt k (addi c (broadcast S960x128 16#32)))

/-- The mask's value. -/
def hole : F .f32 := Named.named κ "mask" 0xF149F2CA#32

/-- The table's rows, one below the other, masked. -/
def xs (r : Vec F S1x15x128 .f32) : FVec F S960x128 .f32 := select cols (rots r) (broadcast S960x128 hole)

theorem slices_off (t j u : ℕ) : S960x128.Slices ![64 * off t j u, 0] S64x64 := by
  refine ⟨rfl, fun a => ?_⟩
  have : off t j u < 15 := Nat.mod_lt _ (by norm_num)
  fin_cases a
  · show 64 * off t j u + 64 ≤ 960; omega
  · show 0 + 64 ≤ 128; omega

/-- A piece. -/
def piece (r : Vec F S1x15x128 .f32) (t j u : ℕ) : FVec F S64x64 .f32 :=
  if near t j u then extractStridedSlice S64x64 ![64 * off t j u, 0] (xs r) (slices_off t j u) else broadcast S64x64 hole

theorem inb_p (n : ℕ) : ∀ a, (![0, (n / 18) % 5, 64 * (n % 9), 64 * (n / 9 % 2)] : Fin 4 → ℕ) a + S1x1x64x64.size a ≤ S1x5x576x128.size a := by
  intro a; fin_cases a
  · show 0 + 1 ≤ 1; omega
  · show (n / 18) % 5 + 1 ≤ 5; omega
  · show 64 * (n % 9) + 64 ≤ 576; omega
  · show 64 * (n / 9 % 2) + 64 ≤ 128; omega

/-- The stores, the last first. -/
def bL (r : Vec F S1x15x128 .f32) : ℕ → List (View.Piece (Elt F) S1x5x576x128 .f32)
  | 0 => []
  | n + 1 => ⟨Rect.unit ![0, (n / 18) % 5, 64 * (n % 9), 64 * (n / 9 % 2)] S1x1x64x64.size (inb_p n),
      shapeCast S1x1x64x64 (piece r (n / 18) (n / 9 % 2) (n % 9)) shapeCasts_S64x64_S1x1x64x64⟩ :: bL r n

variable (V : (c : Dev nD) → (b : Ref sig Kind.tc) → Buf (Elt F) (c.tc.loc b))

theorem tiles (c : Dev nD) (t : Fin cfg0.N) : outsAt0 V c t = View.canon (bL (iblk0 V c 0 t) 90) := by
  unfold outsAt0
  frame_out
  sl_kernel_rfl

end Cert.Attn
-- ==== Proof.Attn.TileValue.lean ====
/-
  The bias tiles read at an index: the bias of a block's query on its key, and no score outside the window.
-/
module

public import proofs.«01_k».proof.Proof.Attn.Tiles

@[expose] public section

set_option maxRecDepth 16384

noncomputable section

namespace Cert.Attn

open Idealize.ShloMosaic Idealize.ShloMosaic.TcCoe Idealize.SL.Sem
open Cert.Kernel2Ideal Cert.Kernel2Ideal.Gen

theorem rot_at (r : Vec Ideal S1x15x128 .f32) (d : Fin 15) (k : Fin 64) (l : Fin 128) :
    rot r d (ix2 k l) = r (ix3 0 d ⟨(l + 128 - (113 + k) % 128) % 128, Nat.mod_lt _ (by norm_num)⟩) := by
  pointwise [rot]

theorem stack_at (f : Fin 15 → FVec Ideal S64x128 .f32) (d : Fin 15) (k : Fin 64) (l : Fin 128) :
    stack f (ix2 ⟨64 * d + k, by omega⟩ l) = f d (ix2 k l) := by
  unfold stack
  refine concatenate_ofFn_apply (t := S960x128) (s₁ := S64x128) 0 (fun d => f d) _ rfl 64 rfl _ d ?_ _ ?_ ?_
  · show (64 * (d : ℕ) + k) / 64 = d; omega
  · show (k : ℕ) = (64 * d + k) % 64; omega
  · intro b hb
    fin_cases b
    · exact absurd rfl hb
    · rfl

theorem low_word : ∀ (d : Fin 15) (k : Fin 64), IntOp.andi (BitVec.ofNat 32 (64 * d + k)) 63#32 = BitVec.ofNat 32 k := by
  decide +kernel

theorem cols_word : ∀ k l : Fin 64, IntOp.andi
      (IntOp.cmpi CmpIPredicate.sge (BitVec.ofNat 32 k)
        (IntOp.minsi (48#32) (IntOp.maxsi (0#32) (IntOp.subi (BitVec.ofNat 32 l) 8#32))))
      (IntOp.cmpi CmpIPredicate.slt (BitVec.ofNat 32 k)
        (IntOp.addi (IntOp.minsi (48#32) (IntOp.maxsi (0#32) (IntOp.subi (BitVec.ofNat 32 l) 8#32))) 16#32)) =
    BitVec.ofBool (decide (cs l ≤ k ∧ (k : ℕ) < cs l + 16)) := by
  decide +kernel

theorem cols_at (d : Fin 15) (k l : Fin 64) : cols (ix2 ⟨64 * d + k, by omega⟩ ⟨l, by omega⟩) =
    BitVec.ofBool (decide (cs l ≤ k ∧ (k : ℕ) < cs l + 16)) := by
  pointwise [cols]
  rw [low_word]; exact cols_word k l

theorem hole_at : hole (F := Ideal) = (⊥ : EReal) := IdealRules.named_const.ideal_named_scalar _ _ _ _ rfl

theorem select_at {s : Shape} (c : IVec s 1) (x y : FVec Ideal s .f32) (i : s.Idx) (p : Prop) [Decidable p]
    (h : c i = BitVec.ofBool (decide p)) : select c x y i = if p then x i else y i := by
  show Scalar.select (c i) (x i) (y i) = _
  rw [h]
  by_cases hp : p <;> simp [hp, Scalar.select]

theorem slice_at (x : FVec Ideal S960x128 .f32) (o : Fin 15) (h : S960x128.Slices ![64 * o, 0] S64x64) (k l : Fin 64) :
    extractStridedSlice S64x64 ![64 * (o : ℕ), 0] x h (ix2 k l) = x (ix2 ⟨64 * o + k, by omega⟩ ⟨l, by omega⟩) := by
  refine congrArg x (funext fun a => Fin.ext ?_)
  fin_cases a
  · rfl
  · show 0 + (l : ℕ) = l; omega

theorem off_lt (t j u : ℕ) : off t j u < 15 := Nat.mod_lt _ (by norm_num)

theorem piece_at (r : Vec Ideal S1x15x128 .f32) (t j u : ℕ) (k l : Fin 64) : piece r t j u (ix2 k l)
    = if near t j u ∧ cs l ≤ k ∧ (k : ℕ) < cs l + 16 then
        r (ix3 0 ⟨off t j u, off_lt t j u⟩ ⟨(l + 128 - (113 + k) % 128) % 128, Nat.mod_lt _ (by norm_num)⟩) else (⊥ : EReal) := by
  unfold piece
  by_cases hn : near t j u
  · rw [if_pos hn]
    refine (slice_at (xs r) ⟨off t j u, off_lt t j u⟩ _ k l).trans ?_
    unfold xs
    rw [select_at _ _ _ _ _ (cols_at ⟨off t j u, off_lt t j u⟩ k l)]
    by_cases hc : cs l ≤ k ∧ (k : ℕ) < cs l + 16
    · rw [if_pos hc, if_pos ⟨hn, hc⟩]
      exact (stack_at (rot r) ⟨off t j u, off_lt t j u⟩ k ⟨l, by omega⟩).trans (rot_at _ _ _ _)
    · rw [if_neg hc, if_neg fun h => hc h.2]; exact hole_at
  · rw [if_neg hn, if_neg fun h => hn h.1]; exact hole_at

theorem cast_p (x : FVec Ideal S64x64 .f32) (k l : Fin 64) :
    shapeCast S1x1x64x64 x shapeCasts_S64x64_S1x1x64x64 (ix4 0 0 k l) = x (ix2 k l) := by pointwise

theorem bL_at (r : Vec Ideal S1x15x128 .f32) (t : Fin 5) (u : Fin 576) (j : Fin 128) : ∀ n ≤ 90,
    18 * (t : ℕ) + 9 * (j / 64) + u / 64 < n → View.canon (bL r n) (ix4 0 t u j)
      = piece r t (j / 64) (u / 64) (ix2 ⟨u % 64, by omega⟩ ⟨j % 64, by omega⟩)
  | 0, _, h => by omega
  | n + 1, hn, h => by
    unfold bL
    by_cases he : n = 18 * (t : ℕ) + 9 * (j / 64) + u / 64
    · have e1 : n / 18 = t := by omega
      have e2 : n / 9 % 2 = j / 64 := by omega
      have e3 : n % 9 = u / 64 := by omega
      rw [canon_in _ _ _ _ _ _ (ix4 0 0 ⟨u % 64, by omega⟩ ⟨j % 64, by omega⟩) (by
          intro a; fin_cases a
          · rfl
          · show (t : ℕ) = n / 18 % 5 + 0; omega
          · show (u : ℕ) = 64 * (n % 9) + u % 64; omega
          · show (j : ℕ) = 64 * (n / 9 % 2) + j % 64; omega), cast_p, e1, e2, e3]
    · have ih := bL_at r t u j n (by omega) (by omega)
      by_cases h1 : n / 18 = t
      · by_cases h2 : n % 9 = u / 64
        · rw [canon_off _ _ _ _ _ _ 3 (show (j : ℕ) < 64 * (n / 9 % 2) ∨ 64 * (n / 9 % 2) + 64 ≤ j by omega), ih]
        · rw [canon_off _ _ _ _ _ _ 2 (show (u : ℕ) < 64 * (n % 9) ∨ 64 * (n % 9) + 64 ≤ u by omega), ih]
      · rw [canon_off _ _ _ _ _ _ 1 (show (t : ℕ) < n / 18 % 5 ∨ n / 18 % 5 + 1 ≤ t by omega), ih]

/-- A block's rows against its tile's. -/
theorem near_block : ∀ (b : Fin 16) (j : Fin 2) (u : Fin 9),
    (near (tl b) j u ↔ rs (2 * b + j) ≤ ks b / 64 + u ∧ ks b / 64 + u < rs (2 * b + j) + 8) ∧
    (near (tl b) j u → off (tl b) j u = (ks b / 64 + u + 7 - (2 * b + j)) % 15) := by decide +kernel

theorem query_row {b : ℕ} (hb : b < 16) (j : Fin 128) : (query b j : ℕ) / 64 = 2 * b + j / 64 := by
  simp only [query, qs]; omega
theorem query_col (b : ℕ) (j : Fin 128) : (query b j : ℕ) % 64 = j % 64 := by simp only [query, qs]; omega
theorem key_row (b : ℕ) (u : Fin 576) : (key b u : ℕ) / 64 = ks b / 64 + u / 64 := by simp only [key, ks]; omega
theorem key_col (b : ℕ) (u : Fin 576) : (key b u : ℕ) % 64 = u % 64 := by simp only [key, ks]; omega

/-- The tile of a block holds the bias in its windows. -/
theorem tile_at (r : Vec Ideal S1x15x128 .f32) (bias : Fin 15 → Fin 31 → ℝ)
    (hr : ∀ (d : Fin 15) (l : Fin 31), r (ix3 0 d ⟨30 - l, by omega⟩) = (bias d l : EReal)) (b : ℕ) (hb : b < 16)
    (u : Fin 576) (j : Fin 128) : View.canon (bL r 90) (ix4 0 ⟨tl b, tl_lt b⟩ u j)
      = if win (query b j) (key b u) then (bias (dr (query b j) (key b u)) (dc (query b j) (key b u)) : EReal) else ⊥ := by
  have ht := tl_lt b
  rw [bL_at r ⟨tl b, tl_lt b⟩ u j 90 le_rfl (by show 18 * tl b + 9 * (j / 64) + u / 64 < 90; omega), piece_at]
  obtain ⟨n1, n2⟩ := near_block ⟨b, hb⟩ ⟨j / 64, by omega⟩ ⟨u / 64, by omega⟩
  simp only at n1 n2
  have hw : win (query b j) (key b u) ↔ near (tl b) (j / 64) (u / 64) ∧ cs (j % 64) ≤ u % 64 ∧ (u : ℕ) % 64 < cs (j % 64) + 16 := by
    unfold win
    rw [query_row hb, query_col, key_row, key_col, n1]; tauto
  by_cases h : win (query b j) (key b u)
  · have h' := hw.1 h
    rw [if_pos h, if_pos h', ← hr]
    have hc : cs (j % 64) ≤ u % 64 ∧ (u : ℕ) % 64 < cs (j % 64) + 16 := h'.2
    have e1 : off (tl b) (j / 64) (u / 64) = (dr (query b j) (key b u) : ℕ) := by
      rw [n2 h'.1]; simp only [dr]; rw [query_row hb, key_row]
    have e2 : ((j : ℕ) % 64 + 128 - (113 + u % 64) % 128) % 128 = 30 - (dc (query b j) (key b u) : ℕ) := by
      simp only [dc]; rw [query_col, key_col]
      unfold cs at hc; omega
    congr 1
    ext a
    fin_cases a
    · rfl
    · exact e1
    · exact e2
  · rw [if_neg h, if_neg fun h' => h (hw.2 h')]

end Cert.Attn
-- ==== Proof.Attn.Bias.lean ====
/-
  The bias table's gradient of one head, from the gradients of the tiles: the pieces of every row offset are added up,
  each sum is reversed along its columns by a product with the exchange matrix and left in a scratch array, and the
  scratch array's rows, rotated so that a column offset lies on one lane, are added up.
-/
module

public import proofs.«01_k».proof.Proof.Attn.Tiles

@[expose] public section

set_option maxRecDepth 16384

noncomputable section

namespace Cert.Attn

open Idealize.ShloMosaic Idealize.ShloMosaic.TcCoe Idealize.SL.Sem
open Cert.Kernel2Ideal Cert.Kernel2Ideal.Gen

variable {F : FTy → Type} [FloatOps F] [Named F]

/-- A piece of the tiles. -/
def part (x : Vec F S1x5x576x128 .f32) (n : ℕ) : FVec F S64x64 .f32 :=
  shapeCast S64x64 (View.ld x (Rect.unit ![0, (n / 18) % 5, 64 * (n % 9), 64 * (n / 9 % 2)] S1x1x64x64.size (inb_p n)))
    shapeCasts_S1x1x64x64_S64x64

/-- Piece `n` is one of row offset `d`. -/
abbrev partOf (d n : ℕ) : Prop := near (n / 18) (n / 9 % 2) (n % 9) ∧ off (n / 18) (n / 9 % 2) (n % 9) = d

def plus (a : Option (FVec F S64x64 .f32)) (x : FVec F S64x64 .f32) : FVec F S64x64 .f32 :=
  match a with
  | none => x
  | some a => addf a x

/-- The sum of the first `n` pieces that are of row offset `d`. -/
def acc (x : Vec F S1x5x576x128 .f32) (d : ℕ) : ℕ → Option (FVec F S64x64 .f32)
  | 0 => none
  | n + 1 => if partOf d n then some (plus (acc x d n) (part x n)) else acc x d n

def accs (x : Vec F S1x5x576x128 .f32) (d : ℕ) : FVec F S64x64 .f32 :=
  match acc x d 90 with
  | none => constant S64x64 .f32 0x00000000#32
  | some a => a

/-- The exchange matrix. -/
def exch : FVec F S64x64 .f32 :=
  sitofp .f32 (extui 32 (cmpi .eq (addi (iota .tc S64x64 32 [0] iota_S64x64_d0_w32) (iota .tc S64x64 32 [1] iota_S64x64_d1_w32))
    (broadcast S64x64 63#32)) natLt_1_32)

theorem inb_d (d : ℕ) : ∀ a, (![64 * (d % 15), 0] : Fin 2 → ℕ) a + S64x64.size a ≤ S960x128.size a := by
  intro a; fin_cases a
  · show 64 * (d % 15) + 64 ≤ 960; omega
  · show 0 + 64 ≤ 128; omega

theorem inb_r (d : ℕ) : ∀ a, (![64 * (d % 15), 0] : Fin 2 → ℕ) a + S64x128.size a ≤ S960x128.size a := by
  intro a; fin_cases a
  · show 64 * (d % 15) + 64 ≤ 960; omega
  · show 0 + 128 ≤ 128; omega

/-- The scratch array's stores, the last first. -/
def sL (x : Vec F S1x5x576x128 .f32) : ℕ → List (View.Piece (Elt F) S960x128 .f32)
  | 0 => [⟨Rect.unit ![0, 0] S960x128.size inb_S960x128_S960x128_0_0, k2_pay2⟩]
  | n + 1 => ⟨Rect.unit ![64 * (n % 15), 0] S64x64.size (inb_d n),
      shapeCast S64x64 (matmul dot_S64x64_S64x64_S64x64_1_0_0_1_n_n (some .fp32) (accs x n) exch (constant S64x64 .f32 0x00000000#32))
        shapeCasts_S64x64_S64x64⟩ :: sL x n

/-- The rotated rows of one row offset. -/
def back {sp : Space} {κ : Kind} (v : View Cert.Kernel2Ideal.sig κ sp S960x128 .f32) (x : Vec F S1x5x576x128 .f32) (d : Fin 15) :
    FVec F S64x128 .f32 :=
  dynamicRotate 1 80#32 (some (1, 0)) (v.readCov (sL x 15)
    (Rect.unit (s := S960x128) ![64 * ((d : ℕ) % 15), 0] S64x128.size (inb_r d)).toLoadRect) rotates_S64x128_d1s1a0

def tot {sp : Space} {κ : Kind} (v : View Cert.Kernel2Ideal.sig κ sp S960x128 .f32) (x : Vec F S1x5x576x128 .f32) : FVec F S15x128 .f32 :=
  multiReduction .add [1] S15x128 (shapeCast S15x64x128 (stack (back v x)) shapeCasts_S960x128_S15x64x128) 0x00000000#32 reduces_S15x64x128_S15x128 (.inl rfl) rfl

def dbias {sp : Space} {κ : Kind} (v : View Cert.Kernel2Ideal.sig κ sp S960x128 .f32) (x : Vec F S1x5x576x128 .f32) : FVec F S1x15x128 .f32 :=
  shapeCast S1x15x128 (select (cmpi .slt (iota .tc S15x128 32 [1] iota_S15x128_d1_w32) (broadcast S15x128 31#32)) (tot v x)
    (broadcast S15x128 (Scalar.ofBits .f32 0x00000000#32 : F .f32))) shapeCasts_S15x128_S1x15x128

variable (V : (c : Dev nD) → (b : Ref sig Kind.tc) → Buf (Elt F) (c.tc.loc b))

theorem biases (c : Dev nD) (t : Fin cfg2.N) : outsAt2 V c t = dbias scM2_0.view (iblk2 V c 0 t) := by
  unfold outsAt2
  frame_out
  sl_kernel_rfl

end Cert.Attn
-- ==== Proof.Attn.BiasSum.lean ====
/-
  The bias table's gradient as the kernel adds it up: over the tiles' pieces, which are all the pairs of a block's query
  and key, once each.
-/
module

public import proofs.«01_k».proof.Proof.Attn.TileValue
public import proofs.«01_k».proof.Proof.Attn.Bias

@[expose] public section

noncomputable section

namespace Cert.Attn

/-- Piece `n`'s tile, keys and queries. -/
def tt (n : ℕ) : Fin 5 := ⟨n / 18 % 5, Nat.mod_lt _ (by norm_num)⟩
def uu (n : ℕ) (k : Fin 64) : Fin 576 := ⟨64 * (n % 9) + k, by omega⟩
def jj (n : ℕ) (l : Fin 64) : Fin 128 := ⟨64 * (n / 9 % 2) + l, by omega⟩

/-- The pieces are all of the tiles. -/
theorem sum_pieces (g : Fin 5 → Fin 128 → Fin 576 → ℝ) :
    ∑ m ∈ Finset.range 90, ∑ k, ∑ l, g (tt m) (jj m l) (uu m k) = ∑ t, ∑ j, ∑ u, g t j u := by
  rw [Finset.sum_range fun m => ∑ k, ∑ l, g (tt m) (jj m l) (uu m k)]
  rw [← Fintype.sum_prod_type' fun (t : Fin 5) (j : Fin 128) => ∑ u, g t j u]
  rw [← Fintype.sum_prod_type' fun (x : Fin 5 × Fin 128) u => g x.1 x.2 u]
  rw [← Fintype.sum_prod_type' fun (m : Fin 90) (k : Fin 64) => ∑ l, g (tt m) (jj m l) (uu m k)]
  rw [← Fintype.sum_prod_type' fun (x : Fin 90 × Fin 64) (l : Fin 64) => g (tt x.1) (jj x.1 l) (uu x.1 x.2)]
  refine Fintype.sum_bijective (fun x : (Fin 90 × Fin 64) × Fin 64 => ((tt x.1.1, jj x.1.1 x.2), uu x.1.1 x.1.2))
    ⟨fun x y h => ?_, fun z => ?_⟩ _ _ fun _ => rfl
  · obtain ⟨⟨⟨m, hm⟩, ⟨k, hk⟩⟩, ⟨l, hl⟩⟩ := x
    obtain ⟨⟨⟨m', hm'⟩, ⟨k', hk'⟩⟩, ⟨l', hl'⟩⟩ := y
    simp only [Prod.mk.injEq, tt, jj, uu, Fin.mk.injEq] at h ⊢
    omega
  · obtain ⟨⟨⟨t, ht⟩, ⟨j, hj⟩⟩, ⟨u, hu⟩⟩ := z
    refine ⟨((⟨18 * t + 9 * (j / 64) + u / 64, by omega⟩, ⟨u % 64, by omega⟩), ⟨j % 64, by omega⟩), ?_⟩
    simp only [Prod.mk.injEq, tt, jj, uu, Fin.mk.injEq]
    omega

/-- What the kernel adds up for a row offset and a column offset, from the tiles' gradients `y`. -/
def gather (y : Fin 5 → Fin 576 → Fin 128 → ℝ) (d : ℕ) (k l : Fin 64) : ℝ :=
  ∑ m ∈ Finset.range 90, if partOf d m then y (tt m) (uu m k) (jj m l) else 0

theorem gather_sum (X : Head) (a : Fin 15) (c : Fin 31) :
    (∑ k : Fin 64, ∑ l : Fin 64, if (k : ℕ) + 15 = c + l then
      gather (fun t u j => ∑ b ∈ Finset.range 16, if tl b = t then (X.row (query b j)).ds (key b u) else 0) a k l else 0)
    = X.dbias a c := by
  let G : ℕ → Fin 5 → Fin 128 → Fin 576 → ℝ := fun b t j u =>
    if near t (j / 64) (u / 64) ∧ off t (j / 64) (u / 64) = a ∧ (u : ℕ) % 64 + 15 = c + j % 64 then
      if tl b = t then (X.row (query b j)).ds (key b u) else 0 else 0
  have hG : ∀ b t j u, G b t j u = if near t (j / 64) (u / 64) ∧ off t (j / 64) (u / 64) = a ∧ (u : ℕ) % 64 + 15 = c + j % 64 then
      if tl b = t then (X.row (query b j)).ds (key b u) else 0 else 0 := fun _ _ _ _ => rfl
  clear_value G
  have e1 : ∀ k l : Fin 64, (if (k : ℕ) + 15 = c + l then
      gather (fun t u j => ∑ b ∈ Finset.range 16, if tl b = t then (X.row (query b j)).ds (key b u) else 0) a k l else 0)
      = ∑ m ∈ Finset.range 90, ∑ b ∈ Finset.range 16, G b (tt m) (jj m l) (uu m k) := fun k l => by
    have h1 : ∀ m < 90, ((tt m : ℕ) = m / 18 ∧ (jj m l : ℕ) / 64 = m / 9 % 2 ∧ (uu m k : ℕ) / 64 = m % 9
        ∧ (uu m k : ℕ) % 64 = k ∧ (jj m l : ℕ) % 64 = l) := fun m hm => by
      simp only [tt, jj, uu]; omega
    by_cases hC : (k : ℕ) + 15 = c + l
    · rw [if_pos hC]
      refine Finset.sum_congr rfl fun m hm => ?_
      obtain ⟨t1, t2, t3, t4, t5⟩ := h1 m (Finset.mem_range.1 hm)
      by_cases hP : partOf a m
      · rw [if_pos hP]
        refine Finset.sum_congr rfl fun b _ => ?_
        rw [hG, t2, t3, t4, t5]; exact (if_pos ⟨by rw [t1]; exact hP.1, by rw [t1]; exact hP.2, hC⟩).symm
      · rw [if_neg hP]
        refine (Finset.sum_eq_zero fun b _ => ?_).symm
        rw [hG, t1, t2, t3, if_neg fun h => hP ⟨h.1, h.2.1⟩]
    · rw [if_neg hC]
      refine (Finset.sum_eq_zero fun m hm => Finset.sum_eq_zero fun b _ => ?_).symm
      obtain ⟨t1, t2, t3, t4, t5⟩ := h1 m (Finset.mem_range.1 hm)
      rw [hG, t4, t5, if_neg fun h => hC h.2.2]
  have e2 : (∑ k : Fin 64, ∑ l : Fin 64, ∑ m ∈ Finset.range 90, ∑ b ∈ Finset.range 16, G b (tt m) (jj m l) (uu m k))
      = ∑ m ∈ Finset.range 90, ∑ k : Fin 64, ∑ l : Fin 64, ∑ b ∈ Finset.range 16, G b (tt m) (jj m l) (uu m k) := by
    refine Eq.trans ?_ Finset.sum_comm
    exact Finset.sum_congr rfl fun k _ => Finset.sum_comm
  have e3 : ∀ j u, (∑ t, ∑ b ∈ Finset.range 16, G b t j u) = ∑ b ∈ Finset.range 16, G b ⟨tl b, tl_lt b⟩ j u := fun j u => by
    rw [Finset.sum_comm]
    refine Finset.sum_congr rfl fun b _ => ?_
    refine Finset.sum_eq_single_of_mem _ (Finset.mem_univ _) fun t _ ht => ?_
    have ht' : tl b ≠ t := fun h => ht (Fin.ext h.symm)
    rw [hG, if_neg ht', ite_self]
  have e4 : ∀ b < 16, ∀ j u, G b ⟨tl b, tl_lt b⟩ j u
      = if dr (query b j) (key b u) = a ∧ dc (query b j) (key b u) = c then (X.row (query b j)).ds (key b u) else 0 := fun b hb j u => by
    rw [hG]
    by_cases hw : win (query b j) (key b u)
    · obtain ⟨n1, n2⟩ := near_block ⟨b, hb⟩ ⟨j / 64, by omega⟩ ⟨u / 64, by omega⟩
      simp only at n1 n2
      obtain ⟨w1, w2, w3, w4⟩ := hw
      rw [query_row hb, key_row] at w1 w2
      rw [query_col, key_col] at w3 w4
      have hn := n1.2 ⟨w1, w2⟩
      have e5 : off (tl b) (j / 64) (u / 64) = (dr (query b j) (key b u) : ℕ) := by
        rw [n2 hn]; simp only [dr]; rw [query_row hb, key_row]
      have e6 : (u : ℕ) % 64 + 15 = c + j % 64 ↔ dc (query b j) (key b u) = c := by
        rw [Fin.ext_iff]; simp only [dc]; rw [query_col, key_col]
        have hc := c.isLt
        unfold cs at w3 w4; omega
      refine if_congr ?_ (if_pos rfl) rfl
      show near (tl b) _ _ ∧ off (tl b) _ _ = _ ∧ _ ↔ _
      rw [e5, e6, Fin.ext_iff (a := dr _ _)]
      exact ⟨fun h => h.2, fun h => ⟨hn, h⟩⟩
    · have h0 : (X.row (query b j)).ds (key b u) = 0 := Row.ds_off _ hw
      rw [h0]; simp only [ite_self]
  have e5 : (∑ j, ∑ t, ∑ u, ∑ b ∈ Finset.range 16, G b t j u) = ∑ b ∈ Finset.range 16, ∑ j, ∑ u, G b ⟨tl b, tl_lt b⟩ j u := by
    refine Eq.trans (Finset.sum_congr rfl fun j _ => ?_) Finset.sum_comm
    refine Finset.sum_comm.trans (Eq.trans (Finset.sum_congr rfl fun u _ => e3 j u) Finset.sum_comm)
  simp only [e1]
  rw [e2, sum_pieces fun t j u => ∑ b ∈ Finset.range 16, G b t j u, Finset.sum_comm, e5]
  unfold Head.dbias
  rw [← query_sum fun i => ∑ k : Fin 2048, if dr i k = a ∧ dc i k = c then (X.row i).ds k else 0]
  refine Finset.sum_congr rfl fun b hb => Finset.sum_congr rfl fun j _ => ?_
  have hb' := Finset.mem_range.1 hb
  rw [← key_sum (b := b) (fun k => if dr (query b j) k = a ∧ dc (query b j) k = c then (X.row (query b j)).ds k else 0)
    fun k hk => by rw [ds_out hb' X j hk, ite_self]]
  exact Finset.sum_congr rfl fun u _ => e4 b hb' j u

end Cert.Attn
-- ==== Proof.Attn.BiasValue.lean ====
/-
  The bias table's gradient of one head read at an index.
-/
module

public import proofs.«01_k».proof.Proof.Attn.BiasSum
public import proofs.«01_k».proof.Proof.Attn.Value

@[expose] public section

set_option maxRecDepth 16384

noncomputable section

namespace Cert.Attn

open Idealize.ShloMosaic Idealize.ShloMosaic.TcCoe Idealize.SL.Sem
open Cert.Kernel2Ideal Cert.Kernel2Ideal.Gen

theorem uncast_p (x : FVec Ideal S1x1x64x64 .f32) (k l : Fin 64) :
    shapeCast S64x64 x shapeCasts_S1x1x64x64_S64x64 (ix2 k l) = x (ix4 0 0 k l) := by pointwise

theorem exch_word : ∀ k l : Fin 64, IntOp.cmpi CmpIPredicate.eq (IntOp.addi (BitVec.ofNat 32 k) (BitVec.ofNat 32 l)) 63#32
    = BitVec.ofBool (decide ((k : ℕ) + l = 63)) := by decide +kernel

theorem exch_at (k l : Fin 64) : (exch (F := Ideal)) (ix2 k l) = ((if (k : ℕ) + l = 63 then 1 else 0 : ℝ) : EReal) := by
  pointwise [exch]
  rw [exch_word]
  by_cases h : (k : ℕ) + l = 63 <;> simp [h, FloatOps.sitofp]

theorem lane_word : ∀ l : Fin 128, IntOp.cmpi CmpIPredicate.slt (BitVec.ofNat 32 l) 31#32
    = BitVec.ofBool (decide ((l : ℕ) < 31)) := by decide +kernel

theorem pay2_at (k : Fin 960) (l : Fin 128) : (k2_pay2 (F := Ideal)) (ix2 k l) = ((0 : ℝ) : EReal) := by
  pointwise [k2_pay2]
  all_goals simp [Ideal.ofBits, Ideal.ieee]

theorem select_word {e : Type} (p : Prop) [Decidable p] (a b : e) :
    Scalar.select (BitVec.ofBool (decide p)) a b = if p then a else b := by
  by_cases hp : p <;> simp [hp, Scalar.select]

section

variable {x : Vec Ideal S1x5x576x128 .f32} {y : Fin 5 → Fin 576 → Fin 128 → ℝ}
  (hx : ∀ t u j, x (ix4 0 t u j) = (y t u j : EReal))
include hx

theorem part_at (n : ℕ) (k l : Fin 64) : part x n (ix2 k l) = (y (tt n) (uu n k) (jj n l) : EReal) := by
  unfold part
  rw [uncast_p, ← hx]
  exact View.ld_unit_apply_of _ _ _ _ _ _ (by
    intro a; fin_cases a
    · rfl
    · rfl
    · rfl
    · rfl)

omit hx in
theorem acc_succ (d n : ℕ) : acc x d (n + 1) = if partOf d n then some (plus (acc x d n) (part x n)) else acc x d n := rfl

theorem acc_at (d : ℕ) (k l : Fin 64) : ∀ n, ((acc x d n).elim (0 : EReal) fun a => a (ix2 k l))
    = ((∑ m ∈ Finset.range n, if partOf d m then y (tt m) (uu m k) (jj m l) else 0 : ℝ) : EReal)
  | 0 => by simp [acc]
  | n + 1 => by
    have ih := acc_at d k l n
    have hp := part_at hx n k l
    rw [Finset.sum_range_succ, EReal.coe_add, ← ih]
    rw [acc_succ]
    by_cases h : partOf d n
    · rw [if_pos h, if_pos h, ← hp]
      cases acc x d n with
      | none => exact (zero_add (part x n (ix2 k l) : EReal)).symm
      | some a => rfl
    · rw [if_neg h, if_neg h, EReal.coe_zero, add_zero]

theorem accs_at (d : ℕ) (k l : Fin 64) : accs x d (ix2 k l) = (gather y d k l : EReal) := by
  refine Eq.trans ?_ (acc_at hx d k l 90)
  unfold accs
  cases acc x d 90 with
  | none => simp [constant, Ideal.ofBits, Ideal.ieee]
  | some a => rfl

theorem rev_at (d : ℕ) (k l : Fin 64) : shapeCast S64x64 (matmul dot_S64x64_S64x64_S64x64_1_0_0_1_n_n (some .fp32) (accs x d) exch
    (constant S64x64 .f32 0x00000000#32)) shapeCasts_S64x64_S64x64 (ix2 k l) = (gather y d k ⟨63 - l, by omega⟩ : EReal) := by
  have e : (∑ m : Fin 64, accs x d (ix2 k m) * (exch (F := Ideal)) (ix2 m l) : EReal) = (gather y d k ⟨63 - l, by omega⟩ : EReal) := by
    rw [dot_coe (fun m => accs_at hx d k m) (fun m => exch_at m l)]
    congr 1
    rw [Finset.sum_eq_single_of_mem (⟨63 - l, by omega⟩ : Fin 64) (Finset.mem_univ _) fun m _ hm => by
      rw [if_neg fun h => hm (Fin.ext (by simp only; omega)), mul_zero]]
    rw [if_pos (by show 63 - (l : ℕ) + l = 63; omega), mul_one]
  pointwise
  exact e

theorem sL_at (d : Fin 15) (k : Fin 64) (l : Fin 128) : ∀ n ≤ 15, View.canon (sL x n) (ix2 ⟨64 * d + k, by omega⟩ l)
    = ((if h : (l : ℕ) < 64 ∧ (d : ℕ) < n then gather y d k ⟨63 - l, by omega⟩ else 0 : ℝ) : EReal)
  | 0, _ => by
    unfold sL
    rw [canon_in _ _ _ _ _ _ (ix2 ⟨64 * d + k, by omega⟩ l) (by intro a; fin_cases a <;> (show _ = 0 + _; omega)), pay2_at,
      dif_neg (by omega)]
  | n + 1, hn => by
    have ih := sL_at d k l n (by omega)
    unfold sL
    by_cases hl : (l : ℕ) < 64
    · by_cases hd : (d : ℕ) = n
      · rw [canon_in _ _ _ _ _ _ (ix2 k ⟨l, hl⟩) (by
            intro a; fin_cases a
            · show 64 * (d : ℕ) + k = 64 * (n % 15) + k; omega
            · show (l : ℕ) = 0 + l; omega), ← hd, rev_at hx, dif_pos ⟨hl, by omega⟩]
      · rw [canon_off _ _ _ _ _ _ 0 (show 64 * (d : ℕ) + k < 64 * (n % 15) ∨ 64 * (n % 15) + 64 ≤ 64 * (d : ℕ) + k by omega), ih]
        by_cases hd' : (d : ℕ) < n
        · rw [dif_pos ⟨hl, hd'⟩, dif_pos ⟨hl, by omega⟩]
        · rw [dif_neg fun h => hd' h.2, dif_neg fun h => hd (by omega)]
    · rw [canon_off _ _ _ _ _ _ 1 (show (l : ℕ) < 0 ∨ 0 + 64 ≤ (l : ℕ) by omega), ih, dif_neg (by omega), dif_neg (by omega)]

theorem back_at {sp : Space} {κ : Kind} (v : View Cert.Kernel2Ideal.sig κ sp S960x128 .f32) (d : Fin 15) (k : Fin 64) (l : Fin 128)
    (hl : (l : ℕ) < 31) : back v x d (ix2 k l) = ((∑ m : Fin 64, if (k : ℕ) + 15 = l + m then gather y d k m else 0 : ℝ) : EReal) := by
  have e : back v x d (ix2 k l) = View.canon (sL x 15) (ix2 ⟨64 * d + k, by omega⟩ ⟨(l + 128 - (80 + k) % 128) % 128, Nat.mod_lt _ (by norm_num)⟩) := by
    pointwise [back]
    rw [View.readCov_eq_canon']; beta_reduce
    congr 1
    ext a; fin_cases a
    · show 64 * ((d : ℕ) % 15) + 1 * (k : ℕ) = 64 * d + k; omega
    · show 0 + 1 * (((l : ℕ) + 128 - (80 + k) % 128) % 128) = ((l : ℕ) + 128 - (80 + k) % 128) % 128; omega
  rw [e, sL_at hx d k _ 15 le_rfl]
  congr 1
  by_cases h : (k : ℕ) + 15 < l + 64 ∧ (l : ℕ) ≤ k + 15
  · rw [dif_pos ⟨by simp only; omega, d.isLt⟩]
    rw [Finset.sum_eq_single_of_mem (⟨k + 15 - l, by omega⟩ : Fin 64) (Finset.mem_univ _) fun m _ hm => by
      rw [if_neg fun h => hm (Fin.ext (by simp only; omega))], if_pos (by simp only; omega)]
    congr 1
    exact Fin.ext (by simp only; omega)
  · rw [dif_neg (by simp only; omega)]
    exact (Finset.sum_eq_zero fun m _ => if_neg (by omega)).symm

theorem dbias_at {sp : Space} {κ : Kind} (v : View Cert.Kernel2Ideal.sig κ sp S960x128 .f32) (d : Fin 15) (l : Fin 128) :
    dbias v x (ix3 0 d l) = ((if (l : ℕ) < 31 then ∑ k : Fin 64, ∑ m : Fin 64, if (k : ℕ) + 15 = l + m then gather y d k m else 0 else 0 : ℝ) : EReal) := by
  have e : tot v x (ix2 d l) = (∑ k : Fin 64, back v x d (ix2 k l) : EReal) := by
    pointwise [tot]
    exact Finset.sum_congr rfl fun k _ =>
      (congrArg (fun i => stack (back v x) (ix2 i l)) (Fin.ext (by simp only; omega))).trans (stack_at (back v x) d k l)
  pointwise [dbias]
  rw [lane_word, select_word]
  by_cases hl : (l : ℕ) < 31
  · rw [if_pos hl, if_pos hl, e, ← coe_sum]
    exact Finset.sum_congr rfl fun k _ => back_at hx v d k l hl
  · rw [if_neg hl, if_neg hl]; exact EReal.coe_zero.symm

end

end Cert.Attn
-- ==== Proof.Attn.Array.lean ====
/-
  What the three regions leave in their result arrays, from the arrays they find.
-/
module

public import proofs.«01_k».proof.Proof.Attn.Value
public import proofs.«01_k».proof.Proof.Attn.TileValue
public import proofs.«01_k».proof.Proof.Attn.BiasSum
public import proofs.«01_k».proof.Proof.Attn.BiasValue

@[expose] public section

set_option maxRecDepth 16384

noncomputable section

namespace Cert.Attn

open Idealize.ShloMosaic Idealize.ShloMosaic.TcCoe Idealize.SL.Sem
open Idealize.ShloMosaic.Pipeline (Dat)
open Cert.Kernel2Ideal Cert.Kernel2Ideal.Gen

variable (V : (c : Dev nD) → (b : Ref sig Kind.tc) → Buf (Elt Ideal) (c.tc.loc b))

theorem idx0 : ∀ t : Fin cfg0.N, win0_0.index t = ![t.val, 0, 0] ∧ win0_1.index t = ![t.val, 0, 0, 0] :=
  (by decide +kernel : ∀ t : Fin grid0.N, _)

theorem idx2 : ∀ t : Fin cfg2.N, win2_0.index t = ![t.val, 0, 0, 0] ∧ win2_1.index t = ![t.val, 0, 0] :=
  (by decide +kernel : ∀ t : Fin grid2.N, _)

theorem idx1 : ∀ t : Fin cfg1.N, (win1_0.index t = ![t.val, 0, 0] ∧ win1_1.index t = ![t.val, 0, 0]
    ∧ win1_2.index t = ![t.val, 0, 0] ∧ win1_3.index t = ![t.val, 0, 0] ∧ win1_4.index t = ![t.val, 0, 0]
    ∧ win1_5.index t = ![t.val, 0, 0] ∧ win1_6.index t = ![t.val, 0, 0, 0] ∧ win1_7.index t = ![t.val, 0, 0])
    ∧ win1_8.index t = ![t.val, 0, 0] ∧ win1_9.index t = ![t.val, 0, 0]
    ∧ win1_10.index t = ![t.val, 0, 0] ∧ win1_11.index t = ![t.val, 0, 0] ∧ win1_12.index t = ![t.val, 0, 0]
    ∧ win1_13.index t = ![t.val, 0, 0] ∧ win1_14.index t = ![t.val, 0, 0, 0] :=
  (by decide +kernel : ∀ t : Fin grid1.N, _)

/-! ## Results as arrays over the heads -/

/-- An array of reals, a head at a time. -/
def heads {n k : ℕ} {e : FTy} (f : Fin 8 → Fin n → Fin k → ℝ) : FVec Ideal ⟨3, ![8, n, k]⟩ e :=
  fun i => (f (i 0) (i 1) (i 2) : EReal)

theorem heads_of {n k : ℕ} {e : FTy} (f : Fin 8 → Fin n → Fin k → ℝ) (j : (⟨3, ![8, n, k]⟩ : Shape).Idx)
    (h : Fin 8) (i : Fin n) (d : Fin k) (e0 : (j 0 : ℕ) = h) (e1 : (j 1 : ℕ) = i) (e2 : (j 2 : ℕ) = d) :
    heads (e := e) f j = (f h i d : EReal) := by
  obtain rfl : j = ix3 h i d := by
    funext a
    match a with
    | ⟨0, _⟩ => exact Fin.ext e0
    | ⟨1, _⟩ => exact Fin.ext e1
    | ⟨2, _⟩ => exact Fin.ext e2
  rfl

/-- Tiles of reals, a head at a time. -/
def heads4 (f : Fin 8 → Fin 5 → Fin 576 → Fin 128 → ℝ) : FVec Ideal S8x5x576x128 .f32 :=
  fun i => (f (i 0) (i 1) (i 2) (i 3) : EReal)

theorem heads4_of (f : Fin 8 → Fin 5 → Fin 576 → Fin 128 → ℝ) (j : S8x5x576x128.Idx)
    (h : Fin 8) (t : Fin 5) (u : Fin 576) (d : Fin 128) (e0 : (j 0 : ℕ) = h) (e1 : (j 1 : ℕ) = t) (e2 : (j 2 : ℕ) = u)
    (e3 : (j 3 : ℕ) = d) : heads4 f j = (f h t u d : EReal) := by
  obtain rfl : j = ix4 h t u d := by
    funext a
    match a with
    | ⟨0, _⟩ => exact Fin.ext e0
    | ⟨1, _⟩ => exact Fin.ext e1
    | ⟨2, _⟩ => exact Fin.ext e2
    | ⟨3, _⟩ => exact Fin.ext e3
  rfl

theorem cast_ctx (x : FVec Ideal S256x64 .f32) (r : Fin 256) (l : Fin 64) :
    shapeCast S1x256x64 x shapeCasts_S256x64_S1x256x64 (ix3 0 r l) = x (ix2 r l) := by
  pointwise

/-- A head's tile gradients. -/
def dtiles (A : Head) (t : Fin 5) (u : Fin 576) (j : Fin 128) : ℝ :=
  ∑ b ∈ Finset.range 16, if tl b = t then (A.row (query b j)).ds (key b u) else 0

/-! ## A grid point's outputs -/

theorem out_dq (c : Dev nD) (t : Fin cfg1.N) (A : Head) (h : Reads (blocks V c t) A) (r : Fin 2048) (l : Fin 64) :
    (outsAt1 V c t).1 (ix3 0 r l) = (A.dq r l : EReal) := by
  have e : (outsAt1 V c t).1 = View.canon (In.qL (fun b => byKeys ((blocks V c t).ds b) (In.kB b (blocks V c t).k)) 16) :=
    congrArg (fun x => x.1) (outs V c t)
  rw [e]
  exact h.dq r l

theorem out_dqp (c : Dev nD) (t : Fin cfg1.N) (A : Head) (h : Reads (blocks V c t) A) (r : Fin 2048) (l : Fin 64) :
    (outsAt1 V c t).2.1 (ix3 0 r l) = (A.dqp r l : EReal) := by
  have e : (outsAt1 V c t).2.1 = View.canon (In.qL (fun b => byCtx ((blocks V c t).dsc b) (blocks V c t).kc) 16) :=
    congrArg (fun x => x.2.1) (outs V c t)
  rw [e]
  exact h.dqp r l

theorem out_dk (c : Dev nD) (t : Fin cfg1.N) (A : Head) (h : Reads (blocks V c t) A) (r : Fin 2048) (l : Fin 64) :
    (outsAt1 V c t).2.2.1 (ix3 0 r l) = (A.dk r l : EReal) := by
  have e : (outsAt1 V c t).2.2.1 = View.canon (In.kL (ms1_10 t).view (fun b => byQueries ((blocks V c t).ds b) (In.qB b (blocks V c t).q)) 16) :=
    congrArg (fun x => x.2.2.1) (outs V c t)
  rw [e]
  exact h.dk _ r l

theorem out_dv (c : Dev nD) (t : Fin cfg1.N) (A : Head) (h : Reads (blocks V c t) A) (r : Fin 2048) (l : Fin 64) :
    (outsAt1 V c t).2.2.2.1 (ix3 0 r l) = (A.dv r l : EReal) := by
  have e : (outsAt1 V c t).2.2.2.1 = View.canon (In.kL (ms1_11 t).view (fun b => byQueries ((blocks V c t).p b) (In.qB b (blocks V c t).g)) 16) :=
    congrArg (fun x => x.2.2.2.1) (outs V c t)
  rw [e]
  exact h.dv _ r l

theorem out_dkc (c : Dev nD) (t : Fin cfg1.N) (A : Head) (h : Reads (blocks V c t) A) (r : Fin 256) (l : Fin 64) :
    (outsAt1 V c t).2.2.2.2.1 (ix3 0 r l) = (A.dkc r l : EReal) := by
  have e : (outsAt1 V c t).2.2.2.2.1 = shapeCast S1x256x64 (In.cA (fun b => byQueriesCtx ((blocks V c t).dsc b) (In.qB b (blocks V c t).qp)) 15) shapeCasts_S256x64_S1x256x64 :=
    congrArg (fun x => x.2.2.2.2.1) (outs V c t)
  rw [e]
  exact (cast_ctx _ r l).trans (h.dkc r l)

theorem out_dvc (c : Dev nD) (t : Fin cfg1.N) (A : Head) (h : Reads (blocks V c t) A) (r : Fin 256) (l : Fin 64) :
    (outsAt1 V c t).2.2.2.2.2.1 (ix3 0 r l) = (A.dvc r l : EReal) := by
  have e : (outsAt1 V c t).2.2.2.2.2.1 = shapeCast S1x256x64 (In.cA (fun b => byQueriesCtx ((blocks V c t).pc b) (In.qB b (blocks V c t).g)) 15) shapeCasts_S256x64_S1x256x64 :=
    congrArg (fun x => x.2.2.2.2.2.1) (outs V c t)
  rw [e]
  exact (cast_ctx _ r l).trans (h.dvc r l)

theorem out_dtiles (c : Dev nD) (t : Fin cfg1.N) (A : Head) (h : Reads (blocks V c t) A) (r : Fin 5) (u : Fin 576) (j : Fin 128) :
    (outsAt1 V c t).2.2.2.2.2.2 (ix4 0 r u j) = (dtiles A r u j : EReal) := by
  have e : (outsAt1 V c t).2.2.2.2.2.2 = View.canon (In.tL (ms1_14 t).view (fun b => (blocks V c t).ds b) 16) := by
    rw [outs]
  rw [e]
  unfold dtiles
  exact h.dtile _ r u j

/-! ## Region 1's arrays -/

section
variable (c : Dev nD) (A : Fin 8 → Head) (hR : ∀ t : Fin cfg1.N, Reads (blocks V c t) (A t))
include hR

theorem final_dq : (dat1 V c).arrAt 8 cfg1.N = heads (e := .f32) fun h => (A h).dq := by
  refine (dat1 V c).arrAt_eq_of_covers 8 _ (by decide +kernel) fun t hf y => ?_
  blk_simp
  rw [after1_8]
  obtain ⟨k, r, l, rfl⟩ : ∃ k r l, y = ix3 k r l := ⟨y 0, y 1, y 2, by ext i; fin_cases i <;> rfl⟩
  obtain rfl : k = 0 := Fin.ext (by omega)
  refine (out_dq V c t _ (hR t) r l).trans (heads_of (e := .f32) (fun h => (A h).dq) _ t r l ?_ ?_ ?_).symm
  all_goals first | (blk_simp [idx1 t]; done) | (blk_simp [idx1 t]; omega)

theorem final_dqp : (dat1 V c).arrAt 9 cfg1.N = heads (e := .f32) fun h => (A h).dqp := by
  refine (dat1 V c).arrAt_eq_of_covers 9 _ (by decide +kernel) fun t hf y => ?_
  blk_simp
  rw [after1_9]
  obtain ⟨k, r, l, rfl⟩ : ∃ k r l, y = ix3 k r l := ⟨y 0, y 1, y 2, by ext i; fin_cases i <;> rfl⟩
  obtain rfl : k = 0 := Fin.ext (by omega)
  refine (out_dqp V c t _ (hR t) r l).trans (heads_of (e := .f32) (fun h => (A h).dqp) _ t r l ?_ ?_ ?_).symm
  all_goals first | (blk_simp [idx1 t]; done) | (blk_simp [idx1 t]; omega)

theorem final_dk : (dat1 V c).arrAt 10 cfg1.N = heads (e := .f32) fun h => (A h).dk := by
  refine (dat1 V c).arrAt_eq_of_covers 10 _ (by decide +kernel) fun t hf y => ?_
  blk_simp
  rw [after1_10]
  obtain ⟨k, r, l, rfl⟩ : ∃ k r l, y = ix3 k r l := ⟨y 0, y 1, y 2, by ext i; fin_cases i <;> rfl⟩
  obtain rfl : k = 0 := Fin.ext (by omega)
  refine (out_dk V c t _ (hR t) r l).trans (heads_of (e := .f32) (fun h => (A h).dk) _ t r l ?_ ?_ ?_).symm
  all_goals first | (blk_simp [idx1 t]; done) | (blk_simp [idx1 t]; omega)

theorem final_dv : (dat1 V c).arrAt 11 cfg1.N = heads (e := .f32) fun h => (A h).dv := by
  refine (dat1 V c).arrAt_eq_of_covers 11 _ (by decide +kernel) fun t hf y => ?_
  blk_simp
  rw [after1_11]
  obtain ⟨k, r, l, rfl⟩ : ∃ k r l, y = ix3 k r l := ⟨y 0, y 1, y 2, by ext i; fin_cases i <;> rfl⟩
  obtain rfl : k = 0 := Fin.ext (by omega)
  refine (out_dv V c t _ (hR t) r l).trans (heads_of (e := .f32) (fun h => (A h).dv) _ t r l ?_ ?_ ?_).symm
  all_goals first | (blk_simp [idx1 t]; done) | (blk_simp [idx1 t]; omega)

theorem final_dkc : (dat1 V c).arrAt 12 cfg1.N = heads (e := .f32) fun h => (A h).dkc := by
  refine (dat1 V c).arrAt_eq_of_covers 12 _ (by decide +kernel) fun t hf y => ?_
  blk_simp
  rw [after1_12]
  obtain ⟨k, r, l, rfl⟩ : ∃ k r l, y = ix3 k r l := ⟨y 0, y 1, y 2, by ext i; fin_cases i <;> rfl⟩
  obtain rfl : k = 0 := Fin.ext (by omega)
  refine (out_dkc V c t _ (hR t) r l).trans (heads_of (e := .f32) (fun h => (A h).dkc) _ t r l ?_ ?_ ?_).symm
  all_goals first | (blk_simp [idx1 t]; done) | (blk_simp [idx1 t]; omega)

theorem final_dvc : (dat1 V c).arrAt 13 cfg1.N = heads (e := .f32) fun h => (A h).dvc := by
  refine (dat1 V c).arrAt_eq_of_covers 13 _ (by decide +kernel) fun t hf y => ?_
  blk_simp
  rw [after1_13]
  obtain ⟨k, r, l, rfl⟩ : ∃ k r l, y = ix3 k r l := ⟨y 0, y 1, y 2, by ext i; fin_cases i <;> rfl⟩
  obtain rfl : k = 0 := Fin.ext (by omega)
  refine (out_dvc V c t _ (hR t) r l).trans (heads_of (e := .f32) (fun h => (A h).dvc) _ t r l ?_ ?_ ?_).symm
  all_goals first | (blk_simp [idx1 t]; done) | (blk_simp [idx1 t]; omega)

theorem final_dtiles : (dat1 V c).arrAt 14 cfg1.N = heads4 fun h => dtiles (A h) := by
  refine (dat1 V c).arrAt_eq_of_covers 14 _ (by decide +kernel) fun t hf y => ?_
  blk_simp
  rw [after1_14]
  obtain ⟨k, r, l, j, rfl⟩ : ∃ k r l j, y = ix4 k r l j := ⟨y 0, y 1, y 2, y 3, by ext i; fin_cases i <;> rfl⟩
  obtain rfl : k = 0 := Fin.ext (by omega)
  refine (out_dtiles V c t _ (hR t) r l j).trans (heads4_of (fun h => dtiles (A h)) _ t r l j ?_ ?_ ?_ ?_).symm
  all_goals first | (blk_simp [idx1 t]; done) | (blk_simp [idx1 t]; omega)

end

end Cert.Attn
-- ==== Proof.Attn.Entry.lean ====
/-
  The bias tiles and the bias gradient as arrays, and the operands that the attention kernel reads.
-/
module

public import proofs.«01_k».proof.Proof.Attn.Array

@[expose] public section

set_option maxRecDepth 16384

noncomputable section

namespace Cert.Attn

open Idealize.ShloMosaic Idealize.ShloMosaic.TcCoe Idealize.SL.Sem
open Idealize.ShloMosaic.Pipeline (Dat)
open Cert.Kernel2Ideal Cert.Kernel2Ideal.Gen

variable (V : (c : Dev nD) → (b : Ref sig Kind.tc) → Buf (Elt Ideal) ((c.tc : Thread nD τ).loc b))

/-! ## The bias tiles -/

/-- A head's rows of the reversed bias table. -/
def headRows (r : FVec Ideal S8x15x128 .f32) (h : Fin 8) : Vec Ideal S1x15x128 .f32 := fun y => r (ix3 h (y 1) (y 2))

theorem rows_eq (c : Dev nD) (t : Fin cfg0.N) : iblk0 V c 0 t = headRows (V c main_v1) t := by
  funext y
  obtain ⟨k, r, l, rfl⟩ : ∃ k r l, y = ix3 k r l := ⟨y 0, y 1, y 2, by ext i; fin_cases i <;> rfl⟩
  obtain rfl : k = 0 := Fin.ext (by omega)
  unfold headRows
  blk_ext! [iblk0, idx0 t]

/-- The tiles of a reversed bias table, a head at a time. -/
def tilesOf (r : FVec Ideal S8x15x128 .f32) : FVec Ideal S8x5x576x128 .f32 := fun i =>
  View.canon (bL (headRows r (i 0)) 90) (ix4 0 (i 1) (i 2) (i 3))

theorem tilesOf_of (r : FVec Ideal S8x15x128 .f32) (j : S8x5x576x128.Idx)
    (h : Fin 8) (t : Fin 5) (u : Fin 576) (d : Fin 128) (e0 : (j 0 : ℕ) = h) (e1 : (j 1 : ℕ) = t) (e2 : (j 2 : ℕ) = u)
    (e3 : (j 3 : ℕ) = d) : tilesOf r j = View.canon (bL (headRows r h) 90) (ix4 0 t u d) := by
  obtain rfl : j = ix4 h t u d := by
    funext a
    match a with
    | ⟨0, _⟩ => exact Fin.ext e0
    | ⟨1, _⟩ => exact Fin.ext e1
    | ⟨2, _⟩ => exact Fin.ext e2
    | ⟨3, _⟩ => exact Fin.ext e3
  rfl

theorem out_tiles (c : Dev nD) (t : Fin cfg0.N) (r : Fin 5) (u : Fin 576) (j : Fin 128) :
    outsAt0 V c t (ix4 0 r u j) = View.canon (bL (headRows (V c main_v1) t) 90) (ix4 0 r u j) := by
  rw [tiles, rows_eq]

theorem final_tiles (c : Dev nD) : (dat0 V c).arrAt 1 cfg0.N = tilesOf (V c main_v1) := by
  refine (dat0 V c).arrAt_eq_of_covers 1 _ (by decide +kernel) fun t hf y => ?_
  blk_simp
  rw [after0_1]
  obtain ⟨k, r, l, j, rfl⟩ : ∃ k r l j, y = ix4 k r l j := ⟨y 0, y 1, y 2, y 3, by ext i; fin_cases i <;> rfl⟩
  obtain rfl : k = 0 := Fin.ext (by omega)
  refine (out_tiles V c t r l j).trans (tilesOf_of _ _ t r l j ?_ ?_ ?_ ?_).symm
  all_goals first | (blk_simp [idx0 t]; done) | (blk_simp [idx0 t]; omega)

/-! ## The bias gradient -/

/-- The bias gradients, a head at a time, over the lanes. -/
def dtable (A : Fin 8 → Head) : FVec Ideal S8x15x128 .f32 :=
  heads fun h d l => if hl : (l : ℕ) < 31 then (A h).dbias d ⟨l, hl⟩ else 0

theorem out_bias (c : Dev nD) (t : Fin cfg2.N) (A : Fin 8 → Head) (hV : V c main_v21_6 = heads4 fun h => dtiles (A h))
    (d : Fin 15) (l : Fin 128) : outsAt2 V c t (ix3 0 d l)
      = ((if hl : (l : ℕ) < 31 then (A t).dbias d ⟨l, hl⟩ else 0 : ℝ) : EReal) := by
  have hx : ∀ r u j, iblk2 V c 0 t (ix4 0 r u j) = (dtiles (A t) r u j : EReal) := by
    intro r u j
    refine Eq.trans (b := V c main_v21_6 (ix4 t r u j)) ?_ (congrFun hV _)
    blk_ext! [iblk2, idx2 t]
  rw [biases]
  refine (dbias_at hx _ d l).trans (congrArg _ ?_)
  by_cases hl : (l : ℕ) < 31
  · rw [if_pos hl, dif_pos hl]; exact gather_sum (A t) d ⟨l, hl⟩
  · rw [if_neg hl, dif_neg hl]

theorem final_bias (c : Dev nD) (A : Fin 8 → Head) (hV : V c main_v21_6 = heads4 fun h => dtiles (A h)) :
    (dat2 V c).arrAt 1 cfg2.N = dtable A := by
  refine (dat2 V c).arrAt_eq_of_covers 1 _ (by decide +kernel) fun t hf y => ?_
  blk_simp
  rw [after2_1]
  obtain ⟨k, r, l, rfl⟩ : ∃ k r l, y = ix3 k r l := ⟨y 0, y 1, y 2, by ext i; fin_cases i <;> rfl⟩
  obtain rfl : k = 0 := Fin.ext (by omega)
  refine (out_bias V c t A hV r l).trans (heads_of (e := .f32)
    (fun h d l => if hl : (l : ℕ) < 31 then (A h).dbias d ⟨l, hl⟩ else 0) _ t r l ?_ ?_ ?_).symm
  all_goals first | (blk_simp [idx2 t]; done) | (blk_simp [idx2 t]; omega)

/-! ## The attention kernel's operands -/

/-- The heads' operands, as arrays: the queries scaled. -/
structure Operands (q qp k v g : FVec Ideal S8x2048x64 .bf16) (kc vc : FVec Ideal S8x256x64 .bf16)
    (bt : FVec Ideal S8x5x576x128 .f32) (A : Fin 8 → Head) : Prop where
  q : ∀ h i d, q (ix3 h i d) = ((A h).q i d : EReal)
  qp : ∀ h i d, qp (ix3 h i d) = ((A h).qp i d : EReal)
  k : ∀ h i d, k (ix3 h i d) = ((A h).k i d : EReal)
  v : ∀ h i d, v (ix3 h i d) = ((A h).v i d : EReal)
  kc : ∀ h i d, kc (ix3 h i d) = ((A h).kc i d : EReal)
  vc : ∀ h i d, vc (ix3 h i d) = ((A h).vc i d : EReal)
  g : ∀ h i d, g (ix3 h i d) = ((A h).g i d : EReal)
  bt : ∃ r : FVec Ideal S8x15x128 .f32, bt = tilesOf r
    ∧ ∀ h (d : Fin 15) (l : Fin 31), r (ix3 h d ⟨30 - l, by omega⟩) = ((A h).bias d l : EReal)

/-- The operands as region 1 finds them. -/
abbrev Entry (c : Dev nD) (A : Fin 8 → Head) : Prop :=
  Operands (V c main_v6) (V c main_v10) (V c main_v12) (V c main_v14) (V c main_v20) (V c main_v16) (V c main_v18)
    (V c main_v2) A

theorem Operands.reads {c : Dev nD} {A : Fin 8 → Head} (h : Entry V c A) (t : Fin cfg1.N) : Reads (blocks V c t) (A t) where
  q i d := by
    refine Eq.trans (b := V c main_v6 (ix3 t i d)) ?_ (h.q _ _ _)
    show iblk1 V c 0 t _ = _; blk_ext! [iblk1, idx1 t]
  qp i d := by
    refine Eq.trans (b := V c main_v10 (ix3 t i d)) ?_ (h.qp _ _ _)
    show iblk1 V c 1 t _ = _; blk_ext! [iblk1, idx1 t]
  k i d := by
    refine Eq.trans (b := V c main_v12 (ix3 t i d)) ?_ (h.k _ _ _)
    show iblk1 V c 2 t _ = _; blk_ext! [iblk1, idx1 t]
  v i d := by
    refine Eq.trans (b := V c main_v14 (ix3 t i d)) ?_ (h.v _ _ _)
    show iblk1 V c 3 t _ = _; blk_ext! [iblk1, idx1 t]
  kc i d := by
    refine Eq.trans (b := V c main_v16 (ix3 t i d)) ?_ (h.kc _ _ _)
    show iblk1 V c 4 t _ = _; blk_ext! [iblk1, idx1 t]
  vc i d := by
    refine Eq.trans (b := V c main_v18 (ix3 t i d)) ?_ (h.vc _ _ _)
    show iblk1 V c 5 t _ = _; blk_ext! [iblk1, idx1 t]
  g i d := by
    refine Eq.trans (b := V c main_v20 (ix3 t i d)) ?_ (h.g _ _ _)
    show iblk1 V c 7 t _ = _; blk_ext! [iblk1, idx1 t]
  bt b hb u j := by
    obtain ⟨r, hr, hb'⟩ := h.bt
    refine Eq.trans (b := V c main_v2 (ix4 t ⟨tl b, tl_lt b⟩ u j)) ?_ ?_
    · show iblk1 V c 6 t _ = _; blk_ext! [iblk1, idx1 t]
    · rw [show V c main_v2 = tilesOf r from hr]
      exact tile_at (headRows r t) (A t).bias (fun d l => hb' t d l) b hb u j

end Cert.Attn
-- ==== Proof.AttnFwd.Value.lean ====
/-
  The attention's forward call at one head: its blocks are the backward call's, and it stores every query's weighted
  values.
-/
module

public import proofs.«01_k».proof.Proof.Gen.Kernel9Ideal.Frame
public import proofs.«01_k».proof.Proof.Attn.Entry

@[expose] public section

set_option maxRecDepth 16384

noncomputable section

namespace Cert.AttnFwd

open Idealize.ShloMosaic Idealize.ShloMosaic.TcCoe Idealize.SL.Sem
open Idealize.ShloMosaic.Pipeline (Dat)
open Cert.Kernel9Ideal Cert.Kernel9Ideal.Gen
open Cert.Attn (Head In Reads query key bL byKeys byCtx)

/-- Query `i`'s weighted values. -/
def out (A : Head) (i : Fin 2048) (d : Fin 64) : ℝ := ∑ k, (A.row i).p k * A.v k d + ∑ c, (A.row i).pc c * A.vc c d

theorem out_at {X : In Ideal} {A : Head} (h : Reads X A) (i : Fin 2048) (d : Fin 64) :
    View.canon (In.qL (fun b => addf (byKeys (X.p b) (In.kB b X.v)) (byCtx (X.pc b) X.vc)) 16) (ix3 0 i d)
      = (out A i d : EReal) := by
  obtain ⟨b, hb, j, rfl⟩ := Cert.Attn.exists_query i
  rw [Cert.Attn.qL_at _ 16 le_rfl b hb]
  refine (congrArg₂ (· + ·) ((Cert.Attn.byKeys_at _ _ j d).trans (Cert.Attn.dot_coe (fun u => h.p hb j u) (fun u => h.vB u d)))
    ((Cert.Attn.byCtx_at _ _ j d).trans (Cert.Attn.dot_coe (fun c => h.pc hb j c) (fun c => h.vc c d)))).trans ?_
  rw [← EReal.coe_add]
  refine congrArg (fun x : ℝ => (x : EReal)) (congrArg (· + _) ?_)
  exact Cert.Attn.key_sum (fun k => (A.row (query b j)).p k * A.v k d) fun k hk => by rw [Cert.Attn.p_out hb A j hk, zero_mul]

variable {F : FTy → Type} [FloatOps F] [Named F]
variable (V : (c : Dev nD) → (b : Ref sig Kind.tc) → Buf (Elt F) (c.tc.loc b))

theorem tiles (c : Dev nD) (t : Fin cfg0.N) : outsAt0 V c t = View.canon (bL (iblk0 V c 0 t) 90) := by
  unfold outsAt0
  frame_out
  sl_kernel_rfl

/-- The blocks that grid point `t` reads; the forward call reads no gradient. -/
def blocks (c : Dev nD) (t : Fin cfg1.N) : In F where
  q := iblk1 V c 0 t
  qp := iblk1 V c 1 t
  k := iblk1 V c 2 t
  v := iblk1 V c 3 t
  kc := iblk1 V c 4 t
  vc := iblk1 V c 5 t
  bt := iblk1 V c 6 t
  g := constant S1x2048x64 .bf16 0x0000#16

theorem outs (q qp k v : Vec F S1x2048x64 .bf16) (kc vc : Vec F S1x256x64 .bf16) (bt : Vec F S1x5x576x128 .f32)
    (g : Vec F S1x2048x64 .bf16) (X : In F) (hX : X = ⟨q, qp, k, v, kc, vc, bt, g⟩) : out1_7 q qp k v kc vc bt
      = View.canon (In.qL (fun b => addf (byKeys (X.p b) (In.kB b X.v)) (byCtx (X.pc b) X.vc)) 16) := by
  have e : ∀ x : Vec F S1x256x64 .bf16, View.ld x r1_0 = x := fun x => View.ld_unit_lit _ x (by decide)
  unfold_out out1_7
  rw [e kc, e vc, hX]
  sl_kernel_rfl

end Cert.AttnFwd
end
-- ==== Proof.Attn.Run.lean ====
/-
  What the attention's gradient program leaves in its seven results: the heads' gradients, as arrays.
-/
module

public import proofs.«01_k».proof.Proof.Attn.Entry
public import proofs.«01_k».proof.Proof.Finite

@[expose] public section

set_option maxRecDepth 16384

noncomputable section

namespace Cert.Attn

open Idealize.ShloMosaic Idealize.ShloMosaic.TcCoe Idealize.SL.Sem
open Idealize.ShloMosaic.Pipeline (Dat)
open Cert.Kernel2Ideal Cert.Kernel2Ideal.Gen

/-! ## The heads of the arguments -/

/-- Head `h` of the arguments, the queries scaled by 1/8. -/
def argHead (q qp k v : FVec Ideal S2048x8x64 .f32) (kc vc : FVec Ideal S256x8x64 .f32) (rpb : FVec Ideal S8x15x31 .f32)
    (g : FVec Ideal S2048x8x64 .f32) (h : Fin 8) : Head where
  q i d := (q (ix3 i h d)).toReal * (1 / 8)
  qp i d := (qp (ix3 i h d)).toReal * (1 / 8)
  k i d := (k (ix3 i h d)).toReal
  v i d := (v (ix3 i h d)).toReal
  kc i d := (kc (ix3 i h d)).toReal
  vc i d := (vc (ix3 i h d)).toReal
  bias a b := (rpb (ix3 h a b)).toReal
  g i d := (g (ix3 i h d)).toReal

/-- The arguments are real. -/
structure RealArgs (q qp k v : FVec Ideal S2048x8x64 .f32) (kc vc : FVec Ideal S256x8x64 .f32) (rpb : FVec Ideal S8x15x31 .f32)
    (g : FVec Ideal S2048x8x64 .f32) : Prop where
  q : ∀ i, IsReal (q i)
  qp : ∀ i, IsReal (qp i)
  k : ∀ i, IsReal (k i)
  v : ∀ i, IsReal (v i)
  kc : ∀ i, IsReal (kc i)
  vc : ∀ i, IsReal (vc i)
  rpb : ∀ i, IsReal (rpb i)
  g : ∀ i, IsReal (g i)

theorem real_coe {x : EReal} (h : IsReal x) : x = (x.toReal : EReal) := by
  obtain ⟨r, rfl⟩ := h
  rw [EReal.toReal_coe]

theorem eighth : Ideal.ofBits .f32 0x3E000000#32 = ((1 / 8 : ℝ) : EReal) := by
  simp [Ideal.ofBits, Ideal.ieee]
  rw [← EReal.coe_mul]
  norm_num

section Host
variable (x : FVec Ideal S2048x8x64 .f32) (y : FVec Ideal S256x8x64 .f32) (r : FVec Ideal S8x15x31 .f32)

/-- The host's layouts: heads first, -/
def lead : FVec Ideal S8x2048x64 .bf16 :=
  truncf .bf16 (transpose S8x2048x64 [1, 0, 2] x transposes_S2048x8x64_S8x2048x64_1_0_2) bitsLt_bf16_f32
def leadc : FVec Ideal S8x256x64 .bf16 :=
  truncf .bf16 (transpose S8x256x64 [1, 0, 2] y transposes_S256x8x64_S8x256x64_1_0_2) bitsLt_bf16_f32
/-- scaled, -/
def scaled : FVec Ideal S2048x8x64 .f32 :=
  mulf x (broadcastInDim S2048x8x64 ![] bcast_S_S2048x8x64 (constant S_ .f32 0x3E000000#32))
/-- and the bias reversed and padded. -/
def reversed : FVec Ideal S8x15x128 .f32 :=
  pad S8x15x128 ![0, 0, 0] ![0, 0, 97] ![0, 0, 0] (Host.reverse [2] r) (sitofp .f32 (constantI S_ 32 0#32))
    pads_S8x15x31_S8x15x128_000_000_0970 h_S_

theorem lead_at (h : Fin 8) (i : Fin 2048) (d : Fin 64) : lead x (ix3 h i d) = x (ix3 i h d) := by
  pointwise [lead]
theorem leadc_at (h : Fin 8) (i : Fin 256) (d : Fin 64) : leadc y (ix3 h i d) = y (ix3 i h d) := by
  pointwise [leadc]
theorem scaled_at (i : Fin 2048) (h : Fin 8) (d : Fin 64) :
    scaled x (ix3 i h d) = x (ix3 i h d) * ((1 / 8 : ℝ) : EReal) := by
  pointwise [scaled]
  rw [eighth]
theorem reversed_at (h : Fin 8) (d : Fin 15) (l : Fin 31) :
    reversed r (ix3 h d ⟨30 - l, by omega⟩) = r (ix3 h d l) := by
  pointwise [reversed]
  rw [dif_pos (by omega)]
  refine congrArg r (congrArg (ix3 h d) ?_)
  exact Fin.ext (by show 31 - (30 - (l : ℕ) + 1) = l; omega)
end Host

/-! ## The buffers between the regions -/

variable (m : (ℓ : Loc nD τ sig) → Buf (Elt Ideal) ℓ) (ρ : Dev nD → PrngReg)

/-- Core `c`'s heads. -/
abbrev H (c : Dev nD) : Fin 8 → Head :=
  argHead (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

abbrev Real (c : Dev nD) : Prop :=
  RealArgs (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

theorem V2_rows (c : Dev nD) : V2 m ρ c main_v1 = reversed (m ((c : Thread nD τ).loc main_arg6)) := by
  show W2 m ρ c (Proc.devRef .tc main_v1) = _
  after_results
  rfl

theorem W3_tiles (c : Dev nD) : W3 m ρ c (Proc.devRef .tc main_v2) = tilesOf (reversed (m ((c : Thread nD τ).loc main_arg6))) :=
  (W3_arr m ρ c 1).trans ((final_tiles (V2 m ρ) c).trans (congrArg tilesOf (V2_rows m ρ c)))

theorem V4_q (c : Dev nD) : V4 m ρ c main_v6 = lead (scaled (m ((c : Thread nD τ).loc main_arg0))) := by
  show W4 m ρ c (Proc.devRef .tc main_v6) = _
  after_results
  exact congrArg (fun x => lead (scaled x)) (W3_args m ρ c main_arg0 (by decide))

theorem V4_qp (c : Dev nD) : V4 m ρ c main_v10 = lead (scaled (m ((c : Thread nD τ).loc main_arg1))) := by
  show W4 m ρ c (Proc.devRef .tc main_v10) = _
  after_results
  exact congrArg (fun x => lead (scaled x)) (W3_args m ρ c main_arg1 (by decide))

theorem V4_k (c : Dev nD) : V4 m ρ c main_v12 = lead (m ((c : Thread nD τ).loc main_arg2)) := by
  show W4 m ρ c (Proc.devRef .tc main_v12) = _
  after_results
  exact congrArg lead (W3_args m ρ c main_arg2 (by decide))

theorem V4_v (c : Dev nD) : V4 m ρ c main_v14 = lead (m ((c : Thread nD τ).loc main_arg3)) := by
  show W4 m ρ c (Proc.devRef .tc main_v14) = _
  after_results
  exact congrArg lead (W3_args m ρ c main_arg3 (by decide))

theorem V4_kc (c : Dev nD) : V4 m ρ c main_v16 = leadc (m ((c : Thread nD τ).loc main_arg4)) := by
  show W4 m ρ c (Proc.devRef .tc main_v16) = _
  after_results
  exact congrArg leadc (W3_args m ρ c main_arg4 (by decide))

theorem V4_vc (c : Dev nD) : V4 m ρ c main_v18 = leadc (m ((c : Thread nD τ).loc main_arg5)) := by
  show W4 m ρ c (Proc.devRef .tc main_v18) = _
  after_results
  exact congrArg leadc (W3_args m ρ c main_arg5 (by decide))

theorem V4_g (c : Dev nD) : V4 m ρ c main_v20 = lead (m ((c : Thread nD τ).loc main_arg7)) := by
  show W4 m ρ c (Proc.devRef .tc main_v20) = _
  after_results
  exact congrArg lead (W3_args m ρ c main_arg7 (by decide))

theorem V4_tiles (c : Dev nD) : V4 m ρ c main_v2 = tilesOf (reversed (m ((c : Thread nD τ).loc main_arg6))) :=
  (W4_of m ρ c main_v2 (by decide)).trans (W3_tiles m ρ c)

theorem scaled_real {x : FVec Ideal S2048x8x64 .f32} (hx : ∀ i, IsReal (x i)) (h : Fin 8) (i : Fin 2048) (d : Fin 64) :
    lead (scaled x) (ix3 h i d) = (((x (ix3 i h d)).toReal * (1 / 8) : ℝ) : EReal) := by
  rw [lead_at, scaled_at, EReal.coe_mul, ← real_coe (hx _)]

theorem entry (c : Dev nD) (hr : Real m c) : Entry (V4 m ρ) c (H m c) where
  q h i d := (congrFun (V4_q m ρ c) _).trans (scaled_real hr.q h i d)
  qp h i d := (congrFun (V4_qp m ρ c) _).trans (scaled_real hr.qp h i d)
  k h i d := (congrFun (V4_k m ρ c) _).trans ((lead_at _ h i d).trans (real_coe (hr.k _)))
  v h i d := (congrFun (V4_v m ρ c) _).trans ((lead_at _ h i d).trans (real_coe (hr.v _)))
  kc h i d := (congrFun (V4_kc m ρ c) _).trans ((leadc_at _ h i d).trans (real_coe (hr.kc _)))
  vc h i d := (congrFun (V4_vc m ρ c) _).trans ((leadc_at _ h i d).trans (real_coe (hr.vc _)))
  g h i d := (congrFun (V4_g m ρ c) _).trans ((lead_at _ h i d).trans (real_coe (hr.g _)))
  bt := ⟨_, V4_tiles m ρ c, fun h d l => (reversed_at _ h d l).trans (real_coe (hr.rpb _))⟩

/-! ## The results -/

section
variable (c : Dev nD) (hr : Real m c)
include hr

theorem W6_dq : W6 m ρ c (Proc.devRef .tc main_v21_0) = heads (e := .f32) fun h => (H m c h).dq :=
  (W6_of m ρ c main_v21_0 (by decide)).trans ((W5_arr m ρ c 8).trans (final_dq _ c _ (entry m ρ c hr).reads))
theorem W6_dqp : W6 m ρ c (Proc.devRef .tc main_v21_1) = heads (e := .f32) fun h => (H m c h).dqp :=
  (W6_of m ρ c main_v21_1 (by decide)).trans ((W5_arr m ρ c 9).trans (final_dqp _ c _ (entry m ρ c hr).reads))
theorem W6_dk : W6 m ρ c (Proc.devRef .tc main_v21_2) = heads (e := .f32) fun h => (H m c h).dk :=
  (W6_of m ρ c main_v21_2 (by decide)).trans ((W5_arr m ρ c 10).trans (final_dk _ c _ (entry m ρ c hr).reads))
theorem W6_dv : W6 m ρ c (Proc.devRef .tc main_v21_3) = heads (e := .f32) fun h => (H m c h).dv :=
  (W6_of m ρ c main_v21_3 (by decide)).trans ((W5_arr m ρ c 11).trans (final_dv _ c _ (entry m ρ c hr).reads))
theorem W6_dkc : W6 m ρ c (Proc.devRef .tc main_v21_4) = heads (e := .f32) fun h => (H m c h).dkc :=
  (W6_of m ρ c main_v21_4 (by decide)).trans ((W5_arr m ρ c 12).trans (final_dkc _ c _ (entry m ρ c hr).reads))
theorem W6_dvc : W6 m ρ c (Proc.devRef .tc main_v21_5) = heads (e := .f32) fun h => (H m c h).dvc :=
  (W6_of m ρ c main_v21_5 (by decide)).trans ((W5_arr m ρ c 13).trans (final_dvc _ c _ (entry m ρ c hr).reads))
theorem W6_bias : W6 m ρ c (Proc.devRef .tc main_v22) = dtable (H m c) :=
  (W6_arr m ρ c 1).trans (final_bias _ c _ ((W5_arr m ρ c 14).trans (final_dtiles _ c _ (entry m ρ c hr).reads)))

end

open Idealize.ShloMosaic.Tactic Idealize.SL Idealize.SL.RA Idealize.SL.BI Idealize.SL.BI.BIBase Idealize.SL.BI.Laws
open Idealize.SL.ProofMode Idealize.ShloMosaic.Rounds
open scoped Idealize.SL.BI

set_option backward.isDefEq.respectTransparency.types false in
/-- Every run ends with the results as region 2 leaves them and the arguments as launched. -/
theorem run : θ_run defs (onTc (τ := τ) (main (F := Ideal))) ⟨m, fun _ => 0, ρ⟩ (fun r => ∀ c : Dev nD,
      r.2.mem ((c.tc : Thread nD τ).loc main_v21_0) = W6 m ρ c (Proc.devRef .tc main_v21_0)
      ∧ r.2.mem ((c.tc : Thread nD τ).loc main_v21_1) = W6 m ρ c (Proc.devRef .tc main_v21_1)
      ∧ r.2.mem ((c.tc : Thread nD τ).loc main_v21_2) = W6 m ρ c (Proc.devRef .tc main_v21_2)
      ∧ r.2.mem ((c.tc : Thread nD τ).loc main_v21_3) = W6 m ρ c (Proc.devRef .tc main_v21_3)
      ∧ r.2.mem ((c.tc : Thread nD τ).loc main_v21_4) = W6 m ρ c (Proc.devRef .tc main_v21_4)
      ∧ r.2.mem ((c.tc : Thread nD τ).loc main_v21_5) = W6 m ρ c (Proc.devRef .tc main_v21_5)
      ∧ r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v21_0 (by decide)),
       h c _ (mem_uc main_v21_1 (by decide)),
       h c _ (mem_uc main_v21_2 (by decide)),
       h c _ (mem_uc main_v21_3 (by decide)),
       h c _ (mem_uc main_v21_4 (by decide)),
       h c _ (mem_uc main_v21_5 (by decide)),
       h c _ (mem_uc main_v22 (by decide)),
       (h c _ (mem_uc main_arg0 (by decide))).trans (W6_args m ρ c main_arg0 (by decide)),
       (h c _ (mem_uc main_arg1 (by decide))).trans (W6_args m ρ c main_arg1 (by decide)),
       (h c _ (mem_uc main_arg2 (by decide))).trans (W6_args m ρ c main_arg2 (by decide)),
       (h c _ (mem_uc main_arg3 (by decide))).trans (W6_args m ρ c main_arg3 (by decide)),
       (h c _ (mem_uc main_arg4 (by decide))).trans (W6_args m ρ c main_arg4 (by decide)),
       (h c _ (mem_uc main_arg5 (by decide))).trans (W6_args m ρ c main_arg5 (by decide)),
       (h c _ (mem_uc main_arg6 (by decide))).trans (W6_args m ρ c main_arg6 (by decide)),
       (h c _ (mem_uc main_arg7 (by decide))).trans (W6_args m ρ c main_arg7 (by decide)),
       (h c _ (mem_uc main_arg8 (by decide))).trans (W6_args m ρ c main_arg8 (by decide))⟩)

end Cert.Attn
-- ==== Proof.AttnFwd.Run.lean ====
/-
  A run of the attention's forward call: the bias tiles, then the heads one at a time; the result is every head's weighted
  values.
-/
module

public import proofs.«01_k».proof.Proof.AttnFwd.Value
public import proofs.«01_k».proof.Proof.Attn.Run

@[expose] public section

set_option maxRecDepth 16384

noncomputable section

namespace Cert.AttnFwd

open Idealize.ShloMosaic Idealize.ShloMosaic.TcCoe Idealize.SL.Sem
open Idealize.ShloMosaic.Pipeline (Dat)
open Cert.Kernel9Ideal Cert.Kernel9Ideal.Gen
open Cert.Attn (Head In Reads Operands RealArgs argHead headRows tilesOf lead leadc scaled reversed heads)

section
variable (V : (c : Dev nD) → (b : Ref sig Kind.tc) → Buf (Elt Ideal) ((c.tc : Thread nD τ).loc b))

theorem idx0 : ∀ t : Fin cfg0.N, win0_0.index t = ![t.val, 0, 0] ∧ win0_1.index t = ![t.val, 0, 0, 0] :=
  (by decide +kernel : ∀ t : Fin grid0.N, _)

theorem idx1 : ∀ t : Fin cfg1.N, (win1_0.index t = ![t.val, 0, 0] ∧ win1_1.index t = ![t.val, 0, 0]
    ∧ win1_2.index t = ![t.val, 0, 0] ∧ win1_3.index t = ![t.val, 0, 0]) ∧ win1_4.index t = ![t.val, 0, 0]
    ∧ win1_5.index t = ![t.val, 0, 0] ∧ win1_6.index t = ![t.val, 0, 0, 0] ∧ win1_7.index t = ![t.val, 0, 0] :=
  (by decide +kernel : ∀ t : Fin grid1.N, _)

/-! ## What the regions leave -/

theorem rows_eq (c : Dev nD) (t : Fin cfg0.N) : iblk0 V c 0 t = headRows (V c main_v17) t := by
  funext y
  obtain ⟨k, r, l, rfl⟩ : ∃ k r l, y = ix3 k r l := ⟨y 0, y 1, y 2, by ext i; fin_cases i <;> rfl⟩
  obtain rfl : k = 0 := Fin.ext (by omega)
  unfold headRows
  blk_ext! [iblk0, idx0 t]

theorem final_tiles (c : Dev nD) : (dat0 V c).arrAt 1 cfg0.N = tilesOf (V c main_v17) := by
  refine (dat0 V c).arrAt_eq_of_covers 1 _ (by decide +kernel) fun t hf y => ?_
  blk_simp
  rw [after0_1]
  obtain ⟨k, r, l, j, rfl⟩ : ∃ k r l j, y = ix4 k r l j := ⟨y 0, y 1, y 2, y 3, by ext i; fin_cases i <;> rfl⟩
  obtain rfl : k = 0 := Fin.ext (by omega)
  have e : outsAt0 V c t (ix4 0 r l j) = View.canon (Cert.Attn.bL (headRows (V c main_v17) t) 90) (ix4 0 r l j) := by
    rw [tiles, rows_eq]
  refine e.trans (Cert.Attn.tilesOf_of _ _ t r l j ?_ ?_ ?_ ?_).symm
  all_goals first | (blk_simp [idx0 t]; done) | (blk_simp [idx0 t]; omega)

/-- The operands as region 1 finds them; it reads no gradient. -/
abbrev Entry (c : Dev nD) (A : Fin 8 → Head) : Prop :=
  Operands (V c main_v3) (V c main_v7) (V c main_v9) (V c main_v11) (fun _ => 0) (V c main_v13) (V c main_v15) (V c main_v18) A

theorem read_tiles (c : Dev nD) (t : Fin cfg1.N) (r : Fin 5) (u : Fin 576) (j : Fin 128) :
    iblk1 V c 6 t (ix4 0 r u j) = V c main_v18 (ix4 t r u j) := by
  blk_ext! [iblk1, idx1 t]

theorem reads {c : Dev nD} {A : Fin 8 → Head} (h : Entry V c A) (t : Fin cfg1.N) : Reads (blocks V c t) (A t) where
  q i d := by
    refine Eq.trans (b := V c main_v3 (ix3 t i d)) ?_ (h.q _ _ _)
    show iblk1 V c 0 t _ = _; blk_ext! [iblk1, idx1 t]
  qp i d := by
    refine Eq.trans (b := V c main_v7 (ix3 t i d)) ?_ (h.qp _ _ _)
    show iblk1 V c 1 t _ = _; blk_ext! [iblk1, idx1 t]
  k i d := by
    refine Eq.trans (b := V c main_v9 (ix3 t i d)) ?_ (h.k _ _ _)
    show iblk1 V c 2 t _ = _; blk_ext! [iblk1, idx1 t]
  v i d := by
    refine Eq.trans (b := V c main_v11 (ix3 t i d)) ?_ (h.v _ _ _)
    show iblk1 V c 3 t _ = _; blk_ext! [iblk1, idx1 t]
  kc i d := by
    refine Eq.trans (b := V c main_v13 (ix3 t i d)) ?_ (h.kc _ _ _)
    show iblk1 V c 4 t _ = _; blk_ext! [iblk1, idx1 t]
  vc i d := by
    refine Eq.trans (b := V c main_v15 (ix3 t i d)) ?_ (h.vc _ _ _)
    show iblk1 V c 5 t _ = _; blk_ext! [iblk1, idx1 t]
  g i d := (Ideal.ofBits_zero_bf16).trans (h.g t i d)
  bt b hb u j := by
    obtain ⟨r, hr, hb'⟩ := h.bt
    refine (read_tiles V c t ⟨Cert.Attn.tl b, Cert.Attn.tl_lt b⟩ u j).trans ?_
    rw [show V c main_v18 = tilesOf r from hr]
    exact Cert.Attn.tile_at (headRows r t) (A t).bias (fun d l => hb' t d l) b hb u j

theorem final_out (c : Dev nD) (A : Fin 8 → Head) (hR : ∀ t : Fin cfg1.N, Reads (blocks V c t) (A t)) :
    (dat1 V c).arrAt 7 cfg1.N = heads (e := .f32) fun h => out (A h) := by
  refine (dat1 V c).arrAt_eq_of_covers 7 _ (by decide +kernel) fun t hf y => ?_
  blk_simp
  rw [after1_7, outs _ _ _ _ _ _ _ _ (blocks V c t) rfl]
  obtain ⟨k, r, l, rfl⟩ : ∃ k r l, y = ix3 k r l := ⟨y 0, y 1, y 2, by ext i; fin_cases i <;> rfl⟩
  obtain rfl : k = 0 := Fin.ext (by omega)
  refine (out_at (hR t) r l).trans (Cert.Attn.heads_of (e := .f32) (fun h => out (A h)) _ t r l ?_ ?_ ?_).symm
  all_goals first | (blk_simp [idx1 t]; done) | (blk_simp [idx1 t]; omega)

end

/-! ## The buffers -/

variable (m : (ℓ : Loc nD τ sig) → Buf (Elt Ideal) ℓ) (ρ : Dev nD → PrngReg)

/-- Core `c`'s heads, their output's gradients zero. -/
abbrev H (c : Dev nD) : Fin 8 → Head :=
  argHead (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (fun _ => 0)

abbrev Real (c : Dev nD) : Prop :=
  RealArgs (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (fun _ => 0)

theorem V2_rows (c : Dev nD) : V2 m ρ c main_v17 = reversed (m ((c : Thread nD τ).loc main_arg6)) := by
  show W2 m ρ c (Proc.devRef .tc main_v17) = _
  after_results
  rfl

theorem V3_tiles (c : Dev nD) : V3 m ρ c main_v18 = tilesOf (reversed (m ((c : Thread nD τ).loc main_arg6))) :=
  (W3_arr m ρ c 1).trans ((final_tiles (V2 m ρ) c).trans (congrArg tilesOf (V2_rows m ρ c)))

theorem V3_q (c : Dev nD) : V3 m ρ c main_v3 = lead (scaled (m ((c : Thread nD τ).loc main_arg0))) := by
  refine (W3_of m ρ c main_v3 (by decide)).trans ?_
  after_results
  rfl

theorem V3_qp (c : Dev nD) : V3 m ρ c main_v7 = lead (scaled (m ((c : Thread nD τ).loc main_arg1))) := by
  refine (W3_of m ρ c main_v7 (by decide)).trans ?_
  after_results
  rfl

theorem V3_k (c : Dev nD) : V3 m ρ c main_v9 = lead (m ((c : Thread nD τ).loc main_arg2)) := by
  refine (W3_of m ρ c main_v9 (by decide)).trans ?_
  after_results
  rfl

theorem V3_v (c : Dev nD) : V3 m ρ c main_v11 = lead (m ((c : Thread nD τ).loc main_arg3)) := by
  refine (W3_of m ρ c main_v11 (by decide)).trans ?_
  after_results
  rfl

theorem V3_kc (c : Dev nD) : V3 m ρ c main_v13 = leadc (m ((c : Thread nD τ).loc main_arg4)) := by
  refine (W3_of m ρ c main_v13 (by decide)).trans ?_
  after_results
  rfl

theorem V3_vc (c : Dev nD) : V3 m ρ c main_v15 = leadc (m ((c : Thread nD τ).loc main_arg5)) := by
  refine (W3_of m ρ c main_v15 (by decide)).trans ?_
  after_results
  rfl

theorem entry (c : Dev nD) (hr : Real m c) : Entry (V3 m ρ) c (H m c) where
  q h i d := (congrFun (V3_q m ρ c) _).trans (Cert.Attn.scaled_real hr.q h i d)
  qp h i d := (congrFun (V3_qp m ρ c) _).trans (Cert.Attn.scaled_real hr.qp h i d)
  k h i d := (congrFun (V3_k m ρ c) _).trans ((Cert.Attn.lead_at _ h i d).trans (Cert.Attn.real_coe (hr.k _)))
  v h i d := (congrFun (V3_v m ρ c) _).trans ((Cert.Attn.lead_at _ h i d).trans (Cert.Attn.real_coe (hr.v _)))
  kc h i d := (congrFun (V3_kc m ρ c) _).trans ((Cert.Attn.leadc_at _ h i d).trans (Cert.Attn.real_coe (hr.kc _)))
  vc h i d := (congrFun (V3_vc m ρ c) _).trans ((Cert.Attn.leadc_at _ h i d).trans (Cert.Attn.real_coe (hr.vc _)))
  g h i d := Cert.Attn.real_coe (hr.g (ix3 i h d))
  bt := ⟨_, V3_tiles m ρ c, fun h d l => (Cert.Attn.reversed_at _ h d l).trans (Cert.Attn.real_coe (hr.rpb _))⟩

theorem W4_out (c : Dev nD) (hr : Real m c) : W4 m ρ c (Proc.devRef .tc main_v19) = heads (e := .f32) fun h => out (H m c h) :=
  (W4_arr m ρ c 7).trans (final_out _ c _ (reads _ (entry m ρ c hr)))

open Idealize.ShloMosaic.Tactic Idealize.SL Idealize.SL.RA Idealize.SL.BI Idealize.SL.BI.BIBase Idealize.SL.BI.Laws
open Idealize.SL.ProofMode Idealize.ShloMosaic.Rounds
open scoped Idealize.SL.BI

set_option backward.isDefEq.respectTransparency.types false in
/-- Every run ends with the result as region 1 leaves it and the arguments as launched. -/
theorem run : θ_run defs (onTc (τ := τ) (main (F := Ideal))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v19 (by decide)),
       (h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide)),
       (h c _ (mem_uc main_arg4 (by decide))).trans (W4_args m ρ c main_arg4 (by decide)),
       (h c _ (mem_uc main_arg5 (by decide))).trans (W4_args m ρ c main_arg5 (by decide)),
       (h c _ (mem_uc main_arg6 (by decide))).trans (W4_args m ρ c main_arg6 (by decide)),
       (h c _ (mem_uc main_arg7 (by decide))).trans (W4_args m ρ c main_arg7 (by decide))⟩)

end Cert.AttnFwd
-- ==== Proof.Attn.RefKeys.lean ====
/-
  The reference's keys: each token row reads eight rows of keys; sums over them are sums over all the keys.
-/
module

public import proofs.«01_k».proof.Proof.Attn.Window

@[expose] public section

noncomputable section

namespace Cert.Attn.Ref

open Idealize.ShloMosaic

theorem rs_le (r : ℕ) : rs r ≤ 24 := min_le_right _ _

/-- Token `(i, q)`: row `i`, column `q`. -/
abbrev tok (i : Fin 32) (q : Fin 64) : Fin 2048 := ⟨i * 64 + q, by omega⟩

/-- The key that token row `i` reads `r` rows into its window, in column `k`. -/
abbrev key (i : Fin 32) (r : Fin 8) (k : Fin 64) : Fin 2048 := tok ⟨rs i + r, by have := rs_le i; omega⟩ k

theorem tok_row (i : Fin 32) (q : Fin 64) : (tok i q : ℕ) / 64 = i := by show (i * 64 + q : ℕ) / 64 = i; omega
theorem tok_col (i : Fin 32) (q : Fin 64) : (tok i q : ℕ) % 64 = q := by show (i * 64 + q : ℕ) % 64 = q; omega

/-- The tokens, row by row. -/
theorem tok_sum {M : Type} [AddCommMonoid M] (f : Fin 2048 → M) : ∑ i, ∑ q, f (tok i q) = ∑ t, f t := by
  rw [← Fintype.sum_prod_type' (fun (i : Fin 32) (q : Fin 64) => f (tok i q))]
  refine Fintype.sum_bijective (fun x : Fin 32 × Fin 64 => tok x.1 x.2) ⟨fun x y h => ?_, fun t => ?_⟩ _ _ fun _ => rfl
  · have := congrArg Fin.val h
    obtain ⟨⟨i, hi⟩, ⟨q, hq⟩⟩ := x; obtain ⟨⟨i', hi'⟩, ⟨q', hq'⟩⟩ := y
    have : i * 64 + q = i' * 64 + q' := this
    exact Prod.ext (Fin.ext (by show i = i'; omega)) (Fin.ext (by show q = q'; omega))
  · refine ⟨⟨⟨t / 64, by omega⟩, ⟨t % 64, by omega⟩⟩, Fin.ext ?_⟩
    show (t : ℕ) / 64 * 64 + t % 64 = t
    omega

/-- A key read is in the window where its column is. -/
theorem win_key (i : Fin 32) (q : Fin 64) (r : Fin 8) (k : Fin 64) :
    win (tok i q) (key i r k) ↔ cs q ≤ k ∧ (k : ℕ) < cs q + 16 := by
  unfold win
  rw [tok_row, tok_col, tok_row, tok_col]
  show (rs i ≤ rs i + r ∧ rs i + r < rs i + 8 ∧ _) ↔ _
  have := r.isLt
  constructor
  · exact fun h => h.2.2
  · exact fun h => ⟨by omega, by omega, h⟩

theorem dr_key (i : Fin 32) (q : Fin 64) (r : Fin 8) (k : Fin 64) : (dr (tok i q) (key i r k) : ℕ) = rs i + r + 7 - i := by
  show ((key i r k : ℕ) / 64 + 7 - (tok i q : ℕ) / 64) % 15 = _
  rw [tok_row, tok_row]
  show (rs i + (r : ℕ) + 7 - (i : ℕ)) % 15 = _
  have := r.isLt; have := i.isLt
  unfold rs
  omega

theorem dc_key (i : Fin 32) (q : Fin 64) (r : Fin 8) (k : Fin 64) (h : win (tok i q) (key i r k)) :
    (dc (tok i q) (key i r k) : ℕ) = min ((k : ℕ) + 15 - (q : ℕ)) 30 := by
  have hw := (win_key i q r k).1 h
  show ((key i r k : ℕ) % 64 + 15 - (tok i q : ℕ) % 64) % 31 = _
  rw [tok_col, tok_col]
  have := k.isLt; have := q.isLt
  unfold cs at hw
  omega

/-- A sum over the keys that a token row reads, of something that vanishes outside the window, is the sum over all the keys. -/
theorem window_sum (i : Fin 32) (q : Fin 64) (f : Fin 2048 → ℝ) (hf : ∀ a : Fin 2048, ¬ win (tok i q) a → f a = 0) :
    ∑ b : Fin 8 × Fin 64, f (key i b.1 b.2) = ∑ a, f a := by
  refine Fintype.sum_of_injective (fun b : Fin 8 × Fin 64 => key i b.1 b.2) (fun x y h => ?_) _ f (fun a ha => ?_) fun _ => rfl
  · have := congrArg Fin.val h
    obtain ⟨⟨r, hr⟩, ⟨k, hk⟩⟩ := x; obtain ⟨⟨r', hr'⟩, ⟨k', hk'⟩⟩ := y
    have : (rs i + r) * 64 + k = (rs i + r') * 64 + k' := this
    exact Prod.ext (Fin.ext (by show r = r'; omega)) (Fin.ext (by show k = k'; omega))
  · refine hf a fun hw => ha ?_
    obtain ⟨h1, h2, -, -⟩ := hw
    rw [tok_row] at h1 h2
    refine ⟨⟨⟨a / 64 - rs i, by omega⟩, ⟨a % 64, by omega⟩⟩, Fin.ext ?_⟩
    show (rs i + (a / 64 - rs i)) * 64 + a % 64 = a
    omega

/-- A sum over the tokens of what lands on one key. -/
theorem land_sum (φ : Fin 2048 → Fin 2048 → ℝ) (hφ : ∀ t a : Fin 2048, ¬ win t a → φ t a = 0) (G : Fin 2048 → ℝ) (K : Fin 2048) :
    ∑ i : Fin 32, ∑ r : Fin 8, ∑ k : Fin 64, (if key i r k = K then ∑ q : Fin 64, φ (tok i q) (key i r k) * G (tok i q) else 0)
      = ∑ t, φ t K * G t := by
  rw [← tok_sum]
  refine Finset.sum_congr rfl fun i _ => ?_
  have e : ∀ (r : Fin 8) (k : Fin 64), (if key i r k = K then ∑ q : Fin 64, φ (tok i q) (key i r k) * G (tok i q) else 0)
      = ∑ q : Fin 64, if key i r k = K then φ (tok i q) (key i r k) * G (tok i q) else 0 := fun r k => by
    split_ifs
    · rfl
    · simp
  simp only [e]
  rw [← Fintype.sum_prod_type' fun (r : Fin 8) (k : Fin 64) => _, Finset.sum_comm]
  refine Finset.sum_congr rfl fun q _ => ?_
  rw [window_sum i q (fun a => if a = K then φ (tok i q) a * G (tok i q) else 0) fun a ha => by rw [hφ _ _ ha]; simp]
  simp

end Cert.Attn.Ref
-- ==== Proof.Attn.RefIdx.lean ====
/-
  The reference's index words: each token's window, and where its bias lies.
-/
module

public import proofs.«01_k».proof.Proof.Gen.Reference2Ideal.Read
public import proofs.«01_k».proof.Proof.Attn.RefKeys
public import Idealize.ShloMosaic.Lib.Pipeline.ValueKit
public import Idealize.ShloMosaic.Lib.Routing.OpsPair

@[expose] public section

set_option maxRecDepth 16384

noncomputable section

namespace Cert.Attn.Ref

open Idealize.ShloMosaic Idealize.ShloMosaic.TcCoe Idealize.SL.Sem
open Cert.Reference2Ideal Cert.Reference2Ideal.Gen Cert.Reference2Ideal.Read

theorem key_row (i : Fin 32) (r : Fin 8) : val_main_v19 (F := Ideal) (ix3 i r 0) = BitVec.ofNat 32 (rs i + r) := by
  pointwise [val_main_v19, val_main_v18, val_main_v13, val_main_v15, val_main_v17, val_main_v11, val_main_v12, val_main_v14, val_main_v16, val_main_v8, val_main_v10, val_main_c_2, val_main_c_3, val_main_v7, val_main_v9, val_main_call0_v2, val_main_call0_v4, val_main_call0_v1, val_main_v6, val_main_call0_v3, val_main_call0_v0, val_main_v4, val_main_v5, val_main_c_1, val_main_c_0, val_main_c]
  revert i r
  decide +kernel

theorem value_row (i : Fin 32) (r : Fin 8) : val_main_v26 (F := Ideal) (ix3 i r 0) = BitVec.ofNat 32 (rs i + r) := by
  pointwise [val_main_v26, val_main_v25, val_main_v13, val_main_v22, val_main_v24, val_main_v11, val_main_v12, val_main_v21, val_main_v23, val_main_v8, val_main_v10, val_main_c_4, val_main_c_5, val_main_v7, val_main_v9, val_main_call0_v2, val_main_call0_v4, val_main_call0_v1, val_main_v6, val_main_call0_v3, val_main_call0_v0, val_main_v4, val_main_v5, val_main_c_1, val_main_c_0, val_main_c]
  revert i r
  decide +kernel

theorem col_valid (q k : Fin 64) : val_main_v44 (F := Ideal) (ix2 q k) = BitVec.ofBool (decide (cs q ≤ k ∧ (k : ℕ) < cs q + 16)) := by
  pointwise [val_main_v44, val_main_v36, val_main_v43, val_main_v34, val_main_v35, val_main_v41, val_main_v42, val_main_v32, val_main_v33, val_main_v37, val_main_v40, val_main_v28, val_main_v31, val_main_v38, val_main_v39, val_main_call1_v2, val_main_call1_v4, val_main_c_9, val_main_call1_v1, val_main_v30, val_main_call1_v3, val_main_call1_v0, val_main_v29, val_main_c_8, val_main_c_7, val_main_c_6]
  revert q k
  decide +kernel

theorem bias_row (i : Fin 32) (q : Fin 64) (r : Fin 8) (k : Fin 64) :
    val_main_v74 (F := Ideal) (ix5 i q r k 0) = BitVec.ofNat 32 (rs i + (r : ℕ) + 7 - (i : ℕ)) := by
  pointwise [val_main_v74, val_main_v72, val_main_v73, val_main_v70, val_main_v71, val_main_v64, val_main_v69, val_main_v58, val_main_v61, val_main_v63, val_main_v59, val_main_v66, val_main_v68, val_main_v49, val_main_v60, val_main_v62, val_main_v57, val_main_v65, val_main_v67, val_main_v47, val_main_v48, val_main_c_14, val_main_c_15, val_main_call2_v2, val_main_call2_v4, val_main_c_16, val_main_c_17, val_main_v13, val_main_v46, val_main_c_10, val_main_call2_v1, val_main_v56, val_main_call2_v3, val_main_v11, val_main_v12, val_main_v45, val_main_call2_v0, val_main_v54, val_main_v55, val_main_c_13, val_main_v8, val_main_v10, val_main_v4, val_main_c_12, val_main_v52, val_main_v53, val_main_c_11, val_main_v7, val_main_v9, val_main_v50, val_main_v51, val_main_call0_v2, val_main_call0_v4, val_main_v28, val_main_call0_v1, val_main_v6, val_main_call0_v3, val_main_call0_v0, val_main_v5, val_main_c_1, val_main_c_0, val_main_c]
  revert i r
  decide +kernel

theorem bias_col (i : Fin 32) (q : Fin 64) (r : Fin 8) (k : Fin 64) :
    val_main_v74 (F := Ideal) (ix5 i q r k 1) = BitVec.ofNat 32 (min ((k : ℕ) + 15 - (q : ℕ)) 30) := by
  pointwise [val_main_v74, val_main_v72, val_main_v73, val_main_v70, val_main_v71, val_main_v64, val_main_v69, val_main_v58, val_main_v61, val_main_v63, val_main_v59, val_main_v66, val_main_v68, val_main_v49, val_main_v60, val_main_v62, val_main_v57, val_main_v65, val_main_v67, val_main_v47, val_main_v48, val_main_c_14, val_main_c_15, val_main_call2_v2, val_main_call2_v4, val_main_c_16, val_main_c_17, val_main_v13, val_main_v46, val_main_c_10, val_main_call2_v1, val_main_v56, val_main_call2_v3, val_main_v11, val_main_v12, val_main_v45, val_main_call2_v0, val_main_v54, val_main_v55, val_main_c_13, val_main_v8, val_main_v10, val_main_v4, val_main_c_12, val_main_v52, val_main_v53, val_main_c_11, val_main_v7, val_main_v9, val_main_v50, val_main_v51, val_main_call0_v2, val_main_call0_v4, val_main_v28, val_main_call0_v1, val_main_v6, val_main_call0_v3, val_main_call0_v0, val_main_v5, val_main_c_1, val_main_c_0, val_main_c]
  revert q k
  decide +kernel

/-- A small number's word, read signed, is the number. -/
theorem word_toInt (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- A gather's element, where its index is known. -/
theorem gather_at {α : Type} {s si t : Shape} (d : GatherDims s si t) (x : s.Idx → α) (idx : IVec si 32) (j : t.Idx) (o : s.Idx)
    (h : ∀ a, d.start j idx a + d.batchCoord j a + d.offCoord j a = (o a).val) : Host.gather d x idx j = x o :=
  congrArg x (funext fun a => Fin.ext (h a))

/-- Gathering the windows' rows. -/
theorem gather_rows (x : S32x64x8x64.Idx → EReal) (idx : IVec S32x8x1 32) (i : Fin 32) (r : Fin 8) (k : Fin 64) (h : Fin 8) (e : Fin 64)
    (hi : idx (ix3 i r 0) = BitVec.ofNat 32 (rs i + r)) :
    Host.gather gather_S32x64x8x64_S32x8x1_S32x8x64x8x64_234_0_n_n_0_2_164864 x idx (ix5 i r k h e)
      = x (ix4 ⟨rs i + r, by have := rs_le i; omega⟩ k h e) := by
  refine gather_at _ _ _ _ _ fun a => ?_
  have hs := rs_le i
  match a with
  | ⟨0, _⟩ =>
    have h0 : gather_S32x64x8x64_S32x8x1_S32x8x64x8x64_234_0_n_n_0_2_164864.siIdx (ix5 i r k h e) ⟨0, by decide⟩ = ix3 i r 0 := by
      funext b
      refine Fin.ext ?_
      match b with
      | ⟨0, _⟩ => rfl
      | ⟨1, _⟩ => rfl
      | ⟨2, _⟩ => rfl
    show min (idx (gather_S32x64x8x64_S32x8x1_S32x8x64x8x64_234_0_n_n_0_2_164864.siIdx (ix5 i r k h e) ⟨0, by decide⟩)).toInt.toNat 31 + 0 + 0
      = rs i + r
    rw [h0, hi, word_toInt _ (by omega)]
    omega
  | ⟨1, _⟩ => exact Nat.zero_add _
  | ⟨2, _⟩ => exact Nat.zero_add _
  | ⟨3, _⟩ => exact Nat.zero_add _

/-- Gathering the table's entries. -/
theorem gather_bias (x : S8x15x31.Idx → EReal) (idx : IVec S32x64x8x64x2 32) (h : Fin 8) (i : Fin 32) (q : Fin 64) (r : Fin 8) (k : Fin 64)
    (a : Fin 15) (b : Fin 31) (ha : idx (ix5 i q r k 0) = BitVec.ofNat 32 a) (hb : idx (ix5 i q r k 1) = BitVec.ofNat 32 b) :
    Host.gather gather_S8x15x31_S32x64x8x64x2_S8x32x64x8x64_0_12_n_n_12_4_811 x idx (ix5 h i q r k) = x (ix3 h a b) := by
  have hw : ∀ c : Fin 2, gather_S8x15x31_S32x64x8x64x2_S8x32x64x8x64_0_12_n_n_12_4_811.siIdx (ix5 h i q r k) c = ix5 i q r k c := by
    intro c
    funext b
    refine Fin.ext ?_
    match b with
    | ⟨0, _⟩ => rfl
    | ⟨1, _⟩ => rfl
    | ⟨2, _⟩ => rfl
    | ⟨3, _⟩ => rfl
    | ⟨4, _⟩ => rfl
  refine gather_at _ _ _ _ _ fun c => ?_
  match c with
  | ⟨0, _⟩ => exact Nat.zero_add _
  | ⟨1, _⟩ =>
    show min (idx (gather_S8x15x31_S32x64x8x64x2_S8x32x64x8x64_0_12_n_n_12_4_811.siIdx (ix5 h i q r k) (0 : Fin 2))).toInt.toNat 14 + 0 + 0 = a
    rw [hw, ha, word_toInt _ (by omega)]
    omega
  | ⟨2, _⟩ =>
    show min (idx (gather_S8x15x31_S32x64x8x64x2_S8x32x64x8x64_0_12_n_n_12_4_811.siIdx (ix5 h i q r k) (1 : Fin 2))).toInt.toNat 30 + 0 + 0 = b
    rw [hw, hb, word_toInt _ (by omega)]
    omega

/-- Where a window's row lands again. -/
theorem lands_row (idx : IVec S32x8x1 32) (i : Fin 32) (r : Fin 8) (k : Fin 64) (h : Fin 8) (e : Fin 64)
    (hi : idx (ix3 i r 0) = BitVec.ofNat 32 (rs i + r)) (a : Fin 32) (b : Fin 64) (c : Fin 8) (f : Fin 64) :
    scatter_S32x64x8x64_S32x8x1_S32x8x64x8x64_234_0_0_2.resultIdx? (ix5 i r k h e) idx = some (ix4 a b c f)
      ↔ key i r k = tok a b ∧ h = c ∧ e = f := by
  have hs := rs_le i
  have h0 : scatter_S32x64x8x64_S32x8x1_S32x8x64x8x64_234_0_0_2.siIdx (ix5 i r k h e) ⟨0, by decide⟩ = ix3 i r 0 := by
    funext b
    refine Fin.ext ?_
    match b with
    | ⟨0, _⟩ => rfl
    | ⟨1, _⟩ => rfl
    | ⟨2, _⟩ => rfl
  have w0 : scatter_S32x64x8x64_S32x8x1_S32x8x64x8x64_234_0_0_2.start (ix5 i r k h e) idx 0
      + (scatter_S32x64x8x64_S32x8x1_S32x8x64x8x64_234_0_0_2.window (ix5 i r k h e) 0 : ℤ) = ((rs i + r : ℕ) : ℤ) := by
    show (idx (scatter_S32x64x8x64_S32x8x1_S32x8x64x8x64_234_0_0_2.siIdx (ix5 i r k h e) ⟨0, by decide⟩)).toInt + 0 = _
    rw [h0, hi, word_toInt _ (by omega), add_zero]
  have w1 : scatter_S32x64x8x64_S32x8x1_S32x8x64x8x64_234_0_0_2.start (ix5 i r k h e) idx 1
      + (scatter_S32x64x8x64_S32x8x1_S32x8x64x8x64_234_0_0_2.window (ix5 i r k h e) 1 : ℤ) = ((k : ℕ) : ℤ) := zero_add _
  have w2 : scatter_S32x64x8x64_S32x8x1_S32x8x64x8x64_234_0_0_2.start (ix5 i r k h e) idx 2
      + (scatter_S32x64x8x64_S32x8x1_S32x8x64x8x64_234_0_0_2.window (ix5 i r k h e) 2 : ℤ) = ((h : ℕ) : ℤ) := zero_add _
  have w3 : scatter_S32x64x8x64_S32x8x1_S32x8x64x8x64_234_0_0_2.start (ix5 i r k h e) idx 3
      + (scatter_S32x64x8x64_S32x8x1_S32x8x64x8x64_234_0_0_2.window (ix5 i r k h e) 3 : ℤ) = ((e : ℕ) : ℤ) := zero_add _
  rw [Routing.resultIdx?_eq_some]
  constructor
  · intro hl
    have l0 : ((rs i + r : ℕ) : ℤ) = (a : ℕ) := w0.symm.trans (hl 0)
    have l1 : ((k : ℕ) : ℤ) = (b : ℕ) := w1.symm.trans (hl 1)
    have l2 : ((h : ℕ) : ℤ) = (c : ℕ) := w2.symm.trans (hl 2)
    have l3 : ((e : ℕ) : ℤ) = (f : ℕ) := w3.symm.trans (hl 3)
    refine ⟨Fin.ext ?_, Fin.ext ?_, Fin.ext ?_⟩
    · show (rs i + r) * 64 + k = a * 64 + b
      omega
    · omega
    · omega
  · rintro ⟨hk, rfl, rfl⟩ x
    have hk' : (rs i + r) * 64 + k = a * 64 + b := congrArg Fin.val hk
    match x with
    | ⟨0, _⟩ => exact w0.trans (by show _ = ((a : ℕ) : ℤ); omega)
    | ⟨1, _⟩ => exact w1.trans (by show _ = ((b : ℕ) : ℤ); omega)
    | ⟨2, _⟩ => exact w2
    | ⟨3, _⟩ => exact w3

/-- Where a pair's gradient lands in the table. -/
theorem lands_bias (idx : IVec S32x64x8x64x2 32) (h : Fin 8) (i : Fin 32) (q : Fin 64) (r : Fin 8) (k : Fin 64)
    (a : Fin 15) (b : Fin 31) (ha : idx (ix5 i q r k 0) = BitVec.ofNat 32 a) (hb : idx (ix5 i q r k 1) = BitVec.ofNat 32 b)
    (h' : Fin 8) (a' : Fin 15) (b' : Fin 31) :
    scatter_S8x15x31_S32x64x8x64x2_S8x32x64x8x64_0_12_12_4.resultIdx? (ix5 h i q r k) idx = some (ix3 h' a' b')
      ↔ h = h' ∧ a = a' ∧ b = b' := by
  have hw : ∀ c : Fin 2, scatter_S8x15x31_S32x64x8x64x2_S8x32x64x8x64_0_12_12_4.siIdx (ix5 h i q r k) c = ix5 i q r k c := by
    intro c
    funext b
    refine Fin.ext ?_
    match b with
    | ⟨0, _⟩ => rfl
    | ⟨1, _⟩ => rfl
    | ⟨2, _⟩ => rfl
    | ⟨3, _⟩ => rfl
    | ⟨4, _⟩ => rfl
  have w0 : scatter_S8x15x31_S32x64x8x64x2_S8x32x64x8x64_0_12_12_4.start (ix5 h i q r k) idx 0
      + (scatter_S8x15x31_S32x64x8x64x2_S8x32x64x8x64_0_12_12_4.window (ix5 h i q r k) 0 : ℤ) = ((h : ℕ) : ℤ) := zero_add _
  have w1 : scatter_S8x15x31_S32x64x8x64x2_S8x32x64x8x64_0_12_12_4.start (ix5 h i q r k) idx 1
      + (scatter_S8x15x31_S32x64x8x64x2_S8x32x64x8x64_0_12_12_4.window (ix5 h i q r k) 1 : ℤ) = ((a : ℕ) : ℤ) := by
    show (idx (scatter_S8x15x31_S32x64x8x64x2_S8x32x64x8x64_0_12_12_4.siIdx (ix5 h i q r k) (0 : Fin 2))).toInt + 0 = _
    rw [hw, ha, word_toInt _ (by omega), add_zero]
  have w2 : scatter_S8x15x31_S32x64x8x64x2_S8x32x64x8x64_0_12_12_4.start (ix5 h i q r k) idx 2
      + (scatter_S8x15x31_S32x64x8x64x2_S8x32x64x8x64_0_12_12_4.window (ix5 h i q r k) 2 : ℤ) = ((b : ℕ) : ℤ) := by
    show (idx (scatter_S8x15x31_S32x64x8x64x2_S8x32x64x8x64_0_12_12_4.siIdx (ix5 h i q r k) (1 : Fin 2))).toInt + 0 = _
    rw [hw, hb, word_toInt _ (by omega), add_zero]
  rw [Routing.resultIdx?_eq_some]
  constructor
  · intro hl
    have l0 : ((h : ℕ) : ℤ) = (h' : ℕ) := w0.symm.trans (hl 0)
    have l1 : ((a : ℕ) : ℤ) = (a' : ℕ) := w1.symm.trans (hl 1)
    have l2 : ((b : ℕ) : ℤ) = (b' : ℕ) := w2.symm.trans (hl 2)
    exact ⟨Fin.ext (by omega), Fin.ext (by omega), Fin.ext (by omega)⟩
  · rintro ⟨rfl, rfl, rfl⟩ x
    match x with
    | ⟨0, _⟩ => exact w0
    | ⟨1, _⟩ => exact w1
    | ⟨2, _⟩ => exact w2

end Cert.Attn.Ref
-- ==== Proof.Attn.RefScore.lean ====
/-
  What the reference's scores hold, and its softmax.
-/
module

public import proofs.«01_k».proof.Proof.Attn.RefIdx
public import proofs.«01_k».proof.Proof.Attn.Run

@[expose] public section

set_option maxRecDepth 16384

noncomputable section

namespace Cert.Attn.Ref

open Idealize.ShloMosaic Idealize.ShloMosaic.TcCoe Idealize.SL.Sem
open Cert.Reference2Ideal Cert.Reference2Ideal.Gen Cert.Reference2Ideal.Read

variable (x0 x1 x2 x3 : FVec Ideal S2048x8x64 .f32) (x4 x5 : FVec Ideal S256x8x64 .f32) (x6 : FVec Ideal S8x15x31 .f32)
  (x7 : FVec Ideal S2048x8x64 .f32)

/-- Head `h` of the arguments; the row of token `(i, q)`; and the row over the keys that the reference reads. -/
abbrev X (h : Fin 8) : Head := argHead x0 x1 x2 x3 x4 x5 x6 x7 h
abbrev R (h : Fin 8) (i : Fin 32) (q : Fin 64) : Row (Fin 2048) (Fin 256) := (X x0 x1 x2 x3 x4 x5 x6 x7 h).row (tok i q)
abbrev P (h : Fin 8) (i : Fin 32) (q : Fin 64) : Row (Fin 8 × Fin 64) (Fin 256) :=
  (R x0 x1 x2 x3 x4 x5 x6 x7 h i q).pull fun b => key i b.1 b.2

/-- A row's columns: its latent keys, then its context keys. -/
abbrev lat (b : Fin 8 × Fin 64) : Fin 768 := ⟨b.1 * 64 + b.2, by omega⟩
abbrev ctx (c : Fin 256) : Fin 768 := ⟨512 + c, by omega⟩

theorem sum_cols {M : Type} [AddCommMonoid M] (f : Fin 768 → M) : ∑ l, f l = ∑ b, f (lat b) + ∑ c, f (ctx c) := by
  rw [Fin.sum_univ_add (a := 512) (b := 256) f]
  refine congrArg₂ (· + ·) ?_ rfl
  refine Fintype.sum_equiv (finProdFinEquiv (m := 8) (n := 64)).symm _ (fun b => f (lat b)) fun l => ?_
  refine congrArg f (Fin.ext ?_)
  show (l : ℕ) = l / 64 * 64 + l % 64
  omega

theorem scaled_dot {n : ℕ} (a b : Fin n → ℝ) : (∑ d, a d * b d) * (1 / 8) = ∑ d, b d * (a d * (1 / 8)) := by
  rw [Finset.sum_mul]
  exact Finset.sum_congr rfl fun d _ => by ring

theorem cols (l : Fin 768) : (∃ b, l = lat b) ∨ ∃ c, l = ctx c := by
  by_cases hl : (l : ℕ) < 512
  · exact Or.inl ⟨(⟨l / 64, by omega⟩, ⟨l % 64, by omega⟩), Fin.ext (by show (l : ℕ) = l / 64 * 64 + l % 64; omega)⟩
  · exact Or.inr ⟨⟨l - 512, by omega⟩, Fin.ext (by show (l : ℕ) = 512 + (l - 512); omega)⟩

theorem keys_at (i : Fin 32) (r : Fin 8) (k : Fin 64) (h : Fin 8) (e : Fin 64) :
    val_main_v20 (F := Ideal) x2 (ix5 i r k h e) = x2 (ix3 (key i r k) h e) := by
  rw [val_main_v20, gather_rows _ _ i r k h e (key_row i r)]
  pointwise [val_main_v2]

theorem values_at (i : Fin 32) (r : Fin 8) (k : Fin 64) (h : Fin 8) (e : Fin 64) :
    val_main_v27 (F := Ideal) x3 (ix5 i r k h e) = x3 (ix3 (key i r k) h e) := by
  rw [val_main_v27, gather_rows _ _ i r k h e (value_row i r)]
  pointwise [val_main_v3]

theorem mask_at (h : Fin 8) (i : Fin 32) (q : Fin 64) (r : Fin 8) (k : Fin 64) :
    val_main_v81_1 (F := Ideal) (ix5 h i q r k) = BitVec.ofBool (decide (win (tok i q) (key i r k))) := by
  have e : val_main_v81_1 (F := Ideal) (ix5 h i q r k) = val_main_v44 (F := Ideal) (ix2 q k) := by
    pointwise [val_main_v81_1, val_main_v80]
  rw [e, col_valid]
  exact congrArg _ (decide_eq_decide.2 (win_key i q r k).symm)

theorem select_mask {α : Type} (p : Prop) [Decidable p] (a b : α) : Scalar.select (BitVec.ofBool (decide p)) a b = if p then a else b := by
  by_cases h : p <;> simp [Scalar.select, h]

theorem bot_f32 : Ideal.ofBits FTy.f32 0xFF800000#32 = ⊥ := by simp [Ideal.ofBits, Ideal.ieee]
theorem zero_f32 : Ideal.ofBits FTy.f32 0x00000000#32 = 0 := by simp [Ideal.ofBits, Ideal.ieee]
theorem one_f32 : Ideal.ofBits FTy.f32 0x3F800000#32 = 1 := by
  simp [Ideal.ofBits, Ideal.ieee]
  rw [← EReal.coe_mul]
  norm_num

/-- A sum of products of reals. -/
theorem dot_real {ι : Type} [Fintype ι] {f g : ι → EReal} (hf : ∀ d, IsReal (f d)) (hg : ∀ d, IsReal (g d)) :
    ∑ d, f d * g d = ((∑ d, (f d).toReal * (g d).toReal : ℝ) : EReal) := by
  rw [← coe_sum]
  refine Finset.sum_congr rfl fun d _ => ?_
  rw [EReal.coe_mul, ← real_coe (hf d), ← real_coe (hg d)]

theorem fold_real (f : Fin 768 → EReal) (ht : ∀ l, f l < ⊤) (l : Fin 768) (hl : ⊥ < f l) :
    IsReal (max (Ideal.ofBits FTy.f32 0xFF800000#32) (Finset.fold max (Ideal.ofBits FTy.f32 0xFF800000#32) f Finset.univ)) := by
  rw [bot_f32, max_eq_right bot_le]
  have top : Finset.fold max ⊥ f Finset.univ < ⊤ := by
    rw [Finset.fold_max_lt]
    exact ⟨bot_lt_top, fun l _ => ht l⟩
  have bot : ⊥ < Finset.fold max ⊥ f Finset.univ := by
    rw [Finset.lt_fold_max]
    exact Or.inr ⟨l, Finset.mem_univ _, hl⟩
  exact ⟨_, (EReal.coe_toReal top.ne bot.ne').symm⟩

variable {x0 x1 x2 x3 x4 x5 x6 x7} (hr : RealArgs x0 x1 x2 x3 x4 x5 x6 x7)
include hr

theorem score_at (h : Fin 8) (i : Fin 32) (q : Fin 64) (r : Fin 8) (k : Fin 64) :
    val_main_v81_0 (F := Ideal) x0 x2 x6 (ix5 h i q r k) = (P x0 x1 x2 x3 x4 x5 x6 x7 h i q).score (r, k) := by
  pointwise [val_main_v81_0, val_main_call3_v2, val_main_v79, val_main_call3_v0, val_main_v78, val_main_cst_18, val_main_v76, val_main_v77, val_main_v1, val_main_cst]
  rw [mask_at, select_mask]
  by_cases hw : win (tok i q) (key i r k)
  · rw [if_pos hw]
    refine Eq.trans ?_ (if_pos hw).symm
    rw [val_main_v75, gather_bias _ _ h i q r k (dr (tok i q) (key i r k)) (dc (tok i q) (key i r k))
      (by rw [bias_row, dr_key]) (by rw [bias_col, dc_key _ _ _ _ hw]), real_coe (hr.rpb _), eighth]
    simp only [keys_at]
    rw [dot_real (fun _ => hr.q _) (fun _ => hr.k _), ← EReal.coe_mul, ← EReal.coe_add]
    refine congrArg _ (congrArg (· + _) ?_)
    exact scaled_dot _ _
  · rw [if_neg hw]
    exact bot_f32.trans (if_neg hw).symm

theorem lat_at (h : Fin 8) (i : Fin 32) (q : Fin 64) (b : Fin 8 × Fin 64) :
    val_main_v86 (F := Ideal) x0 x1 x2 x4 x6 (ix4 h i q (lat b)) = (P x0 x1 x2 x3 x4 x5 x6 x7 h i q).score b := by
  rw [← score_at hr h i q b.1 b.2]
  pointwise [val_main_v86, val_main_v85]
  exact dif_pos (by have := b.1.isLt; have := b.2.isLt; omega)

theorem ctx_at (h : Fin 8) (i : Fin 32) (q : Fin 64) (c : Fin 256) :
    val_main_v86 (F := Ideal) x0 x1 x2 x4 x6 (ix4 h i q (ctx c)) = ((R x0 x1 x2 x3 x4 x5 x6 x7 h i q).y c : EReal) := by
  pointwise [val_main_v86, val_main_v84, val_main_v82, val_main_v83, val_main_v0, val_main_cst_19]
  rw [eighth, dot_real (fun _ => hr.qp _) (fun _ => hr.kc _), ← EReal.coe_mul]
  refine congrArg _ ?_
  exact scaled_dot _ _

theorem max_at (h : Fin 8) (i : Fin 32) (q : Fin 64) : IsReal (val_main_v94 (F := Ideal) x0 x1 x2 x4 x6 (ix3 h i q)) := by
  have e : val_main_v87 (F := Ideal) x0 x1 x2 x4 x6 (ix3 h i q) = Finset.fold max (Ideal.ofBits FTy.f32 0xFF800000#32)
      (fun l => val_main_v86 (F := Ideal) x0 x1 x2 x4 x6 (ix4 h i q l)) Finset.univ := by
    pointwise [val_main_v87, val_main_cst_20]
  have e' : val_main_v94 (F := Ideal) x0 x1 x2 x4 x6 (ix3 h i q) = max (Ideal.ofBits FTy.f32 0xFF800000#32)
      (val_main_v87 (F := Ideal) x0 x1 x2 x4 x6 (ix3 h i q)) := by
    rw [val_main_v94_apply, val_main_v93_apply, val_main_cst_22_apply]
    rfl
  rw [e', e]
  refine fold_real (fun l => val_main_v86 (F := Ideal) x0 x1 x2 x4 x6 (ix4 h i q l)) (fun l => ?_) (ctx 0) ?_
  · rcases cols l with ⟨b, rfl⟩ | ⟨c, rfl⟩
    · rw [lat_at hr]
      unfold Row.score
      split_ifs
      · exact EReal.coe_lt_top _
      · exact bot_lt_top
    · rw [ctx_at hr]
      exact EReal.coe_lt_top _
  · rw [ctx_at hr]
    exact EReal.bot_lt_coe _

end Cert.Attn.Ref
-- ==== Proof.Attn.RefRow.lean ====
/-
  What the reference's softmax holds.
-/
module

public import proofs.«01_k».proof.Proof.Attn.RefScore

@[expose] public section

set_option maxRecDepth 16384

noncomputable section

namespace Cert.Attn.Ref

open Idealize.ShloMosaic Idealize.ShloMosaic.TcCoe Idealize.SL.Sem
open Cert.Reference2Ideal Cert.Reference2Ideal.Gen Cert.Reference2Ideal.Read

variable (x0 x1 x2 x3 : FVec Ideal S2048x8x64 .f32) (x4 x5 : FVec Ideal S256x8x64 .f32) (x6 : FVec Ideal S8x15x31 .f32)
  (x7 : FVec Ideal S2048x8x64 .f32)

/-- The row's maximum. -/
abbrev mx (x0 x1 x2 : FVec Ideal S2048x8x64 .f32) (x4 : FVec Ideal S256x8x64 .f32) (x6 : FVec Ideal S8x15x31 .f32)
    (h : Fin 8) (i : Fin 32) (q : Fin 64) : ℝ := (val_main_v94 (F := Ideal) x0 x1 x2 x4 x6 (ix3 h i q)).toReal

theorem exp_read (h : Fin 8) (i : Fin 32) (q : Fin 64) (l : Fin 768) : val_main_v107 (F := Ideal) x0 x1 x2 x4 x6 (ix4 h i q l)
      = Ideal.exp (val_main_v86 (F := Ideal) x0 x1 x2 x4 x6 (ix4 h i q l) - val_main_v94 (F := Ideal) x0 x1 x2 x4 x6 (ix3 h i q)) := by
  pointwise [val_main_v107, val_main_v106, val_main_v105, val_main_v104]

theorem weight_read (h : Fin 8) (i : Fin 32) (q : Fin 64) (l : Fin 768) : val_main_v111 (F := Ideal) x0 x1 x2 x4 x6 (ix4 h i q l)
      = Ideal.div (val_main_v107 (F := Ideal) x0 x1 x2 x4 x6 (ix4 h i q l)) (val_main_v108 (F := Ideal) x0 x1 x2 x4 x6 (ix3 h i q)) := by
  pointwise [val_main_v111, val_main_v110, val_main_v109]

theorem hκ (h : Fin 8) (i : Fin 32) (q : Fin 64) (f : Fin 2048 → ℝ)
    (hf : ∀ a, ¬ (R x0 x1 x2 x3 x4 x5 x6 x7 h i q).w a → f a = 0) : ∑ b : Fin 8 × Fin 64, f (key i b.1 b.2) = ∑ a, f a :=
  window_sum i q f hf

theorem quot_read (h : Fin 8) (i : Fin 32) (q : Fin 64) (l : Fin 768) : val_main_v140 (F := Ideal) x0 x1 x2 x3 x4 x5 x6 x7 (ix4 h i q l)
      = val_main_v137 (F := Ideal) x3 x5 x7 (ix4 h i q l) * Ideal.div 1 (val_main_v108 (F := Ideal) x0 x1 x2 x4 x6 (ix3 h i q)
        * val_main_v108 (F := Ideal) x0 x1 x2 x4 x6 (ix3 h i q)) * val_main_v107 (F := Ideal) x0 x1 x2 x4 x6 (ix4 h i q l) := by
  pointwise [val_main_v140, val_main_v139, val_main_v138, val_main_v114, val_main_v112, val_main_v113, val_main_v109, val_main_cst_29]

theorem quot_sum_read (h : Fin 8) (i : Fin 32) (q : Fin 64) : val_main_v146 (F := Ideal) x0 x1 x2 x3 x4 x5 x6 x7 (ix3 h i q)
      = -(∑ l : Fin 768, val_main_v140 (F := Ideal) x0 x1 x2 x3 x4 x5 x6 x7 (ix4 h i q l) : EReal) := by
  pointwise [val_main_v146, val_main_cst_33, val_main_v143, val_main_v142, val_main_v141, val_main_cst_32]
  exact Fintype.sum_unique _

theorem dscore_read (h : Fin 8) (i : Fin 32) (q : Fin 64) (l : Fin 768) : val_main_v149 (F := Ideal) x0 x1 x2 x3 x4 x5 x6 x7 (ix4 h i q l)
      = (Ideal.div (val_main_v137 (F := Ideal) x3 x5 x7 (ix4 h i q l)) (val_main_v108 (F := Ideal) x0 x1 x2 x4 x6 (ix3 h i q))
        + val_main_v146 (F := Ideal) x0 x1 x2 x3 x4 x5 x6 x7 (ix3 h i q)) * val_main_v107 (F := Ideal) x0 x1 x2 x4 x6 (ix4 h i q l) := by
  pointwise [val_main_v149, val_main_v148, val_main_v145, val_main_v147, val_main_v144, val_main_v109]

theorem grad_lat_read (h : Fin 8) (i : Fin 32) (q : Fin 64) (b : Fin 8 × Fin 64) : val_main_v137 (F := Ideal) x3 x5 x7 (ix4 h i q (lat b))
      = (∑ d : Fin 64, val_main_v27 (F := Ideal) x3 (ix5 i b.1 b.2 h d) * x7 (ix3 (tok i q) h d) : EReal) := by
  pointwise [val_main_v137, val_main_v134, val_main_v136, val_main_cst_30, val_main_v126, val_main_cst_31, val_main_v135, val_main_v125, val_main_v131, val_main_v124, val_main_v130, val_main_v129]
  have := b.1.isLt
  have := b.2.isLt
  rw [dif_neg (by omega), dif_pos (by omega), zero_add]
  exact Finset.sum_congr rfl fun d _ => mul_comm _ _

theorem grad_ctx_read (h : Fin 8) (i : Fin 32) (q : Fin 64) (c : Fin 256) : val_main_v137 (F := Ideal) x3 x5 x7 (ix4 h i q (ctx c))
      = (∑ d : Fin 64, x5 (ix3 c h d) * x7 (ix3 (tok i q) h d) : EReal) := by
  pointwise [val_main_v137, val_main_v134, val_main_v136, val_main_cst_30, val_main_v126, val_main_cst_31, val_main_v135, val_main_v125, val_main_v131, val_main_v124, val_main_v130, val_main_v129]
  exact Finset.sum_congr rfl fun d _ => mul_comm _ _

variable {x0 x1 x2 x3 x4 x5 x6 x7} (hr : RealArgs x0 x1 x2 x3 x4 x5 x6 x7)
include hr

theorem exp_lat (h : Fin 8) (i : Fin 32) (q : Fin 64) (b : Fin 8 × Fin 64) : val_main_v107 (F := Ideal) x0 x1 x2 x4 x6 (ix4 h i q (lat b))
    = ((Real.exp (-mx x0 x1 x2 x4 x6 h i q) * (P x0 x1 x2 x3 x4 x5 x6 x7 h i q).e b : ℝ) : EReal) := by
  rw [exp_read, lat_at hr, real_coe (max_at hr h i q), Row.exp_score]

theorem exp_ctx (h : Fin 8) (i : Fin 32) (q : Fin 64) (c : Fin 256) : val_main_v107 (F := Ideal) x0 x1 x2 x4 x6 (ix4 h i q (ctx c))
    = ((Real.exp (-mx x0 x1 x2 x4 x6 h i q) * (P x0 x1 x2 x3 x4 x5 x6 x7 h i q).ec c : ℝ) : EReal) := by
  rw [exp_read, ctx_at hr, real_coe (max_at hr h i q)]
  exact (P x0 x1 x2 x3 x4 x5 x6 x7 h i q).exp_ctx _ c

theorem sum_at (h : Fin 8) (i : Fin 32) (q : Fin 64) : val_main_v108 (F := Ideal) x0 x1 x2 x4 x6 (ix3 h i q)
    = ((Real.exp (-mx x0 x1 x2 x4 x6 h i q) * (P x0 x1 x2 x3 x4 x5 x6 x7 h i q).Z : ℝ) : EReal) := by
  have e : val_main_v108 (F := Ideal) x0 x1 x2 x4 x6 (ix3 h i q) = (∑ l : Fin 768, val_main_v107 (F := Ideal) x0 x1 x2 x4 x6 (ix4 h i q l) : EReal) := by
    pointwise [val_main_v108, val_main_cst_28]
  rw [e, sum_cols]
  simp only [exp_lat hr, exp_ctx hr]
  exact Row.sum_exp _ _

/-- The weights. -/
theorem weight_lat (h : Fin 8) (i : Fin 32) (q : Fin 64) (r : Fin 8) (k : Fin 64) :
    val_main_v116 (F := Ideal) x0 x1 x2 x4 x6 (ix5 h i q r k) = ((R x0 x1 x2 x3 x4 x5 x6 x7 h i q).p (key i r k) : EReal) := by
  have e : val_main_v116 (F := Ideal) x0 x1 x2 x4 x6 (ix5 h i q r k) = val_main_v111 (F := Ideal) x0 x1 x2 x4 x6 (ix4 h i q (lat (r, k))) := by
    pointwise [val_main_v116, val_main_v115]
  rw [e, weight_read, exp_lat hr, sum_at hr, Row.weight_div, Row.pull_p (hκ := hκ x0 x1 x2 x3 x4 x5 x6 x7 h i q)]

theorem weight_ctx (h : Fin 8) (i : Fin 32) (q : Fin 64) (c : Fin 256) :
    val_main_v117 (F := Ideal) x0 x1 x2 x4 x6 (ix4 h i q c) = ((R x0 x1 x2 x3 x4 x5 x6 x7 h i q).pc c : EReal) := by
  have e : val_main_v117 (F := Ideal) x0 x1 x2 x4 x6 (ix4 h i q c) = val_main_v111 (F := Ideal) x0 x1 x2 x4 x6 (ix4 h i q (ctx c)) := by
    pointwise [val_main_v117]
  rw [e, weight_read, exp_ctx hr, sum_at hr, Row.weight_div_ctx, Row.pull_pc (hκ := hκ x0 x1 x2 x3 x4 x5 x6 x7 h i q)]

/-- The weights' gradients, and the scores'. -/
theorem grad_lat (h : Fin 8) (i : Fin 32) (q : Fin 64) (b : Fin 8 × Fin 64) :
    val_main_v137 (F := Ideal) x3 x5 x7 (ix4 h i q (lat b)) = ((P x0 x1 x2 x3 x4 x5 x6 x7 h i q).g b : EReal) := by
  rw [grad_lat_read]
  simp only [values_at]
  exact dot_real (fun _ => hr.v _) (fun _ => hr.g _)

theorem grad_ctx (h : Fin 8) (i : Fin 32) (q : Fin 64) (c : Fin 256) :
    val_main_v137 (F := Ideal) x3 x5 x7 (ix4 h i q (ctx c)) = ((P x0 x1 x2 x3 x4 x5 x6 x7 h i q).gc c : EReal) := by
  rw [grad_ctx_read]
  exact dot_real (fun _ => hr.vc _) (fun _ => hr.g _)

theorem quot_at (h : Fin 8) (i : Fin 32) (q : Fin 64) : val_main_v146 (F := Ideal) x0 x1 x2 x3 x4 x5 x6 x7 (ix3 h i q)
    = -(((P x0 x1 x2 x3 x4 x5 x6 x7 h i q).δ / (Real.exp (-mx x0 x1 x2 x4 x6 h i q) * (P x0 x1 x2 x3 x4 x5 x6 x7 h i q).Z) : ℝ) : EReal) := by
  rw [quot_sum_read, sum_cols]
  simp only [quot_read, grad_lat hr, grad_ctx hr, exp_lat hr, exp_ctx hr, sum_at hr]
  rw [Row.quot_sum]

theorem dscore_lat (h : Fin 8) (i : Fin 32) (q : Fin 64) (r : Fin 8) (k : Fin 64) :
    val_main_v159 (F := Ideal) x0 x1 x2 x3 x4 x5 x6 x7 (ix5 h i q r k) = ((R x0 x1 x2 x3 x4 x5 x6 x7 h i q).ds (key i r k) : EReal) := by
  have e : val_main_v159 (F := Ideal) x0 x1 x2 x3 x4 x5 x6 x7 (ix5 h i q r k) = Scalar.select (val_main_v81_1 (F := Ideal) (ix5 h i q r k))
      (val_main_v149 (F := Ideal) x0 x1 x2 x3 x4 x5 x6 x7 (ix4 h i q (lat (r, k)))) 0 := by
    pointwise [val_main_v159, val_main_call4_v0, val_main_v152, val_main_call4_cst, val_main_v150]
  rw [e, mask_at, select_mask, dscore_read, quot_at hr, grad_lat hr, exp_lat hr, sum_at hr, Row.quot_dscore,
    Row.pull_ds (hκ := hκ x0 x1 x2 x3 x4 x5 x6 x7 h i q)]
  by_cases hw : win (tok i q) (key i r k)
  · rw [if_pos hw]
  · rw [if_neg hw, Row.ds_off _ hw]
    rfl

theorem dscore_ctx (h : Fin 8) (i : Fin 32) (q : Fin 64) (c : Fin 256) :
    val_main_v151 (F := Ideal) x0 x1 x2 x3 x4 x5 x6 x7 (ix4 h i q c) = ((R x0 x1 x2 x3 x4 x5 x6 x7 h i q).dsc c : EReal) := by
  have e : val_main_v151 (F := Ideal) x0 x1 x2 x3 x4 x5 x6 x7 (ix4 h i q c)
      = val_main_v149 (F := Ideal) x0 x1 x2 x3 x4 x5 x6 x7 (ix4 h i q (ctx c)) := by
    pointwise [val_main_v151]
  rw [e, dscore_read, quot_at hr, grad_ctx hr, exp_ctx hr, sum_at hr, Row.quot_dscore_ctx,
    Row.pull_dsc (hκ := hκ x0 x1 x2 x3 x4 x5 x6 x7 h i q)]

end Cert.Attn.Ref
-- ==== Proof.AttnFwd.Ref.lean ====
/-
  The reference's forward lines: they are those the gradient's reference starts from, and give every query's weighted
  values.
-/
module

public import proofs.«01_k».proof.Proof.AttnFwd.Run
public import proofs.«01_k».proof.Proof.Attn.RefRow
public import proofs.«01_k».proof.Proof.Gen.Reference9Ideal.Read

@[expose] public section

set_option maxRecDepth 16384

noncomputable section

namespace Cert.AttnFwd.Ref

open Idealize.ShloMosaic Idealize.ShloMosaic.TcCoe Idealize.SL.Sem
open Cert.Reference9Ideal Cert.Reference9Ideal.Gen Cert.Reference9Ideal.Read
open Cert.Attn (RealArgs argHead heads dot_coe)
open Cert.Attn.Ref (key tok)

variable (x0 x1 x2 x3 : FVec Ideal S2048x8x64 .f32) (x4 x5 : FVec Ideal S256x8x64 .f32) (x6 : FVec Ideal S8x15x31 .f32)

theorem weights_eq : val_main_v97 (F := Ideal) x0 x1 x2 x4 x6 = Cert.Reference2Ideal.Read.val_main_v111 (F := Ideal) x0 x1 x2 x4 x6 := rfl
theorem lat_weights_eq : val_main_v99 (F := Ideal) x0 x1 x2 x4 x6 = Cert.Reference2Ideal.Read.val_main_v116 (F := Ideal) x0 x1 x2 x4 x6 := by
  unfold val_main_v99 val_main_v98; rw [weights_eq]; rfl
theorem ctx_weights_eq : val_main_v100 (F := Ideal) x0 x1 x2 x4 x6 = Cert.Reference2Ideal.Read.val_main_v117 (F := Ideal) x0 x1 x2 x4 x6 := by
  unfold val_main_v100; rw [weights_eq]; rfl
theorem values_eq : val_main_v27 (F := Ideal) x3 = Cert.Reference2Ideal.Read.val_main_v27 (F := Ideal) x3 := rfl

theorem out_at (h : Fin 8) (i : Fin 32) (q : Fin 64) (d : Fin 64) :
    val_main_v107 (F := Ideal) x0 x1 x2 x3 x4 x5 x6 (ix3 h (tok i q) d)
      = val_main_v101 (F := Ideal) x0 x1 x2 x3 x4 x6 (ix4 i h d q) + val_main_v103 (F := Ideal) x0 x1 x2 x4 x5 x6 (ix4 h d i q) := by
  have e : val_main_v107 (F := Ideal) x0 x1 x2 x3 x4 x5 x6 (ix3 h (tok i q) d) = val_main_v105 (F := Ideal) x0 x1 x2 x3 x4 x5 x6 (ix4 i q h d) := by
    pointwise [val_main_v107, val_main_v106]
  rw [e]
  pointwise [val_main_v105, val_main_v104, val_main_v102]

theorem lat_at (h : Fin 8) (i : Fin 32) (q : Fin 64) (d : Fin 64) : val_main_v101 (F := Ideal) x0 x1 x2 x3 x4 x6 (ix4 i h d q)
    = ∑ b : Fin 8 × Fin 64, val_main_v27 (F := Ideal) x3 (ix5 i b.1 b.2 h d) * val_main_v99 (F := Ideal) x0 x1 x2 x4 x6 (ix5 h i q b.1 b.2) := by
  pointwise [val_main_v101]
  exact (Fintype.sum_prod_type_right fun b : Fin 8 × Fin 64 => val_main_v27 (F := Ideal) x3 (ix5 i b.1 b.2 h d)
    * val_main_v99 (F := Ideal) x0 x1 x2 x4 x6 (ix5 h i q b.1 b.2)).symm

theorem ctx_at (h : Fin 8) (i : Fin 32) (q : Fin 64) (d : Fin 64) : val_main_v103 (F := Ideal) x0 x1 x2 x4 x5 x6 (ix4 h d i q)
    = ∑ c : Fin 256, x5 (ix3 c h d) * val_main_v100 (F := Ideal) x0 x1 x2 x4 x6 (ix4 h i q c) := by
  pointwise [val_main_v103]

variable {x0 x1 x2 x3 x4 x5 x6} (hr : RealArgs x0 x1 x2 x3 x4 x5 x6 fun _ => 0)
include hr

theorem value_at (i : Fin 32) (r : Fin 8) (k : Fin 64) (h : Fin 8) (d : Fin 64) :
    val_main_v27 (F := Ideal) x3 (ix5 i r k h d) = ((x3 (ix3 (key i r k) h d)).toReal : EReal) := by
  rw [values_eq, Cert.Attn.Ref.values_at]; exact Cert.Attn.real_coe (hr.v _)

theorem weight_at (h : Fin 8) (i : Fin 32) (q : Fin 64) (r : Fin 8) (k : Fin 64) : val_main_v99 (F := Ideal) x0 x1 x2 x4 x6 (ix5 h i q r k)
    = (((argHead x0 x1 x2 x3 x4 x5 x6 (fun _ => 0) h).row (tok i q)).p (key i r k) : EReal) := by
  rw [lat_weights_eq]; exact Cert.Attn.Ref.weight_lat hr h i q r k

theorem weight_ctx_at (h : Fin 8) (i : Fin 32) (q : Fin 64) (c : Fin 256) : val_main_v100 (F := Ideal) x0 x1 x2 x4 x6 (ix4 h i q c)
    = (((argHead x0 x1 x2 x3 x4 x5 x6 (fun _ => 0) h).row (tok i q)).pc c : EReal) := by
  rw [ctx_weights_eq]; exact Cert.Attn.Ref.weight_ctx hr h i q c

theorem head_at (h : Fin 8) (i : Fin 32) (q : Fin 64) (d : Fin 64) :
    val_main_v107 (F := Ideal) x0 x1 x2 x3 x4 x5 x6 (ix3 h (tok i q) d)
      = (out (argHead x0 x1 x2 x3 x4 x5 x6 (fun _ => 0) h) (tok i q) d : EReal) := by
  rw [out_at, lat_at, ctx_at]
  rw [dot_coe (fun b : Fin 8 × Fin 64 => value_at hr i b.1 b.2 h d) (fun b => weight_at hr h i q b.1 b.2),
    dot_coe (fun c : Fin 256 => Cert.Attn.real_coe (hr.vc (ix3 c h d))) (fun c => weight_ctx_at hr h i q c), ← EReal.coe_add]
  refine congrArg (fun x : ℝ => (x : EReal)) (congrArg₂ (· + ·) ?_ ?_)
  · refine Eq.trans ?_ (Cert.Attn.Ref.hκ x0 x1 x2 x3 x4 x5 x6 (fun _ => 0) h i q
      (fun k => ((argHead x0 x1 x2 x3 x4 x5 x6 (fun _ => 0) h).row (tok i q)).p k * (x3 (ix3 k h d)).toReal)
      fun a ha => by rw [Cert.Attn.Row.p_off _ ha, zero_mul])
    exact Finset.sum_congr rfl fun b _ => mul_comm _ _
  · exact Finset.sum_congr rfl fun c _ => mul_comm _ _

theorem out_eq : val_main_v107 (F := Ideal) x0 x1 x2 x3 x4 x5 x6
    = heads (e := .f32) fun h => out (argHead x0 x1 x2 x3 x4 x5 x6 (fun _ => 0) h) := by
  funext y
  obtain ⟨h, t, d, rfl⟩ : ∃ h t d, y = ix3 h t d := ⟨y 0, y 1, y 2, by ext i; fin_cases i <;> rfl⟩
  obtain ⟨i, q, rfl⟩ : ∃ (i : Fin 32) (q : Fin 64), t = tok i q :=
    ⟨⟨t / 64, by omega⟩, ⟨t % 64, by omega⟩, Fin.ext (by show (t : ℕ) = t / 64 * 64 + t % 64; omega)⟩
  exact head_at hr h i q d

end Cert.AttnFwd.Ref
end
-- ==== Proof.AttnFwd.Pair.lean ====
/-
  The attention's forward pair: kernel and reference return the same weighted values, at real arguments.
-/
module

public import proofs.«01_k».proof.Defs
public import proofs.«01_k».proof.Proof.Gen.Pre_fwd_finite
public import proofs.«01_k».proof.Proof.AttnFwd.Ref
public import proofs.«01_k».proof.Proof.Gen.Reference9Ideal.Run

@[expose] public section

set_option maxRecDepth 16384

noncomputable section

namespace Cert.AttnFwd

open Idealize.ShloMosaic Idealize.ShloMosaic.TcCoe Idealize.SL.Sem
open Cert.Reference9Ideal.Read
open Cert.Attn (heads)

/-- What the precondition says: the arguments are real. -/
theorem real_args (m : (ℓ : Loc Cert.Kernel9Ideal.nD Cert.Kernel9Ideal.τ Cert.Kernel9Ideal.sig) → Buf (Elt Ideal) ℓ)
    (h : Pre_Kernel9Ideal_fwd_finite m) (c : Dev Cert.Kernel9Ideal.nD) : Real m c where
  q i := IsReal.of_cmpf _ _ i IsReal.inf_f32 (congrFun (h c).1 i)
  qp i := IsReal.of_cmpf _ _ i IsReal.inf_f32 (congrFun (h c).2.1 i)
  k i := IsReal.of_cmpf _ _ i IsReal.inf_f32 (congrFun (h c).2.2.1 i)
  v i := IsReal.of_cmpf _ _ i IsReal.inf_f32 (congrFun (h c).2.2.2.1 i)
  kc i := IsReal.of_cmpf _ _ i IsReal.inf_f32 (congrFun (h c).2.2.2.2.1 i)
  vc i := IsReal.of_cmpf _ _ i IsReal.inf_f32 (congrFun (h c).2.2.2.2.2.1 i)
  rpb i := IsReal.of_cmpf _ _ i IsReal.inf_f32 (congrFun (h c).2.2.2.2.2.2 i)
  g i := ⟨0, rfl⟩

/-- The reference's frame: its run read at the arguments; it declares no semaphore. -/
theorem frame_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The ideal kernel's one rewrite: the mask's number is `-∞`. -/
theorem preserves : Cert.preserves_Kernel9_Kernel9Ideal :=
  IdealRules.named_const.statement Cert.Kernel9Ideal.κ "mask" .f32 0xF149F2CA#32 ⊥ rfl

/-- Kernel and reference return the same values. -/
theorem algebraic : Cert.algebraic_Kernel9Ideal_Reference9Ideal_pre_fwd_finite := by
  intro m ρ m' ρ' hpre hagree
  have hr := real_args m hpre
  refine ⟨fun c => heads (e := .f32) fun h => out (H m c h),
    (θ_run Cert.Kernel9Ideal.defs _ _).mono (fun r h c => ⟨(h c).1.trans (W4_out m ρ c (hr c)), (h c).2⟩) (run m ρ),
    (θ_run Cert.Reference9Ideal.defs _ _).mono (fun r h c => ?_) (Cert.Reference9Ideal.Value.run (F := Ideal) m' ρ')⟩
  obtain ⟨e0, e1, e2, e3, e4, e5, e6, -⟩ := hagree c
  refine ⟨(h c).1.trans ((val_main_v107_eq _ _).trans ?_), (h c).2⟩
  rw [e0, e1, e2, e3, e4, e5, e6]
  exact Ref.out_eq (hr c)

end Cert.AttnFwd
end
-- ==== Proof.Conv.Column.lean ====
/-
  The gated short convolution of one channel, and its gradient.

  One channel holds five columns of 2048 rows: the value `u`, the gates `bg` and `cg`, the output gate's logit `zc` and
  the cotangent `d` of the output; and the filter's three weights `w` and bias `b`. The channel's output is
  `bg * (b + w 0 * cu[r-1] + w 1 * cu[r] + w 2 * cu[r+1]) * silu zc` with `cu = u * cg`, zero outside the rows.
  The definitions below are the gradients of `∑ d * output` by these columns, by the weights and by the bias.
-/
module

public import Idealize.ShloMosaic.Lib.Pointwise

@[expose] public section

noncomputable section

namespace Cert.Conv

open Idealize.ShloMosaic

/-- The row before, zero before the first. -/
def before (v : Fin 2048 → EReal) (r : Fin 2048) : EReal :=
  if r.val = 0 then 0 else v ⟨(r.val + 2047) % 2048, Nat.mod_lt _ (by omega)⟩

/-- The row after, zero after the last. -/
def after (v : Fin 2048 → EReal) (r : Fin 2048) : EReal :=
  if r.val = 2047 then 0 else v ⟨(r.val + 1) % 2048, Nat.mod_lt _ (by omega)⟩

/-- The product with a weight may stand inside the choice of the row before … -/
theorem before_mul (v : Fin 2048 → EReal) (w : EReal) (r : Fin 2048) :
    before v r * w = before (fun i => v i * w) r := by
  unfold before; split <;> simp

/-- … and of the row after. -/
theorem after_mul (v : Fin 2048 → EReal) (w : EReal) (r : Fin 2048) :
    after v r * w = after (fun i => v i * w) r := by
  unfold after; split <;> simp

/-- One channel's columns, weights and bias. -/
structure Column where
  u : Fin 2048 → EReal
  bg : Fin 2048 → EReal
  cg : Fin 2048 → EReal
  zc : Fin 2048 → EReal
  d : Fin 2048 → EReal
  w : Fin 3 → EReal
  b : EReal

/-- Channel `l` of the projection's rows `p` (the columns 2048 to 4095 hold `u`, `bg`, `cg` and `zc`), of the weights,
    the bias and the cotangent. -/
def col (p : Fin 2048 → Fin 4096 → EReal) (w : Fin 3 → Fin 512 → EReal) (b : Fin 512 → EReal)
    (d : Fin 2048 → Fin 512 → EReal) (l : Fin 512) : Column where
  u r := p r ⟨2048 + l.val, by omega⟩
  bg r := p r ⟨2560 + l.val, by omega⟩
  cg r := p r ⟨3072 + l.val, by omega⟩
  zc r := p r ⟨3584 + l.val, by omega⟩
  d r := d r l
  w k := w k l
  b := b l

namespace Column

variable (K : Column)

/-- The filter's input. -/
def cu (r : Fin 2048) : EReal := K.u r * K.cg r

/-- The filter's output. -/
def cv (r : Fin 2048) : EReal := K.b + before K.cu r * K.w 0 + K.cu r * K.w 1 + after K.cu r * K.w 2

/-- `silu zc` -/
def gate (r : Fin 2048) : EReal := K.zc r * Ideal.logistic (K.zc r)

/-- The derivative of `silu` at `zc`. -/
def dgate (r : Fin 2048) : EReal :=
  Ideal.logistic (K.zc r) * (1 + K.zc r * (1 - Ideal.logistic (K.zc r)))

/-- The gradient of the filter's output. -/
def dcv (r : Fin 2048) : EReal := K.d r * K.gate r * K.bg r

/-- The gradient of the filter's input: the filter transposed. -/
def dcu (r : Fin 2048) : EReal := after K.dcv r * K.w 0 + K.dcv r * K.w 1 + before K.dcv r * K.w 2

/-- The four planes: the gradients of `u`, `bg`, `cg` and `zc`. -/
def plane (k : Fin 4) (r : Fin 2048) : EReal :=
  match k with
  | 0 => K.dcu r * K.cg r
  | 1 => K.d r * K.gate r * K.cv r
  | 2 => K.dcu r * K.u r
  | 3 => K.d r * (K.bg r * K.cv r) * K.dgate r

/-- The gradients of the three weights, in eight rows of which five are zero. -/
def dw (k : Fin 8) : EReal :=
  match k with
  | 0 => ∑ r, K.dcv r * before K.cu r
  | 1 => ∑ r, K.dcv r * K.cu r
  | 2 => ∑ r, K.dcv r * after K.cu r
  | 3 | 4 | 5 | 6 | 7 => 0

/-- The gradient of the bias. -/
def db : EReal := ∑ r, K.dcv r

end Column

end Cert.Conv

end
-- ==== Proof.Conv.Block.lean ====
module

public import proofs.«01_k».proof.Proof.Gen.KernelIdeal.Value
public import proofs.«01_k».proof.Proof.Conv.Column
public import Idealize.ShloMosaic.Lib.Pipeline.ValueKit

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Channel `l` of the argument arrays. -/
abbrev arrCol (p : FVec Ideal S2048x4096 .f32) (w : FVec Ideal S3x512 .f32) (b : FVec Ideal S1x512 .f32)
    (d : FVec Ideal S2048x512 .f32) (l : Fin 512) : Column :=
  col (fun r l => p (ix2 r l)) (fun k l => w (ix2 k l)) (fun l => b (ix2 0 l)) (fun r l => d (ix2 r l)) l

/-- Every window's block index. -/
theorem idx : ∀ t : Fin cfg0.N, win0_0.index t = ![0, t.val] ∧ win0_1.index t = ![0, 16 + t.val]
    ∧ win0_2.index t = ![0, 20 + t.val] ∧ win0_3.index t = ![0, 24 + t.val] ∧ win0_4.index t = ![0, 28 + t.val]
    ∧ win0_5.index t = ![0, t.val] ∧ win0_6.index t = ![0, t.val] ∧ win0_7.index t = ![1, 0, t.val]
    ∧ win0_8.index t = ![0, t.val] ∧ win0_9.index t = ![0, t.val] :=
  (by decide +kernel : ∀ t : Fin grid0.N, _)

/-- Channel `l` of the blocks that one grid point reads. -/
def bcol (x0 x1 x2 x3 x4 : Vec Ideal S2048x128 .f32) (x5 : Vec Ideal S3x128 .f32) (x6 : Vec Ideal S1x128 .f32)
    (l : Fin 128) : Column where
  u r := x1 (ix2 r l)
  bg r := x2 (ix2 r l)
  cg r := x3 (ix2 r l)
  zc r := x4 (ix2 r l)
  d r := x0 (ix2 r l)
  w k := x5 (ix2 k l)
  b := x6 (ix2 0 l)

/-- A choice by the row's number. -/
theorem select_row (r : Fin 2048) (n : ℕ) (hn : n < 2048) (a b : EReal) :
    Scalar.select (IntOp.cmpi .eq (BitVec.ofNat 32 r.val) (BitVec.ofNat 32 n)) a b = if r.val = n then a else b := by
  have hr := r.isLt
  have e : (BitVec.ofNat 32 r.val = BitVec.ofNat 32 n) ↔ r.val = n := by
    rw [BitVec.toNat_eq]; simp only [BitVec.toNat_ofNat]; omega
  unfold Scalar.select IntOp.cmpi
  by_cases h : r.val = n
  · simp [h]
  · rw [if_neg h]
    have e' := beq_eq_false_iff_ne.2 (e.not.2 h)
    simp [e']

/-- The row before as a rotation by one row and a mask write it. -/
theorem before_rot (v : Fin 2048 → EReal) (r : Fin 2048) (h : (r.val + 2048 - 1) % 2048 < 2048) :
    Scalar.select (IntOp.cmpi .eq (BitVec.ofNat 32 r.val) 0#32) 0 (v ⟨(r.val + 2048 - 1) % 2048, h⟩) = before v r := by
  rw [select_row r 0 (by omega)]; rfl

/-- The row after as a rotation by 2047 rows and a mask write it. -/
theorem after_rot (v : Fin 2048 → EReal) (r : Fin 2048) (h : (r.val + 2048 - 2047) % 2048 < 2048) :
    Scalar.select (IntOp.cmpi .eq (BitVec.ofNat 32 r.val) 2047#32) 0 (v ⟨(r.val + 2048 - 2047) % 2048, h⟩) = after v r := by
  rw [select_row r 2047 (by omega)]
  have e : r.val + 2048 - 2047 = r.val + 1 := by omega
  simp only [after, e]

/-- The three rows of the block of weights. -/
abbrev w0 (x : Vec Ideal S3x128 .f32) := View.ld x (Rect.unit ![0, 0] ![1, 128] inb_S3x128_S1x128_0_0)
abbrev w1 (x : Vec Ideal S3x128 .f32) := View.ld x (Rect.unit ![1, 0] ![1, 128] inb_S3x128_S1x128_1_0)
abbrev w2 (x : Vec Ideal S3x128 .f32) := View.ld x (Rect.unit ![2, 0] ![1, 128] inb_S3x128_S1x128_2_0)

section Blocks

variable (x0 x1 x2 x3 x4 : Vec Ideal S2048x128 .f32) (x5 : Vec Ideal S3x128 .f32) (x6 : Vec Ideal S1x128 .f32)
  (r : Fin 2048) (l : Fin 128)

theorem cu_at : k0_pay2 x1 x3 (ix2 r l) = (bcol x0 x1 x2 x3 x4 x5 x6 l).cu r := by
  pointwise [k0_pay2]
  exact mul_comm _ _

theorem cum_at : k0_pay3 x1 x3 (ix2 r l) = before (bcol x0 x1 x2 x3 x4 x5 x6 l).cu r := by
  pointwise [k0_pay3, k0_pay2]
  rw [← before_rot (bcol x0 x1 x2 x3 x4 x5 x6 l).cu r (Nat.mod_lt _ (by omega))]
  simp only [Column.cu, bcol, mul_comm]

theorem cup_at : k0_pay4 x1 x3 (ix2 r l) = after (bcol x0 x1 x2 x3 x4 x5 x6 l).cu r := by
  pointwise [k0_pay4, k0_pay2]
  rw [← after_rot (bcol x0 x1 x2 x3 x4 x5 x6 l).cu r (Nat.mod_lt _ (by omega))]
  simp only [Column.cu, bcol, mul_comm]

theorem cv_at : k0_pay5 x1 x3 (w0 x5) (w1 x5) (w2 x5) x6 (ix2 r l) = (bcol x0 x1 x2 x3 x4 x5 x6 l).cv r := by
  pointwise [k0_pay5, k0_pay2, k0_pay3, k0_pay4, w0, w1, w2]
  unfold Column.cv
  rw [before_mul, after_mul, ← before_rot _ r (Nat.mod_lt _ (by omega)), ← after_rot _ r (Nat.mod_lt _ (by omega))]
  simp only [Column.cu, bcol, mul_comm (x1 _) (x3 _)]

theorem dcv_at : k0_pay10 x0 x2 (k0_pay6 x4) (ix2 r l) = (bcol x0 x1 x2 x3 x4 x5 x6 l).dcv r := by
  pointwise [k0_pay10, k0_pay6]
  rfl

theorem dcu_at : k0_pay16 (w0 x5) (w1 x5) (w2 x5) (k0_pay10 x0 x2 (k0_pay6 x4)) (ix2 r l) = (bcol x0 x1 x2 x3 x4 x5 x6 l).dcu r := by
  pointwise [k0_pay16, w0, w1, w2]
  simp only [dcv_at x0 x1 x2 x3 x4 x5 x6]
  unfold Column.dcu
  rw [before_mul, after_mul, ← before_rot _ r (Nat.mod_lt _ (by omega)), ← after_rot _ r (Nat.mod_lt _ (by omega))]
  rfl

theorem plane0 : k0_pay1 (k0_pay18 x3 (w0 x5) (w1 x5) (w2 x5) (k0_pay10 x0 x2 (k0_pay6 x4))) (ix3 0 r l) = (bcol x0 x1 x2 x3 x4 x5 x6 l).plane 0 r := by
  pointwise [k0_pay1, k0_pay18]
  rw [dcu_at x0 x1 x2 x3 x4 x5 x6]; rfl

theorem plane1 : k0_pay8 (k0_pay5 x1 x3 (w0 x5) (w1 x5) (w2 x5) x6) (k0_pay7 x0 x4) (ix3 0 r l) = (bcol x0 x1 x2 x3 x4 x5 x6 l).plane 1 r := by
  pointwise [k0_pay8, k0_pay7]
  rw [cv_at x0 x1 x2 x3 x4 x5 x6]; rfl

theorem plane2 : k0_pay17 x1 (w0 x5) (w1 x5) (w2 x5) (k0_pay10 x0 x2 (k0_pay6 x4)) (ix3 0 r l) = (bcol x0 x1 x2 x3 x4 x5 x6 l).plane 2 r := by
  pointwise [k0_pay17]
  rw [dcu_at x0 x1 x2 x3 x4 x5 x6]; rfl

theorem plane3 : k0_pay9 x0 x2 x4 (k0_pay5 x1 x3 (w0 x5) (w1 x5) (w2 x5) x6) (ix3 0 r l) = (bcol x0 x1 x2 x3 x4 x5 x6 l).plane 3 r := by
  pointwise [k0_pay9]
  rw [cv_at x0 x1 x2 x3 x4 x5 x6]; rfl

theorem dw0 : k0_pay12 x0 x2 (k0_pay3 x1 x3) (k0_pay6 x4) (ix2 0 l) = (bcol x0 x1 x2 x3 x4 x5 x6 l).dw 0 := by
  pointwise [k0_pay12]
  simp only [dcv_at x0 x1 x2 x3 x4 x5 x6, cum_at x0 x1 x2 x3 x4 x5 x6]; rfl

theorem dw1 : k0_pay13 x0 x2 (k0_pay2 x1 x3) (k0_pay6 x4) (ix2 0 l) = (bcol x0 x1 x2 x3 x4 x5 x6 l).dw 1 := by
  pointwise [k0_pay13]
  simp only [dcv_at x0 x1 x2 x3 x4 x5 x6, cu_at x0 x1 x2 x3 x4 x5 x6]; rfl

theorem dw2 : k0_pay14 (k0_pay4 x1 x3) (k0_pay10 x0 x2 (k0_pay6 x4)) (ix2 0 l) = (bcol x0 x1 x2 x3 x4 x5 x6 l).dw 2 := by
  pointwise [k0_pay14]
  simp only [dcv_at x0 x1 x2 x3 x4 x5 x6, cup_at x0 x1 x2 x3 x4 x5 x6]; rfl

theorem db_at : k0_pay11 x0 x2 (k0_pay6 x4) (ix2 0 l) = (bcol x0 x1 x2 x3 x4 x5 x6 l).db := by
  pointwise [k0_pay11]
  simp only [dcv_at x0 x1 x2 x3 x4 x5 x6]; rfl

end Blocks

/-- The channels that grid point `t` reads are the arguments' channels from `128 t` on. -/
theorem bcol_eq (c : Dev nD) (t : Fin cfg0.N) (l : Fin 128) (h : 128 * t.val + l.val < 512) :
    bcol (iblk m c 0 t) (iblk m c 1 t) (iblk m c 2 t) (iblk m c 3 t) (iblk m c 4 t) (iblk m c 5 t) (iblk m c 6 t) l
      = arrCol (m ((c : Thread nD τ).loc main_arg0)) (m ((c : Thread nD τ).loc main_arg1))
          (m ((c : Thread nD τ).loc main_arg2)) (m ((c : Thread nD τ).loc main_arg3)) ⟨128 * t.val + l.val, h⟩ := by
  unfold bcol arrCol col
  congr 1
  all_goals first
    | (funext r; blk_ext! [iblk, V, idx t])
    | (blk_ext! [iblk, V, idx t])

/-- What point `t` leaves in the planes' block. -/
theorem point7 (c : Dev nD) (t : Fin cfg0.N) (k : Fin 4) (r : Fin 2048) (l : Fin 128) :
    (outsAt0 m c t).1 (ix3 k r l)
      = (bcol (iblk m c 0 t) (iblk m c 1 t) (iblk m c 2 t) (iblk m c 3 t) (iblk m c 4 t) (iblk m c 5 t) (iblk m c 6 t)
          l).plane k r := by
  unfold outsAt0
  frame_out
  canon_tiles x h
  all_goals
    obtain ⟨a, r', l', rfl⟩ : ∃ a r' l', x = ix3 a r' l' := ⟨x 0, x 1, x 2, by ext i; fin_cases i <;> rfl⟩
    obtain rfl : a = 0 := Fin.ext (by omega)
    obtain rfl : r = r' := Fin.ext h1
    obtain rfl : l = l' := Fin.ext h2
  · obtain rfl : k = 0 := Fin.ext h0
    exact plane0 ..
  · obtain rfl : k = 2 := Fin.ext h0
    exact plane2 ..
  · obtain rfl : k = 3 := Fin.ext h0
    exact plane3 ..
  · obtain rfl : k = 1 := Fin.ext h0
    exact plane1 ..

/-- What point `t` leaves in the weights' block. -/
theorem point8 (c : Dev nD) (t : Fin cfg0.N) (k : Fin 8) (l : Fin 128) :
    (outsAt0 m c t).2.1 (ix2 k l)
      = (bcol (iblk m c 0 t) (iblk m c 1 t) (iblk m c 2 t) (iblk m c 3 t) (iblk m c 4 t) (iblk m c 5 t) (iblk m c 6 t)
          l).dw k := by
  unfold outsAt0
  frame_out
  canon_tiles x h using View.cover_of_tiledBy _ ![1, 128] (by sl_kernel_rfl) _
  · have h0' : k.val = 3 + (x 0).val := h0
    have e : (bcol (iblk m c 0 t) (iblk m c 1 t) (iblk m c 2 t) (iblk m c 3 t) (iblk m c 4 t) (iblk m c 5 t)
        (iblk m c 6 t) l).dw k = 0 := by
      obtain ⟨k, hk⟩ := k
      simp only at h0'
      obtain rfl | rfl | rfl | rfl | rfl : k = 3 ∨ k = 4 ∨ k = 5 ∨ k = 6 ∨ k = 7 := by omega
      all_goals rfl
    rw [e]
    pointwise [k0_pay15]
  all_goals
    obtain ⟨a, l', rfl⟩ : ∃ a l', x = ix2 a l' := ⟨x 0, x 1, by ext i; fin_cases i <;> rfl⟩
    obtain rfl : a = 0 := Fin.ext (by omega)
    obtain rfl : l = l' := Fin.ext h1
  · obtain rfl : k = 2 := Fin.ext h0
    exact dw2 ..
  · obtain rfl : k = 1 := Fin.ext h0
    exact dw1 ..
  · obtain rfl : k = 0 := Fin.ext h0
    exact dw0 ..

/-- What point `t` leaves in the bias gradient's block. -/
theorem point9 (c : Dev nD) (t : Fin cfg0.N) (l : Fin 128) :
    (outsAt0 m c t).2.2 (ix2 0 l)
      = (bcol (iblk m c 0 t) (iblk m c 1 t) (iblk m c 2 t) (iblk m c 3 t) (iblk m c 4 t) (iblk m c 5 t) (iblk m c 6 t)
          l).db := by
  unfold outsAt0
  frame_out
  exact db_at ..

end Cert.Conv
end
-- ==== Proof.Conv.Ref.lean ====
/-
  What the reference computes, channel by channel.
-/
module

public import proofs.«01_k».proof.Proof.Gen.ReferenceIdeal.Read
public import proofs.«01_k».proof.Proof.Conv.Column
public import proofs.«01_k».proof.Proof.Finite
public import Idealize.ShloMosaic.Lib.Pipeline.ValueKit

@[expose] public section

set_option maxRecDepth 16384

noncomputable section

namespace Cert.Conv.Ref

open Idealize.ShloMosaic Idealize.ShloMosaic.TcCoe Idealize.SL.Sem
open Cert.ReferenceIdeal Cert.ReferenceIdeal.Gen Cert.ReferenceIdeal.Value Cert.ReferenceIdeal.Read

variable (x0 : (⟨S2048x4096, .f32⟩ : BufTy).Contents (Elt Ideal)) (x1 : (⟨S3x512, .f32⟩ : BufTy).Contents (Elt Ideal))
  (x2 : (⟨S1x512, .f32⟩ : BufTy).Contents (Elt Ideal)) (x3 : (⟨S2048x512, .f32⟩ : BufTy).Contents (Elt Ideal))
  (x4 : (⟨S8x2048x512, .bf16⟩ : BufTy).Contents (Elt Ideal)) (r : Fin 2048) (l : Fin 512)

/-- Channel `l` of the arguments. -/
abbrev K : Column :=
  col (fun r l => x0 (ix2 r l)) (fun k l => x1 (ix2 k l)) (fun l => x2 (ix2 0 l)) (fun r l => x3 (ix2 r l)) l

/-- The padded filter input: a row of zeros, the rows of `cu`, a row of zeros. -/
theorem pad_row (r : Fin 2050) : val_main_v6 x0 (ix2 r l) =
    if h : r.val < 1 then 0 else if h : r.val - 1 < 2048 then (K x0 x1 x2 x3 l).cu ⟨r.val - 1, h⟩ else 0 := by
  pointwise [val_main_v6, val_main_v4, val_main_v5, val_main_v0, val_main_v2, val_main_cst]
  simp only [mul_comm (x0 (ix2 _ ⟨3072 + l.val, _⟩))]
  rfl

/-- The padded rows from the first are the rows before … -/
theorem row_before : val_main_v6 x0 (ix2 ⟨r.val, by omega⟩ l) = before (K x0 x1 x2 x3 l).cu r := by
  rw [pad_row x0 x1 x2 x3]
  unfold before
  by_cases h : r.val = 0
  · simp [h]
  · rw [dif_neg (by simp only []; omega), dif_pos (by simp only []; omega), if_neg h]
    exact congrArg _ (Fin.ext (by simp only []; omega))

/-- … from the second the rows themselves … -/
theorem row_mid : val_main_v6 x0 (ix2 ⟨1 + r.val, by omega⟩ l) = (K x0 x1 x2 x3 l).cu r := by
  rw [pad_row x0 x1 x2 x3, dif_neg (by simp only []; omega), dif_pos (by simp only []; omega)]
  exact congrArg _ (Fin.ext (by simp only []; omega))

/-- … and from the third the rows after. -/
theorem row_after : val_main_v6 x0 (ix2 ⟨2 + r.val, by omega⟩ l) = after (K x0 x1 x2 x3 l).cu r := by
  rw [pad_row x0 x1 x2 x3, dif_neg (by simp only []; omega)]
  unfold after
  by_cases h : r.val = 2047
  · rw [if_pos h, dif_neg (by simp only []; omega)]
  · rw [if_neg h, dif_pos (by simp only []; omega)]
    exact congrArg _ (Fin.ext (by simp only []; omega))

/-- The logistic function of the output gate's logit. -/
theorem logistic_at : val_main_v32_2 x0 (ix2 r l) = Ideal.logistic ((K x0 x1 x2 x3 l).zc r) := by
  pointwise [val_main_v32_2, val_main_call0_v3, val_main_call0_v4, val_main_call0_v1, val_main_call0_v2,
    val_main_call0_cst_0, val_main_call0_v0, val_main_call0_cst, val_main_v3]
  rfl

/-- The filter's output. -/
theorem cv_at : val_main_v30 x0 x1 x2 (ix2 r l) = (K x0 x1 x2 x3 l).cv r := by
  pointwise [val_main_v30, val_main_v23, val_main_v29, val_main_v16, val_main_v22, val_main_v24, val_main_v28,
    val_main_v14, val_main_v15, val_main_v17, val_main_v21, val_main_v27, val_main_v13, val_main_v9, val_main_v20,
    val_main_v26, val_main_v12, val_main_v19, val_main_v25, val_main_v11, val_main_v18, val_main_v10]
  rw [row_before x0 x1 x2 x3, row_mid x0 x1 x2 x3, row_after x0 x1 x2 x3]
  rfl

/-- The gradient of the filter's output. -/
theorem dcv_at : val_main_v37 x0 x3 (ix2 r l) = (K x0 x1 x2 x3 l).dcv r := by
  pointwise [val_main_v37, val_main_v1, val_main_v35, val_main_v32_0, val_main_v3]
  rw [logistic_at x0 x1 x2 x3]
  show (K x0 x1 x2 x3 l).bg r * _ = _
  rw [mul_comm]; rfl

/-- The gradient of the filter's input. -/
theorem dcu_at : val_main_v73 x0 x1 x3 (ix2 r l) = (K x0 x1 x2 x3 l).dcu r := by
  pointwise [val_main_v73, val_main_v71, val_main_v58, val_main_v70, val_main_v47, val_main_v57, val_main_cst_14,
    val_main_v65, val_main_cst_5, val_main_v43, val_main_cst_9, val_main_v52, val_main_v64, val_main_v42,
    val_main_v51, val_main_v12, val_main_v27, val_main_v20, val_main_v11, val_main_v26, val_main_v19,
    val_main_v10, val_main_v25, val_main_v18]
  simp only [dcv_at x0 x1 x2 x3]
  unfold Column.dcu
  rw [before_mul, after_mul]
  unfold before after
  rw [add_comm, ← add_assoc, add_right_comm]
  refine congrArg₂ _ (congrArg₂ _ ?_ rfl) ?_
  · by_cases h : r.val = 2047
    · rw [if_pos h, dif_neg (by omega)]
    · rw [if_neg h, dif_pos (by omega)]
      have e : (⟨1 + r.val, by omega⟩ : Fin 2048) = ⟨(r.val + 1) % 2048, Nat.mod_lt _ (by omega)⟩ :=
        Fin.ext (by simp only []; omega)
      rw [e]; rfl
  · by_cases h : r.val = 0
    · rw [if_pos h, dif_neg (by omega)]
    · rw [if_neg h, dif_pos (by omega)]
      have e : (⟨1 + r.val - 2, by omega⟩ : Fin 2048) = ⟨(r.val + 2047) % 2048, Nat.mod_lt _ (by omega)⟩ :=
        Fin.ext (by simp only []; omega)
      rw [e]; rfl

/-- The fifth plane is the gradient of `u` … -/
theorem plane0 : val_main_v84 x0 x1 x2 x3 x4 (ix3 4 r l) = (K x0 x1 x2 x3 l).plane 0 r := by
  pointwise [val_main_v84, val_main_v82, val_main_v83, val_main_v81, val_main_v77, val_main_v78, val_main_v79,
    val_main_v80, val_main_v75, val_main_v38, val_main_v76, val_main_v36, val_main_v2, val_main_v35, val_main_v0,
    val_main_call1_v1, val_main_call1_v2, val_main_v32_0, val_main_v34, val_main_call1_v0, val_main_v3,
    val_main_v31, val_main_v1]
  rw [dcu_at x0 x1 x2 x3]
  exact mul_comm _ _

/-- … the sixth that of `bg` … -/
theorem plane1 : val_main_v84 x0 x1 x2 x3 x4 (ix3 5 r l) = (K x0 x1 x2 x3 l).plane 1 r := by
  pointwise [val_main_v84, val_main_v82, val_main_v83, val_main_v81, val_main_v77, val_main_v78, val_main_v79,
    val_main_v80, val_main_v75, val_main_v38, val_main_v76, val_main_v36, val_main_v2, val_main_v35, val_main_v0,
    val_main_call1_v1, val_main_call1_v2, val_main_v32_0, val_main_v34, val_main_call1_v0, val_main_v3,
    val_main_v31, val_main_v1]
  rw [logistic_at x0 x1 x2 x3, cv_at x0 x1 x2 x3]
  rfl

/-- … the seventh that of `cg` … -/
theorem plane2 : val_main_v84 x0 x1 x2 x3 x4 (ix3 6 r l) = (K x0 x1 x2 x3 l).plane 2 r := by
  pointwise [val_main_v84, val_main_v82, val_main_v83, val_main_v81, val_main_v77, val_main_v78, val_main_v79,
    val_main_v80, val_main_v75, val_main_v38, val_main_v76, val_main_v36, val_main_v2, val_main_v35, val_main_v0,
    val_main_call1_v1, val_main_call1_v2, val_main_v32_0, val_main_v34, val_main_call1_v0, val_main_v3,
    val_main_v31, val_main_v1]
  rw [dcu_at x0 x1 x2 x3]
  rfl

/-- The derivative of `silu` as the reference sums it, at real arguments. -/
theorem gate_eq (bg cv d z : EReal) (hbg : IsReal bg) (hcv : IsReal cv) (hd : IsReal d) (hz : IsReal z) :
    bg * cv * d * Ideal.logistic z + z * (bg * cv * d) * (Ideal.logistic z * (1 - Ideal.logistic z))
      = d * (bg * cv) * (Ideal.logistic z * (1 + z * (1 - Ideal.logistic z))) := by
  have hs := hz.logistic
  obtain ⟨bg, rfl⟩ := hbg
  obtain ⟨cv, rfl⟩ := hcv
  obtain ⟨d, rfl⟩ := hd
  generalize Ideal.logistic z = s at *
  obtain ⟨z, rfl⟩ := hz
  obtain ⟨s, rfl⟩ := hs
  norm_cast
  ring

/-- … and the eighth that of `zc`, at real values. -/
theorem plane3 (hbg : IsReal ((K x0 x1 x2 x3 l).bg r)) (hcv : IsReal ((K x0 x1 x2 x3 l).cv r))
    (hd : IsReal ((K x0 x1 x2 x3 l).d r)) (hz : IsReal ((K x0 x1 x2 x3 l).zc r)) : val_main_v84 x0 x1 x2 x3 x4 (ix3 7 r l) = (K x0 x1 x2 x3 l).plane 3 r := by
  pointwise [val_main_v84, val_main_v82, val_main_v83, val_main_v81, val_main_v77, val_main_v78, val_main_v79,
    val_main_v80, val_main_v75, val_main_v38, val_main_v76, val_main_v36, val_main_v2, val_main_v35, val_main_v0,
    val_main_call1_v1, val_main_call1_v2, val_main_v32_0, val_main_v34, val_main_call1_v0, val_main_v32_1,
    val_main_v3, val_main_v31, val_main_call0_v7, val_main_v1, val_main_call0_v6, val_main_call0_cst_1]
  rw [logistic_at x0 x1 x2 x3, cv_at x0 x1 x2 x3]
  exact gate_eq _ _ _ _ hbg hcv hd hz

/-- The first four planes are the argument's. -/
theorem kept (k : Fin 8) (h : k.val < 4) : val_main_v84 x0 x1 x2 x3 x4 (ix3 k r l) = x4 (ix3 k r l) := by
  pointwise [val_main_v84, val_main_v83]
  rw [dif_pos h]

/-- A sum over the one column and over the rows. -/
theorem sum_cols (f g : Fin 2048 → EReal) (h : ∀ x, f x = g x) : ∑ _y : Fin 1, ∑ x, f x = ∑ x, g x := by
  simp [h]

/-- The gradient of the filter's first weight … -/
theorem dw0 : val_main_v85 x0 x3 (ix2 0 l) = (K x0 x1 x2 x3 l).dw 0 := by
  pointwise [val_main_v85, val_main_call2_v0, val_main_v69, val_main_c, val_main_v56, val_main_v68, val_main_v46,
    val_main_v55, val_main_cst_13, val_main_v67, val_main_cst_4, val_main_v45, val_main_cst_8, val_main_v54,
    val_main_v66, val_main_v44, val_main_v53, val_main_cst_12, val_main_v63, val_main_cst_3, val_main_v41,
    val_main_cst_7, val_main_v50, val_main_v62, val_main_v40, val_main_v49, val_main_cst_11, val_main_v61,
    val_main_cst_2, val_main_v39, val_main_cst_6, val_main_v48, val_main_v9, val_main_v24, val_main_v17]
  simp only [dcv_at x0 x1 x2 x3, row_before x0 x1 x2 x3]
  show _ = (∑ x : Fin 2048, (K x0 x1 x2 x3 l).dcv x * before (K x0 x1 x2 x3 l).cu x : EReal)
  exact sum_cols _ _ fun x => mul_comm _ _

/-- … of its second … -/
theorem dw1 : val_main_v85 x0 x3 (ix2 1 l) = (K x0 x1 x2 x3 l).dw 1 := by
  pointwise [val_main_v85, val_main_call2_v0, val_main_v69, val_main_c, val_main_v56, val_main_v68, val_main_v46,
    val_main_v55, val_main_cst_13, val_main_v67, val_main_cst_4, val_main_v45, val_main_cst_8, val_main_v54,
    val_main_v66, val_main_v44, val_main_v53, val_main_cst_12, val_main_v63, val_main_cst_3, val_main_v41,
    val_main_cst_7, val_main_v50, val_main_v62, val_main_v40, val_main_v49, val_main_cst_11, val_main_v61,
    val_main_cst_2, val_main_v39, val_main_cst_6, val_main_v48, val_main_v9, val_main_v24, val_main_v17]
  simp only [dcv_at x0 x1 x2 x3, row_mid x0 x1 x2 x3]
  show _ = (∑ x : Fin 2048, (K x0 x1 x2 x3 l).dcv x * (K x0 x1 x2 x3 l).cu x : EReal)
  exact sum_cols _ _ fun x => mul_comm _ _

/-- … and of its third. -/
theorem dw2 : val_main_v85 x0 x3 (ix2 2 l) = (K x0 x1 x2 x3 l).dw 2 := by
  pointwise [val_main_v85, val_main_call2_v0, val_main_v69, val_main_c, val_main_v56, val_main_v68, val_main_v46,
    val_main_v55, val_main_cst_13, val_main_v67, val_main_cst_4, val_main_v45, val_main_cst_8, val_main_v54,
    val_main_v66, val_main_v44, val_main_v53, val_main_cst_12, val_main_v63, val_main_cst_3, val_main_v41,
    val_main_cst_7, val_main_v50, val_main_v62, val_main_v40, val_main_v49, val_main_cst_11, val_main_v61,
    val_main_cst_2, val_main_v39, val_main_cst_6, val_main_v48, val_main_v9, val_main_v24, val_main_v17]
  simp only [dcv_at x0 x1 x2 x3, row_after x0 x1 x2 x3]
  show _ = (∑ x : Fin 2048, (K x0 x1 x2 x3 l).dcv x * after (K x0 x1 x2 x3 l).cu x : EReal)
  exact sum_cols _ _ fun x => mul_comm _ _

/-- The rows of padding below the three weights are zero. -/
theorem dw_pad (k : Fin 8) (h : 3 ≤ k.val) : val_main_v85 x0 x3 (ix2 k l) = 0 := by
  pointwise [val_main_v85, val_main_call2_v0, val_main_c]
  rw [dif_neg (by omega)]
  simp [FloatOps.sitofp]

/-- The gradient of the filter's bias. -/
theorem db_at : val_main_v60 x0 x3 (ix2 0 l) = (K x0 x1 x2 x3 l).db := by
  pointwise [val_main_v60, val_main_v59, val_main_cst_10]
  simp only [dcv_at x0 x1 x2 x3]
  rfl

end Cert.Conv.Ref
end
-- ==== Proof.ConvFwd.Pair.lean ====
/-
  The convolution's forward pair: a grid point's block holds 128 channels of the gated convolution's output, as the
  reference computes it, on all arguments.
-/
module

public import proofs.«01_k».proof.Defs
public import proofs.«01_k».proof.Proof.Conv.Block
public import proofs.«01_k».proof.Proof.Conv.Ref
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.ConvFwd

open Idealize.ShloMosaic Idealize.ShloMosaic.TcCoe Idealize.SL.Sem
open Idealize.ShloMosaic.Pipeline (Dat)
open Cert.Conv

/-- The channel's output. -/
def out (K : Column) (r : Fin 2048) : EReal := K.bg r * K.cv r * K.gate r

/-- Channel `l` of the argument arrays. -/
abbrev chan (p : FVec Ideal Cert.Kernel10Ideal.S2048x4096 .f32) (w : FVec Ideal Cert.Kernel10Ideal.S3x512 .f32)
    (b : FVec Ideal Cert.Kernel10Ideal.S1x512 .f32) (l : Fin 512) : Column := arrCol p w b 0 l

/-- All channels' outputs. -/
def outs (K : Fin 512 → Column) : FVec Ideal Cert.Kernel10Ideal.S2048x512 .bf16 := fun i => out (K (i 1)) (i 0)

theorem out_congr {K K' : Column} {r r' : Fin 2048} (h : K = K') (hr : r = r') : out K r = out K' r' := by rw [h, hr]

section Kernel

open Cert.Kernel10Ideal Cert.Kernel10Ideal.Gen

variable (m : (ℓ : Loc nD τ sig) → Buf (Elt Ideal) ℓ)

theorem idx : ∀ t : Fin cfg0.N, win0_0.index t = ![0, 16 + t.val] ∧ win0_1.index t = ![0, 20 + t.val]
    ∧ win0_2.index t = ![0, 24 + t.val] ∧ win0_3.index t = ![0, 28 + t.val] ∧ win0_4.index t = ![0, t.val]
    ∧ win0_5.index t = ![0, t.val] ∧ win0_6.index t = ![0, t.val] :=
  (by decide +kernel : ∀ t : Fin grid0.N, _)

theorem pay_at (x0 x1 x2 x3 : Vec Ideal S2048x128 .f32) (x4 : Vec Ideal S3x128 .f32) (x5 : Vec Ideal S1x128 .f32)
    (r : Fin 2048) (l : Fin 128) :
    k0_pay1 (k0_pay2 x2 x0 x5 (w0 x4) (w1 x4) (w2 x4) x1 x3) (ix2 r l) = out (bcol 0 x0 x1 x2 x3 x4 x5 l) r := by
  pointwise [k0_pay1, k0_pay2, w0, w1, w2]
  unfold out Column.cv
  rw [before_mul, after_mul, ← before_rot _ r (Nat.mod_lt _ (by omega)), ← after_rot _ r (Nat.mod_lt _ (by omega))]
  simp only [Column.cu, bcol, mul_comm (x0 _) (x2 _)]
  rfl

/-- What point `t` leaves in its block. -/
theorem point6 (c : Dev nD) (t : Fin cfg0.N) (r : Fin 2048) (l : Fin 128) :
    outsAt0 m c t (ix2 r l)
      = out (bcol 0 (iblk m c 0 t) (iblk m c 1 t) (iblk m c 2 t) (iblk m c 3 t) (iblk m c 4 t) (iblk m c 5 t) l) r := by
  unfold outsAt0
  frame_out
  exact pay_at ..

/-- The channels that grid point `t` reads are the arguments' channels from `128 t` on. -/
theorem bcol_eq (c : Dev nD) (t : Fin cfg0.N) (l : Fin 128) (h : 128 * t.val + l.val < 512) :
    bcol 0 (iblk m c 0 t) (iblk m c 1 t) (iblk m c 2 t) (iblk m c 3 t) (iblk m c 4 t) (iblk m c 5 t) l
      = chan (m ((c : Thread nD τ).loc main_arg0)) (m ((c : Thread nD τ).loc main_arg1))
          (m ((c : Thread nD τ).loc main_arg2)) ⟨128 * t.val + l.val, h⟩ := by
  unfold bcol chan arrCol col
  congr 1
  all_goals first
    | (funext r; blk_ext! [iblk, V, idx t])
    | (blk_ext! [iblk, V, idx t])

theorem final6 (c : Dev nD) : (dats m 0 c).arrAt 6 cfg0.N
    = outs (chan (m ((c : Thread nD τ).loc main_arg0)) (m ((c : Thread nD τ).loc main_arg1)) (m ((c : Thread nD τ).loc main_arg2))) := by
  refine (dats m 0 c).arrAt_eq_of_covers 6 _ (by decide +kernel) fun t hf y => ?_
  blk_simp
  rw [after0_6]
  obtain ⟨r, l, rfl⟩ : ∃ r l, y = ix2 r l := ⟨y 0, y 1, by ext i; fin_cases i <;> rfl⟩
  have ht : t.val < 4 := t.isLt
  rw [point6, bcol_eq m c t l (by omega)]
  unfold outs
  exact out_congr (congrArg _ (Fin.ext (by show 128 * t.val + l.val = _; blk_simp [idx t]; omega)))
    (Fin.ext (by blk_simp [idx t]))

end Kernel

section Reference

open Cert.Reference10Ideal Cert.Reference10Ideal.Gen Cert.Reference10Ideal.Value Cert.Reference10Ideal.Read

theorem ref_eq (p : FVec Ideal S2048x4096 .f32) (w : FVec Ideal S3x512 .f32) (b : FVec Ideal S1x512 .f32) :
    val_main_v32 (F := Ideal) p w b = outs (chan p w b) := by
  funext i
  obtain ⟨r, l, rfl⟩ : ∃ r l, i = ix2 r l := ⟨i 0, i 1, by ext j; fin_cases j <;> rfl⟩
  have hc : val_main_v28 (F := Ideal) p w b (ix2 r l) = (chan p w b l).cv r := Ref.cv_at p w b 0 r l
  have hl : val_main_call0_v5 (F := Ideal) p (ix2 r l) = Ideal.logistic ((chan p w b l).zc r) :=
    Ref.logistic_at p w b 0 r l
  pointwise [val_main_v32, val_main_v31, val_main_v30, val_main_v29, val_main_v1, val_main_v3]
  rw [hc, hl]
  rfl

/-- The reference's frame: its run read at the arguments; it declares no semaphore. -/
theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- Kernel and reference return the same array. -/
theorem algebraic : Cert.algebraic_Kernel10Ideal_Reference10Ideal := by
  intro m ρ m' ρ' _ hagree
  refine ⟨_, (θ_run Cert.Kernel10Ideal.defs _ _).mono (fun r h c => ⟨(h c).1.trans (final6 m c), (h c).2⟩)
      (Cert.Kernel10Ideal.Value.run_blocks m ρ),
    (θ_run Cert.Reference10Ideal.defs _ _).mono (fun r h c => ⟨(h c).1.trans ?_, (h c).2⟩)
      (Cert.Reference10Ideal.Value.run (F := Ideal) m' ρ')⟩
  obtain ⟨e0, e1, e2, e3⟩ := hagree c
  refine (val_main_v32_eq _ _ _).symm.trans ?_
  rw [e0, e1, e2]
  exact ref_eq _ _ _

end Reference

end Cert.ConvFwd
end
-- ==== Proof.Norm.Row.lean ====
/-
  A row over its root mean square, and the gradient through it: the kernels' form and the reference's agree at real
  numbers.
-/
module

public import proofs.«01_k».proof.Proof.Attn.Row

@[expose] public section

namespace Cert.Norm

open Idealize.ShloMosaic

section
variable {ι : Type} [Fintype ι]

/-- The mean square and the small constant. -/
noncomputable def ms (n e : EReal) (x : ι → EReal) : EReal := Ideal.div (∑ k, x k * x k) n + e

/-- One over the root mean square. -/
noncomputable def rs (n e : EReal) (x : ι → EReal) : EReal := Ideal.rsqrt (ms n e x)

/-- The gradient through the row, as the kernels compute it. -/
noncomputable def back (n e : EReal) (x d : ι → EReal) (j : ι) : EReal :=
  rs n e x * (d j - x j * rs n e x * Ideal.div (∑ k, x k * rs n e x * d k) n)

/-- The derivative of the mean square's part, as the reference computes it. -/
noncomputable def part (n e h : EReal) (x d : ι → EReal) : EReal :=
  Ideal.div ((∑ k, x k * d k) * (h * Ideal.div (rs n e x) (ms n e x))) n

variable {n e : EReal}

/-- The positive real `x`. -/
def IsPos (x : EReal) : Prop := ∃ y : ℝ, 0 < y ∧ x = (y : EReal)

theorem ms_coe {N E : ℝ} (hN : 0 < N) (x : ι → ℝ) :
    ms (N : EReal) (E : EReal) (fun k => (x k : EReal)) = (((∑ k, x k * x k) / N + E : ℝ) : EReal) := by
  unfold ms
  simp only [← EReal.coe_mul]
  rw [Attn.coe_sum, Attn.div_coe_coe _ hN.ne', ← EReal.coe_add]

theorem ms_pos {N E : ℝ} (hN : 0 < N) (hE : 0 < E) (x : ι → ℝ) : 0 < (∑ k, x k * x k) / N + E :=
  add_pos_of_nonneg_of_pos (div_nonneg (Finset.sum_nonneg fun k _ => mul_self_nonneg _) hN.le) hE

theorem rs_coe {N E : ℝ} (hN : 0 < N) (hE : 0 < E) (x : ι → ℝ) :
    rs (N : EReal) (E : EReal) (fun k => (x k : EReal)) = (((Real.sqrt ((∑ k, x k * x k) / N + E))⁻¹ : ℝ) : EReal) := by
  unfold rs
  rw [ms_coe hN, Ideal.rsqrt_coe, if_neg (not_lt.2 (ms_pos hN hE x).le), if_neg (ms_pos hN hE x).ne']

theorem IsReal.rs (hn : IsPos n) (he : IsPos e) {x : ι → EReal} (hx : ∀ k, IsReal (x k)) : IsReal (rs n e x) := by
  obtain ⟨N, hN, rfl⟩ := hn
  obtain ⟨E, hE, rfl⟩ := he
  choose f hf using hx
  obtain rfl : x = fun k => (f k : EReal) := funext hf
  exact ⟨_, rs_coe hN hE f⟩

theorem IsReal.div (hn : IsPos n) {x : EReal} (hx : IsReal x) : IsReal (Ideal.div x n) := by
  obtain ⟨N, hN, rfl⟩ := hn
  obtain ⟨f, rfl⟩ := hx
  exact ⟨_, Attn.div_coe_coe f hN.ne'⟩

/-- The two forms agree: the reference sums the direct part and twice the mean square's. -/
theorem back_eq (hn : IsPos n) (he : IsPos e) {x d : ι → EReal} (hx : ∀ k, IsReal (x k)) (hd : ∀ k, IsReal (d k)) (j : ι) :
    d j * rs n e x + x j * part n e ((-1 / 2 : ℝ) : EReal) x d + part n e ((-1 / 2 : ℝ) : EReal) x d * x j
      = back n e x d j := by
  obtain ⟨N, hN, rfl⟩ := hn
  obtain ⟨E, hE, rfl⟩ := he
  choose f hf using hx
  obtain rfl : x = fun k => (f k : EReal) := funext hf
  choose g hg using hd
  obtain rfl : d = fun k => (g k : EReal) := funext hg
  have hv := ms_pos hN hE f
  have hs := Real.mul_self_sqrt hv.le
  have hs0 := (Real.sqrt_pos.2 hv).ne'
  unfold back part
  rw [rs_coe hN hE, ms_coe hN]
  generalize (∑ k, f k * f k) / N + E = v at *
  generalize Real.sqrt v = s at *
  simp only [← EReal.coe_mul]
  rw [Attn.coe_sum, Attn.coe_sum, Attn.div_coe_coe _ hv.ne', Attn.div_coe_coe _ hN.ne', ← EReal.coe_mul, ← EReal.coe_mul,
    Attn.div_coe_coe _ hN.ne']
  simp only [← EReal.coe_mul, ← EReal.coe_add, ← EReal.coe_sub]
  refine congrArg _ ?_
  have e1 : ∑ k, f k * s⁻¹ * g k = s⁻¹ * ∑ k, f k * g k := by
    rw [Finset.mul_sum]; exact Finset.sum_congr rfl fun k _ => by ring
  rw [e1]
  subst hs
  generalize ∑ k, f k * g k = S
  field_simp
  ring

theorem back_real (hn : IsPos n) (he : IsPos e) {x d : ι → EReal} (hx : ∀ k, IsReal (x k)) (hd : ∀ k, IsReal (d k)) (j : ι) :
    IsReal (back n e x d j) :=
  have hr := IsReal.rs hn he hx
  hr.mul ((hd j).sub (((hx j).mul hr).mul (IsReal.div hn (Cert.IsReal.sum _ fun k => ((hx k).mul hr).mul (hd k)))))

end

/-- A sum over blocks of a row. -/
theorem sum_blocks (a b : ℕ) (f : Fin (a * b) → EReal) :
    ∑ x, f x = ∑ p : Fin a, ∑ j : Fin b, f ⟨b * p.val + j.val, by
      have := p.isLt; have := j.isLt; calc b * p.val + j.val < b * p.val + b := by omega
        _ = (p.val + 1) * b := by ring
        _ ≤ a * b := Nat.mul_le_mul_right b (by omega)⟩ := by
  rw [← finProdFinEquiv.sum_comp, Fintype.sum_prod_type]
  exact Finset.sum_congr rfl fun p _ => Finset.sum_congr rfl fun j _ => congrArg f (Fin.ext (Nat.add_comm _ _))

theorem eps_pos : IsPos (Ideal.ofBits .f32 0x358637BD#32) := by
  refine ⟨_, ?_, by simp [Ideal.ofBits, Ideal.ieee]; rfl⟩
  positivity

theorem word_1024 : Ideal.ofBits .f32 0x44800000#32 = ((1024 : ℝ) : EReal) := by
  simp [Ideal.ofBits, Ideal.ieee]
  show ((8388608 : ℝ) : EReal) * ((2 ^ 13 : ℝ) : EReal)⁻¹ = ((1024 : ℝ) : EReal)
  rw [← EReal.coe_inv, ← EReal.coe_mul]
  norm_num

theorem word_64 : Ideal.ofBits .f32 0x42800000#32 = ((64 : ℝ) : EReal) := by
  simp [Ideal.ofBits, Ideal.ieee]
  show ((8388608 : ℝ) : EReal) * ((2 ^ 17 : ℝ) : EReal)⁻¹ = ((64 : ℝ) : EReal)
  rw [← EReal.coe_inv, ← EReal.coe_mul]
  norm_num

theorem word_64th : Ideal.ofBits .f32 0x3C800000#32 = ((1 / 64 : ℝ) : EReal) := by
  simp [Ideal.ofBits, Ideal.ieee]
  rw [← EReal.coe_mul]
  norm_num

theorem word_half : Ideal.ofBits .f32 0xBF000000#32 = ((-1 / 2 : ℝ) : EReal) := by
  simp [Ideal.ofBits, Ideal.ieee]
  rw [← EReal.coe_mul]
  norm_num

theorem pos_1024 : IsPos (Ideal.ofBits .f32 0x44800000#32) := ⟨1024, by norm_num, word_1024⟩

theorem pos_64 : IsPos (Ideal.ofBits .f32 0x42800000#32) := ⟨64, by norm_num, word_64⟩

end Cert.Norm
-- ==== Proof.Heads.Block.lean ====
/-
  Sums over a head's columns: the kernels take them by a product with the matrix that holds one where two columns are of
  one head, the summand split into its rounded part and the rest.
-/
module

public import proofs.«01_k».proof.Proof.Norm.Row
public import Idealize.ShloMosaic.Lib.Pipeline.ValueKit

@[expose] public section

set_option maxRecDepth 16384

noncomputable section

namespace Cert.Heads

open Idealize.ShloMosaic Cert.Norm

/-- The sixty-four columns of a head, and the small constant, as the programs write them. -/
abbrev cols : EReal := Ideal.ofBits .f32 0x42800000#32
abbrev eps : EReal := Ideal.ofBits .f32 0x358637BD#32

/-- Column `j` of head `h`. -/
abbrev col (h : Fin 8) (j : Fin 64) : Fin 512 := ⟨64 * h.val + j.val, by omega⟩

theorem exists_col (n : Fin 512) : ∃ h j, n = col h j :=
  ⟨⟨n.val / 64, by omega⟩, ⟨n.val % 64, by omega⟩, Fin.ext (by show n.val = 64 * (n.val / 64) + n.val % 64; omega)⟩

/-- One where the columns are of one head. -/
def ones (k n : Fin 512) : EReal := if k.val / 64 = n.val / 64 then 1 else 0

/-- The quotient by sixty-four as the kernels compute it. -/
theorem quot_word : ∀ k : Fin 512, Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

theorem same_word : ∀ a b : Fin 8, IntOp.cmpi CmpIPredicate.eq (BitVec.ofNat 32 a.val) (BitVec.ofNat 32 b.val)
    = BitVec.ofBool (decide (a.val = b.val)) := by decide +kernel

/-- The comparison of two quotients, as a number. -/
theorem ones_word (k n : Fin 512) : (FloatOps.sitofp .f32 (BitVec.setWidth 32
    (IntOp.cmpi CmpIPredicate.eq (BitVec.ofNat 32 (k.val / 64)) (BitVec.ofNat 32 (n.val / 64)))) : Ideal .f32) = ones k n := by
  have e := same_word ⟨k.val / 64, by omega⟩ ⟨n.val / 64, by omega⟩
  simp only at e
  rw [e]
  unfold ones
  by_cases h : k.val / 64 = n.val / 64 <;> simp [h, FloatOps.sitofp]

/-- The product with the matrix sums a head's columns. -/
theorem head_sum (a : Fin 512 → EReal) (h : Fin 8) (j : Fin 64) : ∑ k, a k * ones k (col h j) = ∑ i, a (col h i) := by
  refine (sum_blocks 8 64 _).trans ?_
  refine (Finset.sum_eq_single h (fun p _ hp => ?_) (fun hn => absurd (Finset.mem_univ _) hn)).trans ?_
  · refine Finset.sum_eq_zero fun i _ => ?_
    unfold ones
    rw [if_neg, mul_zero]
    intro e
    apply hp
    ext
    have e' : (64 * p.val + i.val) / 64 = (64 * h.val + j.val) / 64 := e
    omega
  · refine Finset.sum_congr rfl fun i _ => ?_
    unfold ones
    rw [if_pos, mul_one]
    show (64 * h.val + i.val) / 64 = (64 * h.val + j.val) / 64
    omega

/-- A head's mean as the kernels take it: the rest of the split is zero at a real number. -/
theorem mean_eq {a : Fin 512 → EReal} (ha : ∀ k, IsReal (a k)) (h : Fin 8) (j : Fin 64) :
    (∑ k, a k * ones k (col h j) + ∑ k, (a k - a k) * ones k (col h j)) * Ideal.ofBits .f32 0x3C800000#32
      = Ideal.div (∑ i, a (col h i)) cols := by
  have e : ∑ k, (a k - a k) * ones k (col h j) = 0 := Finset.sum_eq_zero fun k _ => by
    obtain ⟨x, hx⟩ := ha k
    rw [hx, ← EReal.coe_sub, sub_self, EReal.coe_zero, zero_mul]
  rw [e, add_zero, head_sum, word_64th, cols, word_64]
  choose f hf using fun i => ha (col h i)
  simp only [hf]
  rw [Attn.coe_sum, Attn.div_coe_coe _ (by norm_num), ← EReal.coe_mul]
  refine congrArg _ ?_
  ring

/-- Eight heads laid side by side, read at a head's column. -/
theorem pick {α : Type} (f : Fin 8 → Fin 64 → α) (h : Fin 8) (j : Fin 64) :
    (if h0 : 64 * h.val + j.val < 64 then f 0 ⟨64 * h.val + j.val, h0⟩
    else if h1 : 64 * h.val + j.val - 64 < 64 then f 1 ⟨64 * h.val + j.val - 64, h1⟩
    else if h2 : 64 * h.val + j.val - 64 - 64 < 64 then f 2 ⟨64 * h.val + j.val - 64 - 64, h2⟩
    else if h3 : 64 * h.val + j.val - 64 - 64 - 64 < 64 then f 3 ⟨64 * h.val + j.val - 64 - 64 - 64, h3⟩
    else if h4 : 64 * h.val + j.val - 64 - 64 - 64 - 64 < 64 then f 4 ⟨64 * h.val + j.val - 64 - 64 - 64 - 64, h4⟩
    else if h5 : 64 * h.val + j.val - 64 - 64 - 64 - 64 - 64 < 64 then f 5 ⟨64 * h.val + j.val - 64 - 64 - 64 - 64 - 64, h5⟩
    else if h6 : 64 * h.val + j.val - 64 - 64 - 64 - 64 - 64 - 64 < 64 then f 6 ⟨64 * h.val + j.val - 64 - 64 - 64 - 64 - 64 - 64, h6⟩
    else f 7 ⟨64 * h.val + j.val - 64 - 64 - 64 - 64 - 64 - 64 - 64, by omega⟩) = f h j := by
  have := h.isLt
  have := j.isLt
  split_ifs <;> exact congrArg₂ f (Fin.ext (by simp; omega)) (Fin.ext (by simp; omega))

end Cert.Heads
end
-- ==== Proof.Heads.Ctx.lean ====
/-
  The context's keys and values: what the gradient's kernel leaves in its three result arrays.
-/
module

public import proofs.«01_k».proof.Proof.Gen.Kernel4Ideal.Value
public import proofs.«01_k».proof.Proof.Heads.Block

@[expose] public section

set_option maxRecDepth 16384

noncomputable section

namespace Cert.Ctx

open Idealize.ShloMosaic Idealize.ShloMosaic.TcCoe Idealize.SL.Sem
open Idealize.ShloMosaic.Pipeline (Dat)
open Cert.Norm Cert.Heads
open Cert.Kernel4Ideal Cert.Kernel4Ideal.Gen

/-- The arguments the results depend on. -/
structure Args where
  dk : FVec Ideal S8x256x64 .f32
  dv : FVec Ideal S8x256x64 .f32
  x : FVec Ideal S256x1024 .f32
  g : FVec Ideal S1x64 .f32

namespace Args
variable (K : Args) (r : Fin 256) (h : Fin 8) (j : Fin 64)

/-- A head's row of keys, and the gradient of its normed row. -/
def xr : EReal := K.x (ix2 r ⟨64 * h.val + j.val, by omega⟩)
def gd : EReal := K.dk (ix3 h r j) * K.g (ix2 0 j)

/-- The head, and the column in it. -/
abbrev hd (n : Fin 512) : Fin 8 := ⟨n.val / 64, by omega⟩
abbrev cl (n : Fin 512) : Fin 64 := ⟨n.val % 64, by omega⟩

/-- The gradients of the keys, of the values, and of each head's copy of the gain. -/
def dkeys : FVec Ideal S256x512 .bf16 := fun i => back cols eps (K.xr (i 0) (hd (i 1))) (K.gd (i 0) (hd (i 1))) (cl (i 1))
def dvals : FVec Ideal S256x512 .bf16 := fun i => K.dv (ix3 (hd (i 1)) (i 0) (cl (i 1)))
def dgain : FVec Ideal S1x512 .f32 := fun i =>
  ∑ r, K.dk (ix3 (hd (i 1)) r (cl (i 1))) * (K.xr r (hd (i 1)) (cl (i 1)) * rs cols eps (K.xr r (hd (i 1))))

/-- The keys and what their gradient reads are finite. -/
structure Fin : Prop where
  dk : ∀ i, IsReal (K.dk i)
  x : ∀ i, IsReal (K.x i)
  g : ∀ i, IsReal (K.g i)

end Args

theorem hd_col (h : Fin 8) (j : Fin 64) : Args.hd (col h j) = h := Fin.ext (by show (64 * h.val + j.val) / 64 = h.val; omega)
theorem cl_col (h : Fin 8) (j : Fin 64) : Args.cl (col h j) = j := Fin.ext (by show (64 * h.val + j.val) % 64 = j.val; omega)

section
variable (X : Vec Ideal S256x512 .f32) (G : Vec Ideal S1x512 .f32) (D : Vec Ideal S256x512 .f32)
  (r : Fin 256) (h : Fin 8) (j : Fin 64)

theorem ones_at (k n : Fin 512) : k0_pay5 (F := Ideal) k0_pay2 k0_pay3 k0_pay4 (ix2 k n) = ones k n := by
  have e2 : k0_pay2 (ix2 k n) = BitVec.ofNat 32 (k.val / 64) := by
    pointwise [k0_pay2]
    exact quot_word k
  have e3 : Scalar.select (k0_pay4 (ix2 k n)) (IntOp.subi (k0_pay3 (ix2 k n)) 1#32) (k0_pay3 (ix2 k n))
      = BitVec.ofNat 32 (n.val / 64) := by
    pointwise [k0_pay3, k0_pay4]
    exact quot_word n
  pointwise [k0_pay5]
  rw [e2, e3]
  exact ones_word k n

/-- The reciprocal root mean square of a head's row. -/
theorem rs_at (hX : ∀ i, IsReal (X i)) : k0_pay10 (F := Ideal) (k0_pay5 k0_pay2 k0_pay3 k0_pay4) (k0_pay8 X) (k0_pay9 X)
    (ix2 r (col h j)) = rs cols eps (fun i => X (ix2 r (col h i))) := by
  pointwise [k0_pay10, k0_pay9, k0_pay8, k0_pay7]
  simp only [ones_at]
  rw [mean_eq (a := fun k => X (ix2 r k) * X (ix2 r k)) (fun k => (hX _).mul (hX _))]
  rfl

theorem dk_at (hX : ∀ i, IsReal (X i)) (hG : ∀ i, IsReal (G i)) (hD : ∀ i, IsReal (D i)) :
    k0_pay13 (F := Ideal) (k0_pay5 k0_pay2 k0_pay3 k0_pay4) X G D (k0_pay8 X) (k0_pay9 X) (ix2 r (col h j))
      = back cols eps (fun i => X (ix2 r (col h i))) (fun i => D (ix2 r (col h i)) * G (ix2 0 (col h i))) j := by
  pointwise [k0_pay13, k0_pay11]
  simp only [ones_at]
  rw [mean_eq (a := fun k => X (ix2 r k) * k0_pay10 (F := Ideal) (k0_pay5 k0_pay2 k0_pay3 k0_pay4) (k0_pay8 X) (k0_pay9 X)
    (ix2 r k) * (D (ix2 r k) * G (ix2 0 k)))]
  · simp only [rs_at _ _ _ _ hX]
    rfl
  · intro k
    obtain ⟨h, j, rfl⟩ := exists_col k
    rw [rs_at _ _ _ _ hX]
    exact ((hX _).mul (IsReal.rs pos_64 eps_pos fun _ => hX _)).mul ((hD _).mul (hG _))

theorem dg_at (hX : ∀ i, IsReal (X i)) :
    k0_pay12 (F := Ideal) (k0_pay5 k0_pay2 k0_pay3 k0_pay4) X D (k0_pay8 X) (k0_pay9 X) (ix2 0 (col h j))
      = ∑ r, D (ix2 r (col h j)) * (X (ix2 r (col h j)) * rs cols eps (fun i => X (ix2 r (col h i)))) := by
  pointwise [k0_pay12, k0_pay11]
  simp only [rs_at _ _ _ _ hX]

end

theorem heads_at (x : Vec Ideal S8x256x64 .f32) (r : Fin 256) (h : Fin 8) (j : Fin 64) :
    k0_pay6 (View.ld x r0_2) (View.ld x r0_3) (View.ld x r0_4) (View.ld x r0_5) (View.ld x r0_6) (View.ld x r0_7) (View.ld x r0_8)
      (View.ld x r0_9) (ix2 r (col h j)) = x (ix3 h r j) := by
  pointwise [k0_pay6]
  exact pick (fun h j => x (ix3 h r j)) h j

theorem vals_at (x : Vec Ideal S8x256x64 .f32) (r : Fin 256) (h : Fin 8) (j : Fin 64) :
    k0_pay1 (k0_pay14 (View.ld x r0_2)) (k0_pay15 (View.ld x r0_3)) (k0_pay16 (View.ld x r0_4)) (k0_pay17 (View.ld x r0_5))
      (View.ld x r0_6) (View.ld x r0_7) (View.ld x r0_8) (View.ld x r0_9) (ix2 r (col h j)) = x (ix3 h r j) := by
  pointwise [k0_pay1, k0_pay14, k0_pay15, k0_pay16, k0_pay17]
  exact pick (fun h j => x (ix3 h r j)) h j

/-- The keys' columns of the projections. -/
theorem keys_at (x : Vec Ideal S256x1024 .f32) (r : Fin 256) (n : Fin 512) :
    View.ld x r0_0 (ix2 r n) = x (ix2 r ⟨n.val, by omega⟩) :=
  View.ld_unit_apply_of _ _ _ _ _ _ (by intro a; fin_cases a <;> first | rfl | exact (Nat.zero_add _).symm)

theorem gain_at (x : Vec Ideal S1x512 .f32) (n : Fin 512) : View.ld x r0_1 (ix2 0 n) = x (ix2 0 n) :=
  View.ld_unit_apply_of _ _ _ _ _ _ (by intro a; fin_cases a <;> first | rfl | exact (Nat.zero_add _).symm)

/-- Every window's block index. -/
theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The arguments on device `c`. -/
abbrev args (c : Dev nD) : Args where
  dk := m ((c : Thread nD τ).loc main_arg0)
  dv := m ((c : Thread nD τ).loc main_arg1)
  x := m ((c : Thread nD τ).loc main_arg2)
  g := m ((c : Thread nD τ).loc main_arg3)

variable (c : Dev nD) (t : Fin cfg0.N) (r : Fin 256) (h : Fin 8) (j : Fin 64)

theorem V_g : V m c main_v2 (ix2 0 (col h j)) = (args m c).g (ix2 0 j) := by
  unfold V; after_results; pointwise []
  exact congrArg (fun i => (args m c).g (ix2 0 i)) (cl_col h j)

theorem blk0 : iblk m c 0 t (ix3 h r j) = (args m c).dk (ix3 h r j) := by blk_ext! [iblk, V, idx t]
theorem blk1 : iblk m c 1 t (ix3 h r j) = (args m c).dv (ix3 h r j) := by blk_ext! [iblk, V, idx t]
theorem blk2 (n : Fin 1024) : iblk m c 2 t (ix2 r n) = (args m c).x (ix2 r n) := by blk_ext! [iblk, V, idx t]
theorem blk3 (n : Fin 512) : iblk m c 3 t (ix2 0 n) = V m c main_v2 (ix2 0 n) := by blk_ext! [iblk, idx t]

theorem X_at (n : Fin 512) : View.ld (iblk m c 2 t) r0_0 (ix2 r n) = (args m c).x (ix2 r ⟨n.val, by omega⟩) :=
  (keys_at _ r n).trans (blk2 m c t r _)

theorem G_at : View.ld (iblk m c 3 t) r0_1 (ix2 0 (col h j)) = (args m c).g (ix2 0 j) :=
  (gain_at _ _).trans ((blk3 m c t _).trans (V_g m c h j))

/-- The heads' gradients side by side. -/
abbrev DB : Vec Ideal S256x512 .f32 := k0_pay6 (View.ld (iblk m c 0 t) r0_2) (View.ld (iblk m c 0 t) r0_3)
  (View.ld (iblk m c 0 t) r0_4) (View.ld (iblk m c 0 t) r0_5) (View.ld (iblk m c 0 t) r0_6) (View.ld (iblk m c 0 t) r0_7)
  (View.ld (iblk m c 0 t) r0_8) (View.ld (iblk m c 0 t) r0_9)

theorem D_at : DB m c t (ix2 r (col h j)) = (args m c).dk (ix3 h r j) := (heads_at _ r h j).trans (blk0 m c t r h j)

theorem X_real (hK : (args m c).Fin) (i) : IsReal (View.ld (iblk m c 2 t) r0_0 i) := by
  obtain ⟨r, n, rfl⟩ : ∃ k l, i = ix2 k l := ⟨i 0, i 1, by ext j; fin_cases j <;> rfl⟩
  rw [X_at]
  exact hK.x _

theorem G_real (hK : (args m c).Fin) (i) : IsReal (View.ld (iblk m c 3 t) r0_1 i) := by
  obtain ⟨r, n, rfl⟩ : ∃ k l, i = ix2 k l := ⟨i 0, i 1, by ext j; fin_cases j <;> rfl⟩
  obtain rfl : r = 0 := Fin.ext (by omega)
  obtain ⟨h, j, rfl⟩ := exists_col n
  rw [G_at]
  exact hK.g _

theorem D_real (hK : (args m c).Fin) (i) : IsReal (DB m c t i) := by
  obtain ⟨r, n, rfl⟩ : ∃ k l, i = ix2 k l := ⟨i 0, i 1, by ext j; fin_cases j <;> rfl⟩
  obtain ⟨h, j, rfl⟩ := exists_col n
  rw [D_at]
  exact hK.dk _

theorem point4 (hK : (args m c).Fin) : out0_4 (iblk m c 0 t) (iblk m c 1 t) (iblk m c 2 t) (iblk m c 3 t) (ix2 r (col h j))
    = (args m c).dkeys (ix2 r (col h j)) := by
  unfold_out out0_4
  canon_tiles x h
  obtain ⟨r', n, rfl⟩ : ∃ k l, x = ix2 k l := ⟨x 0, x 1, by ext j; fin_cases j <;> rfl⟩
  obtain rfl : r = r' := Fin.ext h0
  obtain rfl : col h j = n := Fin.ext h1
  refine (dk_at _ _ (DB m c t) r h j (X_real m c t hK) (G_real m c t hK) (D_real m c t hK)).trans ?_
  simp only [X_at, G_at, D_at]
  show _ = back cols eps ((args m c).xr r (Args.hd (col h j))) ((args m c).gd r (Args.hd (col h j))) (Args.cl (col h j))
  rw [hd_col, cl_col]
  rfl

theorem point5 : out0_5 (iblk m c 0 t) (iblk m c 1 t) (iblk m c 2 t) (iblk m c 3 t) (ix2 r (col h j))
    = (args m c).dvals (ix2 r (col h j)) := by
  unfold_out out0_5
  canon_tiles x h
  obtain ⟨r', n, rfl⟩ : ∃ k l, x = ix2 k l := ⟨x 0, x 1, by ext j; fin_cases j <;> rfl⟩
  obtain rfl : r = r' := Fin.ext h0
  obtain rfl : col h j = n := Fin.ext h1
  refine (vals_at _ r h j).trans ((blk1 m c t r h j).trans ?_)
  show _ = (args m c).dv (ix3 (Args.hd (col h j)) r (Args.cl (col h j)))
  rw [hd_col, cl_col]

theorem point6 (hK : (args m c).Fin) : out0_6 (iblk m c 0 t) (iblk m c 1 t) (iblk m c 2 t) (iblk m c 3 t) (ix2 0 (col h j))
    = (args m c).dgain (ix2 0 (col h j)) := by
  unfold_out out0_6
  canon_tiles x h
  obtain ⟨r', n, rfl⟩ : ∃ k l, x = ix2 k l := ⟨x 0, x 1, by ext j; fin_cases j <;> rfl⟩
  obtain rfl : 0 = r' := Fin.ext h0
  obtain rfl : col h j = n := Fin.ext h1
  refine (dg_at _ (DB m c t) h j (X_real m c t hK)).trans ?_
  simp only [X_at, D_at]
  show _ = ∑ r, (args m c).dk (ix3 (Args.hd (col h j)) r (Args.cl (col h j))) * ((args m c).xr r (Args.hd (col h j))
    (Args.cl (col h j)) * rs cols eps ((args m c).xr r (Args.hd (col h j))))
  rw [hd_col, cl_col]
  rfl

theorem final4 (hK : (args m c).Fin) : (dats m 0 c).arrAt 4 cfg0.N = (args m c).dkeys := by
  refine (dats m 0 c).arrAt_eq_of_covers 4 _ (by decide +kernel) fun t hf y => ?_
  blk_simp
  rw [after0_4]
  obtain ⟨k, l, rfl⟩ : ∃ k l, y = ix2 k l := ⟨y 0, y 1, by ext i; fin_cases i <;> rfl⟩
  obtain ⟨h, j, rfl⟩ := exists_col l
  rw [point4 m c t k h j hK]
  exact congrArg (args m c).dkeys (by blk_ext! [idx t])

theorem final5 : (dats m 0 c).arrAt 5 cfg0.N = (args m c).dvals := by
  refine (dats m 0 c).arrAt_eq_of_covers 5 _ (by decide +kernel) fun t hf y => ?_
  blk_simp
  rw [after0_5]
  obtain ⟨k, l, rfl⟩ : ∃ k l, y = ix2 k l := ⟨y 0, y 1, by ext i; fin_cases i <;> rfl⟩
  obtain ⟨h, j, rfl⟩ := exists_col l
  rw [point5 m c t k h j]
  exact congrArg (args m c).dvals (by blk_ext! [idx t])

theorem final6 (hK : (args m c).Fin) : (dats m 0 c).arrAt 6 cfg0.N = (args m c).dgain := by
  refine (dats m 0 c).arrAt_eq_of_covers 6 _ (by decide +kernel) fun t hf y => ?_
  blk_simp
  rw [after0_6]
  obtain ⟨k, l, rfl⟩ : ∃ k l, y = ix2 k l := ⟨y 0, y 1, by ext i; fin_cases i <;> rfl⟩
  obtain rfl : k = 0 := Fin.ext (by omega)
  obtain ⟨h, j, rfl⟩ := exists_col l
  rw [point6 m c t h j hK]
  exact congrArg (args m c).dgain (by blk_ext! [idx t])

end Cert.Ctx
end
-- ==== Proof.HeadsFwd.CtxPair.lean ====
/-
  The context's forward pair: the keys' columns of the projections normed by heads, the values' columns, both laid out
  by heads. The kernel and the reference agree where the projections are real.
-/
module

public import proofs.«01_k».proof.Defs
public import proofs.«01_k».proof.Proof.Heads.Ctx
public import proofs.«01_k».proof.Proof.Gen.Pre_prep_finite
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.HeadsFwd

open Idealize.ShloMosaic Idealize.ShloMosaic.TcCoe Idealize.SL.Sem
open Idealize.ShloMosaic.Pipeline (Dat)
open Cert.Norm Cert.Heads

/-- Row `r`'s columns of head `h`, from column `o` on. -/
abbrev headRow (o : Nat) (ho : o ≤ 512) (x : FVec Ideal Cert.Kernel11Ideal.S256x1024 .f32) (r : Fin 256) (h : Fin 8) (j : Fin 64) : EReal :=
  x (ix2 r ⟨o + (64 * h.val + j.val), by omega⟩)

/-- The keys by heads. -/
def keys (x : FVec Ideal Cert.Kernel11Ideal.S256x1024 .f32) (g : FVec Ideal Cert.Kernel11Ideal.S1x64 .f32) :
    FVec Ideal Cert.Kernel11Ideal.S8x256x64 .bf16 := fun i =>
  headRow 0 (by omega) x (i 1) (i 0) (i 2) * rs cols eps (headRow 0 (by omega) x (i 1) (i 0)) * g (ix2 0 (i 2))

/-- The values by heads. -/
def vals (x : FVec Ideal Cert.Kernel11Ideal.S256x1024 .f32) : FVec Ideal Cert.Kernel11Ideal.S8x256x64 .bf16 := fun i =>
  headRow 512 le_rfl x (i 1) (i 0) (i 2)

section Kernel

open Cert.Kernel11Ideal Cert.Kernel11Ideal.Gen Cert.Kernel11Ideal.Value

theorem norm_at (X : Vec Ideal S256x512 .f32) (G : Vec Ideal S1x512 .f32) (hX : ∀ i, IsReal (X i)) (r : Fin 256)
    (h : Fin 8) (j : Fin 64) : k0_pay4 (F := Ideal) k0_pay1 k0_pay2 k0_pay3 X G (ix2 r (col h j))
      = X (ix2 r (col h j)) * rs cols eps (fun i => X (ix2 r (col h i))) * G (ix2 0 (col h j)) := by
  have e : k0_pay4 (F := Ideal) k0_pay1 k0_pay2 k0_pay3 X G = mulf (mulf X (Cert.Kernel4Ideal.Gen.k0_pay10
      (Cert.Kernel4Ideal.Gen.k0_pay5 Cert.Kernel4Ideal.Gen.k0_pay2 Cert.Kernel4Ideal.Gen.k0_pay3 Cert.Kernel4Ideal.Gen.k0_pay4)
      (Cert.Kernel4Ideal.Gen.k0_pay8 X) (Cert.Kernel4Ideal.Gen.k0_pay9 X))) (broadcastTo S256x512 G broadcasts_S1x512_S256x512) := rfl
  rw [e]
  pointwise []
  rw [Ctx.rs_at X r h j hX]

theorem idx : ∀ t : Fin cfg0.N, win0_0.index t = ![0, 0] ∧ win0_1.index t = ![0, 0] ∧ win0_2.index t = ![0, 0, 0]
    ∧ win0_3.index t = ![0, 0, 0] :=
  (by decide +kernel : ∀ t : Fin grid0.N, _)

variable (m : (ℓ : Loc nD τ sig) → Buf (Elt Ideal) ℓ) (c : Dev nD) (t : Fin cfg0.N) (r : Fin 256) (h : Fin 8) (j : Fin 64)

abbrev X : FVec Ideal S256x1024 .f32 := m ((c : Thread nD τ).loc main_arg0)
abbrev G : FVec Ideal S1x64 .f32 := m ((c : Thread nD τ).loc main_arg1)

theorem V_g : V m c main_v2 (ix2 0 (col h j)) = G m c (ix2 0 j) := by
  unfold V; after_results; pointwise []
  exact congrArg (fun i => G m c (ix2 0 i)) (Ctx.cl_col h j)

theorem blk0 (n : Fin 1024) : iblk m c 0 t (ix2 r n) = X m c (ix2 r n) := by blk_ext! [iblk, V, idx t]
theorem blk1 (n : Fin 512) : iblk m c 1 t (ix2 0 n) = V m c main_v2 (ix2 0 n) := by blk_ext! [iblk, idx t]

theorem X_at (n : Fin 512) : View.ld (iblk m c 0 t) r0_0 (ix2 r n) = X m c (ix2 r ⟨n.val, by omega⟩) :=
  (Ctx.keys_at _ r n).trans (blk0 m c t r _)

theorem G_at : View.ld (iblk m c 1 t) r0_1 (ix2 0 (col h j)) = G m c (ix2 0 j) :=
  (Ctx.gain_at _ _).trans ((blk1 m c t _).trans (V_g m c h j))

theorem Y_at (n : Fin 512) : View.ld (iblk m c 0 t) r0_2 (ix2 r n) = X m c (ix2 r ⟨512 + n.val, by omega⟩) :=
  (View.ld_unit_apply_of _ _ _ _ _ _ (by intro a; fin_cases a <;> first | rfl | exact (Nat.zero_add _).symm)).trans (blk0 m c t r _)

theorem X_real (hX : ∀ i, IsReal (X m c i)) (i) : IsReal (View.ld (iblk m c 0 t) r0_0 i) := by
  obtain ⟨r, n, rfl⟩ : ∃ k l, i = ix2 k l := ⟨i 0, i 1, by ext j; fin_cases j <;> rfl⟩
  rw [X_at]; exact hX _

theorem point2 (hX : ∀ i, IsReal (X m c i)) : out0_2 (iblk m c 0 t) (iblk m c 1 t) (ix3 h r j) = keys (X m c) (G m c) (ix3 h r j) := by
  unfold_out out0_2
  refine (canon2_eq (View.ld (iblk m c 0 t) r0_0) (View.ld (iblk m c 1 t) r0_1) (ix3 h r j)).trans ?_
  have e : ix2_0 (ix3 h r j) = ix2 r (col h j) := by
    ext a; fin_cases a
    · rfl
    · show h.val * 64 + j.val = 64 * h.val + j.val; omega
  show k0_pay4 (F := Ideal) k0_pay1 k0_pay2 k0_pay3 _ _ (ix2_0 (ix3 h r j)) = _
  rw [e, norm_at _ _ (X_real m c t hX)]
  simp only [X_at, G_at]
  unfold keys headRow
  simp only [Nat.zero_add]
  rfl

theorem point3 : out0_3 (iblk m c 0 t) (iblk m c 1 t) (ix3 h r j) = vals (X m c) (ix3 h r j) := by
  unfold_out out0_3
  refine (canon3_eq (View.ld (iblk m c 0 t) r0_2) (ix3 h r j)).trans ?_
  have e : ix3_0 (ix3 h r j) = ix2 r (col h j) := by
    ext a; fin_cases a
    · rfl
    · show h.val * 64 + j.val = 64 * h.val + j.val; omega
  show View.ld (iblk m c 0 t) r0_2 (ix3_0 (ix3 h r j)) = _
  rw [e, Y_at]
  rfl

theorem final2 (hX : ∀ i, IsReal (X m c i)) : (dats m 0 c).arrAt 2 cfg0.N = keys (X m c) (G m c) := by
  refine (dats m 0 c).arrAt_eq_of_covers 2 _ (by decide +kernel) fun t hf y => ?_
  blk_simp
  rw [after0_2]
  obtain ⟨h, k, j, rfl⟩ : ∃ h k j, y = ix3 h k j := ⟨y 0, y 1, y 2, by ext i; fin_cases i <;> rfl⟩
  rw [point2 m c t k h j hX]
  exact congrArg (keys (X m c) (G m c)) (by blk_ext! [idx t])

theorem final3 : (dats m 0 c).arrAt 3 cfg0.N = vals (X m c) := by
  refine (dats m 0 c).arrAt_eq_of_covers 3 _ (by decide +kernel) fun t hf y => ?_
  blk_simp
  rw [after0_3]
  obtain ⟨h, k, j, rfl⟩ : ∃ h k j, y = ix3 h k j := ⟨y 0, y 1, y 2, by ext i; fin_cases i <;> rfl⟩
  rw [point3 m c t k h j]
  exact congrArg (vals (X m c)) (by blk_ext! [idx t])

end Kernel

section Reference

open Cert.Reference11Ideal Cert.Reference11Ideal.Gen Cert.Reference11Ideal.Value Cert.Reference11Ideal.Read

variable (x : FVec Ideal S256x1024 .f32) (g : FVec Ideal S1x64 .f32) (r : Fin 256) (h : Fin 8) (j : Fin 64)

theorem ref_x : val_main_v2 (F := Ideal) x (ix3 r h j) = headRow 0 (by omega) x r h j := by
  pointwise [val_main_v2, val_main_v0]
  refine congrArg (fun i => x (ix2 r i)) (Fin.ext ?_)
  show h.val * 64 + j.val = 0 + (64 * h.val + j.val)
  omega

theorem ref_rs : val_main_v10 (F := Ideal) x (ix3 r h 0) = rs cols eps (headRow 0 (by omega) x r h) := by
  pointwise [val_main_v10, val_main_v9, val_main_v8, val_main_cst_1, val_main_v7, val_main_v6, val_main_cst_0, val_main_v5,
    val_main_v4, val_main_v3, val_main_cst]
  simp only [ref_x]
  rfl

theorem keys_eq : val_main_v18 (F := Ideal) x g = keys x g := by
  funext i
  obtain ⟨h, r, j, rfl⟩ : ∃ h r j, i = ix3 h r j := ⟨i 0, i 1, i 2, by ext j; fin_cases j <;> rfl⟩
  pointwise [val_main_v18, val_main_v17, val_main_v15, val_main_v14, val_main_v13, val_main_v12, val_main_v11]
  rw [ref_x, ref_rs]
  rfl

theorem vals_eq : val_main_v20 (F := Ideal) x = vals x := by
  funext i
  obtain ⟨h, r, j, rfl⟩ : ∃ h r j, i = ix3 h r j := ⟨i 0, i 1, i 2, by ext j; fin_cases j <;> rfl⟩
  pointwise [val_main_v20, val_main_v19, val_main_v16, val_main_v1]
  refine congrArg (fun i => x (ix2 r i)) (Fin.ext ?_)
  show 512 + (h.val * 64 + j.val) = 512 + (64 * h.val + j.val)
  omega

/-- The reference's frame: its run read at the arguments; it declares no semaphore. -/
theorem frame_reference : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

/-- Kernel and reference return the same arrays. -/
theorem algebraic : Cert.algebraic_Kernel11Ideal_Reference11Ideal_pre_prep_finite := by
  intro m ρ m' ρ' hpre hagree
  have real (c : Dev Cert.Kernel11Ideal.nD) : ∀ i, IsReal (X m c i) :=
    fun i => IsReal.of_cmpf _ _ i IsReal.inf_f32 (congrFun (hpre c) i)
  refine ⟨_, _, (θ_run Cert.Kernel11Ideal.defs _ _).mono (fun r h c => ⟨(h c).1.trans (final2 m c (real c)),
      (h c).2.1.trans (final3 m c), (h c).2.2⟩) (Cert.Kernel11Ideal.Value.run_blocks m ρ),
    (θ_run Cert.Reference11Ideal.defs _ _).mono (fun r h c => ⟨(h c).1.trans ?_, (h c).2.1.trans ?_, (h c).2.2⟩)
      (Cert.Reference11Ideal.Value.run (F := Ideal) m' ρ')⟩
  · refine (val_main_v18_eq _ _).symm.trans ?_
    rw [(hagree c).1, (hagree c).2]
    exact keys_eq _ _
  · refine (val_main_v20_eq _).symm.trans ?_
    rw [(hagree c).1]
    exact vals_eq _

end Reference

end Cert.HeadsFwd
end
-- ==== Proof.Heads.Qk.lean ====
/-
  The queries and keys: what the gradient's kernel computes of a block.
-/
module

public import proofs.«01_k».proof.Proof.Gen.Kernel7Ideal.Value
public import proofs.«01_k».proof.Proof.Heads.Block

@[expose] public section

set_option maxRecDepth 16384

noncomputable section

namespace Cert.Qk

open Idealize.ShloMosaic Idealize.ShloMosaic.TcCoe Idealize.SL.Sem
open Idealize.ShloMosaic.Pipeline (Dat)
open Cert.Norm Cert.Heads
open Cert.Kernel7Ideal Cert.Kernel7Ideal.Gen

/-- The column a rotation pairs with column `j`, of a head's row. -/
def twin (d : Fin 64 → EReal) (j : Fin 64) : EReal :=
  if j.val % 32 < 16 then d ⟨(j.val + 16) % 64, by omega⟩ else d ⟨(j.val + 48) % 64, by omega⟩

/-- A position as a number, and the sixteen frequencies. -/
def pos (n : Nat) : EReal := (FloatOps.sitofp .f32 (BitVec.ofNat 32 n) : Ideal .f32)
def freq (f : Nat) : EReal := Ideal.pow (Ideal.ofBits .f32 0x461C4000#32) (Ideal.div (-pos f) (Ideal.ofBits .f32 0x41800000#32))

/-- A token's angle at a column: of the grid's row in the head's first half, of its column in the second. -/
def ang (s : Nat) (j : Fin 64) : EReal := pos (if j.val < 32 then s / 64 else s % 64) * freq (j.val % 16)

/-- The rotation's gradient. -/
def turn (s : Nat) (d : Fin 64 → EReal) (j : Fin 64) : EReal :=
  if j.val % 32 < 16 then d j * Ideal.cos (ang s j) + twin d j * Ideal.sin (ang s j)
  else d j * Ideal.cos (ang s j) - twin d j * Ideal.sin (ang s j)

theorem word_base : Ideal.ofBits .f32 0x461C4000#32 = ((10000 : ℝ) : EReal) := by
  simp [Ideal.ofBits, Ideal.ieee]
  show ((10240000 : ℝ) : EReal) * ((2 ^ 10 : ℝ) : EReal)⁻¹ = ((10000 : ℝ) : EReal)
  rw [← EReal.coe_inv, ← EReal.coe_mul]
  norm_num
theorem word_16 : Ideal.ofBits .f32 0x41800000#32 = ((16 : ℝ) : EReal) := by
  simp [Ideal.ofBits, Ideal.ieee]
  show ((8388608 : ℝ) : EReal) * ((2 ^ 19 : ℝ) : EReal)⁻¹ = ((16 : ℝ) : EReal)
  rw [← EReal.coe_inv, ← EReal.coe_mul]
  norm_num
theorem word_8th : Ideal.ofBits .f32 0x3E000000#32 = ((1 / 8 : ℝ) : EReal) := by
  simp [Ideal.ofBits, Ideal.ieee]
  rw [← EReal.coe_mul]
  norm_num

theorem real_pos (n : Nat) : IsReal (pos n) := ⟨_, rfl⟩
theorem real_cos {x : EReal} (h : IsReal x) : IsReal (Ideal.cos x) := by
  obtain ⟨r, rfl⟩ := h
  exact ⟨Real.cos r, rfl⟩
theorem real_sin {x : EReal} (h : IsReal x) : IsReal (Ideal.sin x) := by
  obtain ⟨r, rfl⟩ := h
  exact ⟨Real.sin r, rfl⟩
theorem real_freq (f : Nat) : IsReal (freq f) := by
  obtain ⟨r, hr⟩ := IsReal.div (n := Ideal.ofBits .f32 0x41800000#32) ⟨16, by norm_num, word_16⟩ (real_pos f).neg
  unfold freq
  rw [hr, word_base]
  exact ⟨Real.rpow 10000 r, rfl⟩
theorem real_ang (s : Nat) (j : Fin 64) : IsReal (ang s j) := (real_pos _).mul (real_freq _)
theorem real_twin (d : Fin 64 → EReal) (hd : ∀ j, IsReal (d j)) (j : Fin 64) : IsReal (twin d j) := by
  unfold twin
  split_ifs <;> exact hd _
theorem real_turn (s : Nat) (d : Fin 64 → EReal) (hd : ∀ j, IsReal (d j)) (j : Fin 64) : IsReal (turn s d j) := by
  have hc := (hd j).mul (real_cos (real_ang s j))
  have hs := (real_twin d hd j).mul (real_sin (real_ang s j))
  unfold turn
  split_ifs
  · exact hc.add hs
  · exact hc.sub hs

/-- Eight pieces of sixty-four, read at any place. -/
theorem pick_at {α : Type} (f : Fin 8 → Fin 64 → α) (e : Nat) (he : e < 512) :
    (if h0 : e < 64 then f 0 ⟨e, h0⟩
    else if h1 : e - 64 < 64 then f 1 ⟨e - 64, h1⟩
    else if h2 : e - 64 - 64 < 64 then f 2 ⟨e - 64 - 64, h2⟩
    else if h3 : e - 64 - 64 - 64 < 64 then f 3 ⟨e - 64 - 64 - 64, h3⟩
    else if h4 : e - 64 - 64 - 64 - 64 < 64 then f 4 ⟨e - 64 - 64 - 64 - 64, h4⟩
    else if h5 : e - 64 - 64 - 64 - 64 - 64 < 64 then f 5 ⟨e - 64 - 64 - 64 - 64 - 64, h5⟩
    else if h6 : e - 64 - 64 - 64 - 64 - 64 - 64 < 64 then f 6 ⟨e - 64 - 64 - 64 - 64 - 64 - 64, h6⟩
    else f 7 ⟨e - 64 - 64 - 64 - 64 - 64 - 64 - 64, by omega⟩) = f ⟨e / 64, by omega⟩ ⟨e % 64, by omega⟩ := by
  split_ifs <;> exact congrArg₂ f (Fin.ext (by simp; omega)) (Fin.ext (by simp; omega))

theorem low_word : ∀ n : Fin 512, IntOp.cmpi CmpIPredicate.slt (IntOp.andi (BitVec.ofNat 32 n.val) 31#32) 16#32
    = BitVec.ofBool (decide (n.val % 32 < 16)) := by decide +kernel

section
variable (X : Vec Ideal S512x512 .f32) (G : Vec Ideal S1x512 .f32) (D : FVec Ideal S512x512 .f32)
  (r : Fin 512) (h : Fin 8) (j : Fin 64)

abbrev B : FVec Ideal S512x512 .bf16 :=
  k0_pay10 (F := Ideal) k0_pay6 (iota .tc S512x512 32 [1] iota_S512x512_d1_w32) 64#32 k0_pay7 k0_pay8 k0_pay9

theorem ones_at (k n : Fin 512) : B (ix2 k n) = ones k n := by
  have e2 : k0_pay6 (ix2 k n) = BitVec.ofNat 32 (k.val / 64) := by
    pointwise [k0_pay6]
    exact quot_word k
  pointwise [k0_pay10, k0_pay7, k0_pay8, k0_pay9]
  rw [e2, quot_word n]
  exact ones_word k n

theorem rs_at (hX : ∀ i, IsReal (X i)) : k0_pay36 (F := Ideal) B X (ix2 r (col h j))
    = rs cols eps (fun i => X (ix2 r (col h i))) := by
  pointwise [k0_pay36]
  simp only [ones_at]
  rw [mean_eq (a := fun k => X (ix2 r k) * X (ix2 r k)) (fun k => (hX _).mul (hX _))]
  rfl

theorem dk_at (hX : ∀ i, IsReal (X i)) (hG : ∀ i, IsReal (G i)) (hD : ∀ i, IsReal (D i)) :
    k0_pay46 (F := Ideal) B D X G (ix2 r (col h j))
      = back cols eps (fun i => X (ix2 r (col h i))) (fun i => D (ix2 r (col h i)) * G (ix2 0 (col h i))) j := by
  have e : k0_pay44 (F := Ideal) B X = k0_pay36 B X := rfl
  pointwise [k0_pay46, k0_pay45]
  simp only [ones_at, e]
  rw [mean_eq (a := fun k => X (ix2 r k) * k0_pay36 (F := Ideal) B X (ix2 r k) * (D (ix2 r k) * G (ix2 0 k)))]
  · simp only [rs_at _ _ _ _ hX]
    rfl
  · intro k
    obtain ⟨h, j, rfl⟩ := exists_col k
    rw [rs_at _ _ _ _ hX]
    exact ((hX _).mul (IsReal.rs pos_64 eps_pos fun _ => hX _)).mul ((hD _).mul (hG _))

theorem dg_at (hX : ∀ i, IsReal (X i)) : k0_pay47 (F := Ideal) B D X (ix2 0 (col h j))
      = ∑ r, D (ix2 r (col h j)) * (X (ix2 r (col h j)) * rs cols eps (fun i => X (ix2 r (col h i)))) := by
  have e : k0_pay44 (F := Ideal) B X = k0_pay36 B X := rfl
  pointwise [k0_pay47, k0_pay45]
  simp only [e, rs_at _ _ _ _ hX]

end

/-- A head's block, the rows of a table that share a row of the grid, and a table of the grid's columns, as loaded. -/
abbrev hp (k : Nat) (inb : ∀ a, (![k, 0, 0] : Fin 3 → ℕ) a + S1x512x64.size a ≤ S8x512x64.size a) (x : Vec Ideal S8x512x64 .f32) : Vec Ideal S1x512x64 .f32 :=
  View.ld x (Rect.unit ![k, 0, 0] S1x512x64.size inb)
abbrev rp (k : Nat) (inb : ∀ a, (![k, 0] : Fin 2 → ℕ) a + S8x512.size a ≤ S64x512.size a) (x : Vec Ideal S64x512 .f32) : Vec Ideal S8x512 .f32 :=
  View.ld x (Rect.unit ![k, 0] S8x512.size inb)
abbrev cp (x : Vec Ideal S64x512 .f32) : Vec Ideal S64x512 .f32 :=
  View.ld x (Rect.unit ![0, 0] S64x512.size inb_S64x512_S64x512_0_0)

theorem hp_at (k : Nat) (inb) (x : Vec Ideal S8x512x64 .f32) (r : Fin 512) (j : Fin 64) (hk : k < 8) :
    hp k inb x (ix3 0 r j) = x (ix3 ⟨k, hk⟩ r j) :=
  View.ld_unit_apply_of _ _ _ _ _ _ (by intro a; fin_cases a <;> first | rfl | exact (Nat.zero_add _).symm)

theorem rp_at (k : Nat) (inb) (x : Vec Ideal S64x512 .f32) (r : Fin 8) (n : Fin 512) (hk : k + r.val < 64) :
    rp k inb x (ix2 r n) = x (ix2 ⟨k + r.val, hk⟩ n) :=
  View.ld_unit_apply_of _ _ _ _ _ _ (by intro a; fin_cases a <;> first | rfl | exact (Nat.zero_add _).symm)

theorem cp_at (x : Vec Ideal S64x512 .f32) (r : Fin 64) (n : Fin 512) : cp x (ix2 r n) = x (ix2 r n) :=
  View.ld_unit_apply_of _ _ _ _ _ _ (by intro a; fin_cases a <;> exact (Nat.zero_add _).symm)

theorem rep_at (v : Vec Ideal S8x512 .f32) (r : Fin 64) (n : Fin 512) :
    k0_pay11 (F := Ideal) v (ix2 r n) = v (ix2 ⟨r.val % 8, by omega⟩ n) := by
  pointwise [k0_pay11]
  split_ifs <;> exact congrArg (fun i => v (ix2 i n)) (Fin.ext (by simp; omega))

/-- The rows of a table of the grid's rows, one for each token of a row. -/
def row (y : Vec Ideal S64x512 .f32) (a : Fin 8) : FVec Ideal S64x512 .f32 :=
  fun i => y (ix2 ⟨8 * a.val + (i 0).val % 8, by omega⟩ (i 1))

theorem row_eq (y : Vec Ideal S64x512 .f32) (a : Fin 8) (k : Nat) (inb) (hk : k = 8 * a.val) :
    k0_pay11 (F := Ideal) (rp k inb y) = row y a := by
  subst hk
  funext i
  obtain ⟨r, n, rfl⟩ : ∃ k l, i = ix2 k l := ⟨i 0, i 1, by ext j; fin_cases j <;> rfl⟩
  exact (rep_at _ r n).trans (rp_at _ inb y _ n (by simp; omega))

/-- A table of the block's tokens, of the grid's columns plus of its rows, and the same with the other table's names. -/
abbrev tab (x y : Vec Ideal S64x512 .f32) : FVec Ideal S512x512 .f32 :=
  k0_pay20 (k0_pay11 (rp 0 inb_S64x512_S8x512_0_0 y)) (k0_pay12 (rp 8 inb_S64x512_S8x512_8_0 y)) (k0_pay13 (rp 16
    inb_S64x512_S8x512_16_0 y)) (k0_pay14 (rp 24 inb_S64x512_S8x512_24_0 y)) (k0_pay15 (rp 32 inb_S64x512_S8x512_32_0 y))
    (k0_pay16 (rp 40 inb_S64x512_S8x512_40_0 y)) (k0_pay17 (rp 48 inb_S64x512_S8x512_48_0 y)) (k0_pay18 (rp 56
    inb_S64x512_S8x512_56_0 y)) (k0_pay19 x)

theorem tab_at (x y : Vec Ideal S64x512 .f32) (a : Fin 8) (b : Fin 64) (n : Fin 512) :
    tab x y (ix2 (col a b) n) = x (ix2 b n) + y (ix2 ⟨8 * a.val + b.val % 8, by omega⟩ n) := by
  have e : tab x y = k0_pay20 (row y 0) (row y 1) (row y 2) (row y 3) (row y 4) (row y 5) (row y 6) (row y 7) (k0_pay19 x) := by
    rw [← row_eq y 0 0 inb_S64x512_S8x512_0_0 rfl, ← row_eq y 1 8 inb_S64x512_S8x512_8_0 rfl,
      ← row_eq y 2 16 inb_S64x512_S8x512_16_0 rfl, ← row_eq y 3 24 inb_S64x512_S8x512_24_0 rfl,
      ← row_eq y 4 32 inb_S64x512_S8x512_32_0 rfl, ← row_eq y 5 40 inb_S64x512_S8x512_40_0 rfl,
      ← row_eq y 6 48 inb_S64x512_S8x512_48_0 rfl, ← row_eq y 7 56 inb_S64x512_S8x512_56_0 rfl]
    rfl
  rw [e]
  pointwise [k0_pay20, k0_pay19]
  rw [pick (fun _ b => x (ix2 b n)) a b, pick (fun a b => row y a (ix2 b n)) a b]
  rfl

/-- The other table's names. -/
abbrev tab2 (x y : Vec Ideal S64x512 .f32) : FVec Ideal S512x512 .f32 :=
  k0_pay21 (rp 0 inb_S64x512_S8x512_0_0 y) (rp 8 inb_S64x512_S8x512_8_0 y) (rp 16 inb_S64x512_S8x512_16_0 y) (rp 24
    inb_S64x512_S8x512_24_0 y) (rp 32 inb_S64x512_S8x512_32_0 y) (rp 40 inb_S64x512_S8x512_40_0 y) (rp 48
    inb_S64x512_S8x512_48_0 y) (rp 56 inb_S64x512_S8x512_56_0 y) x

theorem tab2_eq (x y : Vec Ideal S64x512 .f32) : tab2 x y = tab x y := rfl

/-- A head's block. -/
def hd (x : Vec Ideal S8x512x64 .f32) (k : Fin 8) : Vec Ideal S1x512x64 .f32 := fun i => x (ix3 k (i 1) (i 2))

theorem hd_eq (x : Vec Ideal S8x512x64 .f32) (k : Fin 8) (l : Nat) (inb) (hl : l = k.val) : hp l inb x = hd x k := by
  subst hl
  funext i
  obtain ⟨z, r, n, rfl⟩ : ∃ z k l, i = ix3 z k l := ⟨i 0, i 1, i 2, by ext j; fin_cases j <;> rfl⟩
  obtain rfl : z = 0 := Fin.ext (by omega)
  exact hp_at _ inb x r n k.isLt

section
variable (x : Vec Ideal S8x512x64 .f32) (cs sn v : FVec Ideal S512x512 .f32) (r : Fin 512) (h : Fin 8) (j : Fin 64)

abbrev vals : FVec Ideal S1x512x512 .bf16 :=
  k0_pay1 (k0_pay51 (hp 0 inb_S8x512x64_S1x512x64_0_0_0 x) (hp 1 inb_S8x512x64_S1x512x64_1_0_0 x) (hp 2
    inb_S8x512x64_S1x512x64_2_0_0 x) (hp 3 inb_S8x512x64_S1x512x64_3_0_0 x) (hp 4 inb_S8x512x64_S1x512x64_4_0_0 x) (hp 5
    inb_S8x512x64_S1x512x64_5_0_0 x) (hp 6 inb_S8x512x64_S1x512x64_6_0_0 x) (hp 7 inb_S8x512x64_S1x512x64_7_0_0 x))

abbrev plus : FVec Ideal S512x512 .f32 :=
  k0_pay28 v (k0_pay25 (hp 0 inb_S8x512x64_S1x512x64_0_0_0 x)) (k0_pay26 (hp 1 inb_S8x512x64_S1x512x64_1_0_0 x)) (k0_pay27 (hp
    2 inb_S8x512x64_S1x512x64_2_0_0 x)) (hp 3 inb_S8x512x64_S1x512x64_3_0_0 x) (hp 4 inb_S8x512x64_S1x512x64_4_0_0 x) (hp 5
    inb_S8x512x64_S1x512x64_5_0_0 x) (hp 6 inb_S8x512x64_S1x512x64_6_0_0 x) (hp 7 inb_S8x512x64_S1x512x64_7_0_0 x)

abbrev turned : FVec Ideal S512x512 .f32 :=
  k0_pay24 cs sn (k0_pay22 (hp 0 inb_S8x512x64_S1x512x64_0_0_0 x)) (k0_pay23 (hp 1 inb_S8x512x64_S1x512x64_1_0_0 x)) (hp 2
    inb_S8x512x64_S1x512x64_2_0_0 x) (hp 3 inb_S8x512x64_S1x512x64_3_0_0 x) (hp 4 inb_S8x512x64_S1x512x64_4_0_0 x) (hp 5
    inb_S8x512x64_S1x512x64_5_0_0 x) (hp 6 inb_S8x512x64_S1x512x64_6_0_0 x) (hp 7 inb_S8x512x64_S1x512x64_7_0_0 x)

/-- The keys' names. -/
abbrev turned2 : FVec Ideal S512x512 .f32 :=
  k0_pay35 cs sn (k0_pay29 (hp 0 inb_S8x512x64_S1x512x64_0_0_0 x)) (k0_pay30 (hp 1 inb_S8x512x64_S1x512x64_1_0_0 x)) (k0_pay31
    (hp 2 inb_S8x512x64_S1x512x64_2_0_0 x)) (k0_pay32 (hp 3 inb_S8x512x64_S1x512x64_3_0_0 x)) (k0_pay33 (hp 4
    inb_S8x512x64_S1x512x64_4_0_0 x)) (k0_pay34 (hp 5 inb_S8x512x64_S1x512x64_5_0_0 x)) (hp 6 inb_S8x512x64_S1x512x64_6_0_0 x)
    (hp 7 inb_S8x512x64_S1x512x64_7_0_0 x)

theorem turned2_eq : turned2 x cs sn = turned x cs sn := rfl

/-- A plane's rows. -/
theorem plane0_at (v : FVec Ideal S512x512 .bf16) (n : Fin 512) : k0_pay49 (F := Ideal) v (ix3 0 r n) = v (ix2 r n) := by
  pointwise [k0_pay49]
theorem plane1_at (n : Fin 512) : k0_pay50 (F := Ideal) v (ix3 0 r n) = v (ix2 r n) := by
  pointwise [k0_pay50]

theorem vals_at : vals x (ix3 0 r (col h j)) = x (ix3 h r j) := by
  unfold vals
  rw [hd_eq x 0 0 inb_S8x512x64_S1x512x64_0_0_0 rfl, hd_eq x 1 1 inb_S8x512x64_S1x512x64_1_0_0 rfl,
    hd_eq x 2 2 inb_S8x512x64_S1x512x64_2_0_0 rfl, hd_eq x 3 3 inb_S8x512x64_S1x512x64_3_0_0 rfl,
    hd_eq x 4 4 inb_S8x512x64_S1x512x64_4_0_0 rfl, hd_eq x 5 5 inb_S8x512x64_S1x512x64_5_0_0 rfl,
    hd_eq x 6 6 inb_S8x512x64_S1x512x64_6_0_0 rfl, hd_eq x 7 7 inb_S8x512x64_S1x512x64_7_0_0 rfl]
  pointwise [k0_pay1, k0_pay51]
  exact pick (fun h j => hd x h (ix3 0 r j)) h j

theorem plus_at : plus x v (ix2 r (col h j)) = (v (ix2 r (col h j)) + x (ix3 h r j)) * Ideal.ofBits .f32 0x3E000000#32 := by
  unfold plus
  rw [hd_eq x 0 0 inb_S8x512x64_S1x512x64_0_0_0 rfl, hd_eq x 1 1 inb_S8x512x64_S1x512x64_1_0_0 rfl,
    hd_eq x 2 2 inb_S8x512x64_S1x512x64_2_0_0 rfl, hd_eq x 3 3 inb_S8x512x64_S1x512x64_3_0_0 rfl,
    hd_eq x 4 4 inb_S8x512x64_S1x512x64_4_0_0 rfl, hd_eq x 5 5 inb_S8x512x64_S1x512x64_5_0_0 rfl,
    hd_eq x 6 6 inb_S8x512x64_S1x512x64_6_0_0 rfl, hd_eq x 7 7 inb_S8x512x64_S1x512x64_7_0_0 rfl]
  pointwise [k0_pay28, k0_pay25, k0_pay26, k0_pay27]
  rw [pick (fun h j => hd x h (ix3 0 r j)) h j]
  rfl

theorem turned_at : turned x cs sn (ix2 r (col h j))
    = x (ix3 h r j) * cs (ix2 r (col h j)) - twin (fun j => x (ix3 h r j)) j * sn (ix2 r (col h j)) := by
  unfold turned
  rw [hd_eq x 0 0 inb_S8x512x64_S1x512x64_0_0_0 rfl, hd_eq x 1 1 inb_S8x512x64_S1x512x64_1_0_0 rfl,
    hd_eq x 2 2 inb_S8x512x64_S1x512x64_2_0_0 rfl, hd_eq x 3 3 inb_S8x512x64_S1x512x64_3_0_0 rfl,
    hd_eq x 4 4 inb_S8x512x64_S1x512x64_4_0_0 rfl, hd_eq x 5 5 inb_S8x512x64_S1x512x64_5_0_0 rfl,
    hd_eq x 6 6 inb_S8x512x64_S1x512x64_6_0_0 rfl, hd_eq x 7 7 inb_S8x512x64_S1x512x64_7_0_0 rfl]
  pointwise [k0_pay24, k0_pay22, k0_pay23]
  rw [pick (fun h j => hd x h (ix3 0 r j)) h j]
  rw [pick_at (fun h j => hd x h (ix3 0 r j)) ((64 * h.val + j.val + 512 - 496) % 512) (by omega),
    pick_at (fun h j => hd x h (ix3 0 r j)) ((64 * h.val + j.val + 512 - 16) % 512) (by omega),
    show IntOp.cmpi CmpIPredicate.slt (IntOp.andi (BitVec.ofNat 32 (64 * h.val + j.val)) 31#32) 16#32 = _ from low_word (col h j)]
  have e : (64 * h.val + j.val) % 32 = j.val % 32 := by omega
  refine congrArg (fun a => x (ix3 h r j) * cs (ix2 r (col h j)) - a * sn (ix2 r (col h j))) ?_
  unfold twin
  by_cases hl : j.val % 32 < 16
  · rw [if_pos hl, decide_eq_true (by simpa only [e] using hl)]
    exact congrArg₂ (fun h j => x (ix3 h r j)) (Fin.ext (by simp; omega)) (Fin.ext (by simp; omega))
  · rw [if_neg hl, decide_eq_false (by simpa only [e] using hl)]
    exact congrArg₂ (fun h j => x (ix3 h r j)) (Fin.ext (by simp; omega)) (Fin.ext (by simp; omega))

end

end Cert.Qk
end
-- ==== Proof.Heads.QkValue.lean ====
/-
  The queries and keys: what the gradient's kernel leaves in its three result arrays.
-/
module

public import proofs.«01_k».proof.Proof.Heads.Qk

@[expose] public section

set_option maxRecDepth 16384

noncomputable section

namespace Cert.Qk

open Idealize.ShloMosaic Idealize.ShloMosaic.TcCoe Idealize.SL.Sem
open Idealize.ShloMosaic.Pipeline (Dat)
open Cert.Norm Cert.Heads
open Cert.Kernel7Ideal Cert.Kernel7Ideal.Gen

/-- The arguments the results depend on. -/
structure Args where
  qr : FVec Ideal S8x2048x64 .f32
  qp : FVec Ideal S8x2048x64 .f32
  kr : FVec Ideal S8x2048x64 .f32
  dv : FVec Ideal S8x2048x64 .f32
  x : FVec Ideal S2048x4096 .f32
  gq : FVec Ideal S1x64 .f32
  gk : FVec Ideal S1x64 .f32
  dp : FVec Ideal S8x2048x512 .bf16

/-- One over the root of a head's columns, as the programs write it. -/
abbrev eighth : EReal := Ideal.ofBits .f32 0x3E000000#32

namespace Args
variable (K : Args) (s : Fin 2048) (h : Fin 8) (j : Fin 64)

/-- A head's row of queries and of keys. -/
def xq : EReal := K.x (ix2 s ⟨64 * h.val + j.val, by omega⟩)
def xk : EReal := K.x (ix2 s ⟨512 + (64 * h.val + j.val), by omega⟩)

/-- The gradients of the normed rows, times the gain and without it. -/
def dq : EReal := (turn s.val (fun j => K.qr (ix3 h s j)) j + K.qp (ix3 h s j)) * eighth
def dk : EReal := turn s.val (fun j => K.kr (ix3 h s j)) j
def eq : EReal := K.dq s h j * K.gq (ix2 0 j)
def ek : EReal := K.dk s h j * K.gk (ix2 0 j)

/-- The head, and the column in it. -/
abbrev hd (n : Fin 512) : Fin 8 := ⟨n.val / 64, by omega⟩
abbrev cl (n : Fin 512) : Fin 64 := ⟨n.val % 64, by omega⟩

/-- The eight planes: the gradients of the queries, keys and values, and five as the argument holds them. -/
def plane (k : Nat) : EReal :=
  if k = 0 then back cols eps (K.xq s h) (K.eq s h) j
  else if k = 1 then back cols eps (K.xk s h) (K.ek s h) j
  else K.dv (ix3 h s j)
def planes : FVec Ideal S8x2048x512 .bf16 := fun i =>
  if (i 0).val < 3 then K.plane (i 1) (hd (i 2)) (cl (i 2)) (i 0).val else K.dp i

/-- The gradients of each head's copy of the two gains. -/
def gainq : FVec Ideal S1x512 .f32 := fun i =>
  ∑ s, K.dq s (hd (i 1)) (cl (i 1)) * (K.xq s (hd (i 1)) (cl (i 1)) * rs cols eps (K.xq s (hd (i 1))))
def gaink : FVec Ideal S1x512 .f32 := fun i =>
  ∑ s, K.dk s (hd (i 1)) (cl (i 1)) * (K.xk s (hd (i 1)) (cl (i 1)) * rs cols eps (K.xk s (hd (i 1))))

/-- What the results read is finite. -/
structure Fin : Prop where
  qr : ∀ i, IsReal (K.qr i)
  qp : ∀ i, IsReal (K.qp i)
  kr : ∀ i, IsReal (K.kr i)
  x : ∀ i, IsReal (K.x i)
  gq : ∀ i, IsReal (K.gq i)
  gk : ∀ i, IsReal (K.gk i)

variable {K}

theorem Fin.dq (hK : K.Fin) (s : _root_.Fin 2048) (h : _root_.Fin 8) (j : _root_.Fin 64) : IsReal (K.dq s h j) :=
  ((real_turn _ _ (fun _ => hK.qr _) j).add (hK.qp _)).mul ⟨_, word_8th⟩
theorem Fin.dk (hK : K.Fin) (s : _root_.Fin 2048) (h : _root_.Fin 8) (j : _root_.Fin 64) : IsReal (K.dk s h j) :=
  real_turn _ _ (fun _ => hK.kr _) j

end Args

theorem hd_col (h : Fin 8) (j : Fin 64) : Args.hd (col h j) = h := Fin.ext (by show (64 * h.val + j.val) / 64 = h.val; omega)
theorem cl_col (h : Fin 8) (j : Fin 64) : Args.cl (col h j) = j := Fin.ext (by show (64 * h.val + j.val) % 64 = j.val; omega)

/-- Every window's block index. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![0, 0] ∧ win0_6.index t = ![0, 0]
    ∧ win0_7.index t = ![0, 0] ∧ win0_8.index t = ![t.val, 0] ∧ win0_9.index t = ![0, 0] ∧ win0_10.index t = ![t.val, 0]
    ∧ win0_11.index t = ![0, t.val, 0] ∧ win0_12.index t = ![0, 0] ∧ win0_13.index t = ![0, 0] :=
  (by decide +kernel : ∀ t : Fin grid0.N, _)

variable (m : (ℓ : Loc nD τ sig) → Buf (Elt Ideal) ℓ)

/-- The arguments on device `c`. -/
abbrev args (c : Dev nD) : Args where
  qr := m ((c : Thread nD τ).loc main_arg0)
  qp := m ((c : Thread nD τ).loc main_arg1)
  kr := m ((c : Thread nD τ).loc main_arg2)
  dv := m ((c : Thread nD τ).loc main_arg3)
  x := m ((c : Thread nD τ).loc main_arg4)
  gq := m ((c : Thread nD τ).loc main_arg5)
  gk := m ((c : Thread nD τ).loc main_arg6)
  dp := m ((c : Thread nD τ).loc main_arg7)

variable (c : Dev nD) (t : Fin cfg0.N) (r : Fin 512) (h : Fin 8) (j : Fin 64)

theorem V_gq : V m c main_v2 (ix2 0 (col h j)) = (args m c).gq (ix2 0 j) := by
  unfold V; after_results; pointwise []
  exact congrArg (fun i => (args m c).gq (ix2 0 i)) (cl_col h j)

theorem V_gk : V m c main_v5 (ix2 0 (col h j)) = (args m c).gk (ix2 0 j) := by
  unfold V; after_results; pointwise []
  exact congrArg (fun i => (args m c).gk (ix2 0 i)) (cl_col h j)

theorem V_dp : V m c main_v50_0 = (args m c).dp := by
  unfold V; after_results; try rfl

/-- The tables of the grid's columns, and of its rows. -/
theorem V_cc (r : Fin 64) : V m c main_v29 (ix2 r (col h j))
    = (if j.val < 32 then 0 else Ideal.cos (pos r.val * freq (j.val % 16)) : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.cos (pos r.val * freq i)) (by omega)
    | exact congrArg (fun i => -Ideal.cos (pos r.val * freq i)) (by omega)

theorem V_sc (r : Fin 64) : V m c main_v34 (ix2 r (col h j))
    = (if j.val < 32 then 0 else if j.val % 32 < 16 then -Ideal.sin (pos r.val * freq (j.val % 16))
        else Ideal.sin (pos r.val * freq (j.val % 16)) : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.sin (pos r.val * freq i)) (by omega)
    | exact congrArg (fun i => -Ideal.sin (pos r.val * freq i)) (by omega)

theorem V_cr (r : Fin 256) : V m c main_v46 (ix2 r (col h j))
    = (if j.val < 32 then Ideal.cos (pos (r.val / 8) * freq (j.val % 16)) else 0 : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.cos (pos (r.val / 8) * freq i)) (by omega)
    | exact congrArg (fun i => -Ideal.cos (pos (r.val / 8) * freq i)) (by omega)

theorem V_sr (r : Fin 256) : V m c main_v49 (ix2 r (col h j))
    = (if j.val < 32 then if j.val % 32 < 16 then -Ideal.sin (pos (r.val / 8) * freq (j.val % 16))
        else Ideal.sin (pos (r.val / 8) * freq (j.val % 16)) else 0 : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.sin (pos (r.val / 8) * freq i)) (by omega)
    | exact congrArg (fun i => -Ideal.sin (pos (r.val / 8) * freq i)) (by omega)

/-- Row `r` of block `t` is the array's row `512 * t + r`. -/
abbrev at_ (t : Fin cfg0.N) (r : Fin 512) : Fin 2048 := ⟨512 * t.val + r.val, by have : t.val < 4 := t.isLt; omega⟩
/-- Row `r` of the tables' block. -/
abbrev gr (t : Fin cfg0.N) (r : Fin 64) : Fin 256 := ⟨64 * t.val + r.val, by have : t.val < 4 := t.isLt; omega⟩

theorem blk0 : iblk m c 0 t (ix3 h r j) = (args m c).qr (ix3 h (at_ t r) j) := by blk_ext! [iblk, V, idx t]
theorem blk1 : iblk m c 1 t (ix3 h r j) = (args m c).qp (ix3 h (at_ t r) j) := by blk_ext! [iblk, V, idx t]
theorem blk2 : iblk m c 2 t (ix3 h r j) = (args m c).kr (ix3 h (at_ t r) j) := by blk_ext! [iblk, V, idx t]
theorem blk3 : iblk m c 3 t (ix3 h r j) = (args m c).dv (ix3 h (at_ t r) j) := by blk_ext! [iblk, V, idx t]
theorem blk4 (n : Fin 1024) : iblk m c 4 t (ix2 r n) = (args m c).x (ix2 (at_ t r) ⟨n.val, by omega⟩) := by
  blk_ext! [iblk, V, idx t]
theorem blk5 : iblk m c 5 t (ix2 0 (col h j)) = (args m c).gq (ix2 0 j) :=
  Eq.trans (by blk_ext! [iblk, idx t]) (V_gq m c h j)
theorem blk6 : iblk m c 6 t (ix2 0 (col h j)) = (args m c).gk (ix2 0 j) :=
  Eq.trans (by blk_ext! [iblk, idx t]) (V_gk m c h j)
theorem blk7 (r : Fin 64) (n : Fin 512) : iblk m c 7 t (ix2 r n) = V m c main_v29 (ix2 r n) := by blk_ext! [iblk, idx t]
theorem blk8 (r : Fin 64) (n : Fin 512) : iblk m c 8 t (ix2 r n) = V m c main_v46 (ix2 (gr t r) n) := by blk_ext! [iblk, idx t]
theorem blk9 (r : Fin 64) (n : Fin 512) : iblk m c 9 t (ix2 r n) = V m c main_v34 (ix2 r n) := by blk_ext! [iblk, idx t]
theorem blk10 (r : Fin 64) (n : Fin 512) : iblk m c 10 t (ix2 r n) = V m c main_v49 (ix2 (gr t r) n) := by
  blk_ext! [iblk, idx t]

/-- What a row that starts at zero holds after the last block. -/
theorem total (o : (n : ℕ) → n < cfg0.N → EReal) (f : Fin 2048 → EReal)
    (hA : ∀ t : Fin cfg0.N, t.val % 4 = 0 → o t.val t.isLt = 0 + ∑ r : Fin 512, f (at_ t r))
    (hB : ∀ t : Fin cfg0.N, ¬ t.val % 4 = 0 →
      o t.val t.isLt = o (t.val - 1) (Nat.lt_of_le_of_lt (Nat.sub_le _ _) t.isLt) + ∑ r : Fin 512, f (at_ t r))
    (h3 : t.val = 3) : o t.val t.isLt = ∑ r, f r := by
  obtain ⟨n, hn⟩ := t
  obtain rfl : n = 3 := h3
  have e0 := hA ⟨0, by decide⟩ rfl
  have e1 := hB ⟨1, by decide⟩ (by decide)
  have e2 := hB ⟨2, by decide⟩ (by decide)
  have e3 := hB ⟨3, by decide⟩ (by decide)
  refine e3.trans ?_
  refine (congrArg (· + _) (e2.trans (congrArg (· + _) (e1.trans (congrArg (· + _) e0))))).trans ?_
  refine Eq.trans ?_ (sum_blocks 4 512 f).symm
  rw [Fin.sum_univ_four, zero_add]
  rfl

/-- The block's cosines and sines. -/
abbrev CS : FVec Ideal S512x512 .f32 := tab (iblk m c 7 t) (iblk m c 8 t)
abbrev SN : FVec Ideal S512x512 .f32 := tab2 (iblk m c 9 t) (iblk m c 10 t)

theorem CS_at : CS m c t (ix2 r (col h j)) = Ideal.cos (ang (at_ t r).val j) := by
  obtain ⟨a, b, rfl⟩ := exists_col r
  refine (tab_at _ _ a b _).trans ?_
  rw [blk7, blk8, V_cc, V_cr]
  unfold ang
  have e1 : (512 * t.val + (64 * a.val + b.val)) / 64 = (64 * t.val + (8 * a.val + b.val % 8)) / 8 := by omega
  have e2 : (512 * t.val + (64 * a.val + b.val)) % 64 = b.val := by omega
  simp only [e1, e2]
  split_ifs
  · rw [zero_add]
  · rw [add_zero]

theorem SN_at : SN m c t (ix2 r (col h j))
    = if j.val % 32 < 16 then -Ideal.sin (ang (at_ t r).val j) else Ideal.sin (ang (at_ t r).val j) := by
  obtain ⟨a, b, rfl⟩ := exists_col r
  rw [SN, tab2_eq]
  refine (tab_at _ _ a b _).trans ?_
  rw [blk9, blk10, V_sc, V_sr]
  unfold ang
  have e1 : (512 * t.val + (64 * a.val + b.val)) / 64 = (64 * t.val + (8 * a.val + b.val % 8)) / 8 := by omega
  have e2 : (512 * t.val + (64 * a.val + b.val)) % 64 = b.val := by omega
  simp only [e1, e2]
  split_ifs
  · rw [zero_add]
  · rw [zero_add]
  · rw [add_zero]
  · rw [add_zero]

theorem sign_turn (d : Fin 64 → EReal) (s : Nat) : d j * Ideal.cos (ang s j)
    - twin d j * (if j.val % 32 < 16 then -Ideal.sin (ang s j) else Ideal.sin (ang s j)) = turn s d j := by
  unfold turn
  split_ifs
  · rw [mul_neg, sub_eq_add_neg, neg_neg]
  · rfl

/-- A block's heads turned back. -/
abbrev TN (x : Vec Ideal S8x512x64 .f32) : FVec Ideal S512x512 .f32 := turned x (CS m c t) (SN m c t)

theorem TN_at (x : Vec Ideal S8x512x64 .f32) : TN m c t x (ix2 r (col h j)) = turn (at_ t r).val (fun j => x (ix3 h r j)) j := by
  refine (turned_at x _ _ r h j).trans ?_
  rw [CS_at, SN_at]
  exact sign_turn j (fun j => x (ix3 h r j)) (at_ t r).val

/-- The gradients of the normed queries. -/
abbrev DQ : FVec Ideal S512x512 .f32 := plus (iblk m c 1 t) (TN m c t (iblk m c 0 t))

theorem DQ_at : DQ m c t (ix2 r (col h j)) = (args m c).dq (at_ t r) h j := by
  refine (plus_at (iblk m c 1 t) _ r h j).trans ?_
  rw [TN_at, blk1]
  simp only [blk0]
  rfl

abbrev DK : FVec Ideal S512x512 .f32 := turned2 (iblk m c 2 t) (CS m c t) (SN m c t)

theorem DK_at : DK m c t (ix2 r (col h j)) = (args m c).dk (at_ t r) h j := by
  rw [DK, turned2_eq]
  refine (TN_at m c t r h j _).trans ?_
  simp only [blk2]
  rfl

/-- The block's queries and keys. -/
abbrev XQ : Vec Ideal S512x512 .f32 := View.ld (iblk m c 4 t) (Rect.unit ![0, 0] S512x512.size inb_S512x1024_S512x512_0_0)
abbrev XK : Vec Ideal S512x512 .f32 := View.ld (iblk m c 4 t) (Rect.unit ![0, 512] S512x512.size inb_S512x1024_S512x512_0_512)

theorem XQ_at : XQ m c t (ix2 r (col h j)) = (args m c).xq (at_ t r) h j :=
  (View.ld_unit_apply_of _ _ _ _ _ (ix2 r ⟨64 * h.val + j.val, by omega⟩)
    (by intro a; fin_cases a <;> exact (Nat.zero_add _).symm)).trans (blk4 m c t r _)

theorem XK_at : XK m c t (ix2 r (col h j)) = (args m c).xk (at_ t r) h j :=
  (View.ld_unit_apply_of _ _ _ _ _ (ix2 r ⟨512 + (64 * h.val + j.val), by omega⟩)
    (by intro a; fin_cases a <;> first | rfl | exact (Nat.zero_add _).symm)).trans (blk4 m c t r _)

theorem real_of (X : FVec Ideal S512x512 .f32) (f : Fin 2048 → Fin 8 → Fin 64 → EReal)
    (hX : ∀ r h j, X (ix2 r (col h j)) = f (at_ t r) h j) (hf : ∀ s h j, IsReal (f s h j)) (i) : IsReal (X i) := by
  obtain ⟨r, n, rfl⟩ : ∃ k l, i = ix2 k l := ⟨i 0, i 1, by ext j; fin_cases j <;> rfl⟩
  obtain ⟨h, j, rfl⟩ := exists_col n
  rw [hX]
  exact hf _ _ _

theorem real_gain (G : FVec Ideal S1x512 .f32) (g : FVec Ideal S1x64 .f32) (hG : ∀ h j, G (ix2 0 (col h j)) = g (ix2 0 j))
    (hg : ∀ i, IsReal (g i)) (i) : IsReal (G i) := by
  obtain ⟨r, n, rfl⟩ : ∃ k l, i = ix2 k l := ⟨i 0, i 1, by ext j; fin_cases j <;> rfl⟩
  obtain rfl : r = 0 := Fin.ext (by omega)
  obtain ⟨h, j, rfl⟩ := exists_col n
  rw [hG]
  exact hg _

theorem dkey_at (hX : ∀ i, IsReal (XK m c t i)) (hG : ∀ i, IsReal (iblk m c 6 t i)) (hD : ∀ i, IsReal (DK m c t i)) :
    k0_pay46 (F := Ideal) B (DK m c t) (XK m c t) (iblk m c 6 t) (ix2 r (col h j)) = (args m c).plane (at_ t r) h j 1 := by
  refine (dk_at (XK m c t) (iblk m c 6 t) (DK m c t) r h j hX hG hD).trans ?_
  simp only [XK_at, DK_at, blk6]
  rfl

theorem dquery_at (hX : ∀ i, IsReal (XQ m c t i)) (hG : ∀ i, IsReal (iblk m c 5 t i)) (hD : ∀ i, IsReal (DQ m c t i)) :
    k0_pay48 (F := Ideal) B (k0_pay36 B (XQ m c t)) (k0_pay37 B (XQ m c t)) (k0_pay38 (DQ m c t) (iblk m c 5 t))
      (k0_pay41 B (DQ m c t) (XQ m c t) (iblk m c 5 t)) (k0_pay42 B (DQ m c t) (XQ m c t) (iblk m c 5 t))
      (constant S512x512 .f32 0#32) (ix2 r (col h j)) = (args m c).plane (at_ t r) h j 0 := by
  refine (dk_at (XQ m c t) (iblk m c 5 t) (DQ m c t) r h j hX hG hD).trans ?_
  simp only [XQ_at, DQ_at, blk5]
  rfl

theorem point11A (k : Fin 3) (hK : (args m c).Fin) (h0 : t.val % 4 = 0) :
    (outsAt0 m c t.val t.isLt).1 (ix3 k r (col h j)) = (args m c).plane (at_ t r) h j k.val := by
  have e2 : vals (iblk m c 3 t) (ix3 0 r (col h j)) = (args m c).plane (at_ t r) h j 2 :=
    (vals_at _ r h j).trans (blk3 m c t r h j)
  have e1 := dkey_at m c t r h j (real_of t _ _ (XK_at m c t) fun _ _ _ => hK.x _)
    (real_gain _ _ (blk6 m c t) hK.gk) (real_of t _ _ (DK_at m c t) hK.dk)
  have e0 := dquery_at m c t r h j (real_of t _ _ (XQ_at m c t) fun _ _ _ => hK.x _)
    (real_gain _ _ (blk5 m c t) hK.gq) (real_of t _ _ (DQ_at m c t) hK.dq)
  rw [outsAt0_A m c t h0]
  frame_out
  canon_tiles x hx
  all_goals
    obtain ⟨z, r', n, rfl⟩ : ∃ z k l, x = ix3 z k l := ⟨x 0, x 1, x 2, by ext j; fin_cases j <;> rfl⟩
    obtain rfl : 0 = z := Fin.ext (by omega)
    obtain rfl : r = r' := Fin.ext hx1
    obtain rfl : col h j = n := Fin.ext hx2
  · obtain rfl : k = 2 := Fin.ext hx0
    exact e2
  · obtain rfl : k = 1 := Fin.ext hx0
    exact (plane1_at _ r _).trans e1
  · obtain rfl : k = 0 := Fin.ext hx0
    exact (plane0_at r _ _).trans e0

theorem point11B (k : Fin 3) (hK : (args m c).Fin) (h0 : ¬ t.val % 4 = 0) :
    (outsAt0 m c t.val t.isLt).1 (ix3 k r (col h j)) = (args m c).plane (at_ t r) h j k.val := by
  have e2 : vals (iblk m c 3 t) (ix3 0 r (col h j)) = (args m c).plane (at_ t r) h j 2 :=
    (vals_at _ r h j).trans (blk3 m c t r h j)
  have e1 := dkey_at m c t r h j (real_of t _ _ (XK_at m c t) fun _ _ _ => hK.x _)
    (real_gain _ _ (blk6 m c t) hK.gk) (real_of t _ _ (DK_at m c t) hK.dk)
  have e0 := dquery_at m c t r h j (real_of t _ _ (XQ_at m c t) fun _ _ _ => hK.x _)
    (real_gain _ _ (blk5 m c t) hK.gq) (real_of t _ _ (DQ_at m c t) hK.dq)
  rw [outsAt0_B m c t h0]
  frame_out
  canon_tiles x hx
  all_goals
    obtain ⟨z, r', n, rfl⟩ : ∃ z k l, x = ix3 z k l := ⟨x 0, x 1, x 2, by ext j; fin_cases j <;> rfl⟩
    obtain rfl : 0 = z := Fin.ext (by omega)
    obtain rfl : r = r' := Fin.ext hx1
    obtain rfl : col h j = n := Fin.ext hx2
  · obtain rfl : k = 2 := Fin.ext hx0
    exact e2
  · obtain rfl : k = 1 := Fin.ext hx0
    exact (plane1_at _ r _).trans e1
  · obtain rfl : k = 0 := Fin.ext hx0
    exact (plane0_at r _ _).trans e0

theorem point11 (k : Fin 3) (hK : (args m c).Fin) :
    (outsAt0 m c t.val t.isLt).1 (ix3 k r (col h j)) = (args m c).plane (at_ t r) h j k.val := by
  by_cases h0 : t.val % 4 = 0
  · exact point11A m c t r h j k hK h0
  · exact point11B m c t r h j k hK h0

theorem final11 (hK : (args m c).Fin) : (dats m 0 c).arrAt 11 cfg0.N = (args m c).planes := by
  have e : (dats m 0 c).arrAt 11 cfg0.N = fun i => if (i 0).val < 3 then (args m c).planes i else V m c main_v50_0 i := by
    refine (dats m 0 c).arrAt_eq_of_coversWhere 11 _ (fun β => β 0 < 1) (by decide +kernel) (fun t hf y => ?_)
      (fun j => by blk_simp [Pipeline.Window.cell_apply]; omega)
    blk_simp
    rw [after0_11]
    obtain ⟨k, r, l, hz⟩ : ∃ k r l, (cfg0.win 11).xinj (cfg0.grid.coords t) y = ix3 k r l :=
      ⟨_, _, _, funext fun i => by fin_cases i <;> rfl⟩
    obtain ⟨h, j, rfl⟩ := exists_col l
    have hv (a) : (y a).val = (ix3 k r (col h j) a).val := by rw [← hz]
    have e : (win0_11.blk t).view.emb y = ix3 ⟨k.val, by omega⟩ (at_ t r) (col h j) := by
      blk_ext! [idx t, hv]
    rw [hz, point11 m c t r h j k hK, e]
    show _ = if k.val < 3 then (args m c).plane (at_ t r) (Args.hd (col h j)) (Args.cl (col h j)) k.val else _
    rw [hd_col, cl_col, if_pos k.isLt]
  rw [e, V_dp]
  funext i
  unfold Args.planes
  by_cases h3 : (i 0).val < 3
  · simp only [if_pos h3]
  · simp only [if_neg h3]

/-- The queries' and the keys' gain, a block's part of it added to what the row holds. -/
theorem gainq_at (hK : (args m c).Fin) (v : Vec Ideal S1x512 .f32) :
    k0_pay2 (k0_pay43 (DQ m c t) (k0_pay37 B (XQ m c t))) v (ix2 0 (col h j))
      = v (ix2 0 (col h j)) + ∑ r : Fin 512, (args m c).dq (at_ t r) h j
        * ((args m c).xq (at_ t r) h j * rs cols eps ((args m c).xq (at_ t r) h)) := by
  pointwise [k0_pay2, k0_pay43, k0_pay37]
  simp only [rs_at _ _ _ _ (real_of t _ _ (XQ_at m c t) fun _ _ _ => hK.x _), DQ_at, XQ_at]

theorem gaink_at (hK : (args m c).Fin) (v : Vec Ideal S1x512 .f32) :
    k0_pay3 (k0_pay47 B (DK m c t) (XK m c t)) v (ix2 0 (col h j))
      = v (ix2 0 (col h j)) + ∑ r : Fin 512, (args m c).dk (at_ t r) h j
        * ((args m c).xk (at_ t r) h j * rs cols eps ((args m c).xk (at_ t r) h)) := by
  pointwise [k0_pay3]
  rw [dg_at (XK m c t) (DK m c t) h j (real_of t _ _ (XK_at m c t) fun _ _ _ => hK.x _)]
  simp only [DK_at, XK_at]

theorem zero4 (n : Fin 512) : k0_pay4 (F := Ideal) (ix2 0 n) = 0 := by pointwise [k0_pay4]
theorem zero5 (n : Fin 512) : k0_pay5 (F := Ideal) (ix2 0 n) = 0 := by pointwise [k0_pay5]

theorem point12 (hK : (args m c).Fin) (h3 : t.val = 3) :
    (outsAt0 m c t.val t.isLt).2.1 (ix2 0 (col h j)) = (args m c).gainq (ix2 0 (col h j)) := by
  refine (total t (fun n hn => (outsAt0 m c n hn).2.1 (ix2 0 (col h j))) (fun s => (args m c).dq s h j
        * ((args m c).xq s h j * rs cols eps ((args m c).xq s h))) (fun t h0 => ?_) (fun t h0 => ?_) h3).trans ?_
  · try simp only
    rw [outsAt0_A m c t h0]
    frame_out
    exact (gainq_at m c t h j hK _).trans (by rw [zero4])
  · try simp only
    rw [outsAt0_B m c t h0]
    frame_out
    exact gainq_at m c t h j hK _
  · show _ = ∑ s, (args m c).dq s (Args.hd (col h j)) (Args.cl (col h j)) * ((args m c).xq s (Args.hd (col h j))
      (Args.cl (col h j)) * rs cols eps ((args m c).xq s (Args.hd (col h j))))
    rw [hd_col, cl_col]

theorem point13 (hK : (args m c).Fin) (h3 : t.val = 3) :
    (outsAt0 m c t.val t.isLt).2.2 (ix2 0 (col h j)) = (args m c).gaink (ix2 0 (col h j)) := by
  refine (total t (fun n hn => (outsAt0 m c n hn).2.2 (ix2 0 (col h j))) (fun s => (args m c).dk s h j
        * ((args m c).xk s h j * rs cols eps ((args m c).xk s h))) (fun t h0 => ?_) (fun t h0 => ?_) h3).trans ?_
  · try simp only
    rw [outsAt0_A m c t h0]
    frame_out
    exact (gaink_at m c t h j hK _).trans (by rw [zero5])
  · try simp only
    rw [outsAt0_B m c t h0]
    frame_out
    exact gaink_at m c t h j hK _
  · show _ = ∑ s, (args m c).dk s (Args.hd (col h j)) (Args.cl (col h j)) * ((args m c).xk s (Args.hd (col h j))
      (Args.cl (col h j)) * rs cols eps ((args m c).xk s (Args.hd (col h j))))
    rw [hd_col, cl_col]

theorem flush_last : ∀ t : Fin cfg0.N, ((cfg0.win 12).flush t = true → t.val = 3) ∧ ((cfg0.win 13).flush t = true → t.val = 3) := by
  decide +kernel

theorem final12 (hK : (args m c).Fin) : (dats m 0 c).arrAt 12 cfg0.N = (args m c).gainq := by
  refine (dats m 0 c).arrAt_eq_of_covers 12 _ (by decide +kernel) fun t hf y => ?_
  have h3 := (flush_last t).1 hf
  blk_simp
  rw [after0_12]
  obtain ⟨k, l, rfl⟩ : ∃ k l, y = ix2 k l := ⟨y 0, y 1, by ext i; fin_cases i <;> rfl⟩
  obtain rfl : k = 0 := Fin.ext (by omega)
  obtain ⟨h, j, rfl⟩ := exists_col l
  rw [point12 m c t h j hK h3]
  exact congrArg (args m c).gainq (by blk_ext! [idx t])

theorem final13 (hK : (args m c).Fin) : (dats m 0 c).arrAt 13 cfg0.N = (args m c).gaink := by
  refine (dats m 0 c).arrAt_eq_of_covers 13 _ (by decide +kernel) fun t hf y => ?_
  have h3 := (flush_last t).2 hf
  blk_simp
  rw [after0_13]
  obtain ⟨k, l, rfl⟩ : ∃ k l, y = ix2 k l := ⟨y 0, y 1, by ext i; fin_cases i <;> rfl⟩
  obtain rfl : k = 0 := Fin.ext (by omega)
  obtain ⟨h, j, rfl⟩ := exists_col l
  rw [point13 m c t h j hK h3]
  exact congrArg (args m c).gaink (by blk_ext! [idx t])

end Cert.Qk
end
-- ==== Proof.Heads.QkPair.lean ====
/-
  The rotary embedding's backward call: the reference computes the kernel's arrays.
-/
module

public import proofs.«01_k».proof.Defs
public import proofs.«01_k».proof.Proof.Heads.QkValue
public import proofs.«01_k».proof.Proof.Gen.Pre_qk_finite
public import proofs.«01_k».proof.Proof.Gen.Reference7Ideal.Read
public import proofs.«01_k».proof.Proof.Gen.Reference7Ideal.Run

@[expose] public section

set_option maxRecDepth 16384

noncomputable section

namespace Cert.Qk

open Idealize.ShloMosaic Idealize.ShloMosaic.TcCoe Idealize.SL.Sem
open Cert.Norm Cert.Heads

/-- The reference's frame: its run read at the arguments; it declares no semaphore. -/
theorem frame_reference : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

section
open Cert.Reference7Ideal.Read
variable (K : Args) (s : Fin 2048) (h : Fin 8) (j : Fin 64) (a b : Fin 2) (f : Fin 16)

theorem ref_row : val_main_v54 (F := Ideal) (ix1 s) = BitVec.ofNat 32 (s.val / 64) := by
  pointwise [val_main_v54, val_main_call0_v11, val_main_call0_v13, val_main_call0_v2, val_main_call0_v6, val_main_call0_v10,
    val_main_call0_v12, val_main_call0_v8, val_main_call0_v9, val_main_call0_v3, val_main_call0_v5, val_main_call0_v4,
    val_main_call0_v7, val_main_call0_v1, val_main_call0_v0, val_main_c, val_main_call0_c, val_main_call0_c_0, val_main_v53]
  revert s
  decide +kernel

theorem ref_col : val_main_v56 (F := Ideal) (ix1 s) = BitVec.ofNat 32 (s.val % 64) := by
  pointwise [val_main_v56, val_main_call1_v12, val_main_call1_v14, val_main_call1_v4, val_main_call1_v11, val_main_call1_v6,
    val_main_call1_v13, val_main_call1_v8, val_main_call1_v10, val_main_call1_v9, val_main_call1_v7, val_main_call1_v5,
    val_main_call1_v3, val_main_call1_v2, val_main_call1_v1, val_main_call1_v0, val_main_c_9, val_main_call1_c, val_main_call1_c_0,
    val_main_call1_c_1, val_main_call1_c_2, val_main_call1_c_3, val_main_v53]
  revert s
  decide +kernel

/-- The second copy of the positions, of the frequencies and of the angles is the first. -/
theorem again : val_main_v117 (F := Ideal) = val_main_v70 := rfl

theorem ref_freq : val_main_v52 (F := Ideal) (ix1 f) = freq f.val := by
  pointwise [val_main_v52, val_main_v51, val_main_v50, val_main_v49, val_main_v48, val_main_v47, val_main_cst_7, val_main_cst_8]
  rfl

theorem ref_ang : val_main_v70 (F := Ideal) (ix3 s a f) = pos (if a.val < 1 then s.val / 64 else s.val % 64) * freq f.val := by
  pointwise [val_main_v70, val_main_v69, val_main_v68, val_main_v67, val_main_v66, val_main_v65, val_main_v64, val_main_v63,
    val_main_v62, val_main_v61, val_main_v60, val_main_v59, val_main_v58, val_main_v57, val_main_v55]
  simp only [ref_row, ref_col, ref_freq]
  split_ifs <;> rfl

/-- The rotation's gradient, as the reference's five axes give it. -/
theorem turn_form (d : Fin 64 → EReal) :
    ((d j * Ideal.cos (pos (if j.val / 32 < 1 then s.val / 64 else s.val % 64) * freq (j.val % 16)) +
        if h_1 : j.val / 32 < 2 ∧ j.val / 16 % 2 < 1 ∧ j.val % 16 < 16 then
          d ⟨j.val / 32 * 32 + 16 + j.val % 16, by omega⟩ *
            Ideal.sin (pos (if j.val / 32 < 1 then s.val / 64 else s.val % 64) * freq (j.val % 16))
        else 0) +
      if h_1 : j.val / 32 < 2 ∧ (1 ≤ j.val / 16 % 2 ∧ j.val / 16 % 2 - 1 < 1) ∧ j.val % 16 < 16 then
        -(d ⟨j.val / 32 * 32 + j.val % 16, by omega⟩ *
            Ideal.sin (pos (if j.val / 32 < 1 then s.val / 64 else s.val % 64) * freq (j.val % 16)))
      else 0) = turn s.val d j := by
  have e : ang s.val j = pos (if j.val / 32 < 1 then s.val / 64 else s.val % 64) * freq (j.val % 16) := by
    unfold ang
    congr 2
    split_ifs <;> omega
  unfold turn twin
  simp only [← e]
  by_cases h1 : j.val % 32 < 16
  · rw [dif_pos (by omega), dif_neg (by omega), if_pos h1, if_pos h1, add_zero]
    exact congrArg (fun i => _ + d i * _) (Fin.ext (by simp only []; omega))
  · rw [dif_neg (by omega), dif_pos (by omega), if_neg h1, if_neg h1, add_zero, sub_eq_add_neg]
    exact congrArg (fun i => _ + -(d i * _)) (Fin.ext (by simp only []; omega))

/-- The rotation of scaled reals is the scaled rotation. -/
theorem turn_scale (s : Nat) (d : Fin 64 → EReal) (hd : ∀ j, IsReal (d j)) :
    turn s (fun j => d j * eighth) j = turn s d j * eighth := by
  choose f hf using hd
  obtain rfl : d = fun k => (f k : EReal) := funext hf
  obtain ⟨u, hu⟩ := real_cos (real_ang s j)
  obtain ⟨v, hv⟩ := real_sin (real_ang s j)
  unfold turn twin eighth
  rw [hu, hv, word_8th]
  split_ifs <;> simp only [← EReal.coe_mul, ← EReal.coe_add, ← EReal.coe_sub] <;> exact congrArg _ (by ring)

theorem ref_dk : val_main_v155 (F := Ideal) K.kr (ix3 s h j) = K.dk s h j := by
  pointwise [val_main_v155, val_main_v154, val_main_v153, val_main_v152, val_main_v151, val_main_v150, val_main_v149, val_main_v148,
    val_main_v147, val_main_v146, val_main_v145, val_main_v144, val_main_v143, val_main_v142, val_main_v141, val_main_v140,
    val_main_v139, val_main_v8, val_main_v119, val_main_v118, val_main_v121, val_main_v120, val_main_cst_16, val_main_cst_17]
  simp only [again, ref_ang]
  exact turn_form s j fun j => K.kr (ix3 h s j)

theorem ref_dq (hK : K.Fin) : val_main_v177 (F := Ideal) K.qr K.qp (ix3 s h j) = K.dq s h j := by
  pointwise [val_main_v177, val_main_v157, val_main_v156, val_main_v7, val_main_cst_18, val_main_v176, val_main_v175, val_main_v174,
    val_main_v173, val_main_v172, val_main_v171, val_main_v170, val_main_v169, val_main_v168, val_main_v167, val_main_v166,
    val_main_v165, val_main_v164, val_main_v163, val_main_v162, val_main_v161, val_main_v160, val_main_v159, val_main_v158,
    val_main_v6, val_main_v72, val_main_v71, val_main_v74, val_main_v73, val_main_cst_19, val_main_cst_20, val_main_cst_21]
  simp only [ref_ang]
  refine (congrArg (_ + ·) (turn_form s j fun j => K.qr (ix3 h s j) * eighth)).trans ?_
  rw [turn_scale _ _ _ fun _ => hK.qr _]
  obtain ⟨u, hu⟩ := real_turn s.val _ (fun j => hK.qr (ix3 h s j)) j
  obtain ⟨v, hv⟩ := hK.qp (ix3 h s j)
  unfold Args.dq eighth
  rw [hu, hv, word_8th]
  simp only [← EReal.coe_mul, ← EReal.coe_add]
  exact congrArg _ (by ring)

theorem ref_xq : val_main_v13 (F := Ideal) K.x (ix3 s h j) = K.xq s h j := by
  pointwise [val_main_v13, val_main_v10]
  exact congrArg (fun i => K.x (ix2 s i)) (Fin.ext (by simp only []; omega))

theorem ref_xk : val_main_v30 (F := Ideal) K.x (ix3 s h j) = K.xk s h j := by
  pointwise [val_main_v30, val_main_v11]
  exact congrArg (fun i => K.x (ix2 s i)) (Fin.ext (by simp only []; omega))

theorem ref_msq : val_main_v20 (F := Ideal) K.x (ix3 s h 0) = ms cols eps (K.xq s h) := by
  pointwise [val_main_v20, val_main_v19, val_main_cst_1, val_main_v18, val_main_v17, val_main_cst_0, val_main_v16, val_main_v15,
    val_main_v14, val_main_cst]
  simp only [ref_xq]
  rfl

theorem ref_msk : val_main_v37 (F := Ideal) K.x (ix3 s h 0) = ms cols eps (K.xk s h) := by
  pointwise [val_main_v37, val_main_v36, val_main_cst_5, val_main_v35, val_main_v34, val_main_cst_4, val_main_v33, val_main_v32,
    val_main_v31, val_main_cst_3]
  simp only [ref_xk]
  rfl

theorem ref_rsq : val_main_v21 (F := Ideal) K.x (ix3 s h 0) = rs cols eps (K.xq s h) := by
  pointwise [val_main_v21]
  rw [ref_msq]
  rfl

theorem ref_rsk : val_main_v38 (F := Ideal) K.x (ix3 s h 0) = rs cols eps (K.xk s h) := by
  pointwise [val_main_v38]
  rw [ref_msk]
  rfl

theorem ref_eq (hK : K.Fin) : val_main_v203 (F := Ideal) K.qr K.qp K.gq (ix3 s h j) = K.eq s h j := by
  pointwise [val_main_v203, val_main_v202, val_main_v27, val_main_v2, val_main_v1, val_main_v0]
  rw [ref_dq _ _ _ _ hK]
  rfl

theorem ref_ek : val_main_v182 (F := Ideal) K.kr K.gk (ix3 s h j) = K.ek s h j := by
  pointwise [val_main_v182, val_main_v181, val_main_v44, val_main_v5, val_main_v4, val_main_v3]
  rw [ref_dk]
  rfl

theorem ref_partq (hK : K.Fin) : val_main_v214 (F := Ideal) K.qr K.qp K.x K.gq (ix3 s h j)
    = part cols eps ((-1/2 : ℝ) : EReal) (K.xq s h) (K.eq s h) := by
  pointwise [val_main_v214, val_main_v213, val_main_cst_31, val_main_v212, val_main_v211, val_main_cst_30, val_main_v210,
    val_main_v24, val_main_v23, val_main_cst_2, val_main_v22, val_main_v207, val_main_v206, val_main_cst_29, val_main_v205]
  rw [Fin.sum_univ_one, word_half]
  simp only [ref_eq _ _ _ _ hK, ref_msq, ref_rsq, ref_xq]
  rfl

theorem ref_partk : val_main_v193 (F := Ideal) K.kr K.x K.gk (ix3 s h j)
    = part cols eps ((-1/2 : ℝ) : EReal) (K.xk s h) (K.ek s h) := by
  pointwise [val_main_v193, val_main_v192, val_main_cst_26, val_main_v191, val_main_v190, val_main_cst_25, val_main_v189,
    val_main_v41, val_main_v40, val_main_cst_6, val_main_v39, val_main_v186, val_main_v185, val_main_cst_24, val_main_v184]
  rw [Fin.sum_univ_one, word_half]
  simp only [ref_ek, ref_msk, ref_rsk, ref_xk]
  rfl

theorem ref_backq (hK : K.Fin) : val_main_v218 (F := Ideal) K.qr K.qp K.x K.gq (ix3 s h j)
    = back cols eps (K.xq s h) (K.eq s h) j := by
  pointwise [val_main_v218, val_main_v217, val_main_v216, val_main_v215, val_main_v209, val_main_v208]
  simp only [ref_partq _ _ _ _ hK, ref_eq _ _ _ _ hK, ref_rsq, ref_xq]
  exact back_eq (x := K.xq s h) (d := K.eq s h) pos_64 eps_pos (fun j => hK.x _) (fun j => (hK.dq _ _ _).mul (hK.gq _)) j

theorem ref_backk (hK : K.Fin) : val_main_v197 (F := Ideal) K.kr K.x K.gk (ix3 s h j)
    = back cols eps (K.xk s h) (K.ek s h) j := by
  pointwise [val_main_v197, val_main_v196, val_main_v195, val_main_v194, val_main_v188, val_main_v187]
  simp only [ref_partk, ref_ek, ref_rsk, ref_xk]
  exact back_eq (x := K.xk s h) (d := K.ek s h) pos_64 eps_pos (fun j => hK.x _) (fun j => (hK.dk _ _ _).mul (hK.gk _)) j

theorem planes_eq (hK : K.Fin) : val_main_v226 (F := Ideal) K.qr K.qp K.kr K.dv K.x K.gq K.gk K.dp = K.planes := by
  funext i
  obtain ⟨k, r, n, rfl⟩ : ∃ k r l, i = ix3 k r l := ⟨i 0, i 1, i 2, by ext j; fin_cases j <;> rfl⟩
  show _ = if k.val < 3 then K.plane r (Args.hd n) (Args.cl n) k.val else K.dp (ix3 k r n)
  unfold Args.plane
  pointwise [val_main_v226, val_main_v225, val_main_v224, val_main_v223, val_main_v222, val_main_v221, val_main_v220,
    val_main_v219, val_main_v198, val_main_v138, val_main_v9]
  simp only [ref_backq _ _ _ _ hK, ref_backk _ _ _ _ hK]
  split_ifs <;> first
    | omega
    | rfl
    | exact congrArg (fun k => K.dp (ix3 k r n)) (Fin.ext (by simp only []; omega))

theorem gainq_eq (hK : K.Fin) : val_main_v227 (F := Ideal) K.qr K.qp K.x = K.gainq := by
  funext i
  obtain ⟨z, n, rfl⟩ : ∃ k l, i = ix2 k l := ⟨i 0, i 1, by ext j; fin_cases j <;> rfl⟩
  obtain rfl : z = 0 := Fin.ext (by omega)
  pointwise [val_main_v227, val_main_v204, val_main_cst_28, val_main_v201, val_main_v200, val_main_cst_27, val_main_v199,
    val_main_v26, val_main_v25]
  simp only [ref_rsq, ref_xq, ref_dq _ _ _ _ hK]
  rw [Fin.sum_univ_one]
  exact Finset.sum_congr rfl fun r _ => mul_comm _ _

theorem gaink_eq : val_main_v228 (F := Ideal) K.kr K.x = K.gaink := by
  funext i
  obtain ⟨z, n, rfl⟩ : ∃ k l, i = ix2 k l := ⟨i 0, i 1, by ext j; fin_cases j <;> rfl⟩
  obtain rfl : z = 0 := Fin.ext (by omega)
  pointwise [val_main_v228, val_main_v183, val_main_cst_23, val_main_v180, val_main_v179, val_main_cst_22, val_main_v178,
    val_main_v43, val_main_v42]
  simp only [ref_rsk, ref_xk, ref_dk]
  rw [Fin.sum_univ_one]
  exact Finset.sum_congr rfl fun r _ => mul_comm _ _
end

open Cert.Reference7Ideal.Read in
/-- Kernel and reference return the same arrays. -/
theorem algebraic : Cert.algebraic_Kernel7Ideal_Reference7Ideal_pre_qk_finite := by
  intro m ρ m' ρ' hpre hagree
  have e (c : Dev Cert.Kernel7Ideal.nD) := hagree c
  have real (c : Dev Cert.Kernel7Ideal.nD) : (args m c).Fin :=
    ⟨fun i => IsReal.of_cmpf _ _ i IsReal.inf_f32 (congrFun (hpre c).1 i),
      fun i => IsReal.of_cmpf _ _ i IsReal.inf_f32 (congrFun (hpre c).2.1 i),
      fun i => IsReal.of_cmpf _ _ i IsReal.inf_f32 (congrFun (hpre c).2.2.1 i),
      fun i => IsReal.of_cmpf _ _ i IsReal.inf_f32 (congrFun (hpre c).2.2.2.1 i),
      fun i => IsReal.of_cmpf _ _ i IsReal.inf_f32 (congrFun (hpre c).2.2.2.2.1 i),
      fun i => IsReal.of_cmpf _ _ i IsReal.inf_f32 (congrFun (hpre c).2.2.2.2.2 i)⟩
  refine ⟨fun c => (args m c).planes, fun c => (args m c).gainq, fun c => (args m c).gaink,
    (θ_run Cert.Kernel7Ideal.defs _ _).mono (fun r h c => ⟨(h c).1.trans (final11 m c (real c)),
      (h c).2.1.trans (final12 m c (real c)), (h c).2.2.1.trans (final13 m c (real c)), (h c).2.2.2⟩)
      (Cert.Kernel7Ideal.Value.run_blocks m ρ),
    (θ_run Cert.Reference7Ideal.defs _ _).mono (fun r h c => ⟨(h c).1.trans ?_, (h c).2.1.trans ?_, (h c).2.2.1.trans ?_,
      (h c).2.2.2⟩) (Cert.Reference7Ideal.Value.run (F := Ideal) m' ρ')⟩
  · refine (val_main_v226_eq _).trans (Eq.trans ?_ (planes_eq (args m c) (real c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v227_eq _).trans (Eq.trans ?_ (gainq_eq (args m c) (real c)))
    exact congr (congr (congrArg _ (e c).1) (e c).2.1) (e c).2.2.2.2.1
  · refine (val_main_v228_eq _).trans (Eq.trans ?_ (gaink_eq (args m c)))
    exact congr (congrArg _ (e c).2.2.1) (e c).2.2.2.2.1

end Cert.Qk

end
-- ==== Proof.HeadsFwd.QkPair.lean ====
/-
  The queries' and keys' forward pair: the norm of each head with its gain, the rotary embedding, the scale; the queries
  without rotation and the values beside them. The kernel and the reference agree where the projected rows are real.
-/
module

public import proofs.«01_k».proof.Defs
public import proofs.«01_k».proof.Proof.Heads.Qk
public import proofs.«01_k».proof.Proof.Heads.QkPair
public import proofs.«01_k».proof.Proof.Gen.Pre_heads_finite
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.QkFwd

open Idealize.ShloMosaic Idealize.ShloMosaic.TcCoe Idealize.SL.Sem
open Idealize.ShloMosaic.Pipeline (Dat)
open Cert.Norm Cert.Heads
open Cert.Qk (pos freq ang twin eighth)

/-- Row `s`'s columns of head `h`, from column `o` on. -/
abbrev headRow (o : Nat) (ho : o ≤ 1024) (x : FVec Ideal Cert.Kernel12Ideal.S2048x4096 .f32) (s : Fin 2048) (h : Fin 8)
    (j : Fin 64) : EReal := x (ix2 s ⟨o + (64 * h.val + j.val), by omega⟩)

/-- A head's row, normed, with the gain. -/
def normed (o : Nat) (ho : o ≤ 1024) (x : FVec Ideal Cert.Kernel12Ideal.S2048x4096 .f32)
    (g : FVec Ideal Cert.Kernel12Ideal.S1x64 .f32) (s : Fin 2048) (h : Fin 8) (j : Fin 64) : EReal :=
  headRow o ho x s h j * rs cols eps (headRow o ho x s h) * g (ix2 0 j)

/-- The rotation of token `s`. -/
def spin (s : Nat) (d : Fin 64 → EReal) (j : Fin 64) : EReal :=
  d j * Ideal.cos (ang s j) + twin d j * (if j.val % 32 < 16 then -Ideal.sin (ang s j) else Ideal.sin (ang s j))

section
variable (x : FVec Ideal Cert.Kernel12Ideal.S2048x4096 .f32) (gq gk : FVec Ideal Cert.Kernel12Ideal.S1x64 .f32)

/-- The rotated queries, the plain queries, the rotated keys, the values. -/
def rotated : FVec Ideal Cert.Kernel12Ideal.S8x2048x64 .bf16 := fun i =>
  spin (i 1).val (normed 0 (by omega) x gq (i 1) (i 0)) (i 2) * eighth
def plain : FVec Ideal Cert.Kernel12Ideal.S8x2048x64 .bf16 := fun i => normed 0 (by omega) x gq (i 1) (i 0) (i 2) * eighth
def keys : FVec Ideal Cert.Kernel12Ideal.S8x2048x64 .bf16 := fun i =>
  spin (i 1).val (normed 512 (by omega) x gk (i 1) (i 0)) (i 2)
def vals : FVec Ideal Cert.Kernel12Ideal.S8x2048x64 .bf16 := fun i => headRow 1024 le_rfl x (i 1) (i 0) (i 2)

theorem rotated_at (s : Fin 2048) (h : Fin 8) (j : Fin 64) :
    rotated x gq (ix3 h s j) = spin s.val (normed 0 (by omega) x gq s h) j * eighth := rfl
theorem keys_at (s : Fin 2048) (h : Fin 8) (j : Fin 64) :
    keys x gk (ix3 h s j) = spin s.val (normed 512 (by omega) x gk s h) j := rfl
end

section Kernel

open Cert.Kernel12Ideal Cert.Kernel12Ideal.Gen Cert.Kernel12Ideal.Value

/-- A block's normed rows, and their rotation by tables of cosines and sines. -/
abbrev ND (X : Vec Ideal S512x512 .f32) (G : Vec Ideal S1x512 .f32) : FVec Ideal S512x512 .f32 := k0_pay12 Cert.Qk.B X G
abbrev RT (C S N : FVec Ideal S512x512 .f32) : FVec Ideal S512x512 .f32 :=
  k0_pay17 S N (mulf N C) (iota .tc S512x512 32 [1] iota_S512x512_d1_w32) k0_pay16

theorem norm_at (X : Vec Ideal S512x512 .f32) (G : Vec Ideal S1x512 .f32) (hX : ∀ i, IsReal (X i)) (r : Fin 512)
    (h : Fin 8) (j : Fin 64) : ND X G (ix2 r (col h j))
      = X (ix2 r (col h j)) * rs cols eps (fun i => X (ix2 r (col h i))) * G (ix2 0 (col h j)) := by
  have e : ND X G = mulf (mulf X (Cert.Kernel7Ideal.Gen.k0_pay36 Cert.Qk.B X))
    (broadcastTo S512x512 G broadcasts_S1x512_S512x512) := rfl
  rw [e]
  pointwise []
  rw [Cert.Qk.rs_at X r h j hX]

theorem spin_at (C S N : FVec Ideal S512x512 .f32) (r : Fin 512) (h : Fin 8) (j : Fin 64) : RT C S N (ix2 r (col h j))
    = N (ix2 r (col h j)) * C (ix2 r (col h j)) + twin (fun j => N (ix2 r (col h j))) j * S (ix2 r (col h j)) := by
  unfold RT
  pointwise [k0_pay17, k0_pay16]
  rw [show IntOp.cmpi CmpIPredicate.slt (IntOp.andi (BitVec.ofNat 32 (64 * h.val + j.val)) 31#32) 16#32 = _ from
    Cert.Qk.low_word (col h j)]
  have e : (64 * h.val + j.val) % 32 = j.val % 32 := by omega
  refine congrArg (fun a => N (ix2 r (col h j)) * C (ix2 r (col h j)) + a * S (ix2 r (col h j))) ?_
  unfold twin
  by_cases hl : j.val % 32 < 16
  · rw [if_pos hl, decide_eq_true (by simpa only [e] using hl)]
    exact congrArg (fun n => N (ix2 r n)) (Fin.ext (by simp; omega))
  · rw [if_neg hl, decide_eq_false (by simpa only [e] using hl)]
    exact congrArg (fun n => N (ix2 r n)) (Fin.ext (by simp; omega))

theorem idx : ∀ t : Fin cfg0.N, win0_0.index t = ![t.val, 0] ∧ win0_1.index t = ![t.val, 2] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![0, t.val, 0] ∧ win0_9.index t = ![0, t.val, 0]
    ∧ win0_10.index t = ![0, t.val, 0] ∧ win0_11.index t = ![0, t.val, 0] :=
  (by decide +kernel : ∀ t : Fin grid0.N, _)

variable (m : (ℓ : Loc nD τ sig) → Buf (Elt Ideal) ℓ) (c : Dev nD) (t : Fin cfg0.N) (r : Fin 512) (h : Fin 8) (j : Fin 64)

abbrev X : FVec Ideal S2048x4096 .f32 := m ((c : Thread nD τ).loc main_arg0)
abbrev GQ : FVec Ideal S1x64 .f32 := m ((c : Thread nD τ).loc main_arg1)
abbrev GK : FVec Ideal S1x64 .f32 := m ((c : Thread nD τ).loc main_arg2)

theorem V_gq : V m c main_v2 (ix2 0 (col h j)) = GQ m c (ix2 0 j) := by
  unfold V; after_results; pointwise []
  exact congrArg (fun i => GQ m c (ix2 0 i)) (Cert.Qk.cl_col h j)

theorem V_gk : V m c main_v5 (ix2 0 (col h j)) = GK m c (ix2 0 j) := by
  unfold V; after_results; pointwise []
  exact congrArg (fun i => GK m c (ix2 0 i)) (Cert.Qk.cl_col h j)

/-- The tables of the grid's columns, and of its rows. -/
theorem V_cc (r : Fin 64) : V m c main_v29 (ix2 r (col h j))
    = (if j.val < 32 then 0 else Ideal.cos (pos r.val * freq (j.val % 16)) : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.cos (pos r.val * freq i)) (by omega)

theorem V_sc (r : Fin 64) : V m c main_v34 (ix2 r (col h j))
    = (if j.val < 32 then 0 else if j.val % 32 < 16 then -Ideal.sin (pos r.val * freq (j.val % 16))
        else Ideal.sin (pos r.val * freq (j.val % 16)) : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.sin (pos r.val * freq i)) (by omega)
    | exact congrArg (fun i => -Ideal.sin (pos r.val * freq i)) (by omega)

theorem V_cr (r : Fin 256) : V m c main_v46 (ix2 r (col h j))
    = (if j.val < 32 then Ideal.cos (pos (r.val / 8) * freq (j.val % 16)) else 0 : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.cos (pos (r.val / 8) * freq i)) (by omega)

theorem V_sr (r : Fin 256) : V m c main_v49 (ix2 r (col h j))
    = (if j.val < 32 then if j.val % 32 < 16 then -Ideal.sin (pos (r.val / 8) * freq (j.val % 16))
        else Ideal.sin (pos (r.val / 8) * freq (j.val % 16)) else 0 : EReal) := by
  unfold V; after_results
  dsimp only [Matrix.cons_val]
  simp only [↓ StableHlo.readResult, ↓ StableHlo.readPieces]; pointwise []
  have e : (64 * h.val + j.val) % 64 = j.val := by omega
  simp only [e]
  split_ifs <;> first
    | omega
    | rfl
    | exact congrArg (fun i => Ideal.sin (pos (r.val / 8) * freq i)) (by omega)
    | exact congrArg (fun i => -Ideal.sin (pos (r.val / 8) * freq i)) (by omega)

/-- Row `r` of block `t` is the array's row `512 * t + r`. -/
abbrev at_ (t : Fin cfg0.N) (r : Fin 512) : Fin 2048 := ⟨512 * t.val + r.val, by have : t.val < 4 := t.isLt; omega⟩
/-- Row `r` of the tables' block. -/
abbrev gr (t : Fin cfg0.N) (r : Fin 64) : Fin 256 := ⟨64 * t.val + r.val, by have : t.val < 4 := t.isLt; omega⟩

theorem blk0 (n : Fin 1024) : iblk m c 0 t (ix2 r n) = X m c (ix2 (at_ t r) ⟨n.val, by omega⟩) := by
  blk_ext! [iblk, V, idx t]
theorem blk1 (n : Fin 512) : iblk m c 1 t (ix2 r n) = X m c (ix2 (at_ t r) ⟨1024 + n.val, by omega⟩) := by
  blk_ext! [iblk, V, idx t]
theorem blk2 (n : Fin 512) : iblk m c 2 t (ix2 0 n) = V m c main_v2 (ix2 0 n) := by blk_ext! [iblk, idx t]
theorem blk3 (n : Fin 512) : iblk m c 3 t (ix2 0 n) = V m c main_v5 (ix2 0 n) := by blk_ext! [iblk, idx t]
theorem blk4 (r : Fin 64) (n : Fin 512) : View.ld (iblk m c 4 t) r0_8 (ix2 r n) = V m c main_v29 (ix2 r n) :=
  (Cert.Qk.cp_at _ r n).trans (by blk_ext! [iblk, idx t])
theorem blk5 (r : Fin 64) (n : Fin 512) : iblk m c 5 t (ix2 r n) = V m c main_v46 (ix2 (gr t r) n) := by blk_ext! [iblk, idx t]
theorem blk6 (r : Fin 64) (n : Fin 512) : View.ld (iblk m c 6 t) r0_8 (ix2 r n) = V m c main_v34 (ix2 r n) :=
  (Cert.Qk.cp_at _ r n).trans (by blk_ext! [iblk, idx t])
theorem blk7 (r : Fin 64) (n : Fin 512) : iblk m c 7 t (ix2 r n) = V m c main_v49 (ix2 (gr t r) n) := by blk_ext! [iblk, idx t]

/-- The block's cosines and sines. -/
abbrev CS : FVec Ideal S512x512 .f32 := Cert.Qk.tab (View.ld (iblk m c 4 t) r0_8) (iblk m c 5 t)
abbrev SN : FVec Ideal S512x512 .f32 := Cert.Qk.tab (View.ld (iblk m c 6 t) r0_8) (iblk m c 7 t)

theorem CS_at : CS m c t (ix2 r (col h j)) = Ideal.cos (ang (at_ t r).val j) := by
  obtain ⟨a, b, rfl⟩ := exists_col r
  refine (Cert.Qk.tab_at _ _ a b _).trans ?_
  rw [blk4, blk5, V_cc, V_cr]
  unfold ang
  have e1 : (512 * t.val + (64 * a.val + b.val)) / 64 = (64 * t.val + (8 * a.val + b.val % 8)) / 8 := by omega
  have e2 : (512 * t.val + (64 * a.val + b.val)) % 64 = b.val := by omega
  simp only [e1, e2]
  split_ifs
  · rw [zero_add]
  · rw [add_zero]

theorem SN_at : SN m c t (ix2 r (col h j))
    = if j.val % 32 < 16 then -Ideal.sin (ang (at_ t r).val j) else Ideal.sin (ang (at_ t r).val j) := by
  obtain ⟨a, b, rfl⟩ := exists_col r
  refine (Cert.Qk.tab_at _ _ a b _).trans ?_
  rw [blk6, blk7, V_sc, V_sr]
  unfold ang
  have e1 : (512 * t.val + (64 * a.val + b.val)) / 64 = (64 * t.val + (8 * a.val + b.val % 8)) / 8 := by omega
  have e2 : (512 * t.val + (64 * a.val + b.val)) % 64 = b.val := by omega
  simp only [e1, e2]
  split_ifs
  · rw [zero_add]
  · rw [zero_add]
  · rw [add_zero]
  · rw [add_zero]

/-- The block's queries and keys, its gains, its values. -/
abbrev XQ : Vec Ideal S512x512 .f32 := View.ld (iblk m c 0 t) r0_9
abbrev XK : Vec Ideal S512x512 .f32 := View.ld (iblk m c 0 t) r0_10
abbrev G2 : Vec Ideal S1x512 .f32 := View.ld (iblk m c 2 t) r0_11
abbrev G3 : Vec Ideal S1x512 .f32 := View.ld (iblk m c 3 t) r0_11
abbrev XV : Vec Ideal S512x512 .f32 := View.ld (iblk m c 1 t) r0_12

theorem XQ_at : XQ m c t (ix2 r (col h j)) = headRow 0 (by omega) (X m c) (at_ t r) h j :=
  (View.ld_unit_apply_of _ _ _ _ _ (ix2 r ⟨0 + (64 * h.val + j.val), by omega⟩)
    (by intro a; fin_cases a <;> first | rfl | exact (Nat.zero_add _).symm)).trans (blk0 m c t r _)
theorem XK_at : XK m c t (ix2 r (col h j)) = headRow 512 (by omega) (X m c) (at_ t r) h j :=
  (View.ld_unit_apply_of _ _ _ _ _ (ix2 r ⟨512 + (64 * h.val + j.val), by omega⟩)
    (by intro a; fin_cases a <;> first | rfl | exact (Nat.zero_add _).symm)).trans (blk0 m c t r _)
theorem XV_at : XV m c t (ix2 r (col h j)) = headRow 1024 le_rfl (X m c) (at_ t r) h j :=
  (View.ld_unit_apply_of _ _ _ _ _ (ix2 r (col h j))
    (by intro a; fin_cases a <;> exact (Nat.zero_add _).symm)).trans (blk1 m c t r _)
theorem G2_at : G2 m c t (ix2 0 (col h j)) = GQ m c (ix2 0 j) :=
  (View.ld_unit_apply_of _ _ _ _ _ (ix2 0 (col h j))
    (by intro a; fin_cases a <;> exact (Nat.zero_add _).symm)).trans ((blk2 m c t _).trans (V_gq m c h j))
theorem G3_at : G3 m c t (ix2 0 (col h j)) = GK m c (ix2 0 j) :=
  (View.ld_unit_apply_of _ _ _ _ _ (ix2 0 (col h j))
    (by intro a; fin_cases a <;> exact (Nat.zero_add _).symm)).trans ((blk3 m c t _).trans (V_gk m c h j))

theorem real_of (Y : FVec Ideal S512x512 .f32) (o : Nat) (ho : o ≤ 1024) (hX : ∀ i, IsReal (X m c i))
    (hY : ∀ r h j, Y (ix2 r (col h j)) = headRow o ho (X m c) (at_ t r) h j) (i) : IsReal (Y i) := by
  obtain ⟨r, n, rfl⟩ : ∃ k l, i = ix2 k l := ⟨i 0, i 1, by ext j; fin_cases j <;> rfl⟩
  obtain ⟨h, j, rfl⟩ := exists_col n
  rw [hY]
  exact hX _

/-- The normed queries and keys, and either's rotation. -/
theorem NQ_at (hX : ∀ i, IsReal (X m c i)) : ND (XQ m c t) (G2 m c t) (ix2 r (col h j))
    = normed 0 (by omega) (X m c) (GQ m c) (at_ t r) h j := by
  rw [norm_at _ _ (real_of m c t _ 0 (by omega) hX (XQ_at m c t))]
  simp only [XQ_at, G2_at]
  rfl
theorem NK_at (hX : ∀ i, IsReal (X m c i)) : ND (XK m c t) (G3 m c t) (ix2 r (col h j))
    = normed 512 (by omega) (X m c) (GK m c) (at_ t r) h j := by
  rw [norm_at _ _ (real_of m c t _ 512 (by omega) hX (XK_at m c t))]
  simp only [XK_at, G3_at]
  rfl
theorem RT_at (N : FVec Ideal S512x512 .f32) (f : Fin 2048 → Fin 8 → Fin 64 → EReal)
    (hN : ∀ r h j, N (ix2 r (col h j)) = f (at_ t r) h j) :
    RT (CS m c t) (SN m c t) N (ix2 r (col h j)) = spin (at_ t r).val (f (at_ t r) h) j := by
  rw [spin_at, CS_at, SN_at]
  simp only [hN]
  rfl

/-- The heads of a block's array, one after the other. -/
theorem heads_at (P : FVec Ideal S512x512 .f32) : E11 (F := Ideal) P (ix3 h r j) = P (ix2 r (col h j)) := by
  refine congrArg P (funext fun a => ?_)
  fin_cases a
  · rfl
  · exact Fin.ext (by show h.val * 64 + j.val = 64 * h.val + j.val; omega)

section
variable (x0 : Vec Ideal S512x1024 .f32) (x1 : Vec Ideal S512x512 .f32) (x2 x3 : Vec Ideal S1x512 .f32)
  (x4 x5 x6 x7 : Vec Ideal S64x512 .f32)

theorem ones_eq : k0_pay6 (F := Ideal) k0_pay2 k0_pay3 k0_pay4 k0_pay5 = Cert.Qk.B := rfl
theorem cos_eq : k0_pay55 x0 x1 x2 x3 x4 x5 x6 x7 = Cert.Qk.tab (View.ld x4 r0_8) x5 := by
  unfold k0_pay55
  rfl
theorem sin_eq : k0_pay56 x0 x1 x2 x3 x4 x5 x6 x7 = Cert.Qk.tab (View.ld x6 r0_8) x7 := by
  unfold k0_pay56
  rfl
theorem spun_eq (C S : FVec Ideal S512x512 .f32) (Y : Vec Ideal S512x512 .f32) (G : Vec Ideal S1x512 .f32) :
    k0_pay13 C S Y (k0_pay10 Cert.Qk.B Y) (Scalar.ofBits .f32 0x3C800000#32) G
      = mulf (RT C S (ND Y G)) (broadcast S512x512 (Scalar.ofBits .f32 0x3E000000#32)) := rfl
theorem queries_eq : k0_pay60 x0 x1 x2 x3 x4 x5 x6 x7 = mulf (RT (Cert.Qk.tab (View.ld x4 r0_8) x5) (Cert.Qk.tab (View.ld x6 r0_8) x7)
    (ND (View.ld x0 r0_9) (View.ld x2 r0_11))) (broadcast S512x512 (Scalar.ofBits .f32 0x3E000000#32)) := by
  unfold k0_pay60 k0_pay57 k0_pay54
  rw [ones_eq, cos_eq, sin_eq, spun_eq]
theorem turned_eq : k0_pay64 x0 x1 x2 x3 x4 x5 x6 x7 = RT (Cert.Qk.tab (View.ld x4 r0_8) x5) (Cert.Qk.tab (View.ld x6 r0_8) x7)
    (ND (View.ld x0 r0_10) (View.ld x3 r0_11)) := by
  unfold k0_pay64 k0_pay59 k0_pay62 k0_pay58 k0_pay63 k0_pay54 k0_pay15
  rw [ones_eq, cos_eq, sin_eq]
end

variable {m c t r h j}

theorem point8 (hX : ∀ i, IsReal (X m c i)) : out0_8 (iblk m c 0 t) (iblk m c 1 t) (iblk m c 2 t) (iblk m c 3 t) (iblk m c 4 t)
    (iblk m c 5 t) (iblk m c 6 t) (iblk m c 7 t) (ix3 h r j) = rotated (X m c) (GQ m c) (ix3 h (at_ t r) j) := by
  refine (canon11_eq (k0_pay60 (iblk m c 0 t) (iblk m c 1 t) (iblk m c 2 t) (iblk m c 3 t) (iblk m c 4 t)
    (iblk m c 5 t) (iblk m c 6 t) (iblk m c 7 t)) (ix3 h r j)).trans ((heads_at r h j _).trans ?_)
  rw [queries_eq, rotated_at]
  exact congrArg (· * eighth) (RT_at m c t r h j _ (normed 0 (by omega) (X m c) (GQ m c)) (fun r h j => NQ_at m c t r h j hX))

theorem point9 (hX : ∀ i, IsReal (X m c i)) : out0_9 (iblk m c 0 t) (iblk m c 1 t) (iblk m c 2 t) (iblk m c 3 t) (iblk m c 4 t)
    (iblk m c 5 t) (iblk m c 6 t) (iblk m c 7 t) (ix3 h r j) = plain (X m c) (GQ m c) (ix3 h (at_ t r) j) := by
  refine (canon11_eq (k0_pay61 (iblk m c 0 t) (iblk m c 1 t) (iblk m c 2 t) (iblk m c 3 t) (iblk m c 4 t)
    (iblk m c 5 t) (iblk m c 6 t) (iblk m c 7 t)) (ix3 h r j)).trans ((heads_at r h j _).trans ?_)
  show ND (XQ m c t) (G2 m c t) (ix2 r (col h j)) * eighth = _
  rw [NQ_at m c t r h j hX]
  rfl

theorem point10 (hX : ∀ i, IsReal (X m c i)) : out0_10 (iblk m c 0 t) (iblk m c 1 t) (iblk m c 2 t) (iblk m c 3 t) (iblk m c 4 t)
    (iblk m c 5 t) (iblk m c 6 t) (iblk m c 7 t) (ix3 h r j) = keys (X m c) (GK m c) (ix3 h (at_ t r) j) := by
  refine (canon11_eq (k0_pay64 (iblk m c 0 t) (iblk m c 1 t) (iblk m c 2 t) (iblk m c 3 t) (iblk m c 4 t)
    (iblk m c 5 t) (iblk m c 6 t) (iblk m c 7 t)) (ix3 h r j)).trans ((heads_at r h j _).trans ?_)
  rw [turned_eq, keys_at]
  exact RT_at m c t r h j _ (normed 512 (by omega) (X m c) (GK m c)) (fun r h j => NK_at m c t r h j hX)

theorem point11 : out0_11 (iblk m c 0 t) (iblk m c 1 t) (iblk m c 2 t) (iblk m c 3 t) (iblk m c 4 t)
    (iblk m c 5 t) (iblk m c 6 t) (iblk m c 7 t) (ix3 h r j) = vals (X m c) (ix3 h (at_ t r) j) := by
  unfold_out out0_11
  refine (canon11_eq (XV m c t) (ix3 h r j)).trans ((heads_at r h j _).trans ?_)
  exact XV_at m c t r h j

variable (m c)

theorem final8 (hX : ∀ i, IsReal (X m c i)) : (dats m 0 c).arrAt 8 cfg0.N = rotated (X m c) (GQ m c) := by
  refine (dats m 0 c).arrAt_eq_of_covers 8 _ (by decide +kernel) fun t hf y => ?_
  blk_simp
  rw [after0_8]
  obtain ⟨h, k, j, rfl⟩ : ∃ h k j, y = ix3 h k j := ⟨y 0, y 1, y 2, by ext i; fin_cases i <;> rfl⟩
  rw [point8 hX]
  exact congrArg (rotated (X m c) (GQ m c)) (by blk_ext! [idx t])

theorem final9 (hX : ∀ i, IsReal (X m c i)) : (dats m 0 c).arrAt 9 cfg0.N = plain (X m c) (GQ m c) := by
  refine (dats m 0 c).arrAt_eq_of_covers 9 _ (by decide +kernel) fun t hf y => ?_
  blk_simp
  rw [after0_9]
  obtain ⟨h, k, j, rfl⟩ : ∃ h k j, y = ix3 h k j := ⟨y 0, y 1, y 2, by ext i; fin_cases i <;> rfl⟩
  rw [point9 hX]
  exact congrArg (plain (X m c) (GQ m c)) (by blk_ext! [idx t])

theorem final10 (hX : ∀ i, IsReal (X m c i)) : (dats m 0 c).arrAt 10 cfg0.N = keys (X m c) (GK m c) := by
  refine (dats m 0 c).arrAt_eq_of_covers 10 _ (by decide +kernel) fun t hf y => ?_
  blk_simp
  rw [after0_10]
  obtain ⟨h, k, j, rfl⟩ : ∃ h k j, y = ix3 h k j := ⟨y 0, y 1, y 2, by ext i; fin_cases i <;> rfl⟩
  rw [point10 hX]
  exact congrArg (keys (X m c) (GK m c)) (by blk_ext! [idx t])

theorem final11 : (dats m 0 c).arrAt 11 cfg0.N = vals (X m c) := by
  refine (dats m 0 c).arrAt_eq_of_covers 11 _ (by decide +kernel) fun t hf y => ?_
  blk_simp
  rw [after0_11]
  obtain ⟨h, k, j, rfl⟩ : ∃ h k j, y = ix3 h k j := ⟨y 0, y 1, y 2, by ext i; fin_cases i <;> rfl⟩
  rw [point11]
  exact congrArg (vals (X m c)) (by blk_ext! [idx t])

end Kernel

section Reference

open Cert.Reference12Ideal Cert.Reference12Ideal.Gen Cert.Reference12Ideal.Value Cert.Reference12Ideal.Read

variable (x : FVec Ideal S2048x4096 .f32) (gq gk : FVec Ideal S1x64 .f32) (s : Fin 2048) (h : Fin 8) (j : Fin 64)

theorem ref_ang (a : Fin 2) (f : Fin 16) : val_main_v54 (F := Ideal) (ix3 s a f)
    = pos (if a.val < 1 then s.val / 64 else s.val % 64) * freq f.val := Cert.Qk.ref_ang s a f

/-- The second copy of the angles is the first. -/
theorem again : val_main_v101 (F := Ideal) = val_main_v54 := rfl

theorem ref_xq : val_main_v3 (F := Ideal) x (ix3 s h j) = headRow 0 (by omega) x s h j := by
  pointwise [val_main_v3, val_main_v0]
  exact congrArg (fun i => x (ix2 s i)) (Fin.ext (by simp only []; omega))

theorem ref_xk : val_main_v17 (F := Ideal) x (ix3 s h j) = headRow 512 (by omega) x s h j := by
  pointwise [val_main_v17, val_main_v1]
  exact congrArg (fun i => x (ix2 s i)) (Fin.ext (by simp only []; omega))

theorem ref_nq : val_main_v16 (F := Ideal) x gq (ix3 s h j) = normed 0 (by omega) x gq s h j := by
  pointwise [val_main_v16, val_main_v15, val_main_v14, val_main_v13, val_main_v12, val_main_v11, val_main_v10, val_main_v9,
    val_main_cst_1, val_main_v8, val_main_v7, val_main_cst_0, val_main_v6, val_main_v5, val_main_cst, val_main_v4]
  simp only [ref_xq]
  rfl

theorem ref_nk : val_main_v30 (F := Ideal) x gk (ix3 s h j) = normed 512 (by omega) x gk s h j := by
  pointwise [val_main_v30, val_main_v29, val_main_v28, val_main_v27, val_main_v26, val_main_v25, val_main_v24, val_main_v23,
    val_main_cst_4, val_main_v22, val_main_v21, val_main_cst_3, val_main_v20, val_main_v19, val_main_cst_2, val_main_v18]
  simp only [ref_xk]
  rfl

/-- The rotation, as the reference's five axes give it. -/
theorem spin_form (d : Fin 64 → EReal) :
    (d j * Ideal.cos (pos (if j.val / 32 < 1 then s.val / 64 else s.val % 64) * freq (j.val % 16)) +
      (if j.val / 16 % 2 < 1 then -d ⟨j.val / 32 * 32 + 16 + j.val % 16, by omega⟩ else d ⟨j.val / 32 * 32 + j.val % 16, by omega⟩) *
        Ideal.sin (pos (if j.val / 32 < 1 then s.val / 64 else s.val % 64) * freq (j.val % 16))) = spin s.val d j := by
  have e : ang s.val j = pos (if j.val / 32 < 1 then s.val / 64 else s.val % 64) * freq (j.val % 16) := by
    unfold ang
    congr 2
    split_ifs <;> omega
  unfold spin twin
  simp only [← e]
  by_cases h1 : j.val % 32 < 16
  · rw [if_pos (by omega), if_pos h1, if_pos h1, neg_mul, ← mul_neg]
    exact congrArg (fun i => _ + d i * _) (Fin.ext (by simp only []; omega))
  · rw [if_neg (by omega), if_neg h1, if_neg h1]
    exact congrArg (fun i => _ + d i * _) (Fin.ext (by simp only []; omega))

theorem ref_rq : val_main_v73 (F := Ideal) x gq (ix3 s h j) = spin s.val (normed 0 (by omega) x gq s h) j := by
  pointwise [val_main_v73, val_main_v72, val_main_v71, val_main_v70, val_main_v69, val_main_v68, val_main_v67, val_main_v66,
    val_main_v65, val_main_v64, val_main_v63, val_main_v62, val_main_v61, val_main_v60, val_main_v59, val_main_v58,
    val_main_v57, val_main_v56, val_main_v55]
  simp only [ref_ang, ref_nq]
  exact spin_form s j (normed 0 (by omega) x gq s h)

theorem ref_rk : val_main_v120 (F := Ideal) x gk (ix3 s h j) = spin s.val (normed 512 (by omega) x gk s h) j := by
  pointwise [val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103, val_main_v102]
  simp only [again, ref_ang, ref_nk]
  exact spin_form s j (normed 512 (by omega) x gk s h)

theorem rotated_eq : val_main_v123 (F := Ideal) x gq = rotated x gq := by
  funext i
  obtain ⟨h, s, j, rfl⟩ : ∃ h s j, i = ix3 h s j := ⟨i 0, i 1, i 2, by ext j; fin_cases j <;> rfl⟩
  pointwise [val_main_v123, val_main_v122, val_main_v75, val_main_v74, val_main_cst_8]
  rw [ref_rq]
  rfl

theorem plain_eq : val_main_v125 (F := Ideal) x gq = plain x gq := by
  funext i
  obtain ⟨h, s, j, rfl⟩ : ∃ h s j, i = ix3 h s j := ⟨i 0, i 1, i 2, by ext j; fin_cases j <;> rfl⟩
  pointwise [val_main_v125, val_main_v124, val_main_v77, val_main_v76, val_main_cst_9]
  rw [ref_nq]
  rfl

theorem keys_eq : val_main_v127 (F := Ideal) x gk = keys x gk := by
  funext i
  obtain ⟨h, s, j, rfl⟩ : ∃ h s j, i = ix3 h s j := ⟨i 0, i 1, i 2, by ext j; fin_cases j <;> rfl⟩
  pointwise [val_main_v127, val_main_v126]
  exact ref_rk x gk s h j

theorem vals_eq : val_main_v129 (F := Ideal) x = vals x := by
  funext i
  obtain ⟨h, s, j, rfl⟩ : ∃ h s j, i = ix3 h s j := ⟨i 0, i 1, i 2, by ext j; fin_cases j <;> rfl⟩
  pointwise [val_main_v129, val_main_v128, val_main_v121, val_main_v2]
  refine congrArg (fun i => x (ix2 s i)) (Fin.ext ?_)
  show 1024 + (h.val * 64 + j.val) = 1024 + (64 * h.val + j.val)
  omega

/-- The reference's frame: its run read at the arguments; it declares no semaphore. -/
theorem frame_reference : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- Kernel and reference return the same arrays. -/
theorem algebraic : Cert.algebraic_Kernel12Ideal_Reference12Ideal_pre_heads_finite := by
  intro m ρ m' ρ' hpre hagree
  have real (c : Dev Cert.Kernel12Ideal.nD) : ∀ i, IsReal (X m c i) :=
    fun i => IsReal.of_cmpf _ _ i IsReal.inf_f32 (congrFun (hpre c) i)
  refine ⟨_, _, _, _, (θ_run Cert.Kernel12Ideal.defs _ _).mono (fun r h c => ⟨(h c).1.trans (final8 m c (real c)),
      (h c).2.1.trans (final9 m c (real c)), (h c).2.2.1.trans (final10 m c (real c)), (h c).2.2.2.1.trans (final11 m c),
      (h c).2.2.2.2⟩) (Cert.Kernel12Ideal.Value.run_blocks m ρ),
    (θ_run Cert.Reference12Ideal.defs _ _).mono (fun r h c => ⟨(h c).1.trans ?_, (h c).2.1.trans ?_, (h c).2.2.1.trans ?_,
      (h c).2.2.2.1.trans ?_, (h c).2.2.2.2⟩) (Cert.Reference12Ideal.Value.run (F := Ideal) m' ρ')⟩
  · exact ((val_main_v123_eq _).trans (congrArg₂ _ (hagree c).1 (hagree c).2.1)).trans (rotated_eq _ _)
  · exact ((val_main_v125_eq _).trans (congrArg₂ _ (hagree c).1 (hagree c).2.1)).trans (plain_eq _ _)
  · exact ((val_main_v127_eq _).trans (congrArg₂ _ (hagree c).1 (hagree c).2.2)).trans (keys_eq _ _)
  · exact ((val_main_v129_eq _).trans (congrArg _ (hagree c).1)).trans (vals_eq _)

end Reference

end Cert.QkFwd
end
-- ==== Proof.Adaln.Pair.lean ====
/-
  The modulation's shard: kernel and reference return the same `silu` of the conditions and the same product with the
  shard's weights, on all arguments.
-/
module

public import proofs.«01_k».proof.Defs
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit

@[expose] public section

set_option maxRecDepth 16384

noncomputable section

namespace Cert.Adaln

open Idealize.ShloMosaic Idealize.ShloMosaic.TcCoe Idealize.SL.Sem
open Cert.Reference13Ideal Cert.Reference13Ideal.Gen Cert.Reference13Ideal.Value Cert.Reference13Ideal.Read

variable (a : FVec Ideal S16x1024 .f32) (b : FVec Ideal S1024x768 .f32)

/-- The conditions' `silu` is the kernel's. -/
theorem silu_eq : val_main_v0 (F := Ideal) a = Cert.Kernel13Ideal.Value.G3 (F := Ideal) a b := by
  funext i
  obtain ⟨r, l, rfl⟩ : ∃ r l, i = ix2 r l := ⟨i 0, i 1, by ext j; fin_cases j <;> rfl⟩
  pointwise [val_main_v0, val_main_call0_v5, val_main_call0_v4, val_main_call0_v3, val_main_call0_v2, val_main_call0_v1,
    val_main_call0_v0, val_main_call0_cst, val_main_call0_cst_0, Cert.Kernel13Ideal.Gen.k0_pay1]
  rfl

/-- The product with the shard's weights is the kernel's. -/
theorem product_eq : val_main_v1 (F := Ideal) a b = Cert.Kernel13Ideal.Value.G2 (F := Ideal) a b := by
  have h : val_main_v0 (F := Ideal) a = Cert.Kernel13Ideal.Gen.k0_pay1 (F := Ideal) a :=
    silu_eq a b
  funext i
  obtain ⟨r, l, rfl⟩ : ∃ r l, i = ix2 r l := ⟨i 0, i 1, by ext j; fin_cases j <;> rfl⟩
  pointwise [val_main_v1, Cert.Kernel13Ideal.Gen.k0_pay2]
  rw [h]

/-- The reference's frame: its run read at the arguments; it declares no semaphore. -/
theorem frame_reference : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

/-- Kernel and reference return the same arrays. -/
theorem algebraic : Cert.algebraic_Kernel13Ideal_Reference13Ideal := by
  intro m ρ m' ρ' _ hagree
  refine ⟨_, _, Cert.Kernel13Ideal.Value.run m ρ,
    (θ_run Cert.Reference13Ideal.defs _ _).mono (fun r h c => ⟨(h c).1.trans ?_, (h c).2.1.trans ?_, (h c).2.2⟩)
      (Cert.Reference13Ideal.Value.run (F := Ideal) m' ρ')⟩
  · rw [val_main_v1_eq, (hagree c).1, (hagree c).2]
    exact product_eq _ _
  · rw [val_main_v0_eq, (hagree c).1]
    exact silu_eq _ _

end Cert.Adaln
end
-- ==== Proof.CtxProj.Pair.lean ====
/-
  The context's projection to keys and values: the kernel's two products, one for each half of its result's columns, are
  the reference's one, on all arguments.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

namespace Cert.CtxProj

open Idealize.ShloMosaic Idealize.ShloMosaic.TcCoe Idealize.SL.Sem
open Idealize.ShloMosaic.Pipeline (Dat)

/-- The product with the weights' columns from 512 on. -/
def prod (x : FVec Ideal Cert.Kernel14Ideal.S256x1024 .bf16) (w : FVec Ideal Cert.Kernel14Ideal.S1024x4096 .f32) :
    FVec Ideal Cert.Kernel14Ideal.S256x1024 .f32 := fun i =>
  ∑ k : Fin 1024, x (ix2 (i 0) k) * w (ix2 k ⟨512 + (i 1).val, by have : (i 1).val < 1024 := (i 1).isLt; omega⟩)

section Kernel

open Cert.Kernel14Ideal Cert.Kernel14Ideal.Gen Cert.Kernel14Ideal.Value

theorem idx : ∀ t : Fin cfg0.N, win0_0.index t = ![0, 0] ∧ win0_1.index t = ![0, 0, 0] ∧ win0_2.index t = ![1, 0, 0]
    ∧ win0_3.index t = ![0, 0] :=
  (by decide +kernel : ∀ t : Fin grid0.N, _)

variable (m : (ℓ : Loc nD τ sig) → Buf (Elt Ideal) ℓ) (c : Dev nD) (t : Fin cfg0.N) (r : Fin 256) (k : Fin 1024)

abbrev X : FVec Ideal S256x1024 .bf16 := m ((c : Thread nD τ).loc main_arg0)
abbrev W : FVec Ideal S1024x4096 .f32 := m ((c : Thread nD τ).loc main_arg1)

theorem V_w (i : Fin 4) (n : Fin 1024) : V m c main_v2 (ix3 i k n) = W m c (ix2 k ⟨i.val * 1024 + n.val, by omega⟩) := by
  unfold V; after_results; pointwise []

theorem blk0 : iblk m c 0 t (ix2 r k) = X m c (ix2 r k) := by blk_ext! [iblk, V, idx t]
theorem blk1 (n : Fin 1024) : iblk m c 1 t (ix3 0 k n) = V m c main_v2 (ix3 0 k n) := by blk_ext! [iblk, idx t]
theorem blk2 (n : Fin 1024) : iblk m c 2 t (ix3 0 k n) = V m c main_v2 (ix3 1 k n) := by blk_ext! [iblk, idx t]

theorem X_at : View.ld (iblk m c 0 t) r0_0 (ix2 r k) = X m c (ix2 r k) :=
  (View.ld_unit_apply_of _ _ _ _ _ _ (by intro a; fin_cases a <;> exact (Nat.zero_add _).symm)).trans (blk0 m c t r k)

theorem keys_at (n : Fin 512) : View.ld (iblk m c 1 t) r0_1 (ix3 0 k n) = W m c (ix2 k ⟨512 + n.val, by omega⟩) :=
  (View.ld_unit_apply_of (i := ix3 0 k ⟨512 + n.val, by omega⟩) _ _ _ _ _
    (by intro a; fin_cases a <;> first | rfl | exact (Nat.zero_add _).symm)).trans
    ((blk1 m c t k _).trans ((V_w m c k 0 _).trans (congrArg (fun i => W m c (ix2 k i)) (Fin.ext (by show 0 * 1024 + (512 + n.val) = 512 + n.val; omega)))))

theorem vals_at (n : Fin 512) : View.ld (iblk m c 2 t) r0_3 (ix3 0 k n) = W m c (ix2 k ⟨1024 + n.val, by omega⟩) :=
  (View.ld_unit_apply_of (i := ix3 0 k ⟨n.val, by omega⟩) _ _ _ _ _
    (by intro a; fin_cases a <;> first | rfl | exact (Nat.zero_add _).symm)).trans
    ((blk2 m c t k _).trans ((V_w m c k 1 _).trans (congrArg (fun i => W m c (ix2 k i)) (Fin.ext (by show 1 * 1024 + n.val = 1024 + n.val; omega)))))

theorem pay1_at (x : Vec Ideal S256x1024 .bf16) (w : Vec Ideal S1x1024x512 .bf16) (l : Fin 512) :
    k0_pay1 (F := Ideal) x w (ix2 r l) = ∑ k : Fin 1024, x (ix2 r k) * w (ix3 0 k l) := by pointwise [k0_pay1]

theorem pay2_at (x : Vec Ideal S256x1024 .bf16) (w : Vec Ideal S1x1024x512 .bf16) (l : Fin 512) :
    k0_pay2 (F := Ideal) x w (ix2 r l) = ∑ k : Fin 1024, x (ix2 r k) * w (ix3 0 k l) := by pointwise [k0_pay2]

theorem prod_congr (A : Vec Ideal S256x1024 .bf16) (B : Vec Ideal S1x1024x512 .bf16) (l : Fin 512) (n : Fin 1024)
    (x : FVec Ideal S256x1024 .bf16) (w : FVec Ideal S1024x4096 .f32) (hA : ∀ k : Fin 1024, A (ix2 r k) = x (ix2 r k))
    (hB : ∀ k : Fin 1024, B (ix3 0 k l) = w (ix2 k ⟨512 + n.val, by omega⟩)) :
    ∑ k : Fin 1024, A (ix2 r k) * B (ix3 0 k l) = prod x w (ix2 r n) :=
  Finset.sum_congr rfl fun k _ => congrArg₂ (· * ·) (hA k) (hB k)

theorem point3 (n : Fin 1024) : out0_3 (iblk m c 0 t) (iblk m c 1 t) (iblk m c 2 t) (ix2 r n) = prod (X m c) (W m c) (ix2 r n) := by
  unfold out0_3
  canon_tiles x hx
  all_goals
    obtain ⟨r', l, rfl⟩ : ∃ k l, x = ix2 k l := ⟨x 0, x 1, by ext j; fin_cases j <;> rfl⟩
    obtain rfl : r = r' := Fin.ext hx0
  · have e : n.val = 512 + l.val := hx1
    refine (pay2_at r _ _ l).trans (prod_congr r _ _ l n _ _ (X_at m c t r) fun k => (vals_at m c t k l).trans ?_)
    exact congrArg (fun i => W m c (ix2 k i)) (Fin.ext (by show 1024 + l.val = 512 + n.val; rw [e]; omega))
  · have e : n.val = l.val := hx1
    refine (pay1_at r _ _ l).trans (prod_congr r _ _ l n _ _ (X_at m c t r) fun k => (keys_at m c t k l).trans ?_)
    exact congrArg (fun i => W m c (ix2 k i)) (Fin.ext (by show 512 + l.val = 512 + n.val; rw [e]))

theorem final3 : (dats m 0 c).arrAt 3 cfg0.N = prod (X m c) (W m c) := by
  refine (dats m 0 c).arrAt_eq_of_covers 3 _ (by decide +kernel) fun t hf y => ?_
  blk_simp
  rw [after0_3]
  obtain ⟨r, n, rfl⟩ : ∃ k l, y = ix2 k l := ⟨y 0, y 1, by ext i; fin_cases i <;> rfl⟩
  rw [point3 m c t r n]
  exact congrArg (prod (X m c) (W m c)) (by blk_ext! [idx t])

end Kernel

section Reference

open Cert.Reference14Ideal Cert.Reference14Ideal.Gen Cert.Reference14Ideal.Value Cert.Reference14Ideal.Read

theorem ref_eq (x : FVec Ideal S256x1024 .bf16) (w : FVec Ideal S1024x4096 .f32) :
    val_main_v2 (F := Ideal) x w = prod x w := by
  funext i
  obtain ⟨r, n, rfl⟩ : ∃ k l, i = ix2 k l := ⟨i 0, i 1, by ext j; fin_cases j <;> rfl⟩
  pointwise [val_main_v2, val_main_v1, val_main_v0]
  rfl

/-- The reference's frame: its run read at the arguments; it declares no semaphore. -/
theorem frame_reference : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- Kernel and reference return the same array. -/
theorem algebraic : Cert.algebraic_Kernel14Ideal_Reference14Ideal := by
  intro m ρ m' ρ' _ hagree
  refine ⟨_, (θ_run Cert.Kernel14Ideal.defs _ _).mono (fun r h c => ⟨(h c).1.trans (final3 m c), (h c).2⟩)
      (Cert.Kernel14Ideal.Value.run_blocks m ρ),
    (θ_run Cert.Reference14Ideal.defs _ _).mono (fun r h c => ⟨(h c).1.trans ?_, (h c).2⟩)
      (Cert.Reference14Ideal.Value.run (F := Ideal) m' ρ')⟩
  rw [val_main_v2_eq, (hagree c).1, (hagree c).2]
  exact ref_eq _ _

end Reference

end Cert.CtxProj
end
-- ==== Proof.Adaln.Grad.lean ====
/-
  The gradient of the modulation's product: kernel and reference return the same weights' gradient and the same part of
  the conditions' gradient, on all arguments.
-/
module

public import proofs.«01_k».proof.Defs
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Reference15Ideal.Run
public import Idealize.ShloMosaic.Lib.Pipeline.ValueKit

@[expose] public section

set_option maxRecDepth 16384

noncomputable section

namespace Cert.AdalnGrad

open Idealize.ShloMosaic Idealize.ShloMosaic.TcCoe Idealize.SL.Sem
open Idealize.ShloMosaic.Pipeline (Dat)

/-- The weights' gradient. -/
def dw (s : FVec Ideal Cert.Kernel15Ideal.S16x1024 .f32) (d : FVec Ideal Cert.Kernel15Ideal.S16x3072 .f32) :
    FVec Ideal Cert.Kernel15Ideal.S1024x768 .f32 := fun i =>
  ∑ k : Fin 16, s (ix2 k (i 0)) * d (ix2 k ⟨(i 1).val, by have : (i 1).val < 768 := (i 1).isLt; omega⟩)

/-- The last eight conditions' gradient. -/
def ds (d : FVec Ideal Cert.Kernel15Ideal.S16x3072 .f32) (w : FVec Ideal Cert.Kernel15Ideal.S1024x768 .f32) :
    FVec Ideal Cert.Kernel15Ideal.S8x1024 .f32 := fun i =>
  ∑ k : Fin 768, d (ix2 ⟨8 + (i 0).val, by have : (i 0).val < 8 := (i 0).isLt; omega⟩ ⟨k.val, by omega⟩) * w (ix2 (i 1) k)

section Table

open Cert.Kernel15 Cert.Kernel15.Gen

variable {F : FTy → Type} [FloatOps F] (m : (ℓ : Loc nD τ sig) → Buf (Elt F) ℓ)

/-- The table names the first block of columns, so the blocks lie inside the array. -/
theorem ok : Ok m := by
  have e : tbl m 0 = fun _ => 0#32 := by unfold tbl V; after_results; rfl
  intro i
  have e : cc0_transform_1 inb_S1_S1_0 numel1_S1 (tbl m) i = ![0, 0] := by
    unfold cc0_transform_1 Pipeline.Prefetch.Contents.at
    rw [e]; rfl
  exact ⟨by rw [e]; decide, .inl rfl⟩

end Table

section Kernel

open Cert.Kernel15Ideal Cert.Kernel15Ideal.Gen

variable (m : (ℓ : Loc nD τ sig) → Buf (Elt Ideal) ℓ)

theorem first (i : grid0.Coords) : cc0_transform_1 inb_S1_S1_0 numel1_S1 (tbl m) i = ![0, 0] := by
  have e : tbl m 0 = fun _ => 0#32 := by unfold tbl V; after_results; rfl
  unfold cc0_transform_1 Pipeline.Prefetch.Contents.at
  rw [e]; rfl

/-- The same of the program over the reals. -/
theorem okI : Ok m := fun i => ⟨by rw [first]; decide, .inl rfl⟩

theorem pay1_at (s : Vec Ideal S16x1024 .f32) (d : Vec Ideal S16x768 .f32) (r : Fin 1024) (l : Fin 768) :
    k0_pay1 (F := Ideal) d s (ix2 r l) = ∑ k : Fin 16, s (ix2 k r) * d (ix2 k l) := by pointwise [k0_pay1]

theorem pay2_at (d : Vec Ideal S16x768 .f32) (w : Vec Ideal S1024x768 .f32) (r : Fin 8) (l : Fin 1024) :
    k0_pay2 (F := Ideal) d w (ix2 r l) = ∑ k : Fin 768, d (ix2 ⟨8 + r.val, by omega⟩ k) * w (ix2 l k) := by pointwise [k0_pay2]

variable (hO : Ok m) (c : Dev nD) (t : Fin (cfgM m hO).N)

theorem out3 : (outsAt0 m hO c t).1 = k0_pay1 (iblk m hO c 1 t) (iblk m hO c 0 t) := by
  unfold outsAt0
  frame_out
  exact congrArg₂ k0_pay1 (Memref.IsWhole.read_unread _ _) (Memref.IsWhole.read_unread _ _)

theorem out4 : (outsAt0 m hO c t).2 = k0_pay2 (iblk m hO c 1 t) (iblk m hO c 2 t) := by
  unfold outsAt0
  frame_out
  exact congrArg₂ k0_pay2 (Memref.IsWhole.read_unread _ _) (Memref.IsWhole.read_unread _ _)

theorem index (t : Fin (cfgM m hO).N) : ((cfgM m hO).win 0).index t = ![0, 0] ∧ ((cfgM m hO).win 1).index t = ![0, 0]
    ∧ ((cfgM m hO).win 2).index t = ![0, 0] ∧ ((cfgM m hO).win 3).index t = ![0, 0] ∧ ((cfgM m hO).win 4).index t = ![0, 0] :=
  ⟨rfl, first m (grid0.coords t), rfl, rfl, rfl⟩

theorem blk0 (k : Fin 16) (l : Fin 1024) : iblk m hO c 0 t (ix2 k l) = m ((c : Thread nD τ).loc main_arg0) (ix2 k l) := by
  blk_ext! [iblk, V, index m hO t]

theorem blk1 (k : Fin 16) (l : Fin 768) :
    iblk m hO c 1 t (ix2 k l) = m ((c : Thread nD τ).loc main_arg1) (ix2 k ⟨l.val, by omega⟩) := by
  blk_ext! [iblk, V, index m hO t]

theorem blk2 (k : Fin 1024) (l : Fin 768) : iblk m hO c 2 t (ix2 k l) = m ((c : Thread nD τ).loc main_arg2) (ix2 k l) := by
  blk_ext! [iblk, V, index m hO t]

theorem covers3 : ((cfgM m hO).win 3).Covers := by
  refine ⟨(by decide : ∀ a : Fin 2, 0 < S1024x768.size a), fun β => ⟨⟨0, (by decide : 0 < grid0.N)⟩, flush0_3 _ _, fun a => ⟨?_, .inl rfl⟩⟩⟩
  have h : ((cfgM m hO).win 3).nblk a = 1 :=
    (by decide : ∀ a : Fin 2, (S1024x768.size a + S1024x768.size a - 1) / S1024x768.size a = 1) a
  have e : ((cfgM m hO).win 3).index ⟨0, (by decide : 0 < grid0.N)⟩ a = 0 :=
    (by decide : ∀ a : Fin 2, (![0, 0] : Fin 2 → Nat) a = 0) a
  have := (β a).isLt
  omega

theorem final3 : (dats m hO 0 c).arrAt 3 (cfgM m hO).N
    = dw (m ((c : Thread nD τ).loc main_arg0)) (m ((c : Thread nD τ).loc main_arg1)) := by
  refine (dats m hO 0 c).arrAt_eq_of_covers 3 _ (covers3 m hO) fun t hf y => ?_
  blk_simp
  rw [after0_3, out3]
  change S1024x768.Idx at y
  obtain ⟨r, n, rfl⟩ : ∃ (k : Fin 1024) (l : Fin 768), y = ix2 k l := ⟨y 0, y 1, by ext i; fin_cases i <;> rfl⟩
  refine (pay1_at _ _ r n).trans ?_
  simp only [blk0, blk1]
  exact congrArg (dw (m ((c : Thread nD τ).loc main_arg0)) (m ((c : Thread nD τ).loc main_arg1))) (a₁ := ix2 r n) (by blk_ext! [index m hO t])

theorem covers4 : ((cfgM m hO).win 4).Covers := by
  refine ⟨(by decide : ∀ a : Fin 2, 0 < S8x1024.size a), fun β => ⟨⟨0, (by decide : 0 < grid0.N)⟩, flush0_4 _ _, fun a => ⟨?_, .inl rfl⟩⟩⟩
  have h : ((cfgM m hO).win 4).nblk a = 1 :=
    (by decide : ∀ a : Fin 2, (S8x1024.size a + S8x1024.size a - 1) / S8x1024.size a = 1) a
  have e : ((cfgM m hO).win 4).index ⟨0, (by decide : 0 < grid0.N)⟩ a = 0 :=
    (by decide : ∀ a : Fin 2, (![0, 0] : Fin 2 → Nat) a = 0) a
  have := (β a).isLt
  omega

theorem final4 : (dats m hO 0 c).arrAt 4 (cfgM m hO).N
    = ds (m ((c : Thread nD τ).loc main_arg1)) (m ((c : Thread nD τ).loc main_arg2)) := by
  refine (dats m hO 0 c).arrAt_eq_of_covers 4 _ (covers4 m hO) fun t hf y => ?_
  blk_simp
  rw [after0_4, out4]
  change S8x1024.Idx at y
  obtain ⟨r, n, rfl⟩ : ∃ (k : Fin 8) (l : Fin 1024), y = ix2 k l := ⟨y 0, y 1, by ext i; fin_cases i <;> rfl⟩
  refine (pay2_at _ _ r n).trans ?_
  simp only [blk1, blk2]
  exact congrArg (ds (m ((c : Thread nD τ).loc main_arg1)) (m ((c : Thread nD τ).loc main_arg2))) (a₁ := ix2 r n) (by blk_ext! [index m hO t])

end Kernel

section Reference

open Cert.Reference15Ideal Cert.Reference15Ideal.Gen Cert.Reference15Ideal.Value Cert.Reference15Ideal.Read

variable (s : FVec Ideal S16x1024 .f32) (d : FVec Ideal S16x3072 .f32) (w : FVec Ideal S1024x768 .f32)

theorem ref_dw : val_main_v3 (F := Ideal) s d = dw s d := by
  funext i
  obtain ⟨r, n, rfl⟩ : ∃ k l, i = ix2 k l := ⟨i 0, i 1, by ext j; fin_cases j <;> rfl⟩
  pointwise [val_main_v3, val_main_v2, val_main_v1]
  refine Finset.sum_congr rfl fun k _ => (mul_comm _ _).trans ?_
  rfl

theorem ref_ds : val_main_v5 (F := Ideal) d w = ds d w := by
  funext i
  obtain ⟨r, n, rfl⟩ : ∃ k l, i = ix2 k l := ⟨i 0, i 1, by ext j; fin_cases j <;> rfl⟩
  pointwise [val_main_v5, val_main_v4, val_main_v1]
  rfl

/-- The reference's frame: its run read at the arguments; it declares no semaphore. -/
theorem frame_reference : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

/-- Kernel and reference return the same arrays. -/
theorem algebraic : Cert.algebraic_Kernel15Ideal_Reference15Ideal := by
  intro m ρ m' ρ' _ hagree
  have hO := okI m
  refine ⟨_, _, (θ_run Cert.Kernel15Ideal.defs _ _).mono (fun r h c =>
        ⟨((h.1 c).1 3).trans (final3 m hO c), ((h.1 c).1 4).trans (final4 m hO c), h.2 c⟩)
      (θ_run_and (Cert.Kernel15Ideal.Gen.run_main m ρ hO) (Cert.Kernel15Ideal.Gen.unchanged m ρ hO)),
    (θ_run Cert.Reference15Ideal.defs _ _).mono (fun r h c => ⟨(h c).1.trans ?_, (h c).2.1.trans ?_, (h c).2.2⟩)
      (Cert.Reference15Ideal.Value.run (F := Ideal) m' ρ')⟩
  · rw [val_main_v3_eq, (hagree c).1, (hagree c).2.1]
    exact ref_dw _ _
  · rw [val_main_v5_eq, (hagree c).2.1, (hagree c).2.2]
    exact ref_ds _ _

end Reference

end Cert.AdalnGrad
end
-- ==== Proof.Conv.Array.lean ====
/-
  What the convolution's gradient kernel leaves in its three result arrays.
-/
module

public import proofs.«01_k».proof.Proof.Conv.Block

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The arguments' channel `l` on device `c`. -/
abbrev argCol (c : Dev nD) (l : Fin 512) : Column :=
  arrCol (m ((c : Thread nD τ).loc main_arg0)) (m ((c : Thread nD τ).loc main_arg1))
    (m ((c : Thread nD τ).loc main_arg2)) (m ((c : Thread nD τ).loc main_arg3)) l

/-- The eight planes: the first four as the argument `dp8` holds them, the last four the gradients of `u`, `bg`, `cg`
    and `zc`. -/
def planes (K : Fin 512 → Column) (old : FVec Ideal S8x2048x512 .bf16) : FVec Ideal S8x2048x512 .bf16 := fun i =>
  if 4 ≤ (i 0 : ℕ) then (K (i 2)).plane ⟨(i 0 : ℕ) - 4, by have h8 : (i 0 : ℕ) < 8 := (i 0).isLt; omega⟩ (i 1) else old i

/-- The weights' gradients, by rows. -/
def weights (K : Fin 512 → Column) : FVec Ideal S8x512 .f32 := fun i => (K (i 1)).dw (i 0)

/-- The bias gradient. -/
def bias (K : Fin 512 → Column) : FVec Ideal S1x512 .f32 := fun i => (K (i 1)).db

theorem plane_congr {K K' : Column} {k k' : Fin 4} {r r' : Fin 2048} (h : K = K') (hk : k = k') (hr : r = r') :
    K.plane k r = K'.plane k' r' := by rw [h, hk, hr]

theorem dw_congr {K K' : Column} {k k' : Fin 8} (h : K = K') (hk : k = k') : K.dw k = K'.dw k' := by rw [h, hk]

theorem V_dp (c : Dev nD) : V m c main_v0_0 = m ((c : Thread nD τ).loc main_arg4) := by
  unfold V; after_results; try rfl

theorem final7 (c : Dev nD) :
    (dats m 0 c).arrAt 7 cfg0.N = planes (argCol m c) (m ((c : Thread nD τ).loc main_arg4)) := by
  have h : (dats m 0 c).arrAt 7 cfg0.N
      = fun i => if 4 ≤ (i 0 : ℕ) then planes (argCol m c) (m ((c : Thread nD τ).loc main_arg4)) i
          else V m c main_v0_0 i := by
    refine (dats m 0 c).arrAt_eq_of_coversWhere 7 _ (fun β => 1 ≤ β 0) (by decide +kernel) (fun t hf y => ?_)
      (fun j => by blk_simp [Pipeline.Window.cell_apply]; omega)
    blk_simp
    rw [after0_7]
    obtain ⟨k, r, l, rfl⟩ : ∃ k r l, y = ix3 k r l := ⟨y 0, y 1, y 2, by ext i; fin_cases i <;> rfl⟩
    have ht : t.val < 4 := t.isLt
    rw [point7, bcol_eq m c t l (by omega)]
    unfold planes
    blk_simp [idx t]
    rw [if_pos (by omega)]
    exact plane_congr (congrArg (argCol m c) (Fin.ext (by show 128 * t.val + l.val = _; blk_simp [idx t]; omega)))
      (Fin.ext (by simp only []; omega)) (Fin.ext (by blk_simp [idx t]))
  rw [h, V_dp]
  funext i
  unfold planes
  by_cases h4 : 4 ≤ (i 0 : ℕ)
  · simp only [if_pos h4]
  · simp only [if_neg h4]

theorem final8 (c : Dev nD) : (dats m 0 c).arrAt 8 cfg0.N = weights (argCol m c) := by
  refine (dats m 0 c).arrAt_eq_of_covers 8 _ (by decide +kernel) fun t hf y => ?_
  blk_simp
  rw [after0_8]
  obtain ⟨k, l, rfl⟩ : ∃ k l, y = ix2 k l := ⟨y 0, y 1, by ext i; fin_cases i <;> rfl⟩
  have ht : t.val < 4 := t.isLt
  rw [point8, bcol_eq m c t l (by omega)]
  unfold weights
  exact dw_congr (congrArg (argCol m c) (Fin.ext (by show 128 * t.val + l.val = _; blk_simp [idx t]; omega)))
    (Fin.ext (by blk_simp [idx t]))

theorem final9 (c : Dev nD) : (dats m 0 c).arrAt 9 cfg0.N = bias (argCol m c) := by
  refine (dats m 0 c).arrAt_eq_of_covers 9 _ (by decide +kernel) fun t hf y => ?_
  blk_simp
  rw [after0_9]
  obtain ⟨k, l, rfl⟩ : ∃ k l, y = ix2 k l := ⟨y 0, y 1, by ext i; fin_cases i <;> rfl⟩
  obtain rfl : k = 0 := Fin.ext (by omega)
  have ht : t.val < 4 := t.isLt
  rw [point9, bcol_eq m c t l (by omega)]
  unfold bias
  exact congrArg (fun i => (argCol m c i).db) (Fin.ext (by show 128 * t.val + l.val = _; blk_simp [idx t]; omega))

end Cert.Conv
end
-- ==== Proof.Conv.Pair.lean ====
/-
  The convolution's pair: what the reference returns is what the kernel's arrays hold, at real arguments.
-/
module

public import proofs.«01_k».proof.Defs
public import proofs.«01_k».proof.Proof.Gen.Pre_conv_finite
public import proofs.«01_k».proof.Proof.Conv.Array
public import proofs.«01_k».proof.Proof.Conv.Ref
public import proofs.«01_k».proof.Proof.Gen.ReferenceIdeal.Run

@[expose] public section

set_option maxRecDepth 16384

noncomputable section

namespace Cert.Conv

open Idealize.ShloMosaic Idealize.ShloMosaic.TcCoe Idealize.SL.Sem
open Cert.ReferenceIdeal.Read

section
variable (p : FVec Ideal Cert.KernelIdeal.S2048x4096 .f32) (w : FVec Ideal Cert.KernelIdeal.S3x512 .f32)
  (b : FVec Ideal Cert.KernelIdeal.S1x512 .f32) (d : FVec Ideal Cert.KernelIdeal.S2048x512 .f32)
  (dp : FVec Ideal Cert.KernelIdeal.S8x2048x512 .bf16)

/-- The filter's input is real where the arguments are. -/
theorem Column.cu_real (K : Column) (hu : ∀ r, IsReal (K.u r)) (hc : ∀ r, IsReal (K.cg r)) (r : Fin 2048) :
    IsReal (K.cu r) := (hu r).mul (hc r)

/-- The filter's output is real where the arguments are. -/
theorem Column.cv_real (K : Column) (hu : ∀ r, IsReal (K.u r)) (hc : ∀ r, IsReal (K.cg r)) (hw : ∀ k, IsReal (K.w k))
    (hb : IsReal K.b) (r : Fin 2048) : IsReal (K.cv r) :=
  ((hb.add ((IsReal.ite IsReal.zero (K.cu_real hu hc _)).mul (hw 0))).add ((K.cu_real hu hc r).mul (hw 1))).add
    ((IsReal.ite IsReal.zero (K.cu_real hu hc _)).mul (hw 2))

/-- The reference's planes are the kernel's. -/
theorem planes_eq (hp : ∀ i, IsReal (p i)) (hw : ∀ i, IsReal (w i)) (hb : ∀ i, IsReal (b i)) (hd : ∀ i, IsReal (d i)) :
    val_main_v84 (F := Ideal) p w b d dp = planes (arrCol p w b d) dp := by
  funext i
  obtain ⟨k, r, l, rfl⟩ : ∃ k r l, i = ix3 k r l := ⟨i 0, i 1, i 2, by ext j; fin_cases j <;> rfl⟩
  unfold planes
  by_cases h : k.val < 4
  · rw [if_neg (by show ¬ 4 ≤ k.val; omega)]
    exact Ref.kept p w b d dp r l k h
  rw [if_pos (by show 4 ≤ k.val; omega)]
  obtain rfl | rfl | rfl | rfl : k = 4 ∨ k = 5 ∨ k = 6 ∨ k = 7 := by omega
  · exact Ref.plane0 p w b d dp r l
  · exact Ref.plane1 p w b d dp r l
  · exact Ref.plane2 p w b d dp r l
  · exact Ref.plane3 p w b d dp r l (hp _)
      (Column.cv_real _ (fun _ => hp _) (fun _ => hp _) (fun _ => hw _) (hb _) r) (hd _) (hp _)

/-- The reference's weight gradients are the kernel's. -/
theorem weights_eq : val_main_v85 (F := Ideal) p d = weights (arrCol p w b d) := by
  funext i
  obtain ⟨k, l, rfl⟩ : ∃ k l, i = ix2 k l := ⟨i 0, i 1, by ext j; fin_cases j <;> rfl⟩
  unfold weights
  by_cases h : 3 ≤ k.val
  · refine (Ref.dw_pad p d l k h).trans ?_
    obtain rfl | rfl | rfl | rfl | rfl : k = 3 ∨ k = 4 ∨ k = 5 ∨ k = 6 ∨ k = 7 := by omega
    all_goals rfl
  obtain rfl | rfl | rfl : k = 0 ∨ k = 1 ∨ k = 2 := by omega
  · exact Ref.dw0 p w b d l
  · exact Ref.dw1 p w b d l
  · exact Ref.dw2 p w b d l

/-- The reference's bias gradient is the kernel's. -/
theorem bias_eq : val_main_v60 (F := Ideal) p d = bias (arrCol p w b d) := by
  funext i
  obtain ⟨k, l, rfl⟩ : ∃ k l, i = ix2 k l := ⟨i 0, i 1, by ext j; fin_cases j <;> rfl⟩
  obtain rfl : k = 0 := Fin.ext (by omega)
  exact Ref.db_at p w b d l

end

open Cert.KernelIdeal in
/-- What the precondition says: the first four arguments are real. -/
theorem real_args (m : (ℓ : Loc nD τ sig) → Buf (Elt Ideal) ℓ) (h : Pre_KernelIdeal_conv_finite m) (c : Dev nD) :
    (∀ i, IsReal (m ((c : Thread nD τ).loc main_arg0) i)) ∧ (∀ i, IsReal (m ((c : Thread nD τ).loc main_arg1) i))
      ∧ (∀ i, IsReal (m ((c : Thread nD τ).loc main_arg2) i)) ∧ ∀ i, IsReal (m ((c : Thread nD τ).loc main_arg3) i) :=
  ⟨fun i => IsReal.of_cmpf _ _ i IsReal.inf_f32 (congrFun (h c).1 i),
    fun i => IsReal.of_cmpf _ _ i IsReal.inf_f32 (congrFun (h c).2.1 i),
    fun i => IsReal.of_cmpf _ _ i IsReal.inf_f32 (congrFun (h c).2.2.1 i),
    fun i => IsReal.of_cmpf _ _ i IsReal.inf_f32 (congrFun (h c).2.2.2 i)⟩

/-- The reference's frame: its run read at the arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Kernel and reference return the same arrays. -/
theorem algebraic : Cert.algebraic_KernelIdeal_ReferenceIdeal_pre_conv_finite := by
  intro m ρ m' ρ' hpre hagree
  have e (c : Dev Cert.KernelIdeal.nD) := hagree c
  refine ⟨fun c => planes (argCol m c) (m ((c : Thread Cert.KernelIdeal.nD Cert.KernelIdeal.τ).loc Cert.KernelIdeal.main_arg4)),
    fun c => weights (argCol m c), fun c => bias (argCol m c),
    (θ_run Cert.KernelIdeal.defs _ _).mono (fun r h c => ⟨(h c).1.trans (final7 m c), (h c).2.1.trans (final8 m c),
      (h c).2.2.1.trans (final9 m c), (h c).2.2.2⟩) (Cert.KernelIdeal.Value.run_blocks m ρ),
    (θ_run Cert.ReferenceIdeal.defs _ _).mono (fun r h c => ⟨(h c).1.trans ?_, (h c).2.1.trans ?_, (h c).2.2.1.trans ?_,
      (h c).2.2.2⟩) (Cert.ReferenceIdeal.Value.run (F := Ideal) m' ρ')⟩
  · rw [val_main_v84_eq, (e c).1, (e c).2.1, (e c).2.2.1, (e c).2.2.2.1, (e c).2.2.2.2.1]
    obtain ⟨h0, h1, h2, h3⟩ := real_args m hpre c
    exact planes_eq _ _ _ _ _ h0 h1 h2 h3
  · rw [val_main_v85_eq, (e c).1, (e c).2.2.2.1]
    exact weights_eq _ _ _ _
  · refine (val_main_v60_eq _ _).symm.trans ?_
    rw [(e c).1, (e c).2.2.2.1]
    exact bias_eq _ _ _ _

end Cert.Conv
end
-- ==== Proof.Attn.RefLand.lean ====
/-
  What the reference's scatters add up to.
-/
module

public import proofs.«01_k».proof.Proof.Attn.RefIdx
public import proofs.«01_k».proof.Proof.Attn.Row

@[expose] public section

set_option maxRecDepth 16384

noncomputable section

namespace Cert.Attn.Ref

open Idealize.ShloMosaic Idealize.ShloMosaic.TcCoe Idealize.SL.Sem
open Cert.Reference2Ideal Cert.Reference2Ideal.Gen Cert.Reference2Ideal.Read

/-- Updates landing on a key, added up. -/
theorem rows_sum (x : S32x64x8x64.Idx → EReal) (hx : ∀ j, x j = 0) (idx : IVec S32x8x1 32)
    (hi : ∀ i r, idx (ix3 i r 0) = BitVec.ofNat 32 (rs i + r)) (upd : S32x8x64x8x64.Idx → EReal)
    (φ : Fin 2048 → Fin 2048 → ℝ) (hφ : ∀ t a : Fin 2048, ¬ win t a → φ t a = 0) (G : Fin 2048 → ℝ) (c : Fin 8) (f : Fin 64)
    (hu : ∀ i r k, upd (ix5 i r k c f) = ((∑ q, φ (tok i q) (key i r k) * G (tok i q) : ℝ) : EReal)) (a : Fin 32) (b : Fin 64) :
    Host.scatterAdd (F := Ideal) (φ := .f32) scatter_S32x64x8x64_S32x8x1_S32x8x64x8x64_234_0_0_2 x idx upd (ix4 a b c f)
      = ((∑ t, φ t (tok a b) * G t : ℝ) : EReal) := by
  show x (ix4 a b c f) + (∑ j ∈ Finset.univ.filter (fun j : S32x8x64x8x64.Idx =>
    scatter_S32x64x8x64_S32x8x1_S32x8x64x8x64_234_0_0_2.resultIdx? j idx = some (ix4 a b c f)), upd j : EReal) = _
  rw [hx, zero_add, Finset.sum_filter, sum_idx5, ← land_sum φ hφ G, ← coe_sum]
  refine Finset.sum_congr rfl fun i _ => ?_
  rw [← coe_sum]
  refine Finset.sum_congr rfl fun r _ => ?_
  rw [← coe_sum]
  refine Finset.sum_congr rfl fun k _ => ?_
  refine (Finset.sum_eq_single c (fun h _ hh => Finset.sum_eq_zero fun e _ => ?_) (by simp)).trans
    ((Finset.sum_eq_single f (fun e _ he => ?_) (by simp)).trans ?_)
  · exact if_neg fun hl => hh ((lands_row idx i r k h e (hi i r) a b c f).1 hl).2.1
  · exact if_neg fun hl => he ((lands_row idx i r k c e (hi i r) a b c f).1 hl).2.2
  · by_cases hk : key i r k = tok a b
    · rw [if_pos hk, ← hu]
      exact if_pos ((lands_row idx i r k c f (hi i r) a b c f).2 ⟨hk, rfl, rfl⟩)
    · rw [if_neg hk]
      exact if_neg fun hl => hk ((lands_row idx i r k c f (hi i r) a b c f).1 hl).1

/-- Gradients landing on an entry of the table, added up. -/
theorem bias_sum (x : S8x15x31.Idx → EReal) (hx : ∀ j, x j = 0) (upd : S8x32x64x8x64.Idx → EReal)
    (φ : Fin 2048 → Fin 2048 → ℝ) (hφ : ∀ t a : Fin 2048, ¬ win t a → φ t a = 0) (h : Fin 8)
    (hu : ∀ i q r k, upd (ix5 h i q r k) = (φ (tok i q) (key i r k) : EReal)) (a : Fin 15) (b : Fin 31) :
    Host.scatterAdd (F := Ideal) (φ := .f32) scatter_S8x15x31_S32x64x8x64x2_S8x32x64x8x64_0_12_12_4 x (val_main_v74 (F := Ideal)) upd (ix3 h a b)
      = ((∑ t : Fin 2048, ∑ k : Fin 2048, if dr t k = a ∧ dc t k = b then φ t k else 0 : ℝ) : EReal) := by
  show x (ix3 h a b) + (∑ j ∈ Finset.univ.filter (fun j : S8x32x64x8x64.Idx =>
    scatter_S8x15x31_S32x64x8x64x2_S8x32x64x8x64_0_12_12_4.resultIdx? j (val_main_v74 (F := Ideal)) = some (ix3 h a b)), upd j : EReal) = _
  have land : ∀ (h' : Fin 8) (i : Fin 32) (q : Fin 64) (r : Fin 8) (k : Fin 64),
      scatter_S8x15x31_S32x64x8x64x2_S8x32x64x8x64_0_12_12_4.resultIdx? (ix5 h' i q r k) (val_main_v74 (F := Ideal)) = some (ix3 h a b)
        ↔ h' = h ∧ dr (tok i q) (key i r k) = a ∧ (⟨min ((k : ℕ) + 15 - (q : ℕ)) 30, by omega⟩ : Fin 31) = b := fun h' i q r k =>
    lands_bias _ h' i q r k _ _ (by rw [bias_row, dr_key]) (bias_col i q r k) h a b
  rw [hx, zero_add, Finset.sum_filter, sum_idx5]
  refine (Finset.sum_eq_single h (fun h' _ hh => ?_) (by simp)).trans ?_
  · exact Finset.sum_eq_zero fun i _ => Finset.sum_eq_zero fun q _ => Finset.sum_eq_zero fun r _ => Finset.sum_eq_zero fun k _ =>
      if_neg fun hl => hh ((land h' i q r k).1 hl).1
  rw [← tok_sum, ← coe_sum]
  refine Finset.sum_congr rfl fun i _ => ?_
  rw [← coe_sum]
  refine Finset.sum_congr rfl fun q _ => ?_
  rw [← window_sum i q (fun k => if dr (tok i q) k = a ∧ dc (tok i q) k = b then φ (tok i q) k else 0)
    (fun k hk => by rw [hφ _ _ hk, ite_self]), Fintype.sum_prod_type, ← coe_sum]
  refine Finset.sum_congr rfl fun r _ => ?_
  rw [← coe_sum]
  refine Finset.sum_congr rfl fun k _ => ?_
  show _ = ((if dr (tok i q) (key i r k) = a ∧ dc (tok i q) (key i r k) = b then φ (tok i q) (key i r k) else 0 : ℝ) : EReal)
  by_cases hw : win (tok i q) (key i r k)
  · have ed : (⟨min ((k : ℕ) + 15 - (q : ℕ)) 30, by omega⟩ : Fin 31) = dc (tok i q) (key i r k) := Fin.ext (dc_key i q r k hw).symm
    by_cases hk : dr (tok i q) (key i r k) = a ∧ dc (tok i q) (key i r k) = b
    · rw [if_pos hk, ← hu]
      exact if_pos ((land h i q r k).2 ⟨rfl, hk.1, ed.trans hk.2⟩)
    · rw [if_neg hk]
      exact if_neg fun hl => hk ⟨((land h i q r k).1 hl).2.1, ed.symm.trans ((land h i q r k).1 hl).2.2⟩
  · rw [hu, hφ _ _ hw, ite_self]
    exact ite_self _

end Cert.Attn.Ref
-- ==== Proof.Attn.RefGrad.lean ====
/-
  The reference's results are the gradients.
-/
module

public import proofs.«01_k».proof.Proof.Attn.RefRow
public import proofs.«01_k».proof.Proof.Attn.RefLand
public import proofs.«01_k».proof.Proof.Attn.Entry

@[expose] public section

set_option maxRecDepth 16384

noncomputable section

namespace Cert.Attn.Ref

open Idealize.ShloMosaic Idealize.ShloMosaic.TcCoe Idealize.SL.Sem
open Cert.Reference2Ideal Cert.Reference2Ideal.Gen Cert.Reference2Ideal.Read

variable (x0 x1 x2 x3 : FVec Ideal S2048x8x64 .f32) (x4 x5 : FVec Ideal S256x8x64 .f32) (x6 : FVec Ideal S8x15x31 .f32)
  (x7 : FVec Ideal S2048x8x64 .f32)

/-- A token's row and column. -/
theorem tok_of (t : Fin 2048) : tok ⟨t / 64, by omega⟩ ⟨t % 64, by omega⟩ = t :=
  Fin.ext (by show (t : ℕ) / 64 * 64 + t % 64 = t; omega)

/-- Queries' gradients divided by the scale that they were multiplied by. -/
theorem unscale {ι : Type} [Fintype ι] (f g : ι → ℝ) :
    Ideal.div (∑ a, (f a : EReal) * ((1 / 8 : ℝ) : EReal) * (g a : EReal) : EReal) ((1 / 8 : ℝ) : EReal) = ((∑ a, f a * g a : ℝ) : EReal) := by
  simp only [← EReal.coe_mul, coe_sum]
  rw [div_coe_coe _ (by norm_num)]
  refine congrArg _ ?_
  rw [div_eq_iff (by norm_num), Finset.sum_mul]
  exact Finset.sum_congr rfl fun a _ => by ring

theorem dq_read (h : Fin 8) (i : Fin 32) (q : Fin 64) (d : Fin 64) : val_main_v178 (F := Ideal) x0 x1 x2 x3 x4 x5 x6 x7 (ix3 h (tok i q) d)
    = Ideal.div (∑ r : Fin 8, ∑ k : Fin 64, val_main_v159 (F := Ideal) x0 x1 x2 x3 x4 x5 x6 x7 (ix5 h i q r k)
        * Ideal.ofBits FTy.f32 0x3E000000#32 * val_main_v20 (F := Ideal) x2 (ix5 i r k h d) : EReal) (Ideal.ofBits FTy.f32 0x3E000000#32) := by
  pointwise [val_main_v178, val_main_v176, val_main_v177, val_main_v174, val_main_cst_39, val_main_v165, val_main_v164, val_main_v161, val_main_v160, val_main_cst_35]

theorem dqp_read (h : Fin 8) (i : Fin 32) (q : Fin 64) (d : Fin 64) : val_main_v181 (F := Ideal) x0 x1 x2 x3 x4 x5 x6 x7 (ix3 h (tok i q) d)
    = Ideal.div (∑ c : Fin 256, val_main_v151 (F := Ideal) x0 x1 x2 x3 x4 x5 x6 x7 (ix4 h i q c)
        * Ideal.ofBits FTy.f32 0x3E000000#32 * x4 (ix3 c h d) : EReal) (Ideal.ofBits FTy.f32 0x3E000000#32) := by
  pointwise [val_main_v181, val_main_v179, val_main_v180, val_main_v175, val_main_cst_40, val_main_v158, val_main_v157, val_main_v154, val_main_v153, val_main_cst_34]

theorem dkc_read (h : Fin 8) (c : Fin 256) (d : Fin 64) : val_main_v184 (F := Ideal) x0 x1 x2 x3 x4 x5 x6 x7 (ix3 h c d)
    = (∑ i : Fin 32, ∑ q : Fin 64, val_main_v151 (F := Ideal) x0 x1 x2 x3 x4 x5 x6 x7 (ix4 h i q c)
        * Ideal.ofBits FTy.f32 0x3E000000#32 * x1 (ix3 (tok i q) h d) : EReal) := by
  pointwise [val_main_v184, val_main_v156, val_main_v155, val_main_v0, val_main_v154, val_main_v153, val_main_cst_34]

theorem dvc_read (h : Fin 8) (c : Fin 256) (d : Fin 64) : val_main_v185 (F := Ideal) x0 x1 x2 x4 x6 x7 (ix3 h c d)
    = (∑ i : Fin 32, ∑ q : Fin 64, x7 (ix3 (tok i q) h d) * val_main_v117 (F := Ideal) x0 x1 x2 x4 x6 (ix4 h i q c) : EReal) := by
  pointwise [val_main_v185, val_main_v128, val_main_v127, val_main_v125, val_main_v124]

theorem dk_read (h : Fin 8) (i : Fin 32) (q : Fin 64) (d : Fin 64) : val_main_v182 (F := Ideal) x0 x1 x2 x3 x4 x5 x6 x7 (ix3 h (tok i q) d)
    = val_main_v171 (F := Ideal) x0 x1 x2 x3 x4 x5 x6 x7 (ix4 i q h d) := by
  pointwise [val_main_v182, val_main_v173]

theorem dv_read (h : Fin 8) (i : Fin 32) (q : Fin 64) (d : Fin 64) : val_main_v183 (F := Ideal) x0 x1 x2 x4 x6 x7 (ix3 h (tok i q) d)
    = val_main_v169 (F := Ideal) x0 x1 x2 x4 x6 x7 (ix4 i q h d) := by
  pointwise [val_main_v183, val_main_v172]

theorem dk_row_read (i : Fin 32) (r : Fin 8) (k : Fin 64) (h : Fin 8) (d : Fin 64) : val_main_v163 (F := Ideal) x0 x1 x2 x3 x4 x5 x6 x7 (ix5 i r k h d)
    = (∑ q : Fin 64, val_main_v159 (F := Ideal) x0 x1 x2 x3 x4 x5 x6 x7 (ix5 h i q r k) * Ideal.ofBits FTy.f32 0x3E000000#32 * x0 (ix3 (tok i q) h d) : EReal) := by
  pointwise [val_main_v163, val_main_v162, val_main_v1, val_main_v161, val_main_v160, val_main_cst_35]

theorem dv_row_read (i : Fin 32) (r : Fin 8) (k : Fin 64) (h : Fin 8) (d : Fin 64) : val_main_v133 (F := Ideal) x0 x1 x2 x4 x6 x7 (ix5 i r k h d)
    = (∑ q : Fin 64, x7 (ix3 (tok i q) h d) * val_main_v116 (F := Ideal) x0 x1 x2 x4 x6 (ix5 h i q r k) : EReal) := by
  pointwise [val_main_v133, val_main_v132, val_main_v129, val_main_v124]

theorem dbias_read (h : Fin 8) (a : Fin 15) (l : Fin 128) : val_main_v186 (F := Ideal) x0 x1 x2 x3 x4 x5 x6 x7 (ix3 h a l)
    = if hl : (l : ℕ) < 31 then val_main_v167 (F := Ideal) x0 x1 x2 x3 x4 x5 x6 x7 (ix3 h a ⟨l, hl⟩) else 0 := by
  have z : FloatOps.sitofp (F := Ideal) FTy.f32 0#32 = (0 : EReal) := by
    show (((0#32).toInt : ℝ) : EReal) = 0
    simp
  pointwise [val_main_v186, val_main_call5_v0, val_main_c_41]
  rw [z]

/-- A gradient that takes a query, scaled, from every token. -/
theorem scaled_sum {ι : Type} [Fintype ι] (f : ι → ℝ) {g : ι → EReal} (hg : ∀ a, IsReal (g a)) :
    (∑ a, (f a : EReal) * ((1 / 8 : ℝ) : EReal) * g a : EReal) = ((∑ a, f a * ((g a).toReal * (1 / 8)) : ℝ) : EReal) := by
  rw [← coe_sum]
  refine Finset.sum_congr rfl fun a _ => ?_
  obtain ⟨y, hy⟩ := hg a
  rw [hy, EReal.toReal_coe, ← EReal.coe_mul, ← EReal.coe_mul]
  exact congrArg _ (by ring)

variable {x0 x1 x2 x3 x4 x5 x6 x7} (hr : RealArgs x0 x1 x2 x3 x4 x5 x6 x7)
include hr

theorem dq_eq : val_main_v178 (F := Ideal) x0 x1 x2 x3 x4 x5 x6 x7 = heads (e := .f32) fun h => (X x0 x1 x2 x3 x4 x5 x6 x7 h).dq := by
  refine funext fun j => ?_
  obtain ⟨h, t, d, rfl⟩ : ∃ h t d, j = ix3 h t d := ⟨j 0, j 1, j 2, (ix3_eta j).symm⟩
  obtain ⟨i, q, rfl⟩ : ∃ i q, t = tok i q := ⟨_, _, (tok_of t).symm⟩
  have e : ∀ (r : Fin 8) (k : Fin 64), x2 (ix3 (key i r k) h d) = ((X x0 x1 x2 x3 x4 x5 x6 x7 h).k (key i r k) d : EReal) := fun r k => real_coe (hr.k _)
  rw [dq_read, eighth]
  simp only [dscore_lat hr, keys_at, e]
  rw [← Fintype.sum_prod_type' fun (r : Fin 8) (k : Fin 64) => (((R x0 x1 x2 x3 x4 x5 x6 x7 h i q).ds (key i r k) : EReal) * ((1 / 8 : ℝ) : EReal)
    * ((X x0 x1 x2 x3 x4 x5 x6 x7 h).k (key i r k) d : EReal))]
  refine (unscale (fun b : Fin 8 × Fin 64 => (R x0 x1 x2 x3 x4 x5 x6 x7 h i q).ds (key i b.1 b.2)) fun b => (X x0 x1 x2 x3 x4 x5 x6 x7 h).k (key i b.1 b.2) d).trans (congrArg _ ?_)
  exact window_sum i q (fun k => (R x0 x1 x2 x3 x4 x5 x6 x7 h i q).ds k * (X x0 x1 x2 x3 x4 x5 x6 x7 h).k k d) fun k hk => by rw [Row.ds_off _ hk, zero_mul]

theorem dqp_eq : val_main_v181 (F := Ideal) x0 x1 x2 x3 x4 x5 x6 x7 = heads (e := .f32) fun h => (X x0 x1 x2 x3 x4 x5 x6 x7 h).dqp := by
  refine funext fun j => ?_
  obtain ⟨h, t, d, rfl⟩ : ∃ h t d, j = ix3 h t d := ⟨j 0, j 1, j 2, (ix3_eta j).symm⟩
  obtain ⟨i, q, rfl⟩ : ∃ i q, t = tok i q := ⟨_, _, (tok_of t).symm⟩
  have e : ∀ c : Fin 256, x4 (ix3 c h d) = ((X x0 x1 x2 x3 x4 x5 x6 x7 h).kc c d : EReal) := fun c => real_coe (hr.kc _)
  rw [dqp_read, eighth]
  simp only [dscore_ctx hr, e]
  exact unscale _ _

theorem dkc_eq : val_main_v184 (F := Ideal) x0 x1 x2 x3 x4 x5 x6 x7 = heads (e := .f32) fun h => (X x0 x1 x2 x3 x4 x5 x6 x7 h).dkc := by
  refine funext fun j => ?_
  obtain ⟨h, c, d, rfl⟩ : ∃ h t d, j = ix3 h t d := ⟨j 0, j 1, j 2, (ix3_eta j).symm⟩
  rw [dkc_read, eighth]
  simp only [dscore_ctx hr]
  rw [tok_sum fun t => ((((X x0 x1 x2 x3 x4 x5 x6 x7 h).row t).dsc c : EReal) * ((1 / 8 : ℝ) : EReal) * x1 (ix3 t h d))]
  exact scaled_sum _ fun _ => hr.qp _

theorem dvc_eq : val_main_v185 (F := Ideal) x0 x1 x2 x4 x6 x7 = heads (e := .f32) fun h => (X x0 x1 x2 x3 x4 x5 x6 x7 h).dvc := by
  refine funext fun j => ?_
  obtain ⟨h, c, d, rfl⟩ : ∃ h t d, j = ix3 h t d := ⟨j 0, j 1, j 2, (ix3_eta j).symm⟩
  rw [dvc_read]
  simp only [weight_ctx hr]
  rw [tok_sum fun t => (x7 (ix3 t h d) * (((X x0 x1 x2 x3 x4 x5 x6 x7 h).row t).pc c : EReal))]
  refine (Finset.sum_congr rfl fun t _ => mul_comm _ _).trans ?_
  exact (dot_real (fun t => ⟨((X x0 x1 x2 x3 x4 x5 x6 x7 h).row t).pc c, rfl⟩) fun _ => hr.g _)

theorem dk_eq : val_main_v182 (F := Ideal) x0 x1 x2 x3 x4 x5 x6 x7 = heads (e := .f32) fun h => (X x0 x1 x2 x3 x4 x5 x6 x7 h).dk := by
  refine funext fun j => ?_
  obtain ⟨h, t, d, rfl⟩ : ∃ h t d, j = ix3 h t d := ⟨j 0, j 1, j 2, (ix3_eta j).symm⟩
  obtain ⟨i, q, rfl⟩ : ∃ i q, t = tok i q := ⟨_, _, (tok_of t).symm⟩
  rw [dk_read, val_main_v171]
  refine rows_sum _ (fun j => ?_) _ key_row _ (fun t k => ((X x0 x1 x2 x3 x4 x5 x6 x7 h).row t).ds k) (fun t k hk => Row.ds_off _ hk)
    (fun t => (X x0 x1 x2 x3 x4 x5 x6 x7 h).q t d) h d (fun i r k => ?_) i q
  · rw [val_main_v170_apply]
    exact zero_f32
  · rw [dk_row_read, eighth]
    simp only [dscore_lat hr]
    exact scaled_sum _ fun _ => hr.q _

theorem dv_eq : val_main_v183 (F := Ideal) x0 x1 x2 x4 x6 x7 = heads (e := .f32) fun h => (X x0 x1 x2 x3 x4 x5 x6 x7 h).dv := by
  refine funext fun j => ?_
  obtain ⟨h, t, d, rfl⟩ : ∃ h t d, j = ix3 h t d := ⟨j 0, j 1, j 2, (ix3_eta j).symm⟩
  obtain ⟨i, q, rfl⟩ : ∃ i q, t = tok i q := ⟨_, _, (tok_of t).symm⟩
  rw [dv_read, val_main_v169]
  refine rows_sum _ (fun j => ?_) _ value_row _ (fun t k => ((X x0 x1 x2 x3 x4 x5 x6 x7 h).row t).p k) (fun t k hk => Row.p_off _ hk)
    (fun t => (X x0 x1 x2 x3 x4 x5 x6 x7 h).g t d) h d (fun i r k => ?_) i q
  · rw [val_main_v168_apply]
    exact zero_f32
  · rw [dv_row_read]
    simp only [weight_lat hr]
    refine (Finset.sum_congr rfl fun t _ => mul_comm _ _).trans ?_
    exact (dot_real (fun q => ⟨((X x0 x1 x2 x3 x4 x5 x6 x7 h).row (tok i q)).p (key i r k), rfl⟩) fun _ => hr.g _)

theorem dbias_eq : val_main_v186 (F := Ideal) x0 x1 x2 x3 x4 x5 x6 x7 = dtable (X x0 x1 x2 x3 x4 x5 x6 x7) := by
  refine funext fun j => ?_
  obtain ⟨h, a, l, rfl⟩ : ∃ h t d, j = ix3 h t d := ⟨j 0, j 1, j 2, (ix3_eta j).symm⟩
  rw [dbias_read]
  show _ = ((if hl : (l : ℕ) < 31 then (X x0 x1 x2 x3 x4 x5 x6 x7 h).dbias a ⟨l, hl⟩ else 0 : ℝ) : EReal)
  by_cases hl : (l : ℕ) < 31
  · rw [dif_pos hl, dif_pos hl, val_main_v167]
    refine bias_sum _ (fun j => ?_) _ (fun t k => ((X x0 x1 x2 x3 x4 x5 x6 x7 h).row t).ds k) (fun t k hk => Row.ds_off _ hk) h
      (fun i q r k => dscore_lat hr h i q r k) a ⟨l, hl⟩
    rw [val_main_v166_apply]
    exact zero_f32
  · rw [dif_neg hl, dif_neg hl]
    rfl

end Cert.Attn.Ref
-- ==== Proof.Attn.Pair.lean ====
/-
  The attention's pair: what the reference returns is what the kernel's arrays hold, at real arguments.
-/
module

public import proofs.«01_k».proof.Defs
public import proofs.«01_k».proof.Proof.Gen.Pre_attn_finite
public import proofs.«01_k».proof.Proof.Attn.RefGrad
public import proofs.«01_k».proof.Proof.Gen.Reference2Ideal.Run

@[expose] public section

set_option maxRecDepth 16384

noncomputable section

namespace Cert.Attn

open Idealize.ShloMosaic Idealize.ShloMosaic.TcCoe Idealize.SL.Sem
open Cert.Reference2Ideal.Read

/-- What the precondition says: the arguments are real. -/
theorem real_args (m : (ℓ : Loc Cert.Kernel2Ideal.nD Cert.Kernel2Ideal.τ Cert.Kernel2Ideal.sig) → Buf (Elt Ideal) ℓ)
    (h : Pre_Kernel2Ideal_attn_finite m) (c : Dev Cert.Kernel2Ideal.nD) : Real m c where
  q i := IsReal.of_cmpf _ _ i IsReal.inf_f32 (congrFun (h c).1 i)
  qp i := IsReal.of_cmpf _ _ i IsReal.inf_f32 (congrFun (h c).2.1 i)
  k i := IsReal.of_cmpf _ _ i IsReal.inf_f32 (congrFun (h c).2.2.1 i)
  v i := IsReal.of_cmpf _ _ i IsReal.inf_f32 (congrFun (h c).2.2.2.1 i)
  kc i := IsReal.of_cmpf _ _ i IsReal.inf_f32 (congrFun (h c).2.2.2.2.1 i)
  vc i := IsReal.of_cmpf _ _ i IsReal.inf_f32 (congrFun (h c).2.2.2.2.2.1 i)
  rpb i := IsReal.of_cmpf _ _ i IsReal.inf_f32 (congrFun (h c).2.2.2.2.2.2.1 i)
  g i := IsReal.of_cmpf _ _ i IsReal.inf_f32 (congrFun (h c).2.2.2.2.2.2.2 i)

/-- The reference's frame: its run read at the arguments; it declares no semaphore. -/
theorem frame_reference : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- The ideal kernel's one rewrite: the mask's number is `-∞`. -/
theorem preserves : Cert.preserves_Kernel2_Kernel2Ideal :=
  IdealRules.named_const.statement Cert.Kernel2Ideal.κ "mask" .f32 0xF149F2CA#32 ⊥ rfl

/-- Kernel and reference return the same gradients. -/
theorem algebraic : Cert.algebraic_Kernel2Ideal_Reference2Ideal_pre_attn_finite := by
  intro m ρ m' ρ' hpre hagree
  have hr := real_args m hpre
  refine ⟨fun c => heads (e := .f32) fun h => (H m c h).dq, fun c => heads (e := .f32) fun h => (H m c h).dqp,
    fun c => heads (e := .f32) fun h => (H m c h).dk, fun c => heads (e := .f32) fun h => (H m c h).dv,
    fun c => heads (e := .f32) fun h => (H m c h).dkc, fun c => heads (e := .f32) fun h => (H m c h).dvc,
    fun c => dtable (H m c),
    (θ_run Cert.Kernel2Ideal.defs _ _).mono (fun r h c => ⟨(h c).1.trans (W6_dq m ρ c (hr c)), (h c).2.1.trans (W6_dqp m ρ c (hr c)),
      (h c).2.2.1.trans (W6_dk m ρ c (hr c)), (h c).2.2.2.1.trans (W6_dv m ρ c (hr c)), (h c).2.2.2.2.1.trans (W6_dkc m ρ c (hr c)),
      (h c).2.2.2.2.2.1.trans (W6_dvc m ρ c (hr c)), (h c).2.2.2.2.2.2.1.trans (W6_bias m ρ c (hr c)), (h c).2.2.2.2.2.2.2⟩) (run m ρ),
    (θ_run Cert.Reference2Ideal.defs _ _).mono (fun r h c => ?_) (Cert.Reference2Ideal.Value.run (F := Ideal) m' ρ')⟩
  obtain ⟨e0, e1, e2, e3, e4, e5, e6, e7, -⟩ := hagree c
  have a0 := (StableHlo.launchContents_devRef m' c Cert.Reference2Ideal.main_arg0).trans e0
  have a1 := (StableHlo.launchContents_devRef m' c Cert.Reference2Ideal.main_arg1).trans e1
  have a2 := (StableHlo.launchContents_devRef m' c Cert.Reference2Ideal.main_arg2).trans e2
  have a3 := (StableHlo.launchContents_devRef m' c Cert.Reference2Ideal.main_arg3).trans e3
  have a4 := (StableHlo.launchContents_devRef m' c Cert.Reference2Ideal.main_arg4).trans e4
  have a5 := (StableHlo.launchContents_devRef m' c Cert.Reference2Ideal.main_arg5).trans e5
  have a6 := (StableHlo.launchContents_devRef m' c Cert.Reference2Ideal.main_arg6).trans e6
  have a7 := (StableHlo.launchContents_devRef m' c Cert.Reference2Ideal.main_arg7).trans e7
  refine ⟨(h c).1.trans ((val_main_v178_eq _).trans ?_), (h c).2.1.trans ((val_main_v181_eq _).trans ?_),
    (h c).2.2.1.trans ((val_main_v182_eq _).trans ?_), (h c).2.2.2.1.trans ((val_main_v183_eq _).trans ?_),
    (h c).2.2.2.2.1.trans ((val_main_v184_eq _).trans ?_), (h c).2.2.2.2.2.1.trans ((val_main_v185_eq _).trans ?_),
    (h c).2.2.2.2.2.2.1.trans ((val_main_v186_eq _).trans ?_), (h c).2.2.2.2.2.2.2⟩
  · rw [a0, a1, a2, a3, a4, a5, a6, a7]
    exact Ref.dq_eq (hr c)
  · rw [a0, a1, a2, a3, a4, a5, a6, a7]
    exact Ref.dqp_eq (hr c)
  · rw [a0, a1, a2, a3, a4, a5, a6, a7]
    exact Ref.dk_eq (hr c)
  · rw [a0, a1, a2, a4, a6, a7]
    exact Ref.dv_eq (hr c)
  · rw [a0, a1, a2, a3, a4, a5, a6, a7]
    exact Ref.dkc_eq (hr c)
  · rw [a0, a1, a2, a4, a6, a7]
    exact Ref.dvc_eq (hr c)
  · rw [a0, a1, a2, a3, a4, a5, a6, a7]
    exact Ref.dbias_eq (hr c)

end Cert.Attn
end
-- ==== Proof.Loss.Value.lean ====
/-
  The loss, the output projection and their gradients: what the kernel leaves in its results.
-/
module

public import proofs.«01_k».proof.Proof.Gen.Kernel8Ideal.Frame
public import proofs.«01_k».proof.Proof.Heads.Qk
public import Idealize.ShloMosaic.Lib.Pipeline.ReadBack

@[expose] public section

set_option maxRecDepth 16384

noncomputable section

namespace Cert.Loss

open Idealize.ShloMosaic Idealize.ShloMosaic.TcCoe Idealize.SL.Sem
open Idealize.ShloMosaic.Pipeline (Dat)
open Cert.Norm Cert.Heads
open Cert.Kernel8Ideal Cert.Kernel8Ideal.Gen

/-- The arguments. -/
structure Args where
  o : FVec Ideal S8x2048x64 .f32
  p : FVec Ideal S2048x4096 .f32
  cv : FVec Ideal S2048x512 .bf16
  w : FVec Ideal S1024x1024 .f32
  x : FVec Ideal S2048x1024 .f32
  tg : FVec Ideal S2048x1024 .f32
  mr : FVec Ideal S1x3072 .f32
  b : FVec Ideal S1x3072 .f32

/-- One over the columns, as the program writes it. -/
abbrev nth : EReal := Ideal.ofBits .f32 0x3A800000#32

/-- A column of the attention's half, and of the convolution's. -/
abbrev lo (k : Fin 512) : Fin 1024 := ⟨k.val, by omega⟩
abbrev hi (k : Fin 512) : Fin 1024 := ⟨512 + k.val, by omega⟩

namespace Args
variable (K : Args) (s : Fin 2048) (h : Fin 8) (j : Fin 64) (l : Fin 512) (k n : Fin 1024)

/-- The gates, and the heads merged. -/
def gate : EReal := K.mr (ix2 0 ⟨2048 + n.val, by omega⟩) + K.b (ix2 0 ⟨2048 + n.val, by omega⟩)
def za : EReal := K.p (ix2 s ⟨1536 + l.val, by omega⟩)
def sz : EReal := K.za s l * Ideal.logistic (K.za s l)
def om : EReal := K.o (ix3 ⟨l.val / 64, by omega⟩ s ⟨l.val % 64, by omega⟩)

/-- The output projection, and the difference from the target. -/
def mo : EReal := ∑ k, K.om s k * K.sz s k * K.w (ix2 (lo k) n) + ∑ k, K.cv (ix2 s k) * K.w (ix2 (hi k) n)
def diff : EReal := K.x (ix2 s n) + K.gate n * K.mo s n - K.tg (ix2 s n)

/-- The gradients. -/
def dy : EReal := K.diff s n * nth
def dmo : EReal := K.dy s n * K.gate n
def dmix : EReal := ∑ n, K.dmo s n * K.w (ix2 k n)
def dom : EReal := K.dmix s ⟨64 * h.val + j.val, by omega⟩ * K.sz s ⟨64 * h.val + j.val, by omega⟩
def dza : EReal := K.dmix s (lo l) * (Ideal.logistic (K.za s l) * (1 + K.za s l * (1 - Ideal.logistic (K.za s l)))) * K.om s l
def dgate : EReal := ∑ s, K.dy s n * K.mo s n
def glo : EReal := ∑ s, K.om s l * K.sz s l * K.dmo s n
def ghi : EReal := ∑ s, K.cv (ix2 s l) * K.dmo s n
def loss : EReal := ∑ s, ∑ n, K.diff s n * K.diff s n

/-- The results. -/
def rdy : FVec Ideal S2048x1024 .f32 := fun i => K.dy (i 0) (i 1)
def rconv : FVec Ideal S2048x512 .f32 := fun i => K.dmix (i 0) (hi (i 1))
def rza : FVec Ideal S2048x512 .bf16 := fun i => K.dza (i 0) (i 1)
def rom : FVec Ideal S8x2048x64 .bf16 := fun i => K.dom (i 1) (i 0) (i 2)
def rw : FVec Ideal S1024x1024 .f32 := fun i =>
  if h : (i 0).val < 512 then K.glo ⟨(i 0).val, h⟩ (i 1) else K.ghi ⟨(i 0).val - 512, by have : (i 0).val < 1024 := (i 0).isLt; omega⟩ (i 1)
def rgate : FVec Ideal S1x1024 .f32 := fun i => K.dgate (i 1)
def rloss : FVec Ideal S1x1 .f32 := fun _ => K.loss
theorem rconv_at : K.rconv (ix2 s l) = K.dmix s (hi l) := rfl
theorem rom_at : K.rom (ix3 h s j) = K.dom s h j := rfl
theorem rgate_at : K.rgate (ix2 0 n) = K.dgate n := rfl
theorem rdy_at : K.rdy (ix2 s n) = K.dy s n := rfl
end Args

/-- Every window's block index. -/
theorem idx : ∀ t : Fin cfg0.N, win0_0.index t = ![0, t.val, 0] ∧ win0_1.index t = ![t.val, 3] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![3, t.val, 0]
    ∧ win0_11.index t = ![0, t.val, 0] ∧ win0_12.index t = ![0, 0] ∧ win0_13.index t = ![0, 0] ∧ win0_14.index t = ![0, 0] :=
  (by decide +kernel : ∀ t : Fin grid0.N, _)

variable (m : (ℓ : Loc nD τ sig) → Buf (Elt Ideal) ℓ)

/-- The arguments on device `c`. -/
abbrev args (c : Dev nD) : Args where
  o := m ((c : Thread nD τ).loc main_arg0)
  p := m ((c : Thread nD τ).loc main_arg1)
  cv := m ((c : Thread nD τ).loc main_arg2)
  w := m ((c : Thread nD τ).loc main_arg3)
  x := m ((c : Thread nD τ).loc main_arg4)
  tg := m ((c : Thread nD τ).loc main_arg5)
  mr := m ((c : Thread nD τ).loc main_arg6)
  b := m ((c : Thread nD τ).loc main_arg7)

variable (c : Dev nD) (t : Fin cfg0.N) (r l : Fin 512) (h : Fin 8) (j : Fin 64) (k n : Fin 1024)

/-- Row `r` of block `t` is the array's row `512 * t + r`. -/
abbrev at_ (t : Fin cfg0.N) (r : Fin 512) : Fin 2048 := ⟨512 * t.val + r.val, by have : t.val < 4 := t.isLt; omega⟩

theorem V_w : V m c main_v0 (ix2 k n) = (args m c).w (ix2 k n) := by
  unfold V; after_results; pointwise []
  rfl

theorem blk0 : iblk m c 0 t (ix3 h r j) = (args m c).o (ix3 h (at_ t r) j) := by blk_ext! [iblk, V, idx t]
theorem blk1 : iblk m c 1 t (ix2 r l) = (args m c).za (at_ t r) l := by unfold Args.za; blk_ext! [iblk, V, idx t]
theorem blk2 : iblk m c 2 t (ix2 r l) = (args m c).cv (ix2 (at_ t r) l) := by blk_ext! [iblk, V, idx t]
theorem blk3 : iblk m c 3 t (ix2 k n) = (args m c).w (ix2 k n) :=
  Eq.trans (by blk_ext! [iblk, idx t]) (V_w m c k n)
theorem blk4 : iblk m c 4 t (ix2 r n) = (args m c).x (ix2 (at_ t r) n) := by blk_ext! [iblk, V, idx t]
theorem blk5 : iblk m c 5 t (ix2 r n) = (args m c).tg (ix2 (at_ t r) n) := by blk_ext! [iblk, V, idx t]
theorem blk6 (n : Fin 3072) : iblk m c 6 t (ix2 0 n) = (args m c).mr (ix2 0 n) := by blk_ext! [iblk, V, idx t]
theorem blk7 (n : Fin 3072) : iblk m c 7 t (ix2 0 n) = (args m c).b (ix2 0 n) := by blk_ext! [iblk, V, idx t]

/-- The terms of a block: the gate, the silu, the heads, the two halves of the weight, and what they give. -/
abbrev gT : FVec Ideal S1x1024 .f32 :=
  k0_pay5 (View.ld (iblk m c 6 t) (Rect.unit ![0, 2048] ![1, 1024] inb_S1x3072_S1x1024_0_2048))
    (View.ld (iblk m c 7 t) (Rect.unit ![0, 2048] ![1, 1024] inb_S1x3072_S1x1024_0_2048))
abbrev sT : FVec Ideal S512x512 .f32 := k0_pay6 (iblk m c 1 t)
abbrev oT : FVec Ideal S512x512 .f32 :=
  k0_pay7 (View.ld (iblk m c 0 t) (Rect.unit ![0, 0, 0] ![1, 512, 64] inb_S8x512x64_S1x512x64_0_0_0))
    (View.ld (iblk m c 0 t) (Rect.unit ![1, 0, 0] ![1, 512, 64] inb_S8x512x64_S1x512x64_1_0_0))
    (View.ld (iblk m c 0 t) (Rect.unit ![2, 0, 0] ![1, 512, 64] inb_S8x512x64_S1x512x64_2_0_0))
    (View.ld (iblk m c 0 t) (Rect.unit ![3, 0, 0] ![1, 512, 64] inb_S8x512x64_S1x512x64_3_0_0))
    (View.ld (iblk m c 0 t) (Rect.unit ![4, 0, 0] ![1, 512, 64] inb_S8x512x64_S1x512x64_4_0_0))
    (View.ld (iblk m c 0 t) (Rect.unit ![5, 0, 0] ![1, 512, 64] inb_S8x512x64_S1x512x64_5_0_0))
    (View.ld (iblk m c 0 t) (Rect.unit ![6, 0, 0] ![1, 512, 64] inb_S8x512x64_S1x512x64_6_0_0))
    (View.ld (iblk m c 0 t) (Rect.unit ![7, 0, 0] ![1, 512, 64] inb_S8x512x64_S1x512x64_7_0_0))
abbrev w0T : Vec Ideal S512x1024 .bf16 :=
  View.ld (iblk m c 3 t) (Rect.unit ![0, 0] ![512, 1024] inb_S1024x1024_S512x1024_0_0)
abbrev w1T : Vec Ideal S512x1024 .bf16 :=
  View.ld (iblk m c 3 t) (Rect.unit ![512, 0] ![512, 1024] inb_S1024x1024_S512x1024_512_0)
abbrev mT : FVec Ideal S512x1024 .f32 := k0_pay9 (sT m c t) (oT m c t) (iblk m c 2 t) (w0T m c t) (w1T m c t)
abbrev eT : FVec Ideal S512x1024 .f32 :=
  k0_pay10 (gT m c t) (sT m c t) (oT m c t) (iblk m c 2 t) (w0T m c t) (w1T m c t) (iblk m c 4 t) (iblk m c 5 t)
abbrev dT : FVec Ideal S512x1024 .f32 :=
  k0_pay12 (gT m c t) (sT m c t) (oT m c t) (iblk m c 2 t) (w0T m c t) (w1T m c t) (iblk m c 4 t) (iblk m c 5 t)
abbrev uT : FVec Ideal S512x1024 .bf16 := k0_pay16 (gT m c t) (dT m c t)
abbrev xT : FVec Ideal S512x1024 .f32 := k0_pay17 (gT m c t) (dT m c t) (iblk m c 3 t)

theorem gT_at : gT m c t (ix2 0 n) = (args m c).gate n := by
  rw [gT]; pointwise [k0_pay5]
  exact congrArg₂ (· + ·) (blk6 m c t _) (blk7 m c t _)

theorem sT_at : sT m c t (ix2 r l) = (args m c).sz (at_ t r) l := by
  rw [sT]; pointwise [k0_pay6]
  rw [blk1]; rfl

theorem oT_at : oT m c t (ix2 r l) = (args m c).om (at_ t r) l := by
  rw [oT]; pointwise [k0_pay7]
  rw [Cert.Qk.pick_at (fun h j => iblk m c 0 t (ix3 h r j)) l.val l.isLt, blk0]
  rfl

theorem w0T_at : w0T m c t (ix2 l n) = (args m c).w (ix2 (lo l) n) :=
  (View.ld_unit_apply_of _ _ _ _ _ (ix2 (lo l) n) (by intro a; fin_cases a <;> exact (Nat.zero_add _).symm)).trans (blk3 m c t _ n)

theorem w1T_at : w1T m c t (ix2 l n) = (args m c).w (ix2 (hi l) n) :=
  (View.ld_unit_apply_of _ _ _ _ _ (ix2 (hi l) n)
    (by intro a; fin_cases a <;> first | rfl | exact (Nat.zero_add _).symm)).trans (blk3 m c t _ n)

theorem mT_at : mT m c t (ix2 r n) = (args m c).mo (at_ t r) n := by
  rw [mT]; pointwise [k0_pay9, k0_pay8]
  simp only [oT_at, sT_at, blk2, w0T_at, w1T_at]
  rfl

theorem eT_at : eT m c t (ix2 r n) = (args m c).diff (at_ t r) n := by
  rw [eT]; pointwise [k0_pay10]
  exact congrArg₂ (· - ·) (congrArg₂ (· + ·) (blk4 m c t r n) (congrArg₂ (· * ·) (gT_at m c t n) (mT_at m c t r n))) (blk5 m c t r n)

theorem dT_at : dT m c t (ix2 r n) = (args m c).dy (at_ t r) n := by
  rw [dT]; pointwise [k0_pay12]
  exact congrArg (· * nth) (eT_at m c t r n)

theorem uT_at : uT m c t (ix2 r n) = (args m c).dmo (at_ t r) n := by
  rw [uT]; pointwise [k0_pay16]
  rw [dT_at, gT_at]; rfl

theorem xT_at : xT m c t (ix2 r k) = (args m c).dmix (at_ t r) k := by
  rw [xT]; pointwise [k0_pay17]
  simp only [uT_at, blk3]; rfl

theorem point8A (h0 : t.val % 4 = 0) : (outsAt0 m c t.val t.isLt).1 (ix2 r n) = (args m c).dy (at_ t r) n := by
  rw [outsAt0_A m c t h0]
  frame_out
  pointwise [k0_pay13]
  exact dT_at m c t r n

theorem point8B (h0 : ¬ t.val % 4 = 0) : (outsAt0 m c t.val t.isLt).1 (ix2 r n) = (args m c).dy (at_ t r) n := by
  rw [outsAt0_B m c t h0]
  frame_out
  pointwise [k0_pay13]
  exact dT_at m c t r n

theorem point9A (h0 : t.val % 4 = 0) : (outsAt0 m c t.val t.isLt).2.1 (ix2 r l) = (args m c).dmix (at_ t r) (hi l) := by
  rw [outsAt0_A m c t h0]
  frame_out
  pointwise [k0_pay19]
  exact xT_at m c t r (hi l)

theorem point9B (h0 : ¬ t.val % 4 = 0) : (outsAt0 m c t.val t.isLt).2.1 (ix2 r l) = (args m c).dmix (at_ t r) (hi l) := by
  rw [outsAt0_B m c t h0]
  frame_out
  pointwise [k0_pay19]
  exact xT_at m c t r (hi l)

theorem dza_at : k0_pay30 (F := Ideal) (iblk m c 1 t) (oT m c t) (k0_pay18 (gT m c t) (dT m c t) (iblk m c 3 t)) (ix3 0 r l)
    = (args m c).dza (at_ t r) l := by
  pointwise [k0_pay30, k0_pay18]
  have e := xT_at m c t r (lo l)
  have e' := oT_at m c t r l
  rw [blk1]
  exact congrArg₂ (· * ·) (congrArg (· * _) e) e'

theorem point10A (h0 : t.val % 4 = 0) : (outsAt0 m c t.val t.isLt).2.2.1 (ix3 0 r l) = (args m c).dza (at_ t r) l := by
  rw [outsAt0_A m c t h0]
  frame_out
  exact dza_at m c t r l

theorem point10B (h0 : ¬ t.val % 4 = 0) : (outsAt0 m c t.val t.isLt).2.2.1 (ix3 0 r l) = (args m c).dza (at_ t r) l := by
  rw [outsAt0_B m c t h0]
  frame_out
  exact dza_at m c t r l

theorem point13A (h0 : t.val % 4 = 0) : (outsAt0 m c t.val t.isLt).2.2.2.2.2.1 (ix2 0 n)
    = 0 + ∑ r, (args m c).dy (at_ t r) n * (args m c).mo (at_ t r) n := by
  rw [outsAt0_A m c t h0]
  frame_out
  pointwise [k0_pay15, k0_pay14, k0_pay4]
  exact Finset.sum_congr rfl fun r _ => congrArg₂ (· * ·) (dT_at m c t r n) (mT_at m c t r n)

theorem point13B (h0 : ¬ t.val % 4 = 0) : (outsAt0 m c t.val t.isLt).2.2.2.2.2.1 (ix2 0 n)
    = (outsAt0 m c (t.val - 1) (Nat.lt_of_le_of_lt (Nat.sub_le _ _) t.isLt)).2.2.2.2.2.1 (ix2 0 n)
      + ∑ r, (args m c).dy (at_ t r) n * (args m c).mo (at_ t r) n := by
  rw [outsAt0_B m c t h0]
  frame_out
  pointwise [k0_pay15, k0_pay14]
  exact congrArg (_ + ·) (Finset.sum_congr rfl fun r _ => congrArg₂ (· * ·) (dT_at m c t r n) (mT_at m c t r n))

theorem point14A (h0 : t.val % 4 = 0) : (outsAt0 m c t.val t.isLt).2.2.2.2.2.2 (ix2 0 0)
    = 0 + ∑ r, ∑ n, (args m c).diff (at_ t r) n * (args m c).diff (at_ t r) n := by
  rw [outsAt0_A m c t h0]
  frame_out
  pointwise [k0_pay11]
  exact Finset.sum_congr rfl fun r _ => Finset.sum_congr rfl fun n _ => congrArg₂ (· * ·) (eT_at m c t r n) (eT_at m c t r n)

theorem point14B (h0 : ¬ t.val % 4 = 0) : (outsAt0 m c t.val t.isLt).2.2.2.2.2.2 (ix2 0 0)
    = (outsAt0 m c (t.val - 1) (Nat.lt_of_le_of_lt (Nat.sub_le _ _) t.isLt)).2.2.2.2.2.2 (ix2 0 0)
      + ∑ r, ∑ n, (args m c).diff (at_ t r) n * (args m c).diff (at_ t r) n := by
  rw [outsAt0_B m c t h0]
  frame_out
  pointwise [k0_pay11]
  exact congrArg (_ + ·) (Finset.sum_congr rfl fun r _ => Finset.sum_congr rfl fun n _ =>
    congrArg₂ (· * ·) (eT_at m c t r n) (eT_at m c t r n))

theorem head_at (i : Fin 512) (he : i.val = 64 * h.val + j.val) :
    k0_pay20 (gT m c t) (sT m c t) (dT m c t) (iblk m c 3 t) (ix2 r i) = (args m c).dom (at_ t r) h j := by
  have hl : 64 * h.val + j.val < 512 := by omega
  obtain ⟨i, hi⟩ := i
  obtain rfl : i = 64 * h.val + j.val := he
  pointwise [k0_pay20, k0_pay18]
  exact congrArg₂ (· * ·) (xT_at m c t r (lo ⟨64 * h.val + j.val, hl⟩)) (sT_at m c t r ⟨64 * h.val + j.val, hl⟩)

theorem point11A (h0 : t.val % 4 = 0) : (outsAt0 m c t.val t.isLt).2.2.2.1 (ix3 h r j) = (args m c).dom (at_ t r) h j := by
  rw [outsAt0_A m c t h0]
  frame_out
  canon_tiles x hx
  all_goals
    obtain ⟨z, r', n, rfl⟩ : ∃ z k l, x = ix3 z k l := ⟨x 0, x 1, x 2, by ext j; fin_cases j <;> rfl⟩
    obtain rfl : 0 = z := Fin.ext (by omega)
    obtain rfl : r = r' := Fin.ext hx1
    obtain rfl : j = n := Fin.ext hx2
    have e : h.val = _ := hx0
    pointwise [k0_pay21, k0_pay22, k0_pay23, k0_pay24, k0_pay25, k0_pay26, k0_pay27, k0_pay28, k0_pay29]
    exact head_at m c t r h j _ (by rw [e]; first | rfl | exact (Nat.zero_add _).symm)

theorem point11B (h0 : ¬ t.val % 4 = 0) : (outsAt0 m c t.val t.isLt).2.2.2.1 (ix3 h r j) = (args m c).dom (at_ t r) h j := by
  rw [outsAt0_B m c t h0]
  frame_out
  canon_tiles x hx
  all_goals
    obtain ⟨z, r', n, rfl⟩ : ∃ z k l, x = ix3 z k l := ⟨x 0, x 1, x 2, by ext j; fin_cases j <;> rfl⟩
    obtain rfl : 0 = z := Fin.ext (by omega)
    obtain rfl : r = r' := Fin.ext hx1
    obtain rfl : j = n := Fin.ext hx2
    have e : h.val = _ := hx0
    pointwise [k0_pay21, k0_pay22, k0_pay23, k0_pay24, k0_pay25, k0_pay26, k0_pay27, k0_pay28, k0_pay29]
    exact head_at m c t r h j _ (by rw [e]; first | rfl | exact (Nat.zero_add _).symm)

/-- A buffer written in two halves. -/
theorem half_lo (P Q : Vec Ideal S512x1024 .f32) (L : List (View.Piece (Elt Ideal) S1024x1024 .f32)) :
    View.canon (⟨Rect.unit ![512, 0] ![512, 1024] inb_S1024x1024_S512x1024_512_0, P⟩
      :: ⟨Rect.unit ![0, 0] ![512, 1024] inb_S1024x1024_S512x1024_0_0, Q⟩ :: L) (ix2 (lo l) n) = Q (ix2 l n) := by
  have hm : (ix2 (lo l) n : S1024x1024.Idx) ∉ (Rect.unit ![512, 0] ![512, 1024] inb_S1024x1024_S512x1024_512_0).set := by
    intro hm
    have h0 := (Rect.mem_set_unit.mp hm 0).1
    simp only [ix2, Matrix.cons_val_zero, Matrix.cons_val] at h0
    exact absurd h0 (Nat.not_le.mpr l.isLt)
  refine (View.canon_cons_of_not_mem (⟨Rect.unit ![512, 0] ![512, 1024] inb_S1024x1024_S512x1024_512_0, P⟩
    : View.Piece (Elt Ideal) S1024x1024 .f32) _ hm).trans ?_
  have e : (Rect.unit ![0, 0] ![512, 1024] inb_S1024x1024_S512x1024_0_0).emb (ix2 l n) = (ix2 (lo l) n : S1024x1024.Idx) := by
    blk_ext!
  rw [← e]
  exact View.canon_cons_emb _ _ _ _

theorem half_hi (P Q : Vec Ideal S512x1024 .f32) (L : List (View.Piece (Elt Ideal) S1024x1024 .f32)) :
    View.canon (⟨Rect.unit ![512, 0] ![512, 1024] inb_S1024x1024_S512x1024_512_0, P⟩
      :: ⟨Rect.unit ![0, 0] ![512, 1024] inb_S1024x1024_S512x1024_0_0, Q⟩ :: L) (ix2 (hi l) n) = P (ix2 l n) := by
  have e : (Rect.unit ![512, 0] ![512, 1024] inb_S1024x1024_S512x1024_512_0).emb (ix2 l n) = (ix2 (hi l) n : S1024x1024.Idx) := by
    blk_ext!
  rw [← e]
  exact View.canon_cons_emb _ _ _ _

/-- The weight's gradient a block adds: the attention's rows, and the convolution's. -/
theorem glo_at (X : Vec Ideal S512x1024 .f32) : k0_pay1 (k0_pay31 (k0_pay8 (sT m c t) (oT m c t)) (uT m c t) X) (ix2 l n)
    = X (ix2 l n) + ∑ r, (args m c).om (at_ t r) l * (args m c).sz (at_ t r) l * (args m c).dmo (at_ t r) n := by
  pointwise [k0_pay1, k0_pay31, k0_pay8]
  exact congrArg (_ + ·) (Finset.sum_congr rfl fun r _ =>
    congrArg₂ (· * ·) (congrArg₂ (· * ·) (oT_at m c t r l) (sT_at m c t r l)) (uT_at m c t r n))

theorem ghi_at (X : Vec Ideal S512x1024 .f32) : k0_pay2 (iblk m c 2 t) (uT m c t) X (ix2 l n)
    = X (ix2 l n) + ∑ r, (args m c).cv (ix2 (at_ t r) l) * (args m c).dmo (at_ t r) n := by
  pointwise [k0_pay2]
  exact congrArg (_ + ·) (Finset.sum_congr rfl fun r _ => congrArg₂ (· * ·) (blk2 m c t r l) (uT_at m c t r n))

theorem ld_lo (X : Vec Ideal S1024x1024 .f32) :
    View.ld X (Rect.unit ![0, 0] ![512, 1024] inb_S1024x1024_S512x1024_0_0) (ix2 l n) = X (ix2 (lo l) n) :=
  View.ld_unit_apply_of _ _ _ _ _ (ix2 (lo l) n) (by intro a; fin_cases a <;> exact (Nat.zero_add _).symm)

theorem ld_hi (X : Vec Ideal S1024x1024 .f32) :
    View.ld X (Rect.unit ![512, 0] ![512, 1024] inb_S1024x1024_S512x1024_512_0) (ix2 l n) = X (ix2 (hi l) n) :=
  View.ld_unit_apply_of _ _ _ _ _ (ix2 (hi l) n) (by intro a; fin_cases a <;> first | rfl | exact (Nat.zero_add _).symm)

theorem zeros (i : S1024x1024.Idx) : k0_pay3 (F := Ideal) i = 0 := by
  obtain ⟨k, n, rfl⟩ : ∃ k l, i = ix2 k l := ⟨i 0, i 1, by ext j; fin_cases j <;> rfl⟩
  pointwise [k0_pay3]

theorem lo_A (h0 : t.val % 4 = 0) : (outsAt0 m c t.val t.isLt).2.2.2.2.1 (ix2 (lo l) n)
    = 0 + ∑ r, (args m c).om (at_ t r) l * (args m c).sz (at_ t r) l * (args m c).dmo (at_ t r) n := by
  rw [outsAt0_A m c t h0]
  frame_out
  refine (half_lo l n _ _ _).trans ((glo_at m c t l n _).trans (congrArg (· + _) ?_))
  rw [View.readCov_fill _ _ _ _ _ (by decide), ld_lo, zeros]

theorem hi_A (h0 : t.val % 4 = 0) : (outsAt0 m c t.val t.isLt).2.2.2.2.1 (ix2 (hi l) n)
    = 0 + ∑ r, (args m c).cv (ix2 (at_ t r) l) * (args m c).dmo (at_ t r) n := by
  rw [outsAt0_A m c t h0]
  frame_out
  refine (half_hi l n _ _ _).trans ((ghi_at m c t l n _).trans (congrArg (· + _) ?_))
  rw [View.readCov_skip _ _ _ _ _ (by decide), View.readCov_fill _ _ _ _ _ (by decide), ld_hi, zeros]

theorem lo_B (h0 : ¬ t.val % 4 = 0) : (outsAt0 m c t.val t.isLt).2.2.2.2.1 (ix2 (lo l) n)
    = (outsAt0 m c (t.val - 1) (Nat.lt_of_le_of_lt (Nat.sub_le _ _) t.isLt)).2.2.2.2.1 (ix2 (lo l) n)
      + ∑ r, (args m c).om (at_ t r) l * (args m c).sz (at_ t r) l * (args m c).dmo (at_ t r) n := by
  rw [outsAt0_B m c t h0]
  frame_out
  exact (half_lo l n _ _ _).trans ((glo_at m c t l n _).trans (congrArg (· + _) (ld_lo l n _)))

theorem hi_B (h0 : ¬ t.val % 4 = 0) : (outsAt0 m c t.val t.isLt).2.2.2.2.1 (ix2 (hi l) n)
    = (outsAt0 m c (t.val - 1) (Nat.lt_of_le_of_lt (Nat.sub_le _ _) t.isLt)).2.2.2.2.1 (ix2 (hi l) n)
      + ∑ r, (args m c).cv (ix2 (at_ t r) l) * (args m c).dmo (at_ t r) n := by
  rw [outsAt0_B m c t h0]
  frame_out
  exact (half_hi l n _ _ _).trans ((ghi_at m c t l n _).trans (congrArg (· + _) (ld_hi l n _)))

/-- What a buffer that starts at zero holds after the last block. -/
theorem total (o : (n : ℕ) → n < cfg0.N → EReal) (f : Fin 2048 → EReal)
    (hA : ∀ t : Fin cfg0.N, t.val % 4 = 0 → o t.val t.isLt = 0 + ∑ r : Fin 512, f (at_ t r))
    (hB : ∀ t : Fin cfg0.N, ¬ t.val % 4 = 0 →
      o t.val t.isLt = o (t.val - 1) (Nat.lt_of_le_of_lt (Nat.sub_le _ _) t.isLt) + ∑ r : Fin 512, f (at_ t r))
    (h3 : t.val = 3) : o t.val t.isLt = ∑ r, f r := by
  obtain ⟨n, hn⟩ := t
  obtain rfl : n = 3 := h3
  have e0 := hA ⟨0, by decide⟩ rfl
  have e1 := hB ⟨1, by decide⟩ (by decide)
  have e2 := hB ⟨2, by decide⟩ (by decide)
  have e3 := hB ⟨3, by decide⟩ (by decide)
  refine e3.trans ?_
  refine (congrArg (· + _) (e2.trans (congrArg (· + _) (e1.trans (congrArg (· + _) e0))))).trans ?_
  refine Eq.trans ?_ (sum_blocks 4 512 f).symm
  rw [Fin.sum_univ_four, zero_add]
  rfl

theorem flush_last : ∀ t : Fin cfg0.N, ((cfg0.win 12).flush t = true → t.val = 3) ∧ ((cfg0.win 13).flush t = true → t.val = 3)
    ∧ ((cfg0.win 14).flush t = true → t.val = 3) := by
  decide +kernel

theorem point12 (h3 : t.val = 3) : (outsAt0 m c t.val t.isLt).2.2.2.2.1 (ix2 k n) = (args m c).rw (ix2 k n) := by
  by_cases hk : k.val < 512
  · obtain ⟨l, rfl⟩ : ∃ l, k = lo l := ⟨⟨k.val, hk⟩, rfl⟩
    refine (total t (fun u hu => (outsAt0 m c u hu).2.2.2.2.1 (ix2 (lo l) n))
      (fun s => (args m c).om s l * (args m c).sz s l * (args m c).dmo s n) (fun t h0 => lo_A m c t l n h0)
      (fun t h0 => lo_B m c t l n h0) h3).trans (Eq.symm (dif_pos hk))
  · obtain ⟨l, rfl⟩ : ∃ l, k = hi l := ⟨⟨k.val - 512, by omega⟩, Fin.ext (by show k.val = 512 + (k.val - 512); omega)⟩
    refine (total t (fun u hu => (outsAt0 m c u hu).2.2.2.2.1 (ix2 (hi l) n))
      (fun s => (args m c).cv (ix2 s l) * (args m c).dmo s n) (fun t h0 => hi_A m c t l n h0)
      (fun t h0 => hi_B m c t l n h0) h3).trans (Eq.trans ?_ (Eq.symm (dif_neg hk)))
    exact congrArg (fun l => (args m c).ghi l n) (Fin.ext (by show l.val = 512 + l.val - 512; omega))

theorem point13 (h3 : t.val = 3) : (outsAt0 m c t.val t.isLt).2.2.2.2.2.1 (ix2 0 n) = (args m c).dgate n :=
  total t (fun u hu => (outsAt0 m c u hu).2.2.2.2.2.1 (ix2 0 n)) _ (fun t h0 => point13A m c t n h0) (fun t h0 => point13B m c t n h0) h3

theorem point14 (h3 : t.val = 3) : (outsAt0 m c t.val t.isLt).2.2.2.2.2.2 (ix2 0 0) = (args m c).loss :=
  total t (fun u hu => (outsAt0 m c u hu).2.2.2.2.2.2 (ix2 0 0)) _ (fun t h0 => point14A m c t h0) (fun t h0 => point14B m c t h0) h3

theorem point8 : (outsAt0 m c t.val t.isLt).1 (ix2 r n) = (args m c).dy (at_ t r) n := by
  by_cases h0 : t.val % 4 = 0
  · exact point8A m c t r n h0
  · exact point8B m c t r n h0

theorem point9 : (outsAt0 m c t.val t.isLt).2.1 (ix2 r l) = (args m c).dmix (at_ t r) (hi l) := by
  by_cases h0 : t.val % 4 = 0
  · exact point9A m c t r l h0
  · exact point9B m c t r l h0

theorem point10 : (outsAt0 m c t.val t.isLt).2.2.1 (ix3 0 r l) = (args m c).dza (at_ t r) l := by
  by_cases h0 : t.val % 4 = 0
  · exact point10A m c t r l h0
  · exact point10B m c t r l h0

theorem point11 : (outsAt0 m c t.val t.isLt).2.2.2.1 (ix3 h r j) = (args m c).dom (at_ t r) h j := by
  by_cases h0 : t.val % 4 = 0
  · exact point11A m c t r h j h0
  · exact point11B m c t r h j h0

theorem final8 : (dats m 0 c).arrAt 8 cfg0.N = (args m c).rdy := by
  refine (dats m 0 c).arrAt_eq_of_covers 8 _ (by decide +kernel) fun t hf y => ?_
  blk_simp
  rw [after0_8]
  obtain ⟨k, l, rfl⟩ : ∃ k l, y = ix2 k l := ⟨y 0, y 1, by ext i; fin_cases i <;> rfl⟩
  refine (point8 m c t k l).trans ((Args.rdy_at _ _ _).symm.trans ?_)
  exact congrArg (args m c).rdy (by blk_ext! [idx t])

theorem final9 : (dats m 0 c).arrAt 9 cfg0.N = (args m c).rconv := by
  refine (dats m 0 c).arrAt_eq_of_covers 9 _ (by decide +kernel) fun t hf y => ?_
  blk_simp
  rw [after0_9]
  obtain ⟨k, l, rfl⟩ : ∃ k l, y = ix2 k l := ⟨y 0, y 1, by ext i; fin_cases i <;> rfl⟩
  refine (point9 m c t k l).trans ((Args.rconv_at _ _ _).symm.trans ?_)
  exact congrArg (args m c).rconv (by blk_ext! [idx t])

theorem final10 : (dats m 0 c).arrAt 10 cfg0.N
    = fun i => if (i 0).val = 3 then (args m c).rza (ix2 (i 1) (i 2)) else V m c main_v1_2 i := by
  refine (dats m 0 c).arrAt_eq_of_coversWhere 10 _ (fun β => β 0 = 3) (by decide +kernel) (fun t hf y => ?_)
    (fun j => by blk_simp [Pipeline.Window.cell_apply]; omega)
  blk_simp
  rw [after0_10]
  obtain ⟨z, r, l, rfl⟩ : ∃ z k l, y = ix3 z k l := ⟨y 0, y 1, y 2, by ext i; fin_cases i <;> rfl⟩
  obtain rfl : z = 0 := Fin.ext (by omega)
  rw [point10 m c t r l]
  have e : (win0_10.blk t).view.emb (ix3 0 r l) = ix3 3 (at_ t r) l := by blk_ext! [idx t]
  rw [e]
  rfl

theorem final11 : (dats m 0 c).arrAt 11 cfg0.N = (args m c).rom := by
  refine (dats m 0 c).arrAt_eq_of_covers 11 _ (by decide +kernel) fun t hf y => ?_
  blk_simp
  rw [after0_11]
  obtain ⟨h, k, l, rfl⟩ : ∃ z k l, y = ix3 z k l := ⟨y 0, y 1, y 2, by ext i; fin_cases i <;> rfl⟩
  refine (point11 m c t k h l).trans ((Args.rom_at _ _ _ _).symm.trans ?_)
  exact congrArg (args m c).rom (by blk_ext! [idx t])

theorem final12 : (dats m 0 c).arrAt 12 cfg0.N = (args m c).rw := by
  refine (dats m 0 c).arrAt_eq_of_covers 12 _ (by decide +kernel) fun t hf y => ?_
  have h3 := (flush_last t).1 hf
  blk_simp
  rw [after0_12]
  obtain ⟨k, l, rfl⟩ : ∃ k l, y = ix2 k l := ⟨y 0, y 1, by ext i; fin_cases i <;> rfl⟩
  rw [point12 m c t k l h3]
  exact congrArg (args m c).rw (by blk_ext! [idx t])

theorem final13 : (dats m 0 c).arrAt 13 cfg0.N = (args m c).rgate := by
  refine (dats m 0 c).arrAt_eq_of_covers 13 _ (by decide +kernel) fun t hf y => ?_
  have h3 := (flush_last t).2.1 hf
  blk_simp
  rw [after0_13]
  obtain ⟨k, l, rfl⟩ : ∃ k l, y = ix2 k l := ⟨y 0, y 1, by ext i; fin_cases i <;> rfl⟩
  obtain rfl : k = 0 := Fin.ext (by omega)
  refine (point13 m c t l h3).trans ((Args.rgate_at _ _).symm.trans ?_)
  exact congrArg (args m c).rgate (by blk_ext! [idx t])

theorem final14 : (dats m 0 c).arrAt 14 cfg0.N = (args m c).rloss := by
  refine (dats m 0 c).arrAt_eq_of_covers 14 _ (by decide +kernel) fun t hf y => ?_
  have h3 := (flush_last t).2.2 hf
  blk_simp
  rw [after0_14]
  obtain ⟨k, l, rfl⟩ : ∃ k l, y = ix2 k l := ⟨y 0, y 1, by ext i; fin_cases i <;> rfl⟩
  obtain rfl : k = 0 := Fin.ext (by omega)
  obtain rfl : l = 0 := Fin.ext (by omega)
  exact point14 m c t h3

/-- The lines after the region: the plane of the projection's gradient that was written. -/
theorem plane_eq : Pipeline.afterTail₀ cfgs (dats m) 0 (V0 m) [hostOps1] c main_v3 = (args m c).rza := by
  have e : Pipeline.withArrays (cfgs 0).spec c (V0 m c) (fun w => (dats m 0 c).arrAt w (cfgs 0).N) (Proc.devRef .tc main_v1_2)
      = (dats m 0 c).arrAt 10 cfg0.N := Pipeline.withArrays_arr (cfgs 0).spec (by decide) c _ _ 10
  rw [final10] at e
  unfold Pipeline.afterTail₀
  generalize Pipeline.withArrays (cfgs 0).spec c (V0 m c) (fun w => (dats m 0 c).arrAt w (cfgs 0).N) = W at e ⊢
  show StableHlo.after hostOps1 W _ = _
  after_results
  rw [e]
  funext i
  obtain ⟨r, l, rfl⟩ : ∃ k l, i = ix2 k l := ⟨i 0, i 1, by ext j; fin_cases j <;> rfl⟩
  pointwise []
  done

/-- The kernel's run: every argument kept, and every result at its value. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = (args m c).rdy
      ∧ r.2.mem ((c.tc : Thread nD τ).loc main_v1_1) = (args m c).rconv
      ∧ r.2.mem ((c.tc : Thread nD τ).loc main_v3) = (args m c).rza
      ∧ r.2.mem ((c.tc : Thread nD τ).loc main_v1_3) = (args m c).rom
      ∧ r.2.mem ((c.tc : Thread nD τ).loc main_v1_4) = (args m c).rw
      ∧ r.2.mem ((c.tc : Thread nD τ).loc main_v1_5) = (args m c).rgate
      ∧ r.2.mem ((c.tc : Thread nD τ).loc main_v1_6) = (args m c).rloss) :=
  (θ_run defs _ _).mono (fun r hr c => ⟨((hr c).1 8).trans (final8 m c), ((hr c).1 9).trans (final9 m c),
    ((hr c).2 main_v3 (by decide)).trans (plane_eq m c), ((hr c).1 11).trans (final11 m c), ((hr c).1 12).trans (final12 m c),
    ((hr c).1 13).trans (final13 m c), ((hr c).1 14).trans (final14 m c)⟩) (run_main m ρ)

end Cert.Loss
end
-- ==== Proof.Silu.Pair.lean ====
/-
  The gradient through `silu` of the summed first rows: kernel and reference return the same row, at real arguments.
-/
module

public import proofs.«01_k».proof.Defs
public import proofs.«01_k».proof.Proof.Gen.Pre_silu_finite
public import proofs.«01_k».proof.Proof.Gen.Kernel3Ideal.Value
public import proofs.«01_k».proof.Proof.Gen.Reference3Ideal.Read
public import proofs.«01_k».proof.Proof.Gen.Reference3Ideal.Run
public import proofs.«01_k».proof.Proof.Finite
public import Idealize.ShloMosaic.Lib.Pipeline.ValueKit

@[expose] public section

set_option maxRecDepth 16384

noncomputable section

namespace Cert.Silu

open Idealize.ShloMosaic Idealize.ShloMosaic.TcCoe Idealize.SL.Sem

/-- The derivative of `silu` summed as the reference does, at real arguments. -/
theorem gate (s x : EReal) (hs : IsReal s) (hx : IsReal x) :
    s * Ideal.logistic x + x * s * (Ideal.logistic x * (1 - Ideal.logistic x))
      = s * (Ideal.logistic x * (1 + x * (1 - Ideal.logistic x))) := by
  have hl := hx.logistic
  obtain ⟨s, rfl⟩ := hs
  generalize Ideal.logistic x = l at *
  obtain ⟨x, rfl⟩ := hx
  obtain ⟨l, rfl⟩ := hl
  norm_cast
  ring

section
open Cert.Reference3Ideal Cert.Reference3Ideal.Gen Cert.Reference3Ideal.Value Cert.Reference3Ideal.Read
variable (a : FVec Ideal S4x8x1024 .f32) (b : FVec Ideal S1024 .f32) (l : Fin 1024)

/-- The logistic the reference reads. -/
theorem logistic_at : val_main_v0_2 (F := Ideal) b (ix1 l) = Ideal.logistic (b (ix1 l)) := by
  pointwise [val_main_v0_2, val_main_call0_v3, val_main_call0_v4, val_main_call0_v1, val_main_call0_v2,
    val_main_call0_cst_0, val_main_call0_v0, val_main_call0_cst]
  rfl

/-- The first rows' sum. -/
theorem sum_at : val_main_v3 (F := Ideal) a (ix1 l) = a (ix3 0 0 l) + a (ix3 1 0 l) + a (ix3 2 0 l) + a (ix3 3 0 l) := by
  pointwise [val_main_v3, val_main_v2, val_main_v1, val_main_cst]
  rw [Fin.sum_univ_four]

/-- The reference's row is the kernel's. -/
theorem row_eq (ha : ∀ i, IsReal (a i)) (hb : ∀ i, IsReal (b i)) :
    val_main_v5 (F := Ideal) a b = Cert.Kernel3Ideal.Value.G2 (F := Ideal) a b := by
  funext i
  obtain ⟨k, l, rfl⟩ : ∃ k l, i = ix2 k l := ⟨i 0, i 1, by ext j; fin_cases j <;> rfl⟩
  obtain rfl : k = 0 := Fin.ext (by omega)
  pointwise [val_main_v5, val_main_v4, val_main_call1_v1, val_main_call1_v2, val_main_call1_v0, val_main_v0_1, val_main_call0_v7,
    val_main_call0_v6, val_main_call0_cst_1, Cert.Kernel3Ideal.Gen.k0_pay1]
  rw [logistic_at, sum_at]
  exact gate _ _ ((((ha _).add (ha _)).add (ha _)).add (ha _)) (hb _)

end

/-- The reference's frame: its run read at the arguments; it declares no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Kernel and reference return the same row. -/
theorem algebraic : Cert.algebraic_Kernel3Ideal_Reference3Ideal_pre_silu_finite := by
  intro m ρ m' ρ' hpre hagree
  have e (c : Dev Cert.Kernel3Ideal.nD) := hagree c
  refine ⟨fun c => Cert.Kernel3Ideal.Value.G2
      (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1)),
    Cert.Kernel3Ideal.Value.run m ρ,
    (θ_run Cert.Reference3Ideal.defs _ _).mono (fun r h c => ⟨(h c).1.trans ?_, (h c).2⟩)
      (Cert.Reference3Ideal.Value.run (F := Ideal) m' ρ')⟩
  rw [Cert.Reference3Ideal.Read.val_main_v5_eq, (e c).1, (e c).2]
  exact row_eq _ _ (fun i => IsReal.of_cmpf _ _ i IsReal.inf_f32 (congrFun (hpre c).1 i))
    fun i => IsReal.of_cmpf _ _ i IsReal.inf_f32 (congrFun (hpre c).2 i)

end Cert.Silu
end
-- ==== Proof.Loss.Pair.lean ====
/-
  The loss, the output projection and their gradients: kernel and `jax.vjp` agree.
-/
module

public import proofs.«01_k».proof.Defs
public import proofs.«01_k».proof.Proof.Gen.Pre_loss_finite
public import proofs.«01_k».proof.Proof.Gen.Reference8Ideal.Read
public import proofs.«01_k».proof.Proof.Gen.Reference8Ideal.Run
public import proofs.«01_k».proof.Proof.Loss.Value
public import proofs.«01_k».proof.Proof.Silu.Pair
public import proofs.«01_k».proof.Proof.Attn.Row

@[expose] public section

set_option maxRecDepth 16384

noncomputable section

namespace Cert.Loss

open Idealize.ShloMosaic Idealize.ShloMosaic.TcCoe Idealize.SL.Sem
open Cert.Norm Cert.Heads

/-- The reference's frame: its run read at the arguments; it declares no semaphore. -/
theorem frame_reference : Cert.quiescent_Reference8Ideal := fun m ρ _ =>
  (θ_run Cert.Reference8Ideal.defs _ _).mono (fun r h => ⟨fun c => (h c).2.2.2.2.2.2.2,
      Idealize.ShloMosaic.sem_eq_zero_of_no_sems (by decide) r.2⟩)
    (Cert.Reference8Ideal.Value.run (F := Ideal) m ρ)

theorem word_2 : Ideal.ofBits .f32 0x40000000#32 = ((2 : ℝ) : EReal) := by
  simp [Ideal.ofBits, Ideal.ieee]
  show ((8388608 : ℝ) : EReal) * ((2 ^ 22 : ℝ) : EReal)⁻¹ = ((2 : ℝ) : EReal)
  rw [← EReal.coe_inv, ← EReal.coe_mul]
  norm_num

theorem word_2048 : Ideal.ofBits .f32 0x45000000#32 = ((2048 : ℝ) : EReal) := by
  simp [Ideal.ofBits, Ideal.ieee]
  show ((8388608 : ℝ) : EReal) * ((2 ^ 12 : ℝ) : EReal)⁻¹ = ((2048 : ℝ) : EReal)
  rw [← EReal.coe_inv, ← EReal.coe_mul]
  norm_num

theorem word_1_2 : Ideal.ofBits .f32 0x3F000000#32 = ((1 / 2 : ℝ) : EReal) := by
  simp [Ideal.ofBits, Ideal.ieee]
  rw [← EReal.coe_mul]
  norm_num

theorem word_nth : nth = ((1 / 1024 : ℝ) : EReal) := by
  simp [nth, Ideal.ofBits, Ideal.ieee]
  rw [← EReal.coe_mul]
  norm_num

/-- The columns are the attention's and the convolution's. -/
theorem sum_halves (f : Fin 1024 → EReal) : ∑ k, f k = ∑ l, f (lo l) + ∑ l, f (hi l) :=
  Fin.sum_univ_add (a := 512) (b := 512) f

/-- Half a mean's factor, undone. -/
theorem weigh (d : EReal) : Ideal.div (Ideal.ofBits .f32 0x3F000000#32 * 1) (Ideal.ofBits .f32 0x44800000#32)
    * (Ideal.ofBits .f32 0x40000000#32 * d) = d * nth := by
  rw [word_1_2, word_1024, word_2, word_nth, mul_one, Attn.div_coe_coe _ (by norm_num), ← mul_assoc, ← EReal.coe_mul, mul_comm]
  exact congrArg (fun q : ℝ => d * (q : EReal)) (by norm_num)

/-- The mean of the squares, summed, without its factor. -/
theorem unweigh (d : Fin 2048 → EReal) (hd : ∀ s, IsReal (d s)) :
    Ideal.ofBits .f32 0x3F000000#32 * (∑ s, Ideal.div (d s) (Ideal.ofBits .f32 0x44800000#32)) * Ideal.ofBits .f32 0x45000000#32 = ∑ s, d s := by
  choose f hf using hd
  obtain rfl : d = fun k => (f k : EReal) := funext hf
  have e (s) : Ideal.div (f s : EReal) ((1024 : ℝ) : EReal) = ((f s / 1024 : ℝ) : EReal) := Attn.div_coe_coe _ (by norm_num)
  simp only [word_1_2, word_1024, word_2048, e, Attn.coe_sum, ← EReal.coe_mul]
  refine congrArg _ ?_
  rw [← Finset.sum_div]
  ring

namespace Args

/-- What the results read is finite. -/
structure Fin (K : Args) : Prop where
  o : ∀ i, IsReal (K.o i)
  p : ∀ i, IsReal (K.p i)
  cv : ∀ i, IsReal (K.cv i)
  w : ∀ i, IsReal (K.w i)
  x : ∀ i, IsReal (K.x i)
  tg : ∀ i, IsReal (K.tg i)
  mr : ∀ i, IsReal (K.mr i)
  b : ∀ i, IsReal (K.b i)

variable {K : Args} (hK : K.Fin) (s : _root_.Fin 2048) (l : _root_.Fin 512) (k n : _root_.Fin 1024)
include hK

theorem Fin.gate : IsReal (K.gate n) := (hK.mr _).add (hK.b _)
theorem Fin.za : IsReal (K.za s l) := hK.p _
theorem Fin.sz : IsReal (K.sz s l) := (hK.p _).mul (hK.p _).logistic
theorem Fin.mo : IsReal (K.mo s n) :=
  (IsReal.sum _ fun l => ((hK.o _).mul (hK.sz s l)).mul (hK.w _)).add (IsReal.sum _ fun l => (hK.cv _).mul (hK.w _))
theorem Fin.diff : IsReal (K.diff s n) := ((hK.x _).add ((hK.gate n).mul (hK.mo s n))).sub (hK.tg _)
theorem Fin.dmo : IsReal (K.dmo s n) := ((hK.diff s n).mul ⟨_, word_nth⟩).mul (hK.gate n)
theorem Fin.dmix : IsReal (K.dmix s k) := IsReal.sum _ fun n => (hK.dmo s n).mul (hK.w _)

end Args

section
open Cert.Reference8Ideal.Read
variable (K : Args) (s : Fin 2048) (h : Fin 8) (j : Fin 64) (l : Fin 512) (k n : Fin 1024)

theorem ref_gate : val_main_v3 (F := Ideal) K.mr K.b (ix2 0 n) = K.gate n := by
  pointwise [val_main_v3, val_main_v0]
  rfl

theorem ref_om : val_main_v7 (F := Ideal) K.o (ix2 s l) = K.om s l := by
  pointwise [val_main_v7, val_main_v4]
  rfl

theorem ref_za : val_main_v5 (F := Ideal) K.p (ix2 s l) = K.za s l := by
  pointwise [val_main_v5]
  rfl

theorem ref_lg : val_main_v8_2 (F := Ideal) K.p (ix2 s l) = Ideal.logistic (K.za s l) := by
  pointwise [val_main_v8_2, val_main_call0_v3, val_main_call0_v4, val_main_call0_v1, val_main_call0_v2,
    val_main_call0_cst_0, val_main_call0_v0, val_main_call0_cst]
  rw [ref_za]
  rfl

theorem ref_sz : val_main_v8_0 (F := Ideal) K.p (ix2 s l) = K.sz s l := by
  pointwise [val_main_v8_0]
  rw [ref_za, ref_lg]
  rfl

theorem ref_lo : val_main_v10 (F := Ideal) K.o K.p K.cv (ix2 s (lo l)) = K.om s l * K.sz s l := by
  pointwise [val_main_v10, val_main_v9]
  rw [ref_om, ref_sz]

theorem ref_hi : val_main_v10 (F := Ideal) K.o K.p K.cv (ix2 s (hi l)) = K.cv (ix2 s l) := by
  pointwise [val_main_v10, val_main_v6]

theorem ref_mo : val_main_v11 (F := Ideal) K.o K.p K.cv K.w (ix2 s n) = K.mo s n := by
  pointwise [val_main_v11]
  rw [sum_halves]
  simp only [ref_lo, ref_hi]
  rfl

theorem ref_diff : val_main_v15 (F := Ideal) K.o K.p K.cv K.w K.x K.tg K.mr K.b (ix2 s n) = K.diff s n := by
  pointwise [val_main_v15, val_main_v14, val_main_v13, val_main_v12]
  rw [ref_gate, ref_mo]
  rfl

theorem ref_dy : val_main_v29 (F := Ideal) K.o K.p K.cv K.w K.x K.tg K.mr K.b (ix2 s n) = K.dy s n := by
  pointwise [val_main_v29, val_main_v28, val_main_v27, val_main_v26, val_main_v25, val_main_v24, val_main_v18, val_main_v17,
    val_main_cst, val_main_cst_4, val_main_cst_5, val_main_cst_6]
  rw [ref_diff]
  first | exact weigh _ | exact (by have := weigh (K.diff s n); rw [mul_one] at this; exact this)

theorem ref_dmo : val_main_v31 (F := Ideal) K.o K.p K.cv K.w K.x K.tg K.mr K.b (ix2 s n) = K.dmo s n := by
  pointwise [val_main_v31, val_main_v30]
  rw [ref_gate, ref_dy]
  exact mul_comm _ _

theorem ref_dmix : val_main_v37 (F := Ideal) K.o K.p K.cv K.w K.x K.tg K.mr K.b (ix2 s k) = K.dmix s k := by
  pointwise [val_main_v37]
  simp only [ref_dmo]
  rfl

theorem dy_eq : val_main_v29 (F := Ideal) K.o K.p K.cv K.w K.x K.tg K.mr K.b = K.rdy := by
  funext i
  obtain ⟨s, n, rfl⟩ : ∃ k l, i = ix2 k l := ⟨i 0, i 1, by ext j; fin_cases j <;> rfl⟩
  exact ref_dy K s n

theorem conv_eq : val_main_v39 (F := Ideal) K.o K.p K.cv K.w K.x K.tg K.mr K.b = K.rconv := by
  funext i
  obtain ⟨s, l, rfl⟩ : ∃ k l, i = ix2 k l := ⟨i 0, i 1, by ext j; fin_cases j <;> rfl⟩
  pointwise [val_main_v39]
  exact ref_dmix K s (hi l)

theorem za_eq (hK : K.Fin) : val_main_v44 (F := Ideal) K.o K.p K.cv K.w K.x K.tg K.mr K.b = K.rza := by
  funext i
  obtain ⟨s, l, rfl⟩ : ∃ k l, i = ix2 k l := ⟨i 0, i 1, by ext j; fin_cases j <;> rfl⟩
  pointwise [val_main_v44, val_main_v42, val_main_call1_v0, val_main_call1_v1, val_main_call1_v2, val_main_v40, val_main_v38,
    val_main_v8_1, val_main_call0_v7, val_main_call0_v6, val_main_call0_cst_1]
  have e : val_main_v37 (F := Ideal) K.o K.p K.cv K.w K.x K.tg K.mr K.b (ix2 s ⟨l.val, by omega⟩) = K.dmix s (lo l) := ref_dmix K s (lo l)
  rw [ref_om, ref_za, ref_lg, e]
  refine (Cert.Silu.gate _ _ ((hK.o _).mul (hK.dmix s (lo l))) (hK.za s l)).trans ?_
  show K.om s l * _ * _ = K.dmix s (lo l) * _ * K.om s l
  rw [mul_comm (K.om s l), mul_assoc, mul_comm (K.om s l), ← mul_assoc]
  rfl

theorem om_eq : val_main_v46 (F := Ideal) K.o K.p K.cv K.w K.x K.tg K.mr K.b = K.rom := by
  funext i
  obtain ⟨h, s, j, rfl⟩ : ∃ k r l, i = ix3 k r l := ⟨i 0, i 1, i 2, by ext j; fin_cases j <;> rfl⟩
  have hl : 64 * h.val + j.val < 512 := by omega
  pointwise [val_main_v46, val_main_v45, val_main_v43, val_main_v41, val_main_v38]
  have e : h.val * 64 + j.val = 64 * h.val + j.val := by omega
  simp only [e]
  exact (congrArg₂ (· * ·) (ref_dmix K s (lo ⟨64 * h.val + j.val, hl⟩)) (ref_sz K s ⟨64 * h.val + j.val, hl⟩)).trans
    (Args.rom_at K s h j).symm

theorem w_eq : val_main_v36 (F := Ideal) K.o K.p K.cv K.w K.x K.tg K.mr K.b = K.rw := by
  funext i
  obtain ⟨k, n, rfl⟩ : ∃ k l, i = ix2 k l := ⟨i 0, i 1, by ext j; fin_cases j <;> rfl⟩
  pointwise [val_main_v36, val_main_v35]
  simp only [ref_dmo]
  by_cases hk : k.val < 512
  · obtain ⟨l, rfl⟩ : ∃ l, k = lo l := ⟨⟨k.val, hk⟩, rfl⟩
    simp only [ref_lo]
    refine (Finset.sum_congr rfl fun s _ => mul_comm _ _).trans (Eq.trans ?_ (dif_pos (c := (lo l).val < 512) hk).symm)
    rfl
  · obtain ⟨l, rfl⟩ : ∃ l, k = hi l := ⟨⟨k.val - 512, by omega⟩, Fin.ext (by show k.val = 512 + (k.val - 512); omega)⟩
    simp only [ref_hi]
    refine (Finset.sum_congr rfl fun s _ => mul_comm _ _).trans (Eq.trans ?_ (dif_neg hk).symm)
    exact congrArg (fun l => K.ghi l n) (Fin.ext (by show l.val = 512 + l.val - 512; omega))

theorem gate_eq : val_main_v34 (F := Ideal) K.o K.p K.cv K.w K.x K.tg K.mr K.b = K.rgate := by
  funext i
  obtain ⟨z, n, rfl⟩ : ∃ k l, i = ix2 k l := ⟨i 0, i 1, by ext j; fin_cases j <;> rfl⟩
  pointwise [val_main_v34, val_main_v33, val_main_v32, val_main_cst_7]
  simp only [ref_dy, ref_mo]
  rfl

theorem loss_eq (hK : K.Fin) : val_main_v48 (F := Ideal) K.o K.p K.cv K.w K.x K.tg K.mr K.b = K.rloss := by
  funext i
  obtain ⟨z, n, rfl⟩ : ∃ k l, i = ix2 k l := ⟨i 0, i 1, by ext j; fin_cases j <;> rfl⟩
  pointwise [val_main_v48, val_main_v47, val_main_v23, val_main_v22, val_main_v21, val_main_v20, val_main_v19, val_main_v16,
    val_main_cst_0, val_main_cst_1, val_main_cst_2, val_main_cst_3, val_main_cst_8]
  simp only [ref_diff]
  exact unweigh _ fun s => IsReal.sum _ fun n => (hK.diff s n).mul (hK.diff s n)
end

open Cert.Reference8Ideal.Read in
/-- Kernel and reference return the same arrays. -/
theorem algebraic : Cert.algebraic_Kernel8Ideal_Reference8Ideal_pre_loss_finite := by
  intro m ρ m' ρ' hpre hagree
  have e (c : Dev Cert.Kernel8Ideal.nD) := hagree c
  have real (c : Dev Cert.Kernel8Ideal.nD) : (args m c).Fin :=
    ⟨fun i => IsReal.of_cmpf _ _ i IsReal.inf_f32 (congrFun (hpre c).1 i),
      fun i => IsReal.of_cmpf _ _ i IsReal.inf_f32 (congrFun (hpre c).2.1 i),
      fun i => IsReal.of_cmpf _ _ i IsReal.inf_f32 (congrFun (hpre c).2.2.1 i),
      fun i => IsReal.of_cmpf _ _ i IsReal.inf_f32 (congrFun (hpre c).2.2.2.1 i),
      fun i => IsReal.of_cmpf _ _ i IsReal.inf_f32 (congrFun (hpre c).2.2.2.2.1 i),
      fun i => IsReal.of_cmpf _ _ i IsReal.inf_f32 (congrFun (hpre c).2.2.2.2.2.1 i),
      fun i => IsReal.of_cmpf _ _ i IsReal.inf_f32 (congrFun (hpre c).2.2.2.2.2.2.1 i),
      fun i => IsReal.of_cmpf _ _ i IsReal.inf_f32 (congrFun (hpre c).2.2.2.2.2.2.2 i)⟩
  refine ⟨fun c => (args m c).rdy, fun c => (args m c).rconv, fun c => (args m c).rza, fun c => (args m c).rom,
    fun c => (args m c).rw, fun c => (args m c).rgate, fun c => (args m c).rloss,
    (θ_run Cert.Kernel8Ideal.defs _ _).mono (fun r h c => ⟨(h.2 c).1, (h.2 c).2.1, (h.2 c).2.2.1, (h.2 c).2.2.2.1, (h.2 c).2.2.2.2.1,
      (h.2 c).2.2.2.2.2.1, (h.2 c).2.2.2.2.2.2, h.1 c⟩)
      (θ_run_and (Cert.Kernel8Ideal.Gen.unchanged m ρ) (run m ρ)),
    (θ_run Cert.Reference8Ideal.defs _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_,
      (h c).2.2.2.2.2.2.2⟩) (Cert.Reference8Ideal.Value.run (F := Ideal) m' ρ')⟩
  · refine (val_main_v29_eq _ _ _ _ _ _ _ _).trans (Eq.trans ?_ (dy_eq (args m c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v39_eq _ _ _ _ _ _ _ _).trans (Eq.trans ?_ (conv_eq (args m c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v44_eq _ _).trans (Eq.trans ?_ (za_eq (args m c) (real c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v46_eq _ _ _ _ _ _ _ _).trans (Eq.trans ?_ (om_eq (args m c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v36_eq _ _ _ _ _ _ _ _).trans (Eq.trans ?_ (w_eq (args m c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v34_eq _ _ _ _ _ _ _ _).trans (Eq.trans ?_ (gate_eq (args m c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2
  · refine (val_main_v48_eq _ _ _ _ _ _ _ _).trans (Eq.trans ?_ (loss_eq (args m c) (real c)))
    exact congr (congr (congr (congr (congr (congr (congr (congrArg _ (e c).1) (e c).2.1) (e c).2.2.1) (e c).2.2.2.1)
      (e c).2.2.2.2.1) (e c).2.2.2.2.2.1) (e c).2.2.2.2.2.2.1) (e c).2.2.2.2.2.2.2

end Cert.Loss

end
-- ==== Proof.Norm.Value.lean ====
/-
  The latent's modulated norm: what the gradient's kernel leaves in its four result arrays.
-/
module

public import proofs.«01_k».proof.Proof.Gen.Kernel6Ideal.Value
public import proofs.«01_k».proof.Proof.Norm.Row
public import Idealize.ShloMosaic.Lib.Pipeline.ValueKit

@[expose] public section

set_option maxRecDepth 16384

noncomputable section

namespace Cert.Norm

open Idealize.ShloMosaic Idealize.ShloMosaic.TcCoe Idealize.SL.Sem
open Idealize.ShloMosaic.Pipeline (Dat)
open Cert.Kernel6Ideal Cert.Kernel6Ideal.Gen

/-- The arguments the results depend on. -/
structure Args where
  dp : FVec Ideal S8x2048x512 .bf16
  w : FVec Ideal S1024x4096 .f32
  x : FVec Ideal S2048x1024 .f32
  y : FVec Ideal S2048x1024 .f32
  g : FVec Ideal S1x1024 .f32
  row : FVec Ideal S1x3072 .f32
  b : FVec Ideal S1x3072 .f32

/-- The number of columns, and the small constant, as the programs write them. -/
abbrev cols : EReal := Ideal.ofBits .f32 0x44800000#32
abbrev eps : EReal := Ideal.ofBits .f32 0x358637BD#32

namespace Args
variable (K : Args) (r : Fin 2048) (l : Fin 1024)

/-- The gradient of the modulated row: the eight products' sum. -/
def dh : EReal := ∑ p : Fin 8, ∑ j : Fin 512, K.dp (ix3 p r j) * K.w (ix2 l ⟨512 * p.val + j.val, by omega⟩)

/-- The row, and the row over its root mean square. -/
def xr : EReal := K.x (ix2 r l)
def xh : EReal := K.xr r l * rs cols eps (K.xr r)

/-- One and the scale. -/
def sc : EReal := 1 + (K.row (ix2 0 ⟨1024 + l.val, by omega⟩) + K.b (ix2 0 ⟨1024 + l.val, by omega⟩))

/-- The gradient of the normed row. -/
def gd : EReal := K.dh r l * K.sc l * K.g (ix2 0 l)

/-- The latent's gradient, the loss's own part added. -/
def dx : FVec Ideal S2048x1024 .f32 := fun i => K.y i + back cols eps (K.xr (i 0)) (K.gd (i 0)) (i 1)

/-- The gradients of the shift, the scale and the gain. -/
def dshift : FVec Ideal S1x1024 .f32 := fun i => ∑ r, K.dh r (i 1)
def dscale : FVec Ideal S1x1024 .f32 := fun i => ∑ r, K.dh r (i 1) * (K.xh r (i 1) * K.g (ix2 0 (i 1)))
def dg : FVec Ideal S1x1024 .f32 := fun i => ∑ r, K.dh r (i 1) * K.sc (i 1) * K.xh r (i 1)

end Args

/-- Every window's block index. -/
theorem idx : ∀ t : Fin cfg0.N, win0_0.index t = ![0, t.val, 0] ∧ win0_1.index t = ![0, 0, 0]
    ∧ win0_2.index t = ![t.val, 0] ∧ win0_3.index t = ![t.val, 0] ∧ win0_4.index t = ![0, 0]
    ∧ win0_5.index t = ![0, 0] ∧ win0_6.index t = ![0, 0] ∧ win0_7.index t = ![t.val, 0]
    ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ)

/-- The arguments on device `c`. -/
abbrev args (c : Dev nD) : Args where
  dp := m ((c : Thread nD τ).loc main_arg0)
  w := m ((c : Thread nD τ).loc main_arg1)
  x := m ((c : Thread nD τ).loc main_arg2)
  y := m ((c : Thread nD τ).loc main_arg3)
  g := m ((c : Thread nD τ).loc main_arg4)
  row := m ((c : Thread nD τ).loc main_arg5)
  b := m ((c : Thread nD τ).loc main_arg6)

variable (c : Dev nD) (t : Fin cfg0.N) (r : Fin 512) (l : Fin 1024)

/-- Row `r` of block `t`. -/
abbrev at_ : Fin 2048 := ⟨512 * t.val + r.val, by have : t.val < 4 := t.isLt; omega⟩

theorem V_w (i : Fin 4) (j k : Fin 1024) :
    V m c main_v2 (ix3 i j k) = (args m c).w (ix2 j ⟨i.val * 1024 + k.val, by omega⟩) := by
  unfold V; after_results; pointwise []

theorem blk0 (p : Fin 8) (j : Fin 512) : iblk m c 0 t (ix3 p r j) = (args m c).dp (ix3 p (at_ t r) j) := by
  blk_ext! [iblk, V, idx t]
theorem blk1 (i : Fin 4) (j : Fin 1024) : iblk m c 1 t (ix3 i l j) = V m c main_v2 (ix3 i l j) := by
  blk_ext! [iblk, idx t]
theorem blk2 : iblk m c 2 t (ix2 r l) = (args m c).x (ix2 (at_ t r) l) := by blk_ext! [iblk, V, idx t]
theorem blk3 : iblk m c 3 t (ix2 r l) = (args m c).y (ix2 (at_ t r) l) := by blk_ext! [iblk, V, idx t]
theorem blk4 : iblk m c 4 t (ix2 0 l) = (args m c).g (ix2 0 l) := by blk_ext! [iblk, V, idx t]
theorem blk5 (j : Fin 3072) : iblk m c 5 t (ix2 0 j) = (args m c).row (ix2 0 j) := by blk_ext! [iblk, V, idx t]
theorem blk6 (j : Fin 3072) : iblk m c 6 t (ix2 0 j) = (args m c).b (ix2 0 j) := by blk_ext! [iblk, V, idx t]

/-- One plane of the gradient's block. -/
abbrev dpB (k : ℕ) (inb : ∀ a, (![k, 0, 0] : Fin 3 → ℕ) a + (![1, 512, 512] : Fin 3 → ℕ) a ≤ S8x512x512.size a)
    (x : Vec Ideal S8x512x512 .bf16) := View.ld x (Rect.unit ![k, 0, 0] ![1, 512, 512] inb)

/-- One half of one block of the weights' columns. -/
abbrev wB (k o : ℕ) (inb : ∀ a, (![k, 0, o] : Fin 3 → ℕ) a + (![1, 1024, 512] : Fin 3 → ℕ) a ≤ S4x1024x1024.size a)
    (x : Vec Ideal S4x1024x1024 .bf16) := View.ld x (Rect.unit ![k, 0, o] ![1, 1024, 512] inb)

/-- The scale's third of a row. -/
abbrev mid (x : Vec Ideal S1x3072 .f32) := View.ld x (Rect.unit ![0, 1024] ![1, 1024] inb_S1x3072_S1x1024_0_1024)

theorem mid_at (x : Vec Ideal S1x3072 .f32) : mid x (ix2 0 l) = x (ix2 0 ⟨1024 + l.val, by omega⟩) :=
  View.ld_unit_apply_of _ _ _ _ _ _ (by intro a; fin_cases a <;> rfl)

theorem dp_at (k : ℕ) (hk : k < 8) (inb) (j : Fin 512) :
    dpB k inb (iblk m c 0 t) (ix3 0 r j) = (args m c).dp (ix3 ⟨k, hk⟩ (at_ t r) j) :=
  (View.ld_unit_apply_of _ _ _ _ _ (ix3 ⟨k, hk⟩ r j)
    (by intro a; fin_cases a <;> first | rfl | exact (Nat.zero_add _).symm)).trans (blk0 m c t r _ j)

theorem w_at (k o n : ℕ) (hk : k < 4) (ho : o + 512 ≤ 1024) (hn : k * 1024 + o = 512 * n) (h8 : n < 8) (inb) (j : Fin 512) :
    wB k o inb (iblk m c 1 t) (ix3 0 l j) = (args m c).w (ix2 l ⟨512 * n + j.val, by omega⟩) :=
  (View.ld_unit_apply_of _ _ _ _ _ (ix3 ⟨k, hk⟩ l ⟨o + j.val, by omega⟩)
    (by intro a; fin_cases a <;> first | rfl | exact (Nat.zero_add _).symm)).trans ((blk1 m c t l _ _).trans
      ((V_w m c _ l _).trans (congrArg (fun i => (args m c).w (ix2 l i))
        (Fin.ext (by show k * 1024 + (o + j.val) = 512 * n + j.val; omega)))))

/-- The eight products as the kernel sums them. -/
abbrev dhB : FVec Ideal S512x1024 .f32 :=
  k0_pay8
    (k0_pay7 (dpB 0 inb_S8x512x512_S1x512x512_0_0_0 (iblk m c 0 t)) (wB 0 0 inb_S4x1024x1024_S1x1024x512_0_0_0 (iblk m c 1 t))
      (dpB 1 inb_S8x512x512_S1x512x512_1_0_0 (iblk m c 0 t)) (wB 0 512 inb_S4x1024x1024_S1x1024x512_0_0_512 (iblk m c 1 t))
      (dpB 2 inb_S8x512x512_S1x512x512_2_0_0 (iblk m c 0 t)) (wB 1 0 inb_S4x1024x1024_S1x1024x512_1_0_0 (iblk m c 1 t))
      (dpB 3 inb_S8x512x512_S1x512x512_3_0_0 (iblk m c 0 t)) (wB 1 512 inb_S4x1024x1024_S1x1024x512_1_0_512 (iblk m c 1 t)))
    (dpB 4 inb_S8x512x512_S1x512x512_4_0_0 (iblk m c 0 t)) (wB 2 0 inb_S4x1024x1024_S1x1024x512_2_0_0 (iblk m c 1 t))
    (dpB 5 inb_S8x512x512_S1x512x512_5_0_0 (iblk m c 0 t)) (wB 2 512 inb_S4x1024x1024_S1x1024x512_2_0_512 (iblk m c 1 t))
    (dpB 6 inb_S8x512x512_S1x512x512_6_0_0 (iblk m c 0 t)) (wB 3 0 inb_S4x1024x1024_S1x1024x512_3_0_0 (iblk m c 1 t))
    (dpB 7 inb_S8x512x512_S1x512x512_7_0_0 (iblk m c 0 t)) (wB 3 512 inb_S4x1024x1024_S1x1024x512_3_0_512 (iblk m c 1 t))

theorem dh_at : dhB m c t (ix2 r l) = (args m c).dh (at_ t r) l := by
  pointwise [k0_pay8, k0_pay7]
  simp only [dp_at m c t r 0 (by omega), dp_at m c t r 1 (by omega), dp_at m c t r 2 (by omega), dp_at m c t r 3 (by omega),
    dp_at m c t r 4 (by omega), dp_at m c t r 5 (by omega), dp_at m c t r 6 (by omega), dp_at m c t r 7 (by omega),
    w_at m c t l 0 0 0 (by omega) (by omega) rfl (by omega), w_at m c t l 0 512 1 (by omega) (by omega) rfl (by omega),
    w_at m c t l 1 0 2 (by omega) (by omega) rfl (by omega), w_at m c t l 1 512 3 (by omega) (by omega) rfl (by omega),
    w_at m c t l 2 0 4 (by omega) (by omega) rfl (by omega), w_at m c t l 2 512 5 (by omega) (by omega) rfl (by omega),
    w_at m c t l 3 0 6 (by omega) (by omega) rfl (by omega), w_at m c t l 3 512 7 (by omega) (by omega) rfl (by omega)]
  unfold Args.dh
  rw [Fin.sum_univ_eight]
  rfl

theorem rs_at : k0_pay10 (iblk m c 2 t) (ix2 r 0) = rs cols eps ((args m c).xr (at_ t r)) := by
  pointwise [k0_pay10]
  simp only [blk2]
  rfl

theorem xh_at : k0_pay11 (iblk m c 2 t) (ix2 r l) = (args m c).xh (at_ t r) l := by
  pointwise [k0_pay11]
  rw [rs_at, blk2]
  rfl

theorem gs_at : k0_pay14 (dhB m c t) (k0_pay9 (mid (iblk m c 5 t)) (mid (iblk m c 6 t))) (ix2 r l)
    = (args m c).dh (at_ t r) l * (args m c).sc l := by
  pointwise [k0_pay14, k0_pay9]
  rw [dh_at, mid_at, mid_at, blk5, blk6]
  rfl

theorem dx_at : k0_pay16 (dhB m c t) (k0_pay9 (mid (iblk m c 5 t)) (mid (iblk m c 6 t))) (iblk m c 2 t) (iblk m c 4 t)
    (iblk m c 3 t) (ix2 r l) = (args m c).dx (ix2 (at_ t r) l) := by
  pointwise [k0_pay16]
  simp only [gs_at, xh_at, rs_at, blk4, blk3]
  rfl

theorem point7 : (outsAt0 m c t.val t.isLt).1 (ix2 r l) = (args m c).dx (ix2 (at_ t r) l) := by
  by_cases h : t.val % 4 = 0
  · rw [outsAt0_A m c t h]
    frame_out
    exact dx_at m c t r l
  · rw [outsAt0_B m c t h]
    frame_out
    exact dx_at m c t r l

/-- A column's sum over a block's rows, as the kernel adds it to what the row holds. -/
theorem dshift_at (v : Vec Ideal S1x1024 .f32) :
    k0_pay1 (k0_pay12 (dhB m c t)) v (ix2 0 l) = v (ix2 0 l) + ∑ r : Fin 512, (args m c).dh (at_ t r) l := by
  pointwise [k0_pay1, k0_pay12]
  simp only [dh_at]

theorem dscale_at (v : Vec Ideal S1x1024 .f32) :
    k0_pay2 (k0_pay13 (dhB m c t) (iblk m c 2 t) (iblk m c 4 t)) v (ix2 0 l)
      = v (ix2 0 l) + ∑ r : Fin 512, (args m c).dh (at_ t r) l * ((args m c).xh (at_ t r) l * (args m c).g (ix2 0 l)) := by
  pointwise [k0_pay2, k0_pay13]
  simp only [dh_at, xh_at, blk4]

theorem dg_at (v : Vec Ideal S1x1024 .f32) :
    k0_pay3 (k0_pay15 (dhB m c t) (k0_pay9 (mid (iblk m c 5 t)) (mid (iblk m c 6 t))) (iblk m c 2 t)) v (ix2 0 l)
      = v (ix2 0 l) + ∑ r : Fin 512, (args m c).dh (at_ t r) l * (args m c).sc l * (args m c).xh (at_ t r) l := by
  pointwise [k0_pay3, k0_pay15]
  simp only [gs_at, xh_at]

theorem zero4 : k0_pay4 (F := Ideal) (ix2 0 l) = 0 := by pointwise [k0_pay4]
theorem zero5 : k0_pay5 (F := Ideal) (ix2 0 l) = 0 := by pointwise [k0_pay5]
theorem zero6 : k0_pay6 (F := Ideal) (ix2 0 l) = 0 := by pointwise [k0_pay6]

/-- What a row that starts at zero holds after the last block. -/
theorem total (o : (n : ℕ) → n < cfg0.N → EReal) (f : Fin 2048 → EReal)
    (hA : ∀ t : Fin cfg0.N, t.val % 4 = 0 → o t.val t.isLt = 0 + ∑ r : Fin 512, f (at_ t r))
    (hB : ∀ t : Fin cfg0.N, ¬ t.val % 4 = 0 →
      o t.val t.isLt = o (t.val - 1) (Nat.lt_of_le_of_lt (Nat.sub_le _ _) t.isLt) + ∑ r : Fin 512, f (at_ t r))
    (h3 : t.val = 3) : o t.val t.isLt = ∑ r, f r := by
  obtain ⟨n, hn⟩ := t
  obtain rfl : n = 3 := h3
  have e0 := hA ⟨0, by decide⟩ rfl
  have e1 := hB ⟨1, by decide⟩ (by decide)
  have e2 := hB ⟨2, by decide⟩ (by decide)
  have e3 := hB ⟨3, by decide⟩ (by decide)
  refine e3.trans ?_
  refine (congrArg (· + _) (e2.trans (congrArg (· + _) (e1.trans (congrArg (· + _) e0))))).trans ?_
  refine Eq.trans ?_ (sum_blocks 4 512 f).symm
  rw [Fin.sum_univ_four, zero_add]
  rfl

theorem point8 (h3 : t.val = 3) : (outsAt0 m c t.val t.isLt).2.1 (ix2 0 l) = (args m c).dshift (ix2 0 l) :=
  total t (fun n hn => (outsAt0 m c n hn).2.1 (ix2 0 l)) (fun r => (args m c).dh r l)
    (fun t h => by
      try simp only
      rw [outsAt0_A m c t h]
      frame_out
      exact (dshift_at m c t l _).trans (by rw [zero4]))
    (fun t h => by
      try simp only
      rw [outsAt0_B m c t h]
      frame_out
      exact dshift_at m c t l _) h3

theorem point9 (h3 : t.val = 3) : (outsAt0 m c t.val t.isLt).2.2.1 (ix2 0 l) = (args m c).dscale (ix2 0 l) :=
  total t (fun n hn => (outsAt0 m c n hn).2.2.1 (ix2 0 l))
    (fun r => (args m c).dh r l * ((args m c).xh r l * (args m c).g (ix2 0 l)))
    (fun t h => by
      try simp only
      rw [outsAt0_A m c t h]
      frame_out
      exact (dscale_at m c t l _).trans (by rw [zero5]))
    (fun t h => by
      try simp only
      rw [outsAt0_B m c t h]
      frame_out
      exact dscale_at m c t l _) h3

theorem point10 (h3 : t.val = 3) : (outsAt0 m c t.val t.isLt).2.2.2 (ix2 0 l) = (args m c).dg (ix2 0 l) :=
  total t (fun n hn => (outsAt0 m c n hn).2.2.2 (ix2 0 l))
    (fun r => (args m c).dh r l * (args m c).sc l * (args m c).xh r l)
    (fun t h => by
      try simp only
      rw [outsAt0_A m c t h]
      frame_out
      exact (dg_at m c t l _).trans (by rw [zero6]))
    (fun t h => by
      try simp only
      rw [outsAt0_B m c t h]
      frame_out
      exact dg_at m c t l _) h3

theorem flush_last : ∀ t : Fin cfg0.N, ((cfg0.win 8).flush t = true → t.val = 3) ∧ ((cfg0.win 9).flush t = true → t.val = 3)
    ∧ ((cfg0.win 10).flush t = true → t.val = 3) := by decide +kernel

theorem final7 : (dats m 0 c).arrAt 7 cfg0.N = (args m c).dx := by
  refine (dats m 0 c).arrAt_eq_of_covers 7 _ (by decide +kernel) fun t hf y => ?_
  blk_simp
  rw [after0_7]
  obtain ⟨k, l, rfl⟩ : ∃ k l, y = ix2 k l := ⟨y 0, y 1, by ext i; fin_cases i <;> rfl⟩
  rw [point7]
  exact congrArg (args m c).dx (by blk_ext! [idx t])

theorem final8 : (dats m 0 c).arrAt 8 cfg0.N = (args m c).dshift := by
  refine (dats m 0 c).arrAt_eq_of_covers 8 _ (by decide +kernel) fun t hf y => ?_
  have h3 := (flush_last t).1 hf
  blk_simp
  rw [after0_8]
  obtain ⟨k, l, rfl⟩ : ∃ k l, y = ix2 k l := ⟨y 0, y 1, by ext i; fin_cases i <;> rfl⟩
  obtain rfl : k = 0 := Fin.ext (by omega)
  rw [point8 m c t l h3]
  exact congrArg (args m c).dshift (by blk_ext! [idx t])

theorem final9 : (dats m 0 c).arrAt 9 cfg0.N = (args m c).dscale := by
  refine (dats m 0 c).arrAt_eq_of_covers 9 _ (by decide +kernel) fun t hf y => ?_
  have h3 := (flush_last t).2.1 hf
  blk_simp
  rw [after0_9]
  obtain ⟨k, l, rfl⟩ : ∃ k l, y = ix2 k l := ⟨y 0, y 1, by ext i; fin_cases i <;> rfl⟩
  obtain rfl : k = 0 := Fin.ext (by omega)
  rw [point9 m c t l h3]
  exact congrArg (args m c).dscale (by blk_ext! [idx t])

theorem final10 : (dats m 0 c).arrAt 10 cfg0.N = (args m c).dg := by
  refine (dats m 0 c).arrAt_eq_of_covers 10 _ (by decide +kernel) fun t hf y => ?_
  have h3 := (flush_last t).2.2 hf
  blk_simp
  rw [after0_10]
  obtain ⟨k, l, rfl⟩ : ∃ k l, y = ix2 k l := ⟨y 0, y 1, by ext i; fin_cases i <;> rfl⟩
  obtain rfl : k = 0 := Fin.ext (by omega)
  rw [point10 m c t l h3]
  exact congrArg (args m c).dg (by blk_ext! [idx t])

end Cert.Norm
end
-- ==== Proof.Norm.Pair.lean ====
/-
  The latent's modulated norm: what the reference returns is what the kernel's arrays hold.
-/
module

public import proofs.«01_k».proof.Defs
public import proofs.«01_k».proof.Proof.Gen.Pre_norm_finite
public import proofs.«01_k».proof.Proof.Norm.Value
public import proofs.«01_k».proof.Proof.Gen.Reference6Ideal.Read
public import proofs.«01_k».proof.Proof.Gen.Reference6Ideal.Run

@[expose] public section

set_option maxRecDepth 16384

noncomputable section

namespace Cert.Norm

open Idealize.ShloMosaic Idealize.ShloMosaic.TcCoe Idealize.SL.Sem

namespace Args
variable (K : Args)

/-- Every argument but the loss's own part is finite. -/
structure Fin : Prop where
  dp : ∀ i, IsReal (K.dp i)
  w : ∀ i, IsReal (K.w i)
  x : ∀ i, IsReal (K.x i)
  g : ∀ i, IsReal (K.g i)
  row : ∀ i, IsReal (K.row i)
  b : ∀ i, IsReal (K.b i)

theorem Fin.gd {K : Args} (h : K.Fin) (r : _root_.Fin 2048) (l : _root_.Fin 1024) : IsReal (K.gd r l) :=
  ((IsReal.sum _ fun p => IsReal.sum _ fun j => (h.dp _).mul (h.w _)).mul (IsReal.one.add ((h.row _).add (h.b _)))).mul (h.g _)

end Args

section
open Cert.Reference6Ideal.Read
variable (K : Args) (r : Fin 2048) (l : Fin 1024)

theorem ref_ms : val_main_v13 (F := Ideal) K.x (ix2 r 0) = ms cols eps (K.xr r) := by
  pointwise [val_main_v13, val_main_v12, val_main_cst_1, val_main_v11, val_main_v10, val_main_cst_0, val_main_v9,
    val_main_v8, val_main_v7, val_main_cst]
  rfl

theorem ref_rs : val_main_v14 (F := Ideal) K.x (ix2 r 0) = rs cols eps (K.xr r) := by
  pointwise [val_main_v14]
  rw [ref_ms]
  rfl

theorem ref_xh : val_main_v19 (F := Ideal) K.x (ix2 r l) = K.xh r l := by
  pointwise [val_main_v19, val_main_v18]
  rw [ref_rs]
  rfl

theorem ref_dh : val_main_v29 (F := Ideal) K.dp K.w (ix2 r l) = K.dh r l := by
  pointwise [val_main_v29, val_main_v6, val_main_v5, val_main_v4]
  refine (sum_blocks 8 512 _).trans ?_
  refine Finset.sum_congr rfl fun p _ => Finset.sum_congr rfl fun j _ => ?_
  refine congrArg₂ (· * ·) (congrArg K.dp ?_) rfl
  have := p.isLt; have := j.isLt
  ext i; fin_cases i
  · show (512 * p.val + j.val) / 512 = p.val
    omega
  · rfl
  · show (512 * p.val + j.val) % 512 = j.val
    omega

theorem ref_sc : val_main_v23 (F := Ideal) K.row K.b (ix2 0 l) = K.sc l := by
  pointwise [val_main_v23, val_main_v22, val_main_cst_3, val_main_v2, val_main_v0]
  rfl

theorem ref_gs : val_main_v36 (F := Ideal) K.dp K.w K.row K.b (ix2 r l) = K.dh r l * K.sc l := by
  pointwise [val_main_v36, val_main_v35]
  rw [ref_dh, ref_sc]

theorem ref_gd : val_main_v41 (F := Ideal) K.dp K.w K.g K.row K.b (ix2 r l) = K.gd r l := by
  pointwise [val_main_v41, val_main_v40]
  rw [ref_gs]
  rfl

theorem ref_part : val_main_v52 (F := Ideal) K.dp K.w K.x K.g K.row K.b (ix2 r l)
    = part cols eps ((-1/2 : ℝ) : EReal) (K.xr r) (K.gd r) := by
  pointwise [val_main_v52, val_main_v51, val_main_cst_9, val_main_v50, val_main_v49, val_main_cst_8, val_main_v48,
    val_main_v17, val_main_v16, val_main_cst_2, val_main_v15, val_main_v44, val_main_v43, val_main_cst_7, val_main_v42]
  rw [Fin.sum_univ_one, word_half]
  simp only [ref_gd, ref_ms, ref_rs]
  rfl

theorem dx_eq (h : K.Fin) : val_main_v56 (F := Ideal) K.dp K.w K.x K.y K.g K.row K.b = K.dx := by
  funext i
  obtain ⟨r, l, rfl⟩ : ∃ k l, i = ix2 k l := ⟨i 0, i 1, by ext j; fin_cases j <;> rfl⟩
  pointwise [val_main_v56, val_main_v55, val_main_v54, val_main_v53, val_main_v47, val_main_v46, val_main_v45]
  simp only [ref_part, ref_gd, ref_rs]
  show K.y (ix2 r l) + K.gd r l * rs cols eps (K.xr r) + K.xr r l * part cols eps ((-1/2 : ℝ) : EReal) (K.xr r) (K.gd r)
    + part cols eps ((-1/2 : ℝ) : EReal) (K.xr r) (K.gd r) * K.xr r l = K.y (ix2 r l) + back cols eps (K.xr r) (K.gd r) l
  rw [← back_eq (x := K.xr r) pos_1024 eps_pos (fun j => h.x _) (fun j => h.gd r j)]
  simp only [add_assoc]

theorem dshift_eq : val_main_v31 (F := Ideal) K.dp K.w = K.dshift := by
  funext i
  obtain ⟨k, l, rfl⟩ : ∃ k l, i = ix2 k l := ⟨i 0, i 1, by ext j; fin_cases j <;> rfl⟩
  obtain rfl : k = 0 := Fin.ext (by omega)
  pointwise [val_main_v31, val_main_v30, val_main_cst_4]
  simp only [ref_dh]
  rfl

theorem dscale_eq : val_main_v34 (F := Ideal) K.dp K.w K.x K.g = K.dscale := by
  funext i
  obtain ⟨k, l, rfl⟩ : ∃ k l, i = ix2 k l := ⟨i 0, i 1, by ext j; fin_cases j <;> rfl⟩
  obtain rfl : k = 0 := Fin.ext (by omega)
  pointwise [val_main_v34, val_main_v33, val_main_cst_5, val_main_v32, val_main_v21, val_main_v20]
  simp only [ref_dh, ref_xh]
  exact Finset.sum_congr rfl fun r _ => mul_comm _ _

theorem dg_eq : val_main_v39 (F := Ideal) K.dp K.w K.x K.row K.b = K.dg := by
  funext i
  obtain ⟨k, l, rfl⟩ : ∃ k l, i = ix2 k l := ⟨i 0, i 1, by ext j; fin_cases j <;> rfl⟩
  obtain rfl : k = 0 := Fin.ext (by omega)
  pointwise [val_main_v39, val_main_v38, val_main_cst_6, val_main_v37]
  simp only [ref_gs, ref_xh]
  exact Finset.sum_congr rfl fun r _ => mul_comm _ _

end

/-- The reference's frame: its run read at the arguments; it declares no semaphore. -/
theorem frame_reference : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

open Cert.Reference6Ideal.Read in
/-- Kernel and reference return the same arrays. -/
theorem algebraic : Cert.algebraic_Kernel6Ideal_Reference6Ideal_pre_norm_finite := by
  intro m ρ m' ρ' hpre hagree
  have e (c : Dev Cert.Kernel6Ideal.nD) := hagree c
  have real (c : Dev Cert.Kernel6Ideal.nD) : (args m c).Fin :=
    ⟨fun i => IsReal.of_cmpf _ _ i IsReal.inf_f32 (congrFun (hpre c).1 i),
      fun i => IsReal.of_cmpf _ _ i IsReal.inf_f32 (congrFun (hpre c).2.1 i),
      fun i => IsReal.of_cmpf _ _ i IsReal.inf_f32 (congrFun (hpre c).2.2.1 i),
      fun i => IsReal.of_cmpf _ _ i IsReal.inf_f32 (congrFun (hpre c).2.2.2.1 i),
      fun i => IsReal.of_cmpf _ _ i IsReal.inf_f32 (congrFun (hpre c).2.2.2.2.1 i),
      fun i => IsReal.of_cmpf _ _ i IsReal.inf_f32 (congrFun (hpre c).2.2.2.2.2 i)⟩
  refine ⟨fun c => (args m c).dx, fun c => (args m c).dshift, fun c => (args m c).dscale, fun c => (args m c).dg,
    (θ_run Cert.Kernel6Ideal.defs _ _).mono (fun r h c => ⟨(h c).1.trans (final7 m c), (h c).2.1.trans (final8 m c),
      (h c).2.2.1.trans (final9 m c), (h c).2.2.2.1.trans (final10 m c), (h c).2.2.2.2⟩)
      (Cert.Kernel6Ideal.Value.run_blocks m ρ),
    (θ_run Cert.Reference6Ideal.defs _ _).mono (fun r h c => ⟨(h c).1.trans ?_, (h c).2.1.trans ?_, (h c).2.2.1.trans ?_,
      (h c).2.2.2.1.trans ?_, (h c).2.2.2.2⟩) (Cert.Reference6Ideal.Value.run (F := Ideal) m' ρ')⟩
  · rw [val_main_v56_eq, (e c).1, (e c).2.1, (e c).2.2.1, (e c).2.2.2.1, (e c).2.2.2.2.1, (e c).2.2.2.2.2.1,
      (e c).2.2.2.2.2.2.1]
    exact dx_eq (args m c) (real c)
  · rw [val_main_v31_eq, (e c).1, (e c).2.1]
    exact dshift_eq (args m c)
  · rw [val_main_v34_eq, (e c).1, (e c).2.1, (e c).2.2.1, (e c).2.2.2.2.1]
    exact dscale_eq (args m c)
  · rw [val_main_v39_eq, (e c).1, (e c).2.1, (e c).2.2.1, (e c).2.2.2.2.2.1, (e c).2.2.2.2.2.2.1]
    exact dg_eq (args m c)

end Cert.Norm
end
-- ==== Proof.Sums.Value.lean ====
/-
  The context's sums: what the kernel leaves in its three result arrays, by columns.
-/
module

public import proofs.«01_k».proof.Proof.Gen.Kernel5Ideal.Value
public import Idealize.ShloMosaic.Lib.Pipeline.ValueKit

@[expose] public section

set_option maxRecDepth 16384

noncomputable section

namespace Cert.Sums

open Idealize.ShloMosaic Idealize.ShloMosaic.TcCoe Idealize.SL.Sem
open Idealize.ShloMosaic.Pipeline (Dat)
open Cert.Kernel5Ideal Cert.Kernel5Ideal.Gen

/-- The arguments the results depend on. -/
structure Args where
  dk : FVec Ideal S256x512 .bf16
  dv : FVec Ideal S256x512 .bf16
  w : FVec Ideal S1024x4096 .f32
  x : FVec Ideal S256x1024 .f32
  g : FVec Ideal S1x1024 .f32
  row : FVec Ideal S1x3072 .f32
  b : FVec Ideal S1x3072 .f32

namespace Args
variable (K : Args) (r : Fin 256) (l : Fin 1024)

/-- The gradient of the modulated row: the two products' sum. -/
def dh : EReal :=
  ∑ j : Fin 512, K.dk (ix2 r j) * K.w (ix2 l ⟨512 + j.val, by omega⟩)
    + ∑ j : Fin 512, K.dv (ix2 r j) * K.w (ix2 l ⟨512 + (512 + j.val), by omega⟩)

/-- The row over its root mean square. -/
def xh : EReal :=
  K.x (ix2 r l) * Ideal.rsqrt (Ideal.div (∑ j, K.x (ix2 r j) * K.x (ix2 r j)) (Ideal.ofBits .f32 0x44800000#32)
    + Ideal.ofBits .f32 0x358637BD#32)

/-- One and the scale. -/
def sc : EReal := 1 + (K.row (ix2 0 ⟨1024 + l.val, by omega⟩) + K.b (ix2 0 ⟨1024 + l.val, by omega⟩))

/-- The shift's gradient. -/
def dshift : FVec Ideal S1x1024 .f32 := fun i => ∑ r, K.dh r (i 1)

/-- The scale's gradient. -/
def dscale : FVec Ideal S1x1024 .f32 := fun i => ∑ r, K.dh r (i 1) * (K.xh r (i 1) * K.g (ix2 0 (i 1)))

/-- The gain's gradient. -/
def dg : FVec Ideal S1x1024 .f32 := fun i => ∑ r, K.dh r (i 1) * K.sc (i 1) * K.xh r (i 1)

end Args

/-- Every window's block index. -/
theorem idx : ∀ t : Fin cfg0.N, win0_0.index t = ![0, 0] ∧ win0_1.index t = ![0, 0]
    ∧ win0_2.index t = ![0, 0, 0] ∧ win0_3.index t = ![1, 0, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ)

/-- The arguments on device `c`. -/
abbrev args (c : Dev nD) : Args where
  dk := m ((c : Thread nD τ).loc main_arg0)
  dv := m ((c : Thread nD τ).loc main_arg1)
  w := m ((c : Thread nD τ).loc main_arg2)
  x := m ((c : Thread nD τ).loc main_arg3)
  g := m ((c : Thread nD τ).loc main_arg4)
  row := m ((c : Thread nD τ).loc main_arg5)
  b := m ((c : Thread nD τ).loc main_arg6)

variable (c : Dev nD) (t : Fin cfg0.N) (r : Fin 256) (l : Fin 1024)

theorem V_w (i : Fin 4) (j k : Fin 1024) :
    V m c main_v2 (ix3 i j k) = (args m c).w (ix2 j ⟨i.val * 1024 + k.val, by omega⟩) := by
  unfold V; after_results; pointwise []

theorem blk0 (j : Fin 512) : iblk m c 0 t (ix2 r j) = (args m c).dk (ix2 r j) := by blk_ext! [iblk, V, idx t]
theorem blk1 (j : Fin 512) : iblk m c 1 t (ix2 r j) = (args m c).dv (ix2 r j) := by blk_ext! [iblk, V, idx t]
theorem blk2 (j : Fin 1024) : iblk m c 2 t (ix3 0 l j) = V m c main_v2 (ix3 0 l j) := by blk_ext! [iblk, idx t]
theorem blk3 (j : Fin 1024) : iblk m c 3 t (ix3 0 l j) = V m c main_v2 (ix3 1 l j) := by blk_ext! [iblk, idx t]
theorem blk4 : iblk m c 4 t (ix2 r l) = (args m c).x (ix2 r l) := by blk_ext! [iblk, V, idx t]
theorem blk5 : iblk m c 5 t (ix2 0 l) = (args m c).g (ix2 0 l) := by blk_ext! [iblk, V, idx t]
theorem blk6 (j : Fin 3072) : iblk m c 6 t (ix2 0 j) = (args m c).row (ix2 0 j) := by blk_ext! [iblk, V, idx t]
theorem blk7 (j : Fin 3072) : iblk m c 7 t (ix2 0 j) = (args m c).b (ix2 0 j) := by blk_ext! [iblk, V, idx t]

/-- The two halves of the weights' blocks. -/
abbrev wk (x : Vec Ideal S1x1024x1024 .bf16) := View.ld x (Rect.unit ![0, 0, 512] ![1, 1024, 512] inb_S1x1024x1024_S1x1024x512_0_0_512)
abbrev wv (x : Vec Ideal S1x1024x1024 .bf16) := View.ld x (Rect.unit ![0, 0, 0] ![1, 1024, 512] inb_S1x1024x1024_S1x1024x512_0_0_0)

/-- The scale's third of a row. -/
abbrev mid (x : Vec Ideal S1x3072 .f32) := View.ld x (Rect.unit ![0, 1024] ![1, 1024] inb_S1x3072_S1x1024_0_1024)

theorem mid_at (x : Vec Ideal S1x3072 .f32) : mid x (ix2 0 l) = x (ix2 0 ⟨1024 + l.val, by omega⟩) :=
  View.ld_unit_apply_of _ _ _ _ _ _ (by intro a; fin_cases a <;> rfl)

theorem wk_at (x : Vec Ideal S1x1024x1024 .bf16) (j : Fin 512) :
    wk x (ix3 0 l j) = x (ix3 0 l ⟨512 + j.val, by omega⟩) :=
  View.ld_unit_apply_of _ _ _ _ _ _ (by intro a; fin_cases a <;> first | rfl | exact (Nat.zero_add _).symm)

theorem wv_at (x : Vec Ideal S1x1024x1024 .bf16) (j : Fin 512) :
    wv x (ix3 0 l j) = x (ix3 0 l ⟨j.val, by omega⟩) :=
  View.ld_unit_apply_of _ _ _ _ _ _ (by intro a; fin_cases a <;> first | rfl | exact (Nat.zero_add _).symm)

theorem w2_at (j : Fin 512) : wk (iblk m c 2 t) (ix3 0 l j) = (args m c).w (ix2 l ⟨512 + j.val, by omega⟩) :=
  (wk_at l _ j).trans ((blk2 m c t l _).trans ((V_w m c 0 l _).trans (congrArg (fun i => (args m c).w (ix2 l i))
    (Fin.ext (by show 0 * 1024 + (512 + j.val) = 512 + j.val; omega)))))

theorem w3_at (j : Fin 512) : wv (iblk m c 3 t) (ix3 0 l j) = (args m c).w (ix2 l ⟨512 + (512 + j.val), by omega⟩) :=
  (wv_at l _ j).trans ((blk3 m c t l _).trans ((V_w m c 1 l _).trans (congrArg (fun i => (args m c).w (ix2 l i))
    (Fin.ext (by show 1 * 1024 + j.val = 512 + (512 + j.val); omega)))))

theorem dh_at : k0_pay4 (iblk m c 0 t) (wk (iblk m c 2 t)) (iblk m c 1 t) (wv (iblk m c 3 t)) (ix2 r l)
    = (args m c).dh r l := by
  pointwise [k0_pay4]
  simp only [blk0, blk1, w2_at, w3_at]
  rfl

theorem xh_at : k0_pay5 (iblk m c 4 t) (ix2 r l) = (args m c).xh r l := by
  pointwise [k0_pay5]
  simp only [blk4]
  rfl

theorem sc_at : k0_pay8 (mid (iblk m c 6 t)) (mid (iblk m c 7 t)) (ix2 0 l) = (args m c).sc l := by
  pointwise [k0_pay8]
  rw [mid_at, mid_at, blk6, blk7]
  rfl

theorem point8 : (outsAt0 m c t).1 (ix2 0 l) = (args m c).dshift (ix2 0 l) := by
  unfold outsAt0
  frame_out
  pointwise [k0_pay1, k0_pay6]
  simp only [dh_at]
  rfl

theorem point9 : (outsAt0 m c t).2.1 (ix2 0 l) = (args m c).dscale (ix2 0 l) := by
  unfold outsAt0
  frame_out
  pointwise [k0_pay2, k0_pay7]
  simp only [dh_at, xh_at, blk5]
  rfl

theorem point10 : (outsAt0 m c t).2.2 (ix2 0 l) = (args m c).dg (ix2 0 l) := by
  unfold outsAt0
  frame_out
  pointwise [k0_pay3]
  simp only [dh_at, xh_at, sc_at]
  rfl

theorem final8 : (dats m 0 c).arrAt 8 cfg0.N = (args m c).dshift := by
  refine (dats m 0 c).arrAt_eq_of_covers 8 _ (by decide +kernel) fun t hf y => ?_
  blk_simp
  rw [after0_8]
  obtain ⟨k, l, rfl⟩ : ∃ k l, y = ix2 k l := ⟨y 0, y 1, by ext i; fin_cases i <;> rfl⟩
  obtain rfl : k = 0 := Fin.ext (by omega)
  rw [point8]
  exact congrArg (args m c).dshift (by blk_ext! [idx t])

theorem final9 : (dats m 0 c).arrAt 9 cfg0.N = (args m c).dscale := by
  refine (dats m 0 c).arrAt_eq_of_covers 9 _ (by decide +kernel) fun t hf y => ?_
  blk_simp
  rw [after0_9]
  obtain ⟨k, l, rfl⟩ : ∃ k l, y = ix2 k l := ⟨y 0, y 1, by ext i; fin_cases i <;> rfl⟩
  obtain rfl : k = 0 := Fin.ext (by omega)
  rw [point9]
  exact congrArg (args m c).dscale (by blk_ext! [idx t])

theorem final10 : (dats m 0 c).arrAt 10 cfg0.N = (args m c).dg := by
  refine (dats m 0 c).arrAt_eq_of_covers 10 _ (by decide +kernel) fun t hf y => ?_
  blk_simp
  rw [after0_10]
  obtain ⟨k, l, rfl⟩ : ∃ k l, y = ix2 k l := ⟨y 0, y 1, by ext i; fin_cases i <;> rfl⟩
  obtain rfl : k = 0 := Fin.ext (by omega)
  rw [point10]
  exact congrArg (args m c).dg (by blk_ext! [idx t])

end Cert.Sums
end
-- ==== Proof.Sums.Pair.lean ====
/-
  The context's sums: what the reference returns is what the kernel's arrays hold.
-/
module

public import proofs.«01_k».proof.Defs
public import proofs.«01_k».proof.Proof.Sums.Value
public import proofs.«01_k».proof.Proof.Gen.Reference5Ideal.Read
public import proofs.«01_k».proof.Proof.Gen.Reference5Ideal.Run

@[expose] public section

set_option maxRecDepth 16384

noncomputable section

namespace Cert.Sums

open Idealize.ShloMosaic Idealize.ShloMosaic.TcCoe Idealize.SL.Sem

section
open Cert.Reference5Ideal.Read
variable (K : Args) (r : Fin 256) (l : Fin 1024)

theorem ref_xh : val_main_v13 (F := Ideal) K.x (ix2 r l) = K.xh r l := by
  pointwise [val_main_v13, val_main_v12, val_main_v11, val_main_v10, val_main_v9, val_main_cst_1, val_main_v8,
    val_main_v7, val_main_cst_0, val_main_v6, val_main_v5, val_main_v4, val_main_cst]
  rfl

theorem ref_dh : val_main_v26 (F := Ideal) K.dk K.dv K.w (ix2 r l) = K.dh r l := by
  pointwise [val_main_v26, val_main_v25, val_main_v24, val_main_v22]
  rfl

theorem ref_sc : val_main_v17 (F := Ideal) K.row K.b (ix2 0 l) = K.sc l := by
  pointwise [val_main_v17, val_main_v16, val_main_cst_2, val_main_v2, val_main_v0]
  rfl

theorem dshift_eq : val_main_v28 (F := Ideal) K.dk K.dv K.w = K.dshift := by
  funext i
  obtain ⟨k, l, rfl⟩ : ∃ k l, i = ix2 k l := ⟨i 0, i 1, by ext j; fin_cases j <;> rfl⟩
  obtain rfl : k = 0 := Fin.ext (by omega)
  pointwise [val_main_v28, val_main_v27, val_main_cst_3]
  simp only [ref_dh]
  rfl

theorem dscale_eq : val_main_v31 (F := Ideal) K.dk K.dv K.w K.x K.g = K.dscale := by
  funext i
  obtain ⟨k, l, rfl⟩ : ∃ k l, i = ix2 k l := ⟨i 0, i 1, by ext j; fin_cases j <;> rfl⟩
  obtain rfl : k = 0 := Fin.ext (by omega)
  pointwise [val_main_v31, val_main_v30, val_main_cst_4, val_main_v29, val_main_v15, val_main_v14]
  simp only [ref_dh, ref_xh]
  exact Finset.sum_congr rfl fun r _ => mul_comm _ _

theorem dg_eq : val_main_v36 (F := Ideal) K.dk K.dv K.w K.x K.row K.b = K.dg := by
  funext i
  obtain ⟨k, l, rfl⟩ : ∃ k l, i = ix2 k l := ⟨i 0, i 1, by ext j; fin_cases j <;> rfl⟩
  obtain rfl : k = 0 := Fin.ext (by omega)
  pointwise [val_main_v36, val_main_v35, val_main_cst_5, val_main_v34, val_main_v33, val_main_v32]
  simp only [ref_dh, ref_xh, ref_sc]
  exact Finset.sum_congr rfl fun r _ => mul_comm _ _

end

/-- The reference's frame: its run read at the arguments; it declares no semaphore. -/
theorem frame_reference : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

open Cert.Reference5Ideal.Read in
/-- Kernel and reference return the same rows. -/
theorem algebraic : Cert.algebraic_Kernel5Ideal_Reference5Ideal := by
  intro m ρ m' ρ' hpre hagree
  have e (c : Dev Cert.Kernel5Ideal.nD) := hagree c
  refine ⟨fun c => (args m c).dshift, fun c => (args m c).dscale, fun c => (args m c).dg,
    (θ_run Cert.Kernel5Ideal.defs _ _).mono (fun r h c => ⟨(h c).1.trans (final8 m c), (h c).2.1.trans (final9 m c),
      (h c).2.2.1.trans (final10 m c), (h c).2.2.2⟩) (Cert.Kernel5Ideal.Value.run_blocks m ρ),
    (θ_run Cert.Reference5Ideal.defs _ _).mono (fun r h c => ⟨(h c).1.trans ?_, (h c).2.1.trans ?_, (h c).2.2.1.trans ?_,
      (h c).2.2.2⟩) (Cert.Reference5Ideal.Value.run (F := Ideal) m' ρ')⟩
  · rw [val_main_v28_eq, (e c).1, (e c).2.1, (e c).2.2.1]
    exact dshift_eq (args m c)
  · rw [val_main_v31_eq, (e c).1, (e c).2.1, (e c).2.2.1, (e c).2.2.2.1, (e c).2.2.2.2.1]
    exact dscale_eq (args m c)
  · rw [val_main_v36_eq, (e c).1, (e c).2.1, (e c).2.2.1, (e c).2.2.2.1, (e c).2.2.2.2.2.1, (e c).2.2.2.2.2.2.1]
    exact dg_eq (args m c)

end Cert.Sums
end
-- ==== Proof.Heads.CtxPair.lean ====
/-
  The context's keys and values: what the reference returns is what the kernel's arrays hold, at real arguments.
-/
module

public import proofs.«01_k».proof.Defs
public import proofs.«01_k».proof.Proof.Gen.Pre_ctx_finite
public import proofs.«01_k».proof.Proof.Heads.Ctx
public import proofs.«01_k».proof.Proof.Gen.Reference4Ideal.Read
public import proofs.«01_k».proof.Proof.Gen.Reference4Ideal.Run

@[expose] public section

set_option maxRecDepth 16384

noncomputable section

namespace Cert.Ctx

open Idealize.ShloMosaic Idealize.ShloMosaic.TcCoe Idealize.SL.Sem
open Cert.Norm Cert.Heads

section
open Cert.Reference4Ideal.Read
variable (K : Args) (r : Fin 256) (h : Fin 8) (j : Fin 64)

theorem ref_x : val_main_v5 (F := Ideal) K.x (ix3 r h j) = K.xr r h j := by
  pointwise [val_main_v5, val_main_v3]
  refine congrArg (fun i => K.x (ix2 r i)) (Fin.ext ?_)
  show h.val * 64 + j.val = 64 * h.val + j.val
  omega

theorem ref_ms : val_main_v12 (F := Ideal) K.x (ix3 r h 0) = ms cols eps (K.xr r h) := by
  pointwise [val_main_v12, val_main_v11, val_main_cst_1, val_main_v10, val_main_v9, val_main_cst_0, val_main_v8,
    val_main_v7, val_main_v6, val_main_cst]
  simp only [ref_x]
  rfl

theorem ref_rs : val_main_v13 (F := Ideal) K.x (ix3 r h 0) = rs cols eps (K.xr r h) := by
  pointwise [val_main_v13]
  rw [ref_ms]
  rfl

theorem ref_gd : val_main_v30 (F := Ideal) K.dk K.g (ix3 r h j) = K.gd r h j := by
  pointwise [val_main_v30, val_main_v29, val_main_v19, val_main_v2, val_main_v1, val_main_v0, val_main_v23]
  rfl

theorem ref_part : val_main_v41 (F := Ideal) K.dk K.x K.g (ix3 r h j)
    = part cols eps ((-1/2 : ℝ) : EReal) (K.xr r h) (K.gd r h) := by
  pointwise [val_main_v41, val_main_v40, val_main_cst_7, val_main_v39, val_main_v38, val_main_cst_6, val_main_v37,
    val_main_v16, val_main_v15, val_main_cst_2, val_main_v14, val_main_v34, val_main_v33, val_main_cst_5, val_main_v32]
  rw [Fin.sum_univ_one, word_half]
  simp only [ref_gd, ref_ms, ref_rs, ref_x]
  rfl

theorem ref_back (hK : K.Fin) : val_main_v45 (F := Ideal) K.dk K.x K.g (ix3 r h j) = back cols eps (K.xr r h) (K.gd r h) j := by
  pointwise [val_main_v45, val_main_v44, val_main_v43, val_main_v42, val_main_v36, val_main_v35]
  simp only [ref_part, ref_gd, ref_rs, ref_x]
  exact back_eq pos_64 eps_pos (fun j => hK.x _) (fun j => (hK.dk _).mul (hK.g _)) j

theorem dkeys_eq (hK : K.Fin) : val_main_v47 (F := Ideal) K.dk K.x K.g = K.dkeys := by
  funext i
  obtain ⟨r, n, rfl⟩ : ∃ k l, i = ix2 k l := ⟨i 0, i 1, by ext j; fin_cases j <;> rfl⟩
  pointwise [val_main_v47, val_main_v46]
  rw [ref_back _ _ _ _ hK]
  rfl

theorem dvals_eq : val_main_v48 (F := Ideal) K.dv = K.dvals := by
  funext i
  obtain ⟨r, n, rfl⟩ : ∃ k l, i = ix2 k l := ⟨i 0, i 1, by ext j; fin_cases j <;> rfl⟩
  pointwise [val_main_v48, val_main_v25, val_main_v24]
  rfl

theorem dgain_eq : val_main_v49 (F := Ideal) K.dk K.x = K.dgain := by
  funext i
  obtain ⟨z, n, rfl⟩ : ∃ k l, i = ix2 k l := ⟨i 0, i 1, by ext j; fin_cases j <;> rfl⟩
  obtain rfl : z = 0 := Fin.ext (by omega)
  pointwise [val_main_v49, val_main_v31, val_main_cst_4, val_main_v28, val_main_v27, val_main_cst_3, val_main_v26, val_main_v23,
    val_main_v18, val_main_v17]
  simp only [ref_rs, ref_x]
  rw [Fin.sum_univ_one]
  exact Finset.sum_congr rfl fun r _ => mul_comm _ _

end

/-- The reference's frame: its run read at the arguments; it declares no semaphore. -/
theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

open Cert.Reference4Ideal.Read in
/-- Kernel and reference return the same arrays. -/
theorem algebraic : Cert.algebraic_Kernel4Ideal_Reference4Ideal_pre_ctx_finite := by
  intro m ρ m' ρ' hpre hagree
  have e (c : Dev Cert.Kernel4Ideal.nD) := hagree c
  have real (c : Dev Cert.Kernel4Ideal.nD) : (args m c).Fin :=
    ⟨fun i => IsReal.of_cmpf _ _ i IsReal.inf_f32 (congrFun (hpre c).1 i),
      fun i => IsReal.of_cmpf _ _ i IsReal.inf_f32 (congrFun (hpre c).2.1 i),
      fun i => IsReal.of_cmpf _ _ i IsReal.inf_f32 (congrFun (hpre c).2.2 i)⟩
  refine ⟨fun c => (args m c).dkeys, fun c => (args m c).dvals, fun c => (args m c).dgain,
    (θ_run Cert.Kernel4Ideal.defs _ _).mono (fun r h c => ⟨(h c).1.trans (final4 m c (real c)), (h c).2.1.trans (final5 m c),
      (h c).2.2.1.trans (final6 m c (real c)), (h c).2.2.2⟩) (Cert.Kernel4Ideal.Value.run_blocks m ρ),
    (θ_run Cert.Reference4Ideal.defs _ _).mono (fun r h c => ⟨(h c).1.trans ?_, (h c).2.1.trans ?_, (h c).2.2.1.trans ?_,
      (h c).2.2.2⟩) (Cert.Reference4Ideal.Value.run (F := Ideal) m' ρ')⟩
  · rw [val_main_v47_eq, (e c).1, (e c).2.2.1, (e c).2.2.2]
    exact dkeys_eq (args m c) (real c)
  · rw [val_main_v48_eq, (e c).2.1]
    exact dvals_eq (args m c)
  · rw [val_main_v49_eq, (e c).1, (e c).2.2.1]
    exact dgain_eq (args m c)

end Cert.Ctx
end
-- ==== Proof.lean ====
/- The certificate's claims, assembled: each program's facts, then for each pair of kernel and reference the frames, the
   ideal kernel's rewrites, and the equality of the results. The proofs are in Proof/Conv (the gated convolution's
   backward pass), Proof/Attn (the attention's), Proof/AttnFwd (its forward pass), Proof/ConvFwd (the convolution itself), Proof/Silu,
   Proof/Heads (the norms of heads), Proof/HeadsFwd (their forward passes), Proof/Sums and Proof/Norm
   (the modulated norms), Proof/Loss. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_attn_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_silu_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_ctx_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_norm_finite
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_qk_finite
public import proofs.«01_k».proof.Proof.Gen.Pre_loss_finite
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_fwd_finite
public import proofs.«01_k».proof.Proof.AttnFwd.Pair
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.ConvFwd.Pair
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_prep_finite
public import proofs.«01_k».proof.Proof.HeadsFwd.CtxPair
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_heads_finite
public import proofs.«01_k».proof.Proof.HeadsFwd.QkPair
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Adaln.Pair
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.CtxProj.Pair
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Adaln.Grad
public import proofs.«01_k».proof.Defs
public import proofs.«01_k».proof.Proof.Conv.Pair
public import proofs.«01_k».proof.Proof.Attn.Pair
public import proofs.«01_k».proof.Proof.Loss.Pair
public import proofs.«01_k».proof.Proof.Heads.QkPair
public import proofs.«01_k».proof.Proof.Norm.Pair
public import proofs.«01_k».proof.Proof.Sums.Pair
public import proofs.«01_k».proof.Proof.Heads.CtxPair
public import proofs.«01_k».proof.Proof.Silu.Pair
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_conv_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_conv_finite.Gen.facts, Cert.Pre_attn_finite.Gen.facts, Cert.Pre_silu_finite.Gen.facts, Cert.Pre_ctx_finite.Gen.facts, Cert.Pre_norm_finite.Gen.facts, Cert.Pre_qk_finite.Gen.facts, Cert.Pre_loss_finite.Gen.facts, Cert.Pre_fwd_finite.Gen.facts, Cert.Pre_prep_finite.Gen.facts, Cert.Pre_heads_finite.Gen.facts,
  fun m ρ _ => Cert.Kernel.Gen.frame m ρ, fun m ρ _ => Cert.KernelIdeal.Gen.frame m ρ,
  fun m ρ _ => Cert.KernelIdeal.Gen.frame m ρ, Cert.Conv.frame_reference, fun m ρ _ => Cert.Conv.frame_reference m ρ trivial,
  fun m ρ _ => Cert.Kernel2.Gen.frame m ρ, fun m ρ _ => Cert.Kernel2Ideal.Gen.frame m ρ,
  fun m ρ _ => Cert.Kernel2Ideal.Gen.frame m ρ, Cert.Attn.frame_reference, fun m ρ _ => Cert.Attn.frame_reference m ρ trivial,
  fun m ρ _ => Cert.Kernel3.Gen.frame m ρ, fun m ρ _ => Cert.Kernel3Ideal.Gen.frame m ρ,
  fun m ρ _ => Cert.Kernel3Ideal.Gen.frame m ρ, Cert.Silu.frame_reference, fun m ρ _ => Cert.Silu.frame_reference m ρ trivial,
  fun m ρ _ => Cert.Kernel4.Gen.frame m ρ, fun m ρ _ => Cert.Kernel4Ideal.Gen.frame m ρ,
  fun m ρ _ => Cert.Kernel4Ideal.Gen.frame m ρ, Cert.Ctx.frame_reference, fun m ρ _ => Cert.Ctx.frame_reference m ρ trivial,
  fun m ρ _ => Cert.Kernel5.Gen.frame m ρ, fun m ρ _ => Cert.Kernel5Ideal.Gen.frame m ρ,
  Cert.Sums.frame_reference,
  fun m ρ _ => Cert.Kernel6.Gen.frame m ρ, fun m ρ _ => Cert.Kernel6Ideal.Gen.frame m ρ,
  fun m ρ _ => Cert.Kernel6Ideal.Gen.frame m ρ, Cert.Norm.frame_reference, fun m ρ _ => Cert.Norm.frame_reference m ρ trivial,
  fun m ρ _ => Cert.Kernel7.Gen.frame m ρ, fun m ρ _ => Cert.Kernel7Ideal.Gen.frame m ρ,
  fun m ρ _ => Cert.Kernel7Ideal.Gen.frame m ρ, Cert.Qk.frame_reference, fun m ρ _ => Cert.Qk.frame_reference m ρ trivial,
  fun m ρ _ => Cert.Kernel8.Gen.frame m ρ, fun m ρ _ => Cert.Kernel8Ideal.Gen.frame m ρ,
  fun m ρ _ => Cert.Kernel8Ideal.Gen.frame m ρ, Cert.Loss.frame_reference, fun m ρ _ => Cert.Loss.frame_reference m ρ trivial,
  fun m ρ _ => Cert.Kernel9.Gen.frame m ρ, fun m ρ _ => Cert.Kernel9Ideal.Gen.frame m ρ,
  fun m ρ _ => Cert.Kernel9Ideal.Gen.frame m ρ, Cert.AttnFwd.frame_reference, fun m ρ _ => Cert.AttnFwd.frame_reference m ρ trivial,
  fun m ρ _ => Cert.Kernel10.Gen.frame m ρ, fun m ρ _ => Cert.Kernel10Ideal.Gen.frame m ρ,
  Cert.ConvFwd.frame_reference,
  fun m ρ _ => Cert.Kernel11.Gen.frame m ρ, fun m ρ _ => Cert.Kernel11Ideal.Gen.frame m ρ,
  fun m ρ _ => Cert.Kernel11Ideal.Gen.frame m ρ, Cert.HeadsFwd.frame_reference, fun m ρ _ => Cert.HeadsFwd.frame_reference m ρ trivial,
  fun m ρ _ => Cert.Kernel12.Gen.frame m ρ, fun m ρ _ => Cert.Kernel12Ideal.Gen.frame m ρ,
  fun m ρ _ => Cert.Kernel12Ideal.Gen.frame m ρ, Cert.QkFwd.frame_reference, fun m ρ _ => Cert.QkFwd.frame_reference m ρ trivial,
  fun m ρ _ => Cert.Kernel13.Gen.frame m ρ, fun m ρ _ => Cert.Kernel13Ideal.Gen.frame m ρ,
  Cert.Adaln.frame_reference,
  fun m ρ _ => Cert.Kernel14.Gen.frame m ρ, fun m ρ _ => Cert.Kernel14Ideal.Gen.frame m ρ,
  Cert.CtxProj.frame_reference,
  fun m ρ _ => Cert.Kernel15.Gen.frame m ρ (Cert.AdalnGrad.ok m), fun m ρ _ => Cert.Kernel15Ideal.Gen.frame m ρ (Cert.AdalnGrad.okI m),
  Cert.AdalnGrad.frame_reference,
  trivial, Cert.Conv.algebraic, Cert.Attn.preserves, Cert.Attn.algebraic,
  trivial, Cert.Silu.algebraic,
  trivial, Cert.Ctx.algebraic,
  trivial, Cert.Sums.algebraic,
  trivial, Cert.Norm.algebraic,
  trivial, Cert.Qk.algebraic,
  trivial, Cert.Loss.algebraic,
  Cert.AttnFwd.preserves, Cert.AttnFwd.algebraic,
  trivial, Cert.ConvFwd.algebraic,
  trivial, Cert.HeadsFwd.algebraic,
  trivial, Cert.QkFwd.algebraic,
  trivial, Cert.Adaln.algebraic,
  trivial, Cert.CtxProj.algebraic,
  trivial, Cert.AdalnGrad.algebraic⟩

end Cert.Proof

end
